-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v30_0)) (v1 : (c : Dev Cert.Kernel3Ideal.nD) → Buf (Elt Ideal) ((c.tc : Thread Cert.Kernel3Ideal.nD Cert.Kernel3Ideal.τ).loc Cert.Kernel3Ideal.main_v30_1)) (v2 : (c : Dev Cert.Kernel3Ideal.nD) → Buf (Elt Ideal) ((c.tc : Thread Cert.Kernel3Ideal.nD Cert.Kernel3Ideal.τ).loc Cert.Kernel3Ideal.main_v30_2)) (v3 : (c : Dev Cert.Kernel3Ideal.nD) → Buf (Elt Ideal) ((c.tc : Thread Cert.Kernel3Ideal.nD Cert.Kernel3Ideal.τ).loc Cert.Kernel3Ideal.main_v30_3)) (v4 : (c : Dev Cert.Kernel3Ideal.nD) → Buf (Elt Ideal) ((c.tc : Thread Cert.Kernel3Ideal.nD Cert.Kernel3Ideal.τ).loc Cert.Kernel3Ideal.main_v30_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30_0) = v0 c
          ∧ r.2.mem ((c.tc : Thread Cert.Kernel3Ideal.nD Cert.Kernel3Ideal.τ).loc Cert.Kernel3Ideal.main_v30_1) = v1 c
          ∧ r.2.mem ((c.tc : Thread Cert.Kernel3Ideal.nD Cert.Kernel3Ideal.τ).loc Cert.Kernel3Ideal.main_v30_2) = v2 c
          ∧ r.2.mem ((c.tc : Thread Cert.Kernel3Ideal.nD Cert.Kernel3Ideal.τ).loc Cert.Kernel3Ideal.main_v30_3) = v3 c
          ∧ r.2.mem ((c.tc : Thread Cert.Kernel3Ideal.nD Cert.Kernel3Ideal.τ).loc Cert.Kernel3Ideal.main_v30_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_v60) = v2 c
          ∧ r.2.mem ((c.tc : Thread Cert.Reference3Ideal.nD Cert.Reference3Ideal.τ).loc Cert.Reference3Ideal.main_v61) = v3 c
          ∧ r.2.mem ((c.tc : Thread Cert.Reference3Ideal.nD Cert.Reference3Ideal.τ).loc Cert.Reference3Ideal.main_v64) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hKernel5 : Cert.Kernel5.Facts) (hKernel5Ideal : Cert.Kernel5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ preserves_Kernel5_Kernel5Ideal
-- ==== Pre_finite.lean ====
abbrev S16x2048x512 : Shape := ⟨3, ![16, 2048, 512]⟩
abbrev S16x8x2048 : Shape := ⟨3, ![16, 8, 2048]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S16x8x2048 : S_.BroadcastsInDim S16x8x2048 (![] : Fin 0 → Fin S16x8x2048.rank)
  reducesTo_S16x8x2048_S_d0_1_2 : S16x8x2048.ReducesTo [0, 1, 2] S_

variable [Facts]

def fn {F : FTy → Type} [FloatOps F] (main_arg0 : FVec F S16x2048x512 .f32) (main_arg1 : FVec F S16x2048x512 .f32) (main_arg2 : FVec F S16x2048x512 .f32) (main_arg3 : FVec F S16x8x2048 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x512 .f32 := Host.absf main_arg1
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v3 main_v7
  let main_v9 : FVec F S16x8x2048 .f32 := Host.absf main_arg3
  let main_cst_2 : FVec F S_ .f32 := constant S_ .f32 0x7F800000#32
  let main_v10 : FVec F S16x8x2048 .f32 := broadcastInDim S16x8x2048 ![] bcast_S_S16x8x2048 main_cst_2
  let main_v11 : IVec S16x8x2048 1 := cmpf .olt main_v9 main_v10
  let main_c_3 : IVec S_ 1 := constantI S_ 1 1#1
  let main_v12 : IVec S_ 1 := (fun x v => Host.reduce IntOp.andi x v reducesTo_S16x8x2048_S_d0_1_2 h_S_) main_v11 main_c_3
  let main_v13 : IVec S_ 1 := andi main_v8 main_v12
  main_v13
-- ==== Kernel.lean ====
abbrev S16x2048x512 : Shape := ⟨3, ![16, 2048, 512]⟩
abbrev S16x8x2048 : Shape := ⟨3, ![16, 8, 2048]⟩
abbrev S16x512x2048 : Shape := ⟨3, ![16, 512, 2048]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x2048x512 : Shape := ⟨3, ![1, 2048, 512]⟩
abbrev S1x512x2048 : Shape := ⟨3, ![1, 512, 2048]⟩
abbrev S1x8x2048 : Shape := ⟨3, ![1, 8, 2048]⟩
abbrev S2x256x2048 : Shape := ⟨3, ![2, 256, 2048]⟩
abbrev S8x2048x128 : Shape := ⟨3, ![8, 2048, 128]⟩
abbrev S1x128 : Shape := ⟨2, ![1, 128]⟩
abbrev S1x2048x128 : Shape := ⟨3, ![1, 2048, 128]⟩
abbrev S2048x128 : Shape := ⟨2, ![2048, 128]⟩
abbrev S1x256x128 : Shape := ⟨3, ![1, 256, 128]⟩
abbrev S256x128 : Shape := ⟨2, ![256, 128]⟩
abbrev S1x1x2048 : Shape := ⟨3, ![1, 1, 2048]⟩
abbrev S1x2048 : Shape := ⟨2, ![1, 2048]⟩
abbrev S1x1 : Shape := ⟨2, ![1, 1]⟩
abbrev S1x128x256 : Shape := ⟨3, ![1, 128, 256]⟩
abbrev S128x256 : Shape := ⟨2, ![128, 256]⟩
abbrev S1x256x256 : Shape := ⟨3, ![1, 256, 256]⟩
abbrev S1x256x2048 : Shape := ⟨3, ![1, 256, 2048]⟩
abbrev S256x2048 : Shape := ⟨2, ![256, 2048]⟩
abbrev S1x1x1792 : Shape := ⟨3, ![1, 1, 1792]⟩
abbrev S1x1792 : Shape := ⟨2, ![1, 1792]⟩
abbrev S1x256x1792 : Shape := ⟨3, ![1, 256, 1792]⟩
abbrev S256x1792 : Shape := ⟨2, ![256, 1792]⟩
abbrev S1x1792x128 : Shape := ⟨3, ![1, 1792, 128]⟩
abbrev S1792x128 : Shape := ⟨2, ![1792, 128]⟩
abbrev S1x1x1536 : Shape := ⟨3, ![1, 1, 1536]⟩
abbrev S1x1536 : Shape := ⟨2, ![1, 1536]⟩
abbrev S1x256x1536 : Shape := ⟨3, ![1, 256, 1536]⟩
abbrev S256x1536 : Shape := ⟨2, ![256, 1536]⟩
abbrev S1x1536x128 : Shape := ⟨3, ![1, 1536, 128]⟩
abbrev S1536x128 : Shape := ⟨2, ![1536, 128]⟩
abbrev S1x1x1280 : Shape := ⟨3, ![1, 1, 1280]⟩
abbrev S1x1280 : Shape := ⟨2, ![1, 1280]⟩
abbrev S1x256x1280 : Shape := ⟨3, ![1, 256, 1280]⟩
abbrev S256x1280 : Shape := ⟨2, ![256, 1280]⟩
abbrev S1x1280x128 : Shape := ⟨3, ![1, 1280, 128]⟩
abbrev S1280x128 : Shape := ⟨2, ![1280, 128]⟩
abbrev S1x1x1024 : Shape := ⟨3, ![1, 1, 1024]⟩
abbrev S1x1024 : Shape := ⟨2, ![1, 1024]⟩
abbrev S1x256x1024 : Shape := ⟨3, ![1, 256, 1024]⟩
abbrev S256x1024 : Shape := ⟨2, ![256, 1024]⟩
abbrev S1x1024x128 : Shape := ⟨3, ![1, 1024, 128]⟩
abbrev S1024x128 : Shape := ⟨2, ![1024, 128]⟩
abbrev S1x1x768 : Shape := ⟨3, ![1, 1, 768]⟩
abbrev S1x768 : Shape := ⟨2, ![1, 768]⟩
abbrev S1x256x768 : Shape := ⟨3, ![1, 256, 768]⟩
abbrev S256x768 : Shape := ⟨2, ![256, 768]⟩
abbrev S1x768x128 : Shape := ⟨3, ![1, 768, 128]⟩
abbrev S768x128 : Shape := ⟨2, ![768, 128]⟩
abbrev S1x1x512 : Shape := ⟨3, ![1, 1, 512]⟩
abbrev S1x512 : Shape := ⟨2, ![1, 512]⟩
abbrev S1x256x512 : Shape := ⟨3, ![1, 256, 512]⟩
abbrev S256x512 : Shape := ⟨2, ![256, 512]⟩
abbrev S1x512x128 : Shape := ⟨3, ![1, 512, 128]⟩
abbrev S512x128 : Shape := ⟨2, ![512, 128]⟩
abbrev S1x1x256 : Shape := ⟨3, ![1, 1, 256]⟩

abbrev nBuf : Space → Nat
  | .hbm => 16
  | .vmem => 14
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x8x2048, .f32⟩
  | .hbm, ⟨4, _⟩ => ⟨S16x512x2048, .f32⟩
  | .hbm, ⟨5, _⟩ => ⟨S16x512x2048, .bf16⟩
  | .hbm, ⟨6, _⟩ => ⟨S256, .i32⟩
  | .hbm, ⟨7, _⟩ => ⟨S256x1, .i32⟩
  | .hbm, ⟨8, _⟩ => ⟨S1x256, .i32⟩
  | .hbm, ⟨9, _⟩ => ⟨S256x256, .i32⟩
  | .hbm, ⟨10, _⟩ => ⟨S256x256, .i32⟩
  | .hbm, ⟨11, _⟩ => ⟨S256x256, .i1⟩
  | .hbm, ⟨12, _⟩ => ⟨S256x256, .f32⟩
  | .hbm, ⟨13, _⟩ => ⟨S16x2048x512, .bf16⟩
  | .hbm, ⟨14, _⟩ => ⟨S16x2048x512, .bf16⟩
  | .hbm, ⟨15, _⟩ => ⟨S16x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x8x2048, .f32⟩
  | .local _ .vmem, ⟨7, _⟩ => ⟨S1x8x2048, .f32⟩
  | .local _ .vmem, ⟨8, _⟩ => ⟨S256x256, .f32⟩
  | .local _ .vmem, ⟨9, _⟩ => ⟨S1x2048x512, .bf16⟩
  | .local _ .vmem, ⟨10, _⟩ => ⟨S1x2048x512, .bf16⟩
  | .local _ .vmem, ⟨11, _⟩ => ⟨S2x256x2048, .f32⟩
  | .local _ .vmem, ⟨12, _⟩ => ⟨S2x256x2048, .bf16⟩
  | .local _ .vmem, ⟨13, _⟩ => ⟨S8x2048x128, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | "qscale" => some (((8 * (Real.log 2))⁻¹ : ℝ) : EReal)
  | _ => none
-- ==== ReferenceIdeal.lean ====
abbrev S16x2048x512 : Shape := ⟨3, ![16, 2048, 512]⟩
abbrev S16x8x2048 : Shape := ⟨3, ![16, 8, 2048]⟩
abbrev S16x2048x8x64 : Shape := ⟨4, ![16, 2048, 8, 64]⟩
abbrev S16x8x2048x2048 : Shape := ⟨4, ![16, 8, 2048, 2048]⟩
abbrev S_ : Shape := ⟨0, ![]⟩
abbrev S16x8x2048x1 : Shape := ⟨4, ![16, 8, 2048, 1]⟩
abbrev S16x8x1x2048 : Shape := ⟨4, ![16, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x8x64x2048 : Shape := ⟨4, ![16, 8, 64, 2048]⟩

abbrev nBuf : Space → Nat
  | .hbm => 47
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x8x2048, .f32⟩
  | .hbm, ⟨4, _⟩ => ⟨S16x2048x8x64, .f32⟩
  | .hbm, ⟨5, _⟩ => ⟨S16x2048x8x64, .f32⟩
  | .hbm, ⟨6, _⟩ => ⟨S16x2048x8x64, .f32⟩
  | .hbm, ⟨7, _⟩ => ⟨S16x8x2048x2048, .f32⟩
  | .hbm, ⟨8, _⟩ => ⟨S_, .f32⟩
  | .hbm, ⟨9, _⟩ => ⟨S16x8x2048x2048, .f32⟩
  | .hbm, ⟨10, _⟩ => ⟨S16x8x2048x2048, .f32⟩
  | .hbm, ⟨11, _⟩ => ⟨S16x8x2048x1, .f32⟩
  | .hbm, ⟨12, _⟩ => ⟨S16x8x2048x2048, .f32⟩
  | .hbm, ⟨13, _⟩ => ⟨S16x8x2048x2048, .f32⟩
  | .hbm, ⟨14, _⟩ => ⟨S16x8x1x2048, .f32⟩
  | .hbm, ⟨15, _⟩ => ⟨S16x8x2048x2048, .f32⟩
  | .hbm, ⟨16, _⟩ => ⟨S16x8x2048x2048, .f32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S16x8x2048x2048, .i1⟩
  | .hbm, ⟨27, _⟩ => ⟨S16x8x2048x2048, .f32⟩
  | .hbm, ⟨28, _⟩ => ⟨S16x8x2048x2048, .f32⟩
  | .hbm, ⟨29, _⟩ => ⟨S_, .f32⟩
  | .hbm, ⟨30, _⟩ => ⟨S16x8x2048, .f32⟩
  | .hbm, ⟨31, _⟩ => ⟨S_, .f32⟩
  | .hbm, ⟨32, _⟩ => ⟨S16x8x2048, .f32⟩
  | .hbm, ⟨33, _⟩ => ⟨S16x8x2048, .f32⟩
  | .hbm, ⟨34, _⟩ => ⟨S16x8x2048x1, .f32⟩
  | .hbm, ⟨35, _⟩ => ⟨S16x8x2048x2048, .f32⟩
  | .hbm, ⟨36, _⟩ => ⟨S16x8x2048x2048, .f32⟩
  | .hbm, ⟨37, _⟩ => ⟨S16x8x2048x2048, .f32⟩
  | .hbm, ⟨38, _⟩ => ⟨S_, .f32⟩
  | .hbm, ⟨39, _⟩ => ⟨S16x8x2048, .f32⟩
  | .hbm, ⟨40, _⟩ => ⟨S16x8x2048x1, .f32⟩
  | .hbm, ⟨41, _⟩ => ⟨S16x8x2048x2048, .f32⟩
  | .hbm, ⟨42, _⟩ => ⟨S16x8x2048x2048, .f32⟩
  | .hbm, ⟨43, _⟩ => ⟨S16x8x64x2048, .f32⟩
  | .hbm, ⟨44, _⟩ => ⟨S16x2048x8x64, .f32⟩
  | .hbm, ⟨45, _⟩ => ⟨S16x2048x512, .f32⟩
  | .hbm, ⟨46, _⟩ => ⟨S16x2048x512, .bf16⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048x512 : Shape := ⟨3, ![16, 2048, 512]⟩
abbrev S512 : Shape := ⟨1, ![512]⟩
abbrev S1024x1024 : Shape := ⟨2, ![1024, 1024]⟩
abbrev S1024 : Shape := ⟨1, ![1024]⟩
abbrev S1024x5504 : Shape := ⟨2, ![1024, 5504]⟩
abbrev S3x5504 : Shape := ⟨2, ![3, 5504]⟩
abbrev S5504 : Shape := ⟨1, ![5504]⟩
abbrev S2752x1024 : Shape := ⟨2, ![2752, 1024]⟩
abbrev S1024x2752 : Shape := ⟨2, ![1024, 2752]⟩
abbrev S_ : Shape := ⟨0, ![]⟩
abbrev S1024x2816 : Shape := ⟨2, ![1024, 2816]⟩
abbrev S3x2752 : Shape := ⟨2, ![3, 2752]⟩
abbrev S3x2816 : Shape := ⟨2, ![3, 2816]⟩
abbrev S3x5632 : Shape := ⟨2, ![3, 5632]⟩
abbrev S2752 : Shape := ⟨1, ![2752]⟩
abbrev S1x2752 : Shape := ⟨2, ![1, 2752]⟩
abbrev S1x2816 : Shape := ⟨2, ![1, 2816]⟩
abbrev S1x5632 : Shape := ⟨2, ![1, 5632]⟩
abbrev S2816x1024 : Shape := ⟨2, ![2816, 1024]⟩
abbrev S1x512 : Shape := ⟨2, ![1, 512]⟩
abbrev S1x1024 : Shape := ⟨2, ![1, 1024]⟩
abbrev S1x512x1024 : Shape := ⟨3, ![1, 512, 1024]⟩
abbrev S1x512x512 : Shape := ⟨3, ![1, 512, 512]⟩
abbrev S512x2816 : Shape := ⟨2, ![512, 2816]⟩
abbrev S8x5632 : Shape := ⟨2, ![8, 5632]⟩
abbrev S8x520x128 : Shape := ⟨3, ![8, 520, 128]⟩
abbrev S512x512 : Shape := ⟨2, ![512, 512]⟩
abbrev S512x1 : Shape := ⟨2, ![512, 1]⟩
abbrev S512x1024 : Shape := ⟨2, ![512, 1024]⟩
abbrev S1024x256 : Shape := ⟨2, ![1024, 256]⟩
abbrev S512x256 : Shape := ⟨2, ![512, 256]⟩
abbrev S512x128 : Shape := ⟨2, ![512, 128]⟩
abbrev S8x128 : Shape := ⟨2, ![8, 128]⟩
abbrev S1x8x128 : Shape := ⟨3, ![1, 8, 128]⟩
abbrev S1x512x128 : Shape := ⟨3, ![1, 512, 128]⟩
abbrev S3x128 : Shape := ⟨2, ![3, 128]⟩
abbrev S1x128 : Shape := ⟨2, ![1, 128]⟩

abbrev nBuf : Space → Nat
  | .hbm => 50
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .bf16⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x5504, .f32⟩
  | .hbm, ⟨8, _⟩ => ⟨S3x5504, .f32⟩
  | .hbm, ⟨9, _⟩ => ⟨S5504, .f32⟩
  | .hbm, ⟨10, _⟩ => ⟨S2752x1024, .f32⟩
  | .hbm, ⟨11, _⟩ => ⟨S1024x2752, .f32⟩
  | .hbm, ⟨12, _⟩ => ⟨S1024x2752, .bf16⟩
  | .hbm, ⟨13, _⟩ => ⟨S_, .i32⟩
  | .hbm, ⟨14, _⟩ => ⟨S_, .bf16⟩
  | .hbm, ⟨15, _⟩ => ⟨S1024x2816, .bf16⟩
  | .hbm, ⟨16, _⟩ => ⟨S1024x2752, .f32⟩
  | .hbm, ⟨17, _⟩ => ⟨S1024x2752, .bf16⟩
  | .hbm, ⟨18, _⟩ => ⟨S_, .i32⟩
  | .hbm, ⟨19, _⟩ => ⟨S_, .bf16⟩
  | .hbm, ⟨20, _⟩ => ⟨S1024x2816, .bf16⟩
  | .hbm, ⟨21, _⟩ => ⟨S3x2752, .f32⟩
  | .hbm, ⟨22, _⟩ => ⟨S_, .i32⟩
  | .hbm, ⟨23, _⟩ => ⟨S_, .f32⟩
  | .hbm, ⟨24, _⟩ => ⟨S3x2816, .f32⟩
  | .hbm, ⟨25, _⟩ => ⟨S3x2752, .f32⟩
  | .hbm, ⟨26, _⟩ => ⟨S_, .i32⟩
  | .hbm, ⟨27, _⟩ => ⟨S_, .f32⟩
  | .hbm, ⟨28, _⟩ => ⟨S3x2816, .f32⟩
  | .hbm, ⟨29, _⟩ => ⟨S3x5632, .f32⟩
  | .hbm, ⟨30, _⟩ => ⟨S2752, .f32⟩
  | .hbm, ⟨31, _⟩ => ⟨S1x2752, .f32⟩
  | .hbm, ⟨32, _⟩ => ⟨S_, .i32⟩
  | .hbm, ⟨33, _⟩ => ⟨S_, .f32⟩
  | .hbm, ⟨34, _⟩ => ⟨S1x2816, .f32⟩
  | .hbm, ⟨35, _⟩ => ⟨S2752, .f32⟩
  | .hbm, ⟨36, _⟩ => ⟨S1x2752, .f32⟩
  | .hbm, ⟨37, _⟩ => ⟨S_, .i32⟩
  | .hbm, ⟨38, _⟩ => ⟨S_, .f32⟩
  | .hbm, ⟨39, _⟩ => ⟨S1x2816, .f32⟩
  | .hbm, ⟨40, _⟩ => ⟨S1x5632, .f32⟩
  | .hbm, ⟨41, _⟩ => ⟨S2752x1024, .bf16⟩
  | .hbm, ⟨42, _⟩ => ⟨S_, .i32⟩
  | .hbm, ⟨43, _⟩ => ⟨S_, .bf16⟩
  | .hbm, ⟨44, _⟩ => ⟨S2816x1024, .bf16⟩
  | .hbm, ⟨45, _⟩ => ⟨S1x512, .f32⟩
  | .hbm, ⟨46, _⟩ => ⟨S1x512, .f32⟩
  | .hbm, ⟨47, _⟩ => ⟨S1024x1024, .bf16⟩
  | .hbm, ⟨48, _⟩ => ⟨S1x1024, .f32⟩
  | .hbm, ⟨49, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .bf16⟩
  | .local _ .vmem, ⟨5, _⟩ => ⟨S1x512x512, .bf16⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S3x5632, .f32⟩
  | .local _ .vmem, ⟨13, _⟩ => ⟨S1x5632, .f32⟩
  | .local _ .vmem, ⟨14, _⟩ => ⟨S2816x1024, .bf16⟩
  | .local _ .vmem, ⟨15, _⟩ => ⟨S1x512x1024, .f32⟩
  | .local _ .vmem, ⟨16, _⟩ => ⟨S1x512x1024, .f32⟩
  | .local _ .vmem, ⟨17, _⟩ => ⟨S512x2816, .bf16⟩
  | .local _ .vmem, ⟨18, _⟩ => ⟨S8x5632, .f32⟩
  | .local _ .vmem, ⟨19, _⟩ => ⟨S8x520x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_call2_v0 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_call3_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_3 : Ref sig .tc := ⟨.hbm, 32, rfl⟩
abbrev main_call4_v0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_call5_v0 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_5 : Ref sig .tc := ⟨.hbm, 42, rfl⟩
abbrev main_call6_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S16x2048x1024 : Shape := ⟨3, ![16, 2048, 1024]⟩
abbrev S16x2048x512 : Shape := ⟨3, ![16, 2048, 512]⟩
abbrev S512 : Shape := ⟨1, ![512]⟩
abbrev S1024x1024 : Shape := ⟨2, ![1024, 1024]⟩
abbrev S1024 : Shape := ⟨1, ![1024]⟩
abbrev S1024x5504 : Shape := ⟨2, ![1024, 5504]⟩
abbrev S3x5504 : Shape := ⟨2, ![3, 5504]⟩
abbrev S5504 : Shape := ⟨1, ![5504]⟩
abbrev S2752x1024 : Shape := ⟨2, ![2752, 1024]⟩
abbrev S_ : Shape := ⟨0, ![]⟩
abbrev S16x2048 : Shape := ⟨2, ![16, 2048]⟩
abbrev S16x2048x1 : Shape := ⟨3, ![16, 2048, 1]⟩
abbrev S1x1x512 : Shape := ⟨3, ![1, 1, 512]⟩
abbrev S1x1x1024 : Shape := ⟨3, ![1, 1, 1024]⟩
abbrev S16x2048x5504 : Shape := ⟨3, ![16, 2048, 5504]⟩
abbrev S16x2050x5504 : Shape := ⟨3, ![16, 2050, 5504]⟩
abbrev S1x5504 : Shape := ⟨2, ![1, 5504]⟩
abbrev S1x1x5504 : Shape := ⟨3, ![1, 1, 5504]⟩
abbrev S16x2048x2752 : Shape := ⟨3, ![16, 2048, 2752]⟩

abbrev nBuf : Space → Nat
  | .hbm => 104
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .bf16⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x5504, .f32⟩
  | .hbm, ⟨8, _⟩ => ⟨S3x5504, .f32⟩
  | .hbm, ⟨9, _⟩ => ⟨S5504, .f32⟩
  | .hbm, ⟨10, _⟩ => ⟨S2752x1024, .f32⟩
  | .hbm, ⟨11, _⟩ => ⟨S16x2048x512, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x1, .f32⟩
  | .hbm, ⟨22, _⟩ => ⟨S16x2048x512, .f32⟩
  | .hbm, ⟨23, _⟩ => ⟨S16x2048x512, .f32⟩
  | .hbm, ⟨24, _⟩ => ⟨S1x1x512, .f32⟩
  | .hbm, ⟨25, _⟩ => ⟨S16x2048x512, .f32⟩
  | .hbm, ⟨26, _⟩ => ⟨S16x2048x512, .f32⟩
  | .hbm, ⟨27, _⟩ => ⟨S16x2048x512, .f32⟩
  | .hbm, ⟨28, _⟩ => ⟨S16x2048x512, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1, .f32⟩
  | .hbm, ⟨39, _⟩ => ⟨S16x2048x512, .f32⟩
  | .hbm, ⟨40, _⟩ => ⟨S16x2048x512, .f32⟩
  | .hbm, ⟨41, _⟩ => ⟨S1x1x512, .f32⟩
  | .hbm, ⟨42, _⟩ => ⟨S16x2048x512, .f32⟩
  | .hbm, ⟨43, _⟩ => ⟨S16x2048x512, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x2048, .f32⟩
  | .hbm, ⟨50, _⟩ => ⟨S16x2048x1, .f32⟩
  | .hbm, ⟨51, _⟩ => ⟨S_, .f32⟩
  | .hbm, ⟨52, _⟩ => ⟨S16x2048x1, .f32⟩
  | .hbm, ⟨53, _⟩ => ⟨S16x2048x1, .f32⟩
  | .hbm, ⟨54, _⟩ => ⟨S_, .f32⟩
  | .hbm, ⟨55, _⟩ => ⟨S16x2048x1, .f32⟩
  | .hbm, ⟨56, _⟩ => ⟨S16x2048x1, .f32⟩
  | .hbm, ⟨57, _⟩ => ⟨S16x2048x1, .f32⟩
  | .hbm, ⟨58, _⟩ => ⟨S16x2048x1024, .f32⟩
  | .hbm, ⟨59, _⟩ => ⟨S16x2048x1024, .f32⟩
  | .hbm, ⟨60, _⟩ => ⟨S1x1x1024, .f32⟩
  | .hbm, ⟨61, _⟩ => ⟨S16x2048x1024, .f32⟩
  | .hbm, ⟨62, _⟩ => ⟨S16x2048x1024, .f32⟩
  | .hbm, ⟨63, _⟩ => ⟨S16x2048x5504, .f32⟩
  | .hbm, ⟨64, _⟩ => ⟨S_, .i32⟩
  | .hbm, ⟨65, _⟩ => ⟨S_, .f32⟩
  | .hbm, ⟨66, _⟩ => ⟨S16x2050x5504, .f32⟩
  | .hbm, ⟨67, _⟩ => ⟨S16x2048x5504, .f32⟩
  | .hbm, ⟨68, _⟩ => ⟨S1x5504, .f32⟩
  | .hbm, ⟨69, _⟩ => ⟨S5504, .f32⟩
  | .hbm, ⟨70, _⟩ => ⟨S1x1x5504, .f32⟩
  | .hbm, ⟨71, _⟩ => ⟨S16x2048x5504, .f32⟩
  | .hbm, ⟨72, _⟩ => ⟨S16x2048x5504, .f32⟩
  | .hbm, ⟨73, _⟩ => ⟨S16x2048x5504, .f32⟩
  | .hbm, ⟨74, _⟩ => ⟨S1x5504, .f32⟩
  | .hbm, ⟨75, _⟩ => ⟨S5504, .f32⟩
  | .hbm, ⟨76, _⟩ => ⟨S1x1x5504, .f32⟩
  | .hbm, ⟨77, _⟩ => ⟨S16x2048x5504, .f32⟩
  | .hbm, ⟨78, _⟩ => ⟨S16x2048x5504, .f32⟩
  | .hbm, ⟨79, _⟩ => ⟨S16x2048x5504, .f32⟩
  | .hbm, ⟨80, _⟩ => ⟨S16x2048x5504, .f32⟩
  | .hbm, ⟨81, _⟩ => ⟨S1x5504, .f32⟩
  | .hbm, ⟨82, _⟩ => ⟨S5504, .f32⟩
  | .hbm, ⟨83, _⟩ => ⟨S1x1x5504, .f32⟩
  | .hbm, ⟨84, _⟩ => ⟨S16x2048x5504, .f32⟩
  | .hbm, ⟨85, _⟩ => ⟨S16x2048x5504, .f32⟩
  | .hbm, ⟨86, _⟩ => ⟨S16x2048x5504, .f32⟩
  | .hbm, ⟨87, _⟩ => ⟨S1x1x5504, .f32⟩
  | .hbm, ⟨88, _⟩ => ⟨S16x2048x5504, .f32⟩
  | .hbm, ⟨89, _⟩ => ⟨S16x2048x5504, .f32⟩
  | .hbm, ⟨90, _⟩ => ⟨S16x2048x2752, .f32⟩
  | .hbm, ⟨91, _⟩ => ⟨S16x2048x2752, .f32⟩
  | .hbm, ⟨92, _⟩ => ⟨S16x2048x2752, .f32⟩
  | .hbm, ⟨93, _⟩ => ⟨S16x2048x2752, .f32⟩
  | .hbm, ⟨94, _⟩ => ⟨S_, .f32⟩
  | .hbm, ⟨95, _⟩ => ⟨S16x2048x2752, .f32⟩
  | .hbm, ⟨96, _⟩ => ⟨S16x2048x2752, .f32⟩
  | .hbm, ⟨97, _⟩ => ⟨S_, .f32⟩
  | .hbm, ⟨98, _⟩ => ⟨S16x2048x2752, .f32⟩
  | .hbm, ⟨99, _⟩ => ⟨S16x2048x2752, .f32⟩
  | .hbm, ⟨100, _⟩ => ⟨S16x2048x2752, .f32⟩
  | .hbm, ⟨101, _⟩ => ⟨S16x2048x2752, .f32⟩
  | .hbm, ⟨102, _⟩ => ⟨S16x2048x1024, .f32⟩
  | .hbm, ⟨103, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_call1_v0 : Ref sig .tc := ⟨.hbm, 92, rfl⟩
abbrev main_call1_v1 : Ref sig .tc := ⟨.hbm, 93, rfl⟩
abbrev main_call1_cst : Ref sig .tc := ⟨.hbm, 94, rfl⟩
abbrev main_call1_v2 : Ref sig .tc := ⟨.hbm, 95, rfl⟩
abbrev main_call1_v3 : Ref sig .tc := ⟨.hbm, 96, rfl⟩
abbrev main_call1_cst_0 : Ref sig .tc := ⟨.hbm, 97, rfl⟩
abbrev main_call1_v4 : Ref sig .tc := ⟨.hbm, 98, rfl⟩
abbrev main_call1_v5 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S1024x2056 : Shape := ⟨2, ![1024, 2056]⟩
abbrev S8 : Shape := ⟨1, ![8]⟩
abbrev S64 : Shape := ⟨1, ![64]⟩
abbrev S_ : Shape := ⟨0, ![]⟩
abbrev S1024x2176 : Shape := ⟨2, ![1024, 2176]⟩
abbrev S1x8 : Shape := ⟨2, ![1, 8]⟩
abbrev S1x128 : Shape := ⟨2, ![1, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S1x1024 : Shape := ⟨2, ![1, 1024]⟩
abbrev S16x2048x512 : Shape := ⟨3, ![16, 2048, 512]⟩
abbrev S16x512x2048 : Shape := ⟨3, ![16, 512, 2048]⟩
abbrev S16x8x2048 : Shape := ⟨3, ![16, 8, 2048]⟩
abbrev S1x512x1024 : Shape := ⟨3, ![1, 512, 1024]⟩
abbrev S1x512x512 : Shape := ⟨3, ![1, 512, 512]⟩
abbrev S1x8x512 : Shape := ⟨3, ![1, 8, 512]⟩
abbrev S8x128 : Shape := ⟨2, ![8, 128]⟩
abbrev S512x1024 : Shape := ⟨2, ![512, 1024]⟩
abbrev S512x2176 : Shape := ⟨2, ![512, 2176]⟩
abbrev S512x128 : Shape := ⟨2, ![512, 128]⟩
abbrev S128x512 : Shape := ⟨2, ![128, 512]⟩
abbrev S8x512 : Shape := ⟨2, ![8, 512]⟩
abbrev S24x512 : Shape := ⟨2, ![24, 512]⟩
abbrev S8x1 : Shape := ⟨2, ![8, 1]⟩

abbrev nBuf : Space → Nat
  | .hbm => 63
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2056, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S1024x2056, .bf16⟩
  | .hbm, ⟨7, _⟩ => ⟨S_, .i32⟩
  | .hbm, ⟨8, _⟩ => ⟨S_, .bf16⟩
  | .hbm, ⟨9, _⟩ => ⟨S1024x2176, .bf16⟩
  | .hbm, ⟨10, _⟩ => ⟨S1x8, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S1x64, .f32⟩
  | .hbm, ⟨18, _⟩ => ⟨S8x64, .f32⟩
  | .hbm, ⟨19, _⟩ => ⟨S512, .f32⟩
  | .hbm, ⟨20, _⟩ => ⟨S1x512, .f32⟩
  | .hbm, ⟨21, _⟩ => ⟨S1x64, .f32⟩
  | .hbm, ⟨22, _⟩ => ⟨S8x64, .f32⟩
  | .hbm, ⟨23, _⟩ => ⟨S512, .f32⟩
  | .hbm, ⟨24, _⟩ => ⟨S1x512, .f32⟩
  | .hbm, ⟨25, _⟩ => ⟨S512, .i32⟩
  | .hbm, ⟨26, _⟩ => ⟨S_, .i32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S512, .i32⟩
  | .hbm, ⟨35, _⟩ => ⟨S512, .i32⟩
  | .hbm, ⟨36, _⟩ => ⟨S_, .i32⟩
  | .hbm, ⟨37, _⟩ => ⟨S512, .i32⟩
  | .hbm, ⟨38, _⟩ => ⟨S512, .i1⟩
  | .hbm, ⟨39, _⟩ => ⟨S512, .i1⟩
  | .hbm, ⟨40, _⟩ => ⟨S_, .i32⟩
  | .hbm, ⟨41, _⟩ => ⟨S512, .i32⟩
  | .hbm, ⟨42, _⟩ => ⟨S512, .i32⟩
  | .hbm, ⟨43, _⟩ => ⟨S512, .i32⟩
  | .hbm, ⟨44, _⟩ => ⟨S512x1, .i32⟩
  | .hbm, ⟨45, _⟩ => ⟨S1x512, .i32⟩
  | .hbm, ⟨46, _⟩ => ⟨S512x512, .i32⟩
  | .hbm, ⟨47, _⟩ => ⟨S512x512, .i32⟩
  | .hbm, ⟨48, _⟩ => ⟨S512x512, .i1⟩
  | .hbm, ⟨49, _⟩ => ⟨S512x512, .bf16⟩
  | .hbm, ⟨50, _⟩ => ⟨S512, .i32⟩
  | .hbm, ⟨51, _⟩ => ⟨S512x1, .i32⟩
  | .hbm, ⟨52, _⟩ => ⟨S1x512, .i32⟩
  | .hbm, ⟨53, _⟩ => ⟨S512x512, .i32⟩
  | .hbm, ⟨54, _⟩ => ⟨S512x512, .i32⟩
  | .hbm, ⟨55, _⟩ => ⟨S512x512, .i1⟩
  | .hbm, ⟨56, _⟩ => ⟨S512x512, .bf16⟩
  | .hbm, ⟨57, _⟩ => ⟨S1x1024, .f32⟩
  | .hbm, ⟨58, _⟩ => ⟨S16x2048x512, .f32⟩
  | .hbm, ⟨59, _⟩ => ⟨S16x2048x512, .bf16⟩
  | .hbm, ⟨60, _⟩ => ⟨S16x512x2048, .bf16⟩
  | .hbm, ⟨61, _⟩ => ⟨S16x2048x512, .bf16⟩
  | .hbm, ⟨62, _⟩ => ⟨S16x8x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2176, .bf16⟩
  | .local _ .vmem, ⟨4, _⟩ => ⟨S1x128, .f32⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | .local _ .vmem, ⟨9, _⟩ => ⟨S1x512x512, .f32⟩
  | .local _ .vmem, ⟨10, _⟩ => ⟨S1x512x512, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x8x512, .f32⟩
  | .local _ .vmem, ⟨18, _⟩ => ⟨S1x8x512, .f32⟩
  | .local _ .vmem, ⟨19, _⟩ => ⟨S8x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_v6 : Ref sig .tc := ⟨.hbm, 33, rfl⟩
abbrev main_call2_v7 : Ref sig .tc := ⟨.hbm, 34, rfl⟩
abbrev main_call2_v8 : Ref sig .tc := ⟨.hbm, 35, rfl⟩
abbrev main_call2_c : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_call2_c_0 : Ref sig .tc := ⟨.hbm, 40, rfl⟩
abbrev main_call2_v12 : Ref sig .tc := ⟨.hbm, 41, rfl⟩
abbrev main_call2_v13 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30_0 : Ref sig .tc := ⟨.hbm, 58, rfl⟩
abbrev main_v30_1 : Ref sig .tc := ⟨.hbm, 59, rfl⟩
abbrev main_v30_2 : Ref sig .tc := ⟨.hbm, 60, rfl⟩
abbrev main_v30_3 : Ref sig .tc := ⟨.hbm, 61, rfl⟩
abbrev main_v30_4 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S16x2048x1024 : Shape := ⟨3, ![16, 2048, 1024]⟩
abbrev S1024 : Shape := ⟨1, ![1024]⟩
abbrev S1024x2056 : Shape := ⟨2, ![1024, 2056]⟩
abbrev S8 : Shape := ⟨1, ![8]⟩
abbrev S64 : Shape := ⟨1, ![64]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2056 : Shape := ⟨3, ![16, 2048, 2056]⟩
abbrev S16x2048x512 : Shape := ⟨3, ![16, 2048, 512]⟩
abbrev S16x2048x8x64 : Shape := ⟨4, ![16, 2048, 8, 64]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S1x1x8 : Shape := ⟨3, ![1, 1, 8]⟩
abbrev S16x512x2048 : Shape := ⟨3, ![16, 512, 2048]⟩
abbrev S16x8x2048 : Shape := ⟨3, ![16, 8, 2048]⟩

abbrev nBuf : Space → Nat
  | .hbm => 100
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2056, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S16x2048x2056, .f32⟩
  | .hbm, ⟨23, _⟩ => ⟨S16x2048x512, .f32⟩
  | .hbm, ⟨24, _⟩ => ⟨S16x2048x512, .f32⟩
  | .hbm, ⟨25, _⟩ => ⟨S16x2048x8x64, .f32⟩
  | .hbm, ⟨26, _⟩ => ⟨S16x2048x8x64, .f32⟩
  | .hbm, ⟨27, _⟩ => ⟨S_, .f32⟩
  | .hbm, ⟨28, _⟩ => ⟨S16x2048x8, .f32⟩
  | .hbm, ⟨29, _⟩ => ⟨S16x2048x8x1, .f32⟩
  | .hbm, ⟨30, _⟩ => ⟨S_, .f32⟩
  | .hbm, ⟨31, _⟩ => ⟨S16x2048x8x1, .f32⟩
  | .hbm, ⟨32, _⟩ => ⟨S16x2048x8x1, .f32⟩
  | .hbm, ⟨33, _⟩ => ⟨S_, .f32⟩
  | .hbm, ⟨34, _⟩ => ⟨S16x2048x8x1, .f32⟩
  | .hbm, ⟨35, _⟩ => ⟨S16x2048x8x1, .f32⟩
  | .hbm, ⟨36, _⟩ => ⟨S16x2048x8x1, .f32⟩
  | .hbm, ⟨37, _⟩ => ⟨S16x2048x8x64, .f32⟩
  | .hbm, ⟨38, _⟩ => ⟨S16x2048x8x64, .f32⟩
  | .hbm, ⟨39, _⟩ => ⟨S1x1x1x64, .f32⟩
  | .hbm, ⟨40, _⟩ => ⟨S16x2048x8x64, .f32⟩
  | .hbm, ⟨41, _⟩ => ⟨S16x2048x8x64, .f32⟩
  | .hbm, ⟨42, _⟩ => ⟨S16x2048x512, .f32⟩
  | .hbm, ⟨43, _⟩ => ⟨S16x2048x8x64, .f32⟩
  | .hbm, ⟨44, _⟩ => ⟨S16x2048x8x64, .f32⟩
  | .hbm, ⟨45, _⟩ => ⟨S_, .f32⟩
  | .hbm, ⟨46, _⟩ => ⟨S16x2048x8, .f32⟩
  | .hbm, ⟨47, _⟩ => ⟨S16x2048x8x1, .f32⟩
  | .hbm, ⟨48, _⟩ => ⟨S_, .f32⟩
  | .hbm, ⟨49, _⟩ => ⟨S16x2048x8x1, .f32⟩
  | .hbm, ⟨50, _⟩ => ⟨S16x2048x8x1, .f32⟩
  | .hbm, ⟨51, _⟩ => ⟨S_, .f32⟩
  | .hbm, ⟨52, _⟩ => ⟨S16x2048x8x1, .f32⟩
  | .hbm, ⟨53, _⟩ => ⟨S16x2048x8x1, .f32⟩
  | .hbm, ⟨54, _⟩ => ⟨S16x2048x8x1, .f32⟩
  | .hbm, ⟨55, _⟩ => ⟨S16x2048x8x64, .f32⟩
  | .hbm, ⟨56, _⟩ => ⟨S16x2048x8x64, .f32⟩
  | .hbm, ⟨57, _⟩ => ⟨S1x1x1x64, .f32⟩
  | .hbm, ⟨58, _⟩ => ⟨S16x2048x8x64, .f32⟩
  | .hbm, ⟨59, _⟩ => ⟨S16x2048x8x64, .f32⟩
  | .hbm, ⟨60, _⟩ => ⟨S16x2048x512, .f32⟩
  | .hbm, ⟨61, _⟩ => ⟨S16x2048x8, .f32⟩
  | .hbm, ⟨62, _⟩ => ⟨S1x1x8, .f32⟩
  | .hbm, ⟨63, _⟩ => ⟨S16x2048x8, .f32⟩
  | .hbm, ⟨64, _⟩ => ⟨S16x2048x8, .f32⟩
  | .hbm, ⟨65, _⟩ => ⟨S16x2048x8, .f32⟩
  | .hbm, ⟨66, _⟩ => ⟨S_, .f32⟩
  | .hbm, ⟨67, _⟩ => ⟨S16x2048x8, .f32⟩
  | .hbm, ⟨68, _⟩ => ⟨S16x2048x8, .f32⟩
  | .hbm, ⟨69, _⟩ => ⟨S16x2048x8, .f32⟩
  | .hbm, ⟨70, _⟩ => ⟨S16x2048x8, .f32⟩
  | .hbm, ⟨71, _⟩ => ⟨S16x2048x8, .i1⟩
  | .hbm, ⟨72, _⟩ => ⟨S16x2048x8, .f32⟩
  | .hbm, ⟨73, _⟩ => ⟨S16x2048x8, .f32⟩
  | .hbm, ⟨74, _⟩ => ⟨S16x2048x8, .f32⟩
  | .hbm, ⟨75, _⟩ => ⟨S16x2048x8, .f32⟩
  | .hbm, ⟨76, _⟩ => ⟨S16x2048x8, .f32⟩
  | .hbm, ⟨77, _⟩ => ⟨S16x2048x8, .f32⟩
  | .hbm, ⟨78, _⟩ => ⟨S16x2048x8, .f32⟩
  | .hbm, ⟨79, _⟩ => ⟨S16x2048x8, .f32⟩
  | .hbm, ⟨80, _⟩ => ⟨S16x2048x8, .f32⟩
  | .hbm, ⟨81, _⟩ => ⟨S_, .f32⟩
  | .hbm, ⟨82, _⟩ => ⟨S_, .f32⟩
  | .hbm, ⟨83, _⟩ => ⟨S16x2048x8, .f32⟩
  | .hbm, ⟨84, _⟩ => ⟨S_, .f32⟩
  | .hbm, ⟨85, _⟩ => ⟨S16x2048x8x64, .f32⟩
  | .hbm, ⟨86, _⟩ => ⟨S16x2048x8x64, .f32⟩
  | .hbm, ⟨87, _⟩ => ⟨S_, .f32⟩
  | .hbm, ⟨88, _⟩ => ⟨S16x2048x8x64, .f32⟩
  | .hbm, ⟨89, _⟩ => ⟨S16x2048x8x64, .f32⟩
  | .hbm, ⟨90, _⟩ => ⟨S16x2048x512, .f32⟩
  | .hbm, ⟨91, _⟩ => ⟨S16x2048x512, .bf16⟩
  | .hbm, ⟨92, _⟩ => ⟨S16x2048x512, .f32⟩
  | .hbm, ⟨93, _⟩ => ⟨S16x512x2048, .f32⟩
  | .hbm, ⟨94, _⟩ => ⟨S16x512x2048, .bf16⟩
  | .hbm, ⟨95, _⟩ => ⟨S16x2048x512, .bf16⟩
  | .hbm, ⟨96, _⟩ => ⟨S16x8x2048, .f32⟩
  | .hbm, ⟨97, _⟩ => ⟨S_, .f32⟩
  | .hbm, ⟨98, _⟩ => ⟨S16x8x2048, .f32⟩
  | .hbm, ⟨99, _⟩ => ⟨S16x8x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_call0_v0 : Ref sig .tc := ⟨.hbm, 65, rfl⟩
abbrev main_call0_call0_cst : Ref sig .tc := ⟨.hbm, 66, rfl⟩
abbrev main_call0_call0_v0 : Ref sig .tc := ⟨.hbm, 67, rfl⟩
abbrev main_call0_call0_v1 : Ref sig .tc := ⟨.hbm, 68, rfl⟩
abbrev main_call0_call0_v2 : Ref sig .tc := ⟨.hbm, 69, rfl⟩
abbrev main_call0_call0_v3 : Ref sig .tc := ⟨.hbm, 70, rfl⟩
abbrev main_call0_call0_v4 : Ref sig .tc := ⟨.hbm, 71, rfl⟩
abbrev main_call0_call0_v5 : Ref sig .tc := ⟨.hbm, 72, rfl⟩
abbrev main_call0_call0_v6 : Ref sig .tc := ⟨.hbm, 73, rfl⟩
abbrev main_call0_call0_v7 : Ref sig .tc := ⟨.hbm, 74, rfl⟩
abbrev main_call0_call0_v8 : Ref sig .tc := ⟨.hbm, 75, rfl⟩
abbrev main_call0_call0_v9 : Ref sig .tc := ⟨.hbm, 76, rfl⟩
abbrev main_call0_call0_v10 : Ref sig .tc := ⟨.hbm, 77, rfl⟩
abbrev main_call0_call0_v11 : Ref sig .tc := ⟨.hbm, 78, rfl⟩
abbrev main_call0_v1 : Ref sig .tc := ⟨.hbm, 79, rfl⟩
abbrev main_v50 : Ref sig .tc := ⟨.hbm, 80, rfl⟩
abbrev main_call1_call0_cst : Ref sig .tc := ⟨.hbm, 81, rfl⟩
abbrev main_call1_call0_v0 : Ref sig .tc := ⟨.hbm, 82, rfl⟩
abbrev main_v51 : Ref sig .tc := ⟨.hbm, 83, rfl⟩
abbrev main_cst_8 : Ref sig .tc := ⟨.hbm, 84, rfl⟩
abbrev main_v52 : Ref sig .tc := ⟨.hbm, 85, rfl⟩
abbrev main_v53 : Ref sig .tc := ⟨.hbm, 86, rfl⟩
abbrev main_cst_9 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_10 : Ref sig .tc := ⟨.hbm, 97, rfl⟩
abbrev main_v63 : Ref sig .tc := ⟨.hbm, 98, rfl⟩
abbrev main_v64 : Ref sig .tc := ⟨.hbm, 99, rfl⟩

abbrev nD : Nat := 1
abbrev τ : Topo := Topo.v7x

variable {F : FTy → Type} [FloatOps F]
-- ==== Kernel4.lean ====
abbrev S16x2048x512 : Shape := ⟨3, ![16, 2048, 512]⟩
abbrev S8x2048 : Shape := ⟨2, ![8, 2048]⟩
abbrev S16x128x256 : Shape := ⟨3, ![16, 128, 256]⟩
abbrev S4x1024x128 : Shape := ⟨3, ![4, 1024, 128]⟩
abbrev S512 : Shape := ⟨1, ![512]⟩
abbrev S512x512 : Shape := ⟨2, ![512, 512]⟩
abbrev S1x512 : Shape := ⟨2, ![1, 512]⟩
abbrev S16x32x512 : Shape := ⟨3, ![16, 32, 512]⟩
abbrev S512x4096 : Shape := ⟨2, ![512, 4096]⟩
abbrev S16x4096 : Shape := ⟨2, ![16, 4096]⟩
abbrev S16x1x512 : Shape := ⟨3, ![16, 1, 512]⟩
abbrev S16x512 : Shape := ⟨2, ![16, 512]⟩
abbrev S512x128 : Shape := ⟨2, ![512, 128]⟩
abbrev S1x128x256 : Shape := ⟨3, ![1, 128, 256]⟩
abbrev S128x256 : Shape := ⟨2, ![128, 256]⟩
abbrev S512x256 : Shape := ⟨2, ![512, 256]⟩
abbrev S8x512 : Shape := ⟨2, ![8, 512]⟩
abbrev S512x1024 : Shape := ⟨2, ![512, 1024]⟩
abbrev S1x1024x128 : Shape := ⟨3, ![1, 1024, 128]⟩
abbrev S1024x128 : Shape := ⟨2, ![1024, 128]⟩

abbrev nBuf : Space → Nat
  | .hbm => 12
  | .vmem => 16
  | .smem => 0
  | _ => 0

abbrev bufTy : (tb : Table) → Fin (tcTables nBuf tb) → BufTy
  | .hbm, ⟨0, _⟩ => ⟨S16x2048x512, .f32⟩
  | .hbm, ⟨1, _⟩ => ⟨S8x2048, .f32⟩
  | .hbm, ⟨2, _⟩ => ⟨S8x2048, .f32⟩
  | .hbm, ⟨3, _⟩ => ⟨S16x128x256, .bf16⟩
  | .hbm, ⟨4, _⟩ => ⟨S4x1024x128, .bf16⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1x512, .f32⟩
  | .hbm, ⟨9, _⟩ => ⟨S512x512, .bf16⟩
  | .hbm, ⟨10, _⟩ => ⟨S1x512, .f32⟩
  | .hbm, ⟨11, _⟩ => ⟨S16x2048x512, .f32⟩
  | .local _ .vmem, ⟨0, _⟩ => ⟨S16x32x512, .f32⟩
  | .local _ .vmem, ⟨1, _⟩ => ⟨S16x32x512, .f32⟩
  | .local _ .vmem, ⟨2, _⟩ => ⟨S8x2048, .f32⟩
  | .local _ .vmem, ⟨3, _⟩ => ⟨S8x2048, .f32⟩
  | .local _ .vmem, ⟨4, _⟩ => ⟨S16x128x256, .bf16⟩
  | .local _ .vmem, ⟨5, _⟩ => ⟨S4x1024x128, .bf16⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S16x32x512, .f32⟩
  | .local _ .vmem, ⟨10, _⟩ => ⟨S16x32x512, .f32⟩
  | .local _ .vmem, ⟨11, _⟩ => ⟨S512x512, .f32⟩
  | .local _ .vmem, ⟨12, _⟩ => ⟨S512x4096, .f32⟩
  | .local _ .vmem, ⟨13, _⟩ => ⟨S512x4096, .bf16⟩
  | .local _ .vmem, ⟨14, _⟩ => ⟨S16x4096, .f32⟩
  | .local _ .vmem, ⟨15, _⟩ => ⟨S512x512, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel5.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S1x2048 : Shape := ⟨2, ![1, 2048]⟩
abbrev S2048 : Shape := ⟨1, ![2048]⟩
abbrev S16x32x64 : Shape := ⟨3, ![16, 32, 64]⟩
abbrev S16x2048 : Shape := ⟨2, ![16, 2048]⟩
abbrev S2048x16 : Shape := ⟨2, ![2048, 16]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S2x128x256 : Shape := ⟨3, ![2, 128, 256]⟩
abbrev S512 : Shape := ⟨1, ![512]⟩
abbrev S512x1 : Shape := ⟨2, ![512, 1]⟩
abbrev S1x128 : Shape := ⟨2, ![1, 128]⟩
abbrev S512x128 : Shape := ⟨2, ![512, 128]⟩
abbrev S16 : Shape := ⟨1, ![16]⟩
abbrev S16x1 : Shape := ⟨2, ![16, 1]⟩
abbrev S16x128 : Shape := ⟨2, ![16, 128]⟩
abbrev S8x2048 : Shape := ⟨2, ![8, 2048]⟩
abbrev S16x128x256 : Shape := ⟨3, ![16, 128, 256]⟩
abbrev S4x1024x128 : Shape := ⟨3, ![4, 1024, 128]⟩
abbrev S16x256 : Shape := ⟨2, ![16, 256]⟩
abbrev S512x16 : Shape := ⟨2, ![512, 16]⟩
abbrev S1x512x128 : Shape := ⟨3, ![1, 512, 128]⟩

abbrev nBuf : Space → Nat
  | .hbm => 151
  | .vmem => 14
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x16x64, .f32⟩
  | 6 => ⟨S32x16x64, .f32⟩
  | 7 => ⟨S1x2048, .f32⟩
  | 8 => ⟨S1x2048, .f32⟩
  | 9 => ⟨S32x64, .f32⟩
  | 10 => ⟨S2048, .f32⟩
  | 11 => ⟨S1x2048, .f32⟩
  | 12 => ⟨S16x32x64, .f32⟩
  | 13 => ⟨S16x2048, .f32⟩
  | 14 => ⟨S16x32x64, .f32⟩
  | 15 => ⟨S16x2048, .f32⟩
  | 16 => ⟨S32x64x16, .f32⟩
  | 17 => ⟨S2048x16, .f32⟩
  | 18 => ⟨S32x64x16, .f32⟩
  | 19 => ⟨S2048x16, .f32⟩
  | 20 => ⟨S128, .i32⟩
  | 21 => ⟨S128x1, .i32⟩
  | 22 => ⟨S_, .i32⟩
  | 23 => ⟨S_, .i32⟩
  | 24 => ⟨S128x1, .i32⟩
  | 25 => ⟨S128x1, .i32⟩
  | 26 => ⟨S128x1, .i32⟩
  | 27 => ⟨S_, .i32⟩
  | 28 => ⟨S128x1, .i32⟩
  | 29 => ⟨S128x1, .i1⟩
  | 30 => ⟨S128x1, .i32⟩
  | 31 => ⟨S128x1, .i32⟩
  | 32 => ⟨S_, .i32⟩
  | 33 => ⟨S128x1, .i32⟩
  | 34 => ⟨S128x1, .i1⟩
  | 35 => ⟨S128x1, .i1⟩
  | 36 => ⟨S_, .i32⟩
  | 37 => ⟨S128x1, .i32⟩
  | 38 => ⟨S128x1, .i32⟩
  | 39 => ⟨S128x1, .i32⟩
  | 40 => ⟨S256, .i32⟩
  | 41 => ⟨S1x256, .i32⟩
  | 42 => ⟨S_, .i32⟩
  | 43 => ⟨S_, .i32⟩
  | 44 => ⟨S1x256, .i32⟩
  | 45 => ⟨S1x256, .i32⟩
  | 46 => ⟨S1x256, .i32⟩
  | 47 => ⟨S_, .i32⟩
  | 48 => ⟨S1x256, .i32⟩
  | 49 => ⟨S1x256, .i1⟩
  | 50 => ⟨S1x256, .i32⟩
  | 51 => ⟨S1x256, .i32⟩
  | 52 => ⟨S_, .i32⟩
  | 53 => ⟨S1x256, .i32⟩
  | 54 => ⟨S1x256, .i1⟩
  | 55 => ⟨S1x256, .i1⟩
  | 56 => ⟨S_, .i32⟩
  | 57 => ⟨S1x256, .i32⟩
  | 58 => ⟨S1x256, .i32⟩
  | 59 => ⟨S1x256, .i32⟩
  | 60 => ⟨S128x256, .i32⟩
  | 61 => ⟨S128x256, .i32⟩
  | 62 => ⟨S128x256, .i1⟩
  | 63 => ⟨S_, .i32⟩
  | 64 => ⟨S1x256, .i32⟩
  | 65 => ⟨S1x256, .i32⟩
  | 66 => ⟨S128x256, .i32⟩
  | 67 => ⟨S128x256, .i32⟩
  | 68 => ⟨S128x256, .i1⟩
  | 69 => ⟨S1x128x256, .i1⟩
  | 70 => ⟨S1x128x256, .i1⟩
  | 71 => ⟨S2x128x256, .i1⟩
  | 72 => ⟨S2x128x256, .f32⟩
  | 73 => ⟨S512, .i32⟩
  | 74 => ⟨S512x1, .i32⟩
  | 75 => ⟨S_, .i32⟩
  | 76 => ⟨S_, .i32⟩
  | 77 => ⟨S512x1, .i32⟩
  | 78 => ⟨S512x1, .i32⟩
  | 79 => ⟨S512x1, .i32⟩
  | 80 => ⟨S_, .i32⟩
  | 81 => ⟨S512x1, .i32⟩
  | 82 => ⟨S512x1, .i1⟩
  | 83 => ⟨S512x1, .i32⟩
  | 84 => ⟨S512x1, .i32⟩
  | 85 => ⟨S_, .i32⟩
  | 86 => ⟨S512x1, .i32⟩
  | 87 => ⟨S512x1, .i1⟩
  | 88 => ⟨S512x1, .i1⟩
  | 89 => ⟨S_, .i32⟩
  | 90 => ⟨S512x1, .i32⟩
  | 91 => ⟨S512x1, .i32⟩
  | 92 => ⟨S512x1, .i32⟩
  | 93 => ⟨S128, .i32⟩
  | 94 => ⟨S1x128, .i32⟩
  | 95 => ⟨S_, .i32⟩
  | 96 => ⟨S_, .i32⟩
  | 97 => ⟨S1x128, .i32⟩
  | 98 => ⟨S1x128, .i32⟩
  | 99 => ⟨S1x128, .i32⟩
  | 100 => ⟨S_, .i32⟩
  | 101 => ⟨S1x128, .i32⟩
  | 102 => ⟨S1x128, .i1⟩
  | 103 => ⟨S1x128, .i32⟩
  | 104 => ⟨S1x128, .i32⟩
  | 105 => ⟨S_, .i32⟩
  | 106 => ⟨S1x128, .i32⟩
  | 107 => ⟨S1x128, .i1⟩
  | 108 => ⟨S1x128, .i1⟩
  | 109 => ⟨S_, .i32⟩
  | 110 => ⟨S1x128, .i32⟩
  | 111 => ⟨S1x128, .i32⟩
  | 112 => ⟨S1x128, .i32⟩
  | 113 => ⟨S512x128, .i32⟩
  | 114 => ⟨S512x128, .i32⟩
  | 115 => ⟨S512x128, .i1⟩
  | 116 => ⟨S512x128, .f32⟩
  | 117 => ⟨S16, .i32⟩
  | 118 => ⟨S16x1, .i32⟩
  | 119 => ⟨S128, .i32⟩
  | 120 => ⟨S1x128, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S1x128, .i32⟩
  | _ => ⟨S32x64, .f32⟩

abbrev hbmTy0_1 (i : Nat) : BufTy := match i % 128 with
  | 0 => ⟨S1x128, .i32⟩
  | 1 => ⟨S_, .i32⟩
  | 2 => ⟨S1x128, .i32⟩
  | 3 => ⟨S1x128, .i1⟩
  | 4 => ⟨S_, .i32⟩
  | 5 => ⟨S1x128, .i32⟩
  | 6 => ⟨S1x128, .i1⟩
  | 7 => ⟨S_, .i32⟩
  | 8 => ⟨S_, .i1⟩
  | 9 => ⟨S1x128, .i1⟩
  | 10 => ⟨S1x128, .i1⟩
  | 11 => ⟨S1x128, .i1⟩
  | 12 => ⟨S1x128, .i32⟩
  | 13 => ⟨S1x128, .i32⟩
  | 14 => ⟨S1x128, .i32⟩
  | 15 => ⟨S16x128, .i32⟩
  | 16 => ⟨S16x128, .i32⟩
  | 17 => ⟨S16x128, .i1⟩
  | 18 => ⟨S16x128, .bf16⟩
  | 19 => ⟨S8x2048, .f32⟩
  | 20 => ⟨S8x2048, .f32⟩
  | 21 => ⟨S16x128x256, .bf16⟩
  | 22 => ⟨S4x1024x128, .bf16⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S16x2048, .f32⟩
  | .local _ .vmem, ⟨4, _⟩ => ⟨S16x2048, .f32⟩
  | .local _ .vmem, ⟨5, _⟩ => ⟨S2048x16, .f32⟩
  | .local _ .vmem, ⟨6, _⟩ => ⟨S2048x16, .f32⟩
  | .local _ .vmem, ⟨7, _⟩ => ⟨S2x128x256, .f32⟩
  | .local _ .vmem, ⟨8, _⟩ => ⟨S512x128, .f32⟩
  | .local _ .vmem, ⟨9, _⟩ => ⟨S16x128, .bf16⟩
  | .local _ .vmem, ⟨10, _⟩ => ⟨S8x2048, .f32⟩
  | .local _ .vmem, ⟨11, _⟩ => ⟨S8x2048, .f32⟩
  | .local _ .vmem, ⟨12, _⟩ => ⟨S16x128x256, .bf16⟩
  | .local _ .vmem, ⟨13, _⟩ => ⟨S4x1024x128, .bf16⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_c_1 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_c_2 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_c : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_0 : Ref sig .tc := ⟨.hbm, 89, rfl⟩
abbrev main_call2_v12 : Ref sig .tc := ⟨.hbm, 90, rfl⟩
abbrev main_call2_v13 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_c_3 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_c : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_0 : Ref sig .tc := ⟨.hbm, 109, rfl⟩
abbrev main_call3_v12 : Ref sig .tc := ⟨.hbm, 110, rfl⟩
abbrev main_call3_v13 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_c_4 : Ref sig .tc := ⟨.hbm, 121, rfl⟩
abbrev main_call4_v0 : Ref sig .tc := ⟨.hbm, 122, rfl⟩
abbrev main_call4_c : Ref sig .tc := ⟨.hbm, 123, rfl⟩
abbrev main_call4_v1 : Ref sig .tc := ⟨.hbm, 124, rfl⟩
abbrev main_call4_c_0 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_call4_c_1 : Ref sig .tc := ⟨.hbm, 129, rfl⟩
abbrev main_call4_v5 : Ref sig .tc := ⟨.hbm, 130, rfl⟩
abbrev main_call4_v6 : Ref sig .tc := ⟨.hbm, 131, rfl⟩
abbrev main_call4_c_2 : Ref sig .tc := ⟨.hbm, 132, rfl⟩
abbrev main_call4_v7 : Ref sig .tc := ⟨.hbm, 133, rfl⟩
abbrev main_call4_v8 : Ref sig .tc := ⟨.hbm, 134, rfl⟩
abbrev main_call4_c_3 : Ref sig .tc := ⟨.hbm, 135, rfl⟩
abbrev main_call4_v9 : Ref sig .tc := ⟨.hbm, 136, rfl⟩
abbrev main_call4_v10 : Ref sig .tc := ⟨.hbm, 137, rfl⟩
abbrev main_call4_v11 : Ref sig .tc := ⟨.hbm, 138, rfl⟩
abbrev main_call4_v12 : Ref sig .tc := ⟨.hbm, 139, rfl⟩
abbrev main_call4_v13 : Ref sig .tc := ⟨.hbm, 140, rfl⟩
abbrev main_call4_v14 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev main_v49 : Ref sig .tc := ⟨.hbm, 146, rfl⟩
abbrev main_v50_0 : Ref sig .tc := ⟨.hbm, 147, rfl⟩
abbrev main_v50_1 : Ref sig .tc := ⟨.hbm, 148, rfl⟩
abbrev main_v50_2 : Ref sig .tc := ⟨.hbm, 149, rfl⟩
abbrev main_v50_3 : Ref sig .tc := ⟨.hbm, 150, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x128x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.FoxFinite.lean ====
module

public import proofs.«01_k».proof.Pre_finite
public import proofs.«01_k».proof.Proof.Gen.Pre_finite
public import Idealize.ShloMosaic.Lib.ReduceAll
public import Idealize.ShloMosaic.Lib.Pipeline.ValueKit
public import Idealize.ShloMosaic.Lib.Pointwise

/-! What the precondition says: every query, every key and every cumulative gate is a real number. -/

@[expose] public section

noncomputable section

open Idealize.ShloMosaic

namespace Cert.Pre_finite

theorem infinity : Ideal.ofBits FTy.f32 0x7F800000#32 = ⊤ := by
  simp [Ideal.ofBits, Ideal.ieee, -EReal.coe_mul]

theorem real_of_lt (z w : EReal) (hw : w = ⊤) (h : FloatOps.cmpf (F := Ideal) (φ := .f32) .olt (FloatOps.hostAbsf (F := Ideal) (φ := .f32) z) w = 1#1) : ∃ r : ℝ, z = (r : EReal) := by
  subst hw
  have h1 : max z (-z) < ⊤ := by
    by_contra hn
    have e : FloatOps.cmpf (F := Ideal) (φ := .f32) .olt (FloatOps.hostAbsf (F := Ideal) (φ := .f32) z) ⊤ = 0#1 := congrArg BitVec.ofBool (decide_eq_false hn)
    rw [e] at h
    exact absurd h (by decide)
  refine ⟨z.toReal, (EReal.coe_toReal ?_ ?_).symm⟩
  · rintro rfl
    simp at h1
  · rintro rfl
    simp at h1

variable (q k v : FVec Ideal S16x2048x512 .f32) (c : FVec Ideal S16x8x2048 .f32)

instance : Subsingleton S_.Idx := ⟨fun a b => funext fun i => i.elim0⟩

theorem finite_real (h : fn (F := Ideal) q k v c = fun _ => 1#1) :
    (∀ y, ∃ r : ℝ, q y = (r : EReal)) ∧ (∀ y, ∃ r : ℝ, k y = (r : EReal)) ∧ (∀ y, ∃ r : ℝ, c y = (r : EReal)) := by
  have h0 := congrFun h (Shape.Idx.first Gen.facts.h_S_)
  obtain ⟨h1, h2⟩ := IntOp.andi_eq_one.1 h0
  obtain ⟨h3, h4⟩ := IntOp.andi_eq_one.1 h1
  refine ⟨fun y => real_of_lt _ _ infinity (Host.reduce_andi_all _ _ _ _ _ h3 y), fun y => real_of_lt _ _ infinity (Host.reduce_andi_all _ _ _ _ _ h4 y),
    fun y => real_of_lt _ _ infinity (Host.reduce_andi_all _ _ _ _ _ h2 y)⟩

end Cert.Pre_finite
-- ==== Proof.FoxReads.lean ====
module

public import proofs.«01_k».proof.Proof.Gen.KernelIdeal.Frame
public import Idealize.ShloMosaic.Lib.Pipeline.ReadBack
public import Idealize.ShloMosaic.Lib.Pipeline.ValueKit
public import Idealize.ShloMosaic.Lib.Pointwise

/-! The attention kernel's scratch buffers as it reads them back: the weights of one head's rows, stored tile by tile
    and read as one block, and the first keys of a head's values, stored for all keys at once. -/

@[expose] public section

set_option maxRecDepth 16384
noncomputable section
open Idealize.ShloMosaic Idealize.ShloMosaic.TcCoe Idealize.SL.Sem
namespace Cert.KernelIdeal.Fox
open Cert.KernelIdeal Cert.KernelIdeal.Gen

/-- Tiles of 256 columns side by side. -/
def catP (K : ℕ) (xs : List (S1x256x256.Idx → EReal)) : (⟨3, ![1, 256, K]⟩ : Shape).Idx → EReal := fun x =>
  xs.getD ((x 2).val / 256) (fun _ => 0) (ix3 (0 : Fin 1) (x 1) (⟨(x 2).val % 256, Nat.mod_lt _ (by decide)⟩ : Fin 256))

/-- The first `K` rows of a block. -/
def headRows (K : ℕ) (hK : K ≤ 2048) (X : S1x2048x128.Idx → EReal) : (⟨3, ![1, K, 128]⟩ : Shape).Idx → EReal := fun x =>
  X (ix3 (0 : Fin 1) (⟨(x 1).val, by have : (x 1).val < K := (x 1).isLt; omega⟩ : Fin 2048) (x 2))

theorem inbP (s n : ℕ) (hs : s < 2) (hn : n < 8) : ∀ a : Fin 3, (![s, 0, 256 * n] : Fin 3 → ℕ) a + (![1, 256, 256] : Fin 3 → ℕ) a ≤ S2x256x2048.size a := fun a =>
  match a with
  | ⟨0, _⟩ => (by omega : s + 1 ≤ 2)
  | ⟨1, _⟩ => (by omega : 0 + 256 ≤ 256)
  | ⟨2, _⟩ => (by omega : 256 * n + 256 ≤ 2048)

/-- The stores of the tiles, the last first. -/
def pPieces (s : ℕ) (hs : s < 2) (X : ℕ → S1x256x256.Idx → EReal) : (n : ℕ) → n ≤ 8 → List (View.Piece (Elt Ideal) S2x256x2048 .bf16)
  | 0, _ => []
  | n + 1, h => (⟨Rect.unit (s := S2x256x2048) ![s, 0, 256 * n] ![1, 256, 256] (inbP s n hs h), X n⟩ : View.Piece (Elt Ideal) S2x256x2048 .bf16) :: pPieces s hs X n (by omega)

theorem canon_pPieces (s : ℕ) (hs : s < 2) (X : ℕ → S1x256x256.Idx → EReal) (L : List (View.Piece (Elt Ideal) S2x256x2048 .bf16)) (r : Fin 256) (j : Fin 2048) :
    ∀ (n : ℕ) (h : n ≤ 8) (_ : j.val < 256 * n), View.canon (pPieces s hs X n h ++ L) (ix3 (⟨s, hs⟩ : Fin 2) r j) =
      X (j.val / 256) (ix3 (0 : Fin 1) r (⟨j.val % 256, Nat.mod_lt _ (by decide)⟩ : Fin 256))
  | 0, _, hj => absurd hj (by omega)
  | n + 1, h, hj => by
    show View.canon ((⟨Rect.unit (s := S2x256x2048) ![s, 0, 256 * n] ![1, 256, 256] (inbP s n hs h), X n⟩ : View.Piece (Elt Ideal) S2x256x2048 .bf16) :: (pPieces s hs X n (by omega) ++ L)) _ = _
    by_cases hc : j.val < 256 * n
    · rw [View.canon_cons_of_not_mem]
      · exact canon_pPieces s hs X L r j n _ hc
      · intro hm
        have h' : 256 * n ≤ j.val := (Rect.mem_set_unit (inb := inbP s n hs h) |>.mp hm 2).1
        omega
    · have e : (ix3 (⟨s, hs⟩ : Fin 2) r j : S2x256x2048.Idx) = (Rect.unit (s := S2x256x2048) ![s, 0, 256 * n] ![1, 256, 256] (inbP s n hs h)).emb
          (ix3 (0 : Fin 1) r (⟨j.val % 256, Nat.mod_lt _ (by decide)⟩ : Fin 256)) := by
        funext a; apply Fin.ext
        match a with
        | ⟨0, _⟩ => show s = s + 1 * 0; omega
        | ⟨1, _⟩ => show r.val = 0 + 1 * r.val; omega
        | ⟨2, _⟩ => show j.val = 256 * n + 1 * (j.val % 256); omega
      rw [e, View.canon_cons_emb]
      have : j.val / 256 = n := by omega
      rw [this]

/-- Any slot's tiles, read as one block. -/
theorem readCov_pPieces {sig : RefSig} {κ : Kind} {sp : Space} (v : View sig κ sp S2x256x2048 .bf16) (s K n : ℕ) (hs : s < 2) (h : n ≤ 8) (hK : K = 256 * n)
    (xs : List (S1x256x256.Idx → EReal)) (L : List (View.Piece (Elt Ideal) S2x256x2048 .bf16))
    (h3 : ∀ a : Fin 3, (![s, 0, 0] : Fin 3 → ℕ) a + (![1, 256, K] : Fin 3 → ℕ) a ≤ S2x256x2048.size a) :
    v.readCov (pPieces s hs (fun i => xs.getD i (fun _ => 0)) n h ++ L) (Rect.unit (s := S2x256x2048) ![s, 0, 0] ![1, 256, K] h3).toLoadRect = catP K xs := by
  rw [View.readCov_eq_canon']
  funext x
  have x0 : (x 0).val < 1 := (x 0).isLt
  have x1 : (x 1).val < 256 := (x 1).isLt
  have x2 : (x 2).val < K := (x 2).isLt
  have e : ((Rect.unit (s := S2x256x2048) ![s, 0, 0] ![1, 256, K] h3).toLoadRect.idx x) = ix3 (⟨s, hs⟩ : Fin 2) (⟨(x 1).val, x1⟩ : Fin 256) (⟨(x 2).val, by omega⟩ : Fin 2048) := by
    funext a; apply Fin.ext
    match a with
    | ⟨0, _⟩ => show s + 1 * (x 0).val = s; omega
    | ⟨1, _⟩ => show 0 + 1 * (x 1).val = (x 1).val; omega
    | ⟨2, _⟩ => show 0 + 1 * (x 2).val = (x 2).val; omega
  rw [e, canon_pPieces s hs _ L _ _ n h (by dsimp only; omega)]
  rfl

/-- The first rows of a head's values, read from the block stored for all keys. -/
theorem readCov_rows {sig : RefSig} {κ : Kind} {sp : Space} (v : View sig κ sp S8x2048x128 .bf16) (s K : ℕ) (hK : K ≤ 2048)
    (h1 : ∀ a : Fin 3, (![s, 0, 0] : Fin 3 → ℕ) a + (![1, 2048, 128] : Fin 3 → ℕ) a ≤ S8x2048x128.size a)
    (h2 : ∀ a : Fin 3, (![s, 0, 0] : Fin 3 → ℕ) a + (![1, K, 128] : Fin 3 → ℕ) a ≤ S8x2048x128.size a)
    (X : S1x2048x128.Idx → EReal) (L : List (View.Piece (Elt Ideal) S8x2048x128 .bf16)) :
    v.readCov ((⟨Rect.unit (s := S8x2048x128) ![s, 0, 0] ![1, 2048, 128] h1, X⟩ : View.Piece (Elt Ideal) S8x2048x128 .bf16) :: L)
      (Rect.unit (s := S8x2048x128) ![s, 0, 0] ![1, K, 128] h2).toLoadRect = headRows K hK X := by
  rw [View.readCov_eq_canon']
  funext x
  have x0 : (x 0).val < 1 := (x 0).isLt
  have x1 : (x 1).val < K := (x 1).isLt
  have x2 : (x 2).val < 128 := (x 2).isLt
  have e : ((Rect.unit (s := S8x2048x128) ![s, 0, 0] ![1, K, 128] h2).toLoadRect.idx x) =
      (Rect.unit (s := S8x2048x128) ![s, 0, 0] ![1, 2048, 128] h1).emb (ix3 (0 : Fin 1) (⟨(x 1).val, by omega⟩ : Fin 2048) (⟨(x 2).val, x2⟩ : Fin 128)) := by
    funext a; apply Fin.ext
    match a with
    | ⟨0, _⟩ => show s + 1 * (x 0).val = s + 1 * 0; omega
    | ⟨1, _⟩ => show 0 + 1 * (x 1).val = 0 + 1 * (x 1).val; omega
    | ⟨2, _⟩ => show 0 + 1 * (x 2).val = 0 + 1 * (x 2).val; omega
  rw [e, View.canon_cons_emb]
  rfl

theorem readCov_p2 {sig : RefSig} {κ : Kind} {sp : Space} (v : View sig κ sp S2x256x2048 .bf16) (s : ℕ) (hs : s < 2) (h0 : ∀ a : Fin 3, (![s, 0, 0] : Fin 3 → ℕ) a + (![1, 256, 256] : Fin 3 → ℕ) a ≤ S2x256x2048.size a) (h1 : ∀ a : Fin 3, (![s, 0, 256] : Fin 3 → ℕ) a + (![1, 256, 256] : Fin 3 → ℕ) a ≤ S2x256x2048.size a)
    (h' : ∀ a : Fin 3, (![s, 0, 0] : Fin 3 → ℕ) a + (![1, 256, 512] : Fin 3 → ℕ) a ≤ S2x256x2048.size a) (x0 x1 : S1x256x256.Idx → EReal) (L : List (View.Piece (Elt Ideal) S2x256x2048 .bf16)) :
    v.readCov ((⟨Rect.unit (s := S2x256x2048) ![s, 0, 256] ![1, 256, 256] h1, x1⟩ : View.Piece (Elt Ideal) S2x256x2048 .bf16) ::
      (⟨Rect.unit (s := S2x256x2048) ![s, 0, 0] ![1, 256, 256] h0, x0⟩ : View.Piece (Elt Ideal) S2x256x2048 .bf16) :: L)
      (Rect.unit (s := S2x256x2048) ![s, 0, 0] ![1, 256, 512] h').toLoadRect = catP 512 [x0, x1] :=
  readCov_pPieces v s 512 2 hs (by decide) rfl [x0, x1] L h'

theorem readCov_p3 {sig : RefSig} {κ : Kind} {sp : Space} (v : View sig κ sp S2x256x2048 .bf16) (s : ℕ) (hs : s < 2) (h0 : ∀ a : Fin 3, (![s, 0, 0] : Fin 3 → ℕ) a + (![1, 256, 256] : Fin 3 → ℕ) a ≤ S2x256x2048.size a) (h1 : ∀ a : Fin 3, (![s, 0, 256] : Fin 3 → ℕ) a + (![1, 256, 256] : Fin 3 → ℕ) a ≤ S2x256x2048.size a) (h2 : ∀ a : Fin 3, (![s, 0, 512] : Fin 3 → ℕ) a + (![1, 256, 256] : Fin 3 → ℕ) a ≤ S2x256x2048.size a)
    (h' : ∀ a : Fin 3, (![s, 0, 0] : Fin 3 → ℕ) a + (![1, 256, 768] : Fin 3 → ℕ) a ≤ S2x256x2048.size a) (x0 x1 x2 : S1x256x256.Idx → EReal) (L : List (View.Piece (Elt Ideal) S2x256x2048 .bf16)) :
    v.readCov ((⟨Rect.unit (s := S2x256x2048) ![s, 0, 512] ![1, 256, 256] h2, x2⟩ : View.Piece (Elt Ideal) S2x256x2048 .bf16) ::
      (⟨Rect.unit (s := S2x256x2048) ![s, 0, 256] ![1, 256, 256] h1, x1⟩ : View.Piece (Elt Ideal) S2x256x2048 .bf16) ::
      (⟨Rect.unit (s := S2x256x2048) ![s, 0, 0] ![1, 256, 256] h0, x0⟩ : View.Piece (Elt Ideal) S2x256x2048 .bf16) :: L)
      (Rect.unit (s := S2x256x2048) ![s, 0, 0] ![1, 256, 768] h').toLoadRect = catP 768 [x0, x1, x2] :=
  readCov_pPieces v s 768 3 hs (by decide) rfl [x0, x1, x2] L h'

theorem readCov_p4 {sig : RefSig} {κ : Kind} {sp : Space} (v : View sig κ sp S2x256x2048 .bf16) (s : ℕ) (hs : s < 2) (h0 : ∀ a : Fin 3, (![s, 0, 0] : Fin 3 → ℕ) a + (![1, 256, 256] : Fin 3 → ℕ) a ≤ S2x256x2048.size a) (h1 : ∀ a : Fin 3, (![s, 0, 256] : Fin 3 → ℕ) a + (![1, 256, 256] : Fin 3 → ℕ) a ≤ S2x256x2048.size a) (h2 : ∀ a : Fin 3, (![s, 0, 512] : Fin 3 → ℕ) a + (![1, 256, 256] : Fin 3 → ℕ) a ≤ S2x256x2048.size a) (h3 : ∀ a : Fin 3, (![s, 0, 768] : Fin 3 → ℕ) a + (![1, 256, 256] : Fin 3 → ℕ) a ≤ S2x256x2048.size a)
    (h' : ∀ a : Fin 3, (![s, 0, 0] : Fin 3 → ℕ) a + (![1, 256, 1024] : Fin 3 → ℕ) a ≤ S2x256x2048.size a) (x0 x1 x2 x3 : S1x256x256.Idx → EReal) (L : List (View.Piece (Elt Ideal) S2x256x2048 .bf16)) :
    v.readCov ((⟨Rect.unit (s := S2x256x2048) ![s, 0, 768] ![1, 256, 256] h3, x3⟩ : View.Piece (Elt Ideal) S2x256x2048 .bf16) ::
      (⟨Rect.unit (s := S2x256x2048) ![s, 0, 512] ![1, 256, 256] h2, x2⟩ : View.Piece (Elt Ideal) S2x256x2048 .bf16) ::
      (⟨Rect.unit (s := S2x256x2048) ![s, 0, 256] ![1, 256, 256] h1, x1⟩ : View.Piece (Elt Ideal) S2x256x2048 .bf16) ::
      (⟨Rect.unit (s := S2x256x2048) ![s, 0, 0] ![1, 256, 256] h0, x0⟩ : View.Piece (Elt Ideal) S2x256x2048 .bf16) :: L)
      (Rect.unit (s := S2x256x2048) ![s, 0, 0] ![1, 256, 1024] h').toLoadRect = catP 1024 [x0, x1, x2, x3] :=
  readCov_pPieces v s 1024 4 hs (by decide) rfl [x0, x1, x2, x3] L h'

theorem readCov_p5 {sig : RefSig} {κ : Kind} {sp : Space} (v : View sig κ sp S2x256x2048 .bf16) (s : ℕ) (hs : s < 2) (h0 : ∀ a : Fin 3, (![s, 0, 0] : Fin 3 → ℕ) a + (![1, 256, 256] : Fin 3 → ℕ) a ≤ S2x256x2048.size a) (h1 : ∀ a : Fin 3, (![s, 0, 256] : Fin 3 → ℕ) a + (![1, 256, 256] : Fin 3 → ℕ) a ≤ S2x256x2048.size a) (h2 : ∀ a : Fin 3, (![s, 0, 512] : Fin 3 → ℕ) a + (![1, 256, 256] : Fin 3 → ℕ) a ≤ S2x256x2048.size a) (h3 : ∀ a : Fin 3, (![s, 0, 768] : Fin 3 → ℕ) a + (![1, 256, 256] : Fin 3 → ℕ) a ≤ S2x256x2048.size a) (h4 : ∀ a : Fin 3, (![s, 0, 1024] : Fin 3 → ℕ) a + (![1, 256, 256] : Fin 3 → ℕ) a ≤ S2x256x2048.size a)
    (h' : ∀ a : Fin 3, (![s, 0, 0] : Fin 3 → ℕ) a + (![1, 256, 1280] : Fin 3 → ℕ) a ≤ S2x256x2048.size a) (x0 x1 x2 x3 x4 : S1x256x256.Idx → EReal) (L : List (View.Piece (Elt Ideal) S2x256x2048 .bf16)) :
    v.readCov ((⟨Rect.unit (s := S2x256x2048) ![s, 0, 1024] ![1, 256, 256] h4, x4⟩ : View.Piece (Elt Ideal) S2x256x2048 .bf16) ::
      (⟨Rect.unit (s := S2x256x2048) ![s, 0, 768] ![1, 256, 256] h3, x3⟩ : View.Piece (Elt Ideal) S2x256x2048 .bf16) ::
      (⟨Rect.unit (s := S2x256x2048) ![s, 0, 512] ![1, 256, 256] h2, x2⟩ : View.Piece (Elt Ideal) S2x256x2048 .bf16) ::
      (⟨Rect.unit (s := S2x256x2048) ![s, 0, 256] ![1, 256, 256] h1, x1⟩ : View.Piece (Elt Ideal) S2x256x2048 .bf16) ::
      (⟨Rect.unit (s := S2x256x2048) ![s, 0, 0] ![1, 256, 256] h0, x0⟩ : View.Piece (Elt Ideal) S2x256x2048 .bf16) :: L)
      (Rect.unit (s := S2x256x2048) ![s, 0, 0] ![1, 256, 1280] h').toLoadRect = catP 1280 [x0, x1, x2, x3, x4] :=
  readCov_pPieces v s 1280 5 hs (by decide) rfl [x0, x1, x2, x3, x4] L h'

theorem readCov_p6 {sig : RefSig} {κ : Kind} {sp : Space} (v : View sig κ sp S2x256x2048 .bf16) (s : ℕ) (hs : s < 2) (h0 : ∀ a : Fin 3, (![s, 0, 0] : Fin 3 → ℕ) a + (![1, 256, 256] : Fin 3 → ℕ) a ≤ S2x256x2048.size a) (h1 : ∀ a : Fin 3, (![s, 0, 256] : Fin 3 → ℕ) a + (![1, 256, 256] : Fin 3 → ℕ) a ≤ S2x256x2048.size a) (h2 : ∀ a : Fin 3, (![s, 0, 512] : Fin 3 → ℕ) a + (![1, 256, 256] : Fin 3 → ℕ) a ≤ S2x256x2048.size a) (h3 : ∀ a : Fin 3, (![s, 0, 768] : Fin 3 → ℕ) a + (![1, 256, 256] : Fin 3 → ℕ) a ≤ S2x256x2048.size a) (h4 : ∀ a : Fin 3, (![s, 0, 1024] : Fin 3 → ℕ) a + (![1, 256, 256] : Fin 3 → ℕ) a ≤ S2x256x2048.size a) (h5 : ∀ a : Fin 3, (![s, 0, 1280] : Fin 3 → ℕ) a + (![1, 256, 256] : Fin 3 → ℕ) a ≤ S2x256x2048.size a)
    (h' : ∀ a : Fin 3, (![s, 0, 0] : Fin 3 → ℕ) a + (![1, 256, 1536] : Fin 3 → ℕ) a ≤ S2x256x2048.size a) (x0 x1 x2 x3 x4 x5 : S1x256x256.Idx → EReal) (L : List (View.Piece (Elt Ideal) S2x256x2048 .bf16)) :
    v.readCov ((⟨Rect.unit (s := S2x256x2048) ![s, 0, 1280] ![1, 256, 256] h5, x5⟩ : View.Piece (Elt Ideal) S2x256x2048 .bf16) ::
      (⟨Rect.unit (s := S2x256x2048) ![s, 0, 1024] ![1, 256, 256] h4, x4⟩ : View.Piece (Elt Ideal) S2x256x2048 .bf16) ::
      (⟨Rect.unit (s := S2x256x2048) ![s, 0, 768] ![1, 256, 256] h3, x3⟩ : View.Piece (Elt Ideal) S2x256x2048 .bf16) ::
      (⟨Rect.unit (s := S2x256x2048) ![s, 0, 512] ![1, 256, 256] h2, x2⟩ : View.Piece (Elt Ideal) S2x256x2048 .bf16) ::
      (⟨Rect.unit (s := S2x256x2048) ![s, 0, 256] ![1, 256, 256] h1, x1⟩ : View.Piece (Elt Ideal) S2x256x2048 .bf16) ::
      (⟨Rect.unit (s := S2x256x2048) ![s, 0, 0] ![1, 256, 256] h0, x0⟩ : View.Piece (Elt Ideal) S2x256x2048 .bf16) :: L)
      (Rect.unit (s := S2x256x2048) ![s, 0, 0] ![1, 256, 1536] h').toLoadRect = catP 1536 [x0, x1, x2, x3, x4, x5] :=
  readCov_pPieces v s 1536 6 hs (by decide) rfl [x0, x1, x2, x3, x4, x5] L h'

theorem readCov_p7 {sig : RefSig} {κ : Kind} {sp : Space} (v : View sig κ sp S2x256x2048 .bf16) (s : ℕ) (hs : s < 2) (h0 : ∀ a : Fin 3, (![s, 0, 0] : Fin 3 → ℕ) a + (![1, 256, 256] : Fin 3 → ℕ) a ≤ S2x256x2048.size a) (h1 : ∀ a : Fin 3, (![s, 0, 256] : Fin 3 → ℕ) a + (![1, 256, 256] : Fin 3 → ℕ) a ≤ S2x256x2048.size a) (h2 : ∀ a : Fin 3, (![s, 0, 512] : Fin 3 → ℕ) a + (![1, 256, 256] : Fin 3 → ℕ) a ≤ S2x256x2048.size a) (h3 : ∀ a : Fin 3, (![s, 0, 768] : Fin 3 → ℕ) a + (![1, 256, 256] : Fin 3 → ℕ) a ≤ S2x256x2048.size a) (h4 : ∀ a : Fin 3, (![s, 0, 1024] : Fin 3 → ℕ) a + (![1, 256, 256] : Fin 3 → ℕ) a ≤ S2x256x2048.size a) (h5 : ∀ a : Fin 3, (![s, 0, 1280] : Fin 3 → ℕ) a + (![1, 256, 256] : Fin 3 → ℕ) a ≤ S2x256x2048.size a) (h6 : ∀ a : Fin 3, (![s, 0, 1536] : Fin 3 → ℕ) a + (![1, 256, 256] : Fin 3 → ℕ) a ≤ S2x256x2048.size a)
    (h' : ∀ a : Fin 3, (![s, 0, 0] : Fin 3 → ℕ) a + (![1, 256, 1792] : Fin 3 → ℕ) a ≤ S2x256x2048.size a) (x0 x1 x2 x3 x4 x5 x6 : S1x256x256.Idx → EReal) (L : List (View.Piece (Elt Ideal) S2x256x2048 .bf16)) :
    v.readCov ((⟨Rect.unit (s := S2x256x2048) ![s, 0, 1536] ![1, 256, 256] h6, x6⟩ : View.Piece (Elt Ideal) S2x256x2048 .bf16) ::
      (⟨Rect.unit (s := S2x256x2048) ![s, 0, 1280] ![1, 256, 256] h5, x5⟩ : View.Piece (Elt Ideal) S2x256x2048 .bf16) ::
      (⟨Rect.unit (s := S2x256x2048) ![s, 0, 1024] ![1, 256, 256] h4, x4⟩ : View.Piece (Elt Ideal) S2x256x2048 .bf16) ::
      (⟨Rect.unit (s := S2x256x2048) ![s, 0, 768] ![1, 256, 256] h3, x3⟩ : View.Piece (Elt Ideal) S2x256x2048 .bf16) ::
      (⟨Rect.unit (s := S2x256x2048) ![s, 0, 512] ![1, 256, 256] h2, x2⟩ : View.Piece (Elt Ideal) S2x256x2048 .bf16) ::
      (⟨Rect.unit (s := S2x256x2048) ![s, 0, 256] ![1, 256, 256] h1, x1⟩ : View.Piece (Elt Ideal) S2x256x2048 .bf16) ::
      (⟨Rect.unit (s := S2x256x2048) ![s, 0, 0] ![1, 256, 256] h0, x0⟩ : View.Piece (Elt Ideal) S2x256x2048 .bf16) :: L)
      (Rect.unit (s := S2x256x2048) ![s, 0, 0] ![1, 256, 1792] h').toLoadRect = catP 1792 [x0, x1, x2, x3, x4, x5, x6] :=
  readCov_pPieces v s 1792 7 hs (by decide) rfl [x0, x1, x2, x3, x4, x5, x6] L h'

theorem readCov_p8 {sig : RefSig} {κ : Kind} {sp : Space} (v : View sig κ sp S2x256x2048 .bf16) (s : ℕ) (hs : s < 2) (h0 : ∀ a : Fin 3, (![s, 0, 0] : Fin 3 → ℕ) a + (![1, 256, 256] : Fin 3 → ℕ) a ≤ S2x256x2048.size a) (h1 : ∀ a : Fin 3, (![s, 0, 256] : Fin 3 → ℕ) a + (![1, 256, 256] : Fin 3 → ℕ) a ≤ S2x256x2048.size a) (h2 : ∀ a : Fin 3, (![s, 0, 512] : Fin 3 → ℕ) a + (![1, 256, 256] : Fin 3 → ℕ) a ≤ S2x256x2048.size a) (h3 : ∀ a : Fin 3, (![s, 0, 768] : Fin 3 → ℕ) a + (![1, 256, 256] : Fin 3 → ℕ) a ≤ S2x256x2048.size a) (h4 : ∀ a : Fin 3, (![s, 0, 1024] : Fin 3 → ℕ) a + (![1, 256, 256] : Fin 3 → ℕ) a ≤ S2x256x2048.size a) (h5 : ∀ a : Fin 3, (![s, 0, 1280] : Fin 3 → ℕ) a + (![1, 256, 256] : Fin 3 → ℕ) a ≤ S2x256x2048.size a) (h6 : ∀ a : Fin 3, (![s, 0, 1536] : Fin 3 → ℕ) a + (![1, 256, 256] : Fin 3 → ℕ) a ≤ S2x256x2048.size a) (h7 : ∀ a : Fin 3, (![s, 0, 1792] : Fin 3 → ℕ) a + (![1, 256, 256] : Fin 3 → ℕ) a ≤ S2x256x2048.size a)
    (h' : ∀ a : Fin 3, (![s, 0, 0] : Fin 3 → ℕ) a + (![1, 256, 2048] : Fin 3 → ℕ) a ≤ S2x256x2048.size a) (x0 x1 x2 x3 x4 x5 x6 x7 : S1x256x256.Idx → EReal) (L : List (View.Piece (Elt Ideal) S2x256x2048 .bf16)) :
    v.readCov ((⟨Rect.unit (s := S2x256x2048) ![s, 0, 1792] ![1, 256, 256] h7, x7⟩ : View.Piece (Elt Ideal) S2x256x2048 .bf16) ::
      (⟨Rect.unit (s := S2x256x2048) ![s, 0, 1536] ![1, 256, 256] h6, x6⟩ : View.Piece (Elt Ideal) S2x256x2048 .bf16) ::
      (⟨Rect.unit (s := S2x256x2048) ![s, 0, 1280] ![1, 256, 256] h5, x5⟩ : View.Piece (Elt Ideal) S2x256x2048 .bf16) ::
      (⟨Rect.unit (s := S2x256x2048) ![s, 0, 1024] ![1, 256, 256] h4, x4⟩ : View.Piece (Elt Ideal) S2x256x2048 .bf16) ::
      (⟨Rect.unit (s := S2x256x2048) ![s, 0, 768] ![1, 256, 256] h3, x3⟩ : View.Piece (Elt Ideal) S2x256x2048 .bf16) ::
      (⟨Rect.unit (s := S2x256x2048) ![s, 0, 512] ![1, 256, 256] h2, x2⟩ : View.Piece (Elt Ideal) S2x256x2048 .bf16) ::
      (⟨Rect.unit (s := S2x256x2048) ![s, 0, 256] ![1, 256, 256] h1, x1⟩ : View.Piece (Elt Ideal) S2x256x2048 .bf16) ::
      (⟨Rect.unit (s := S2x256x2048) ![s, 0, 0] ![1, 256, 256] h0, x0⟩ : View.Piece (Elt Ideal) S2x256x2048 .bf16) :: L)
      (Rect.unit (s := S2x256x2048) ![s, 0, 0] ![1, 256, 2048] h').toLoadRect = catP 2048 [x0, x1, x2, x3, x4, x5, x6, x7] :=
  readCov_pPieces v s 2048 8 hs (by decide) rfl [x0, x1, x2, x3, x4, x5, x6, x7] L h'

end Cert.KernelIdeal.Fox
-- ==== Proof.FoxTile.lean ====
module

public import proofs.«01_k».proof.Proof.FoxReads

/-! One head of the attention kernel on 256 queries, from its operands: the masked and scaled queries, the tiles of the
    scores against 256 keys each, the largest score of a row, the weights and the weighted values. `pair n` is what the
    body stores for two heads whose queries see `256 n` keys. -/

@[expose] public section

set_option maxRecDepth 16384
noncomputable section
open Idealize.ShloMosaic Idealize.ShloMosaic.TcCoe Idealize.SL.Sem
namespace Cert.KernelIdeal.Fox
open Cert.KernelIdeal Cert.KernelIdeal.Gen

/-- The lanes of the first and of the second head of a pair. -/
abbrev lanes0 : IVec S1x128 1 := cmpi .slt (iota Kind.tc S1x128 32 [1] iota_S1x128_d1_w32) (broadcast S1x128 64#32)
abbrev lanes1 : IVec S1x128 1 := cmpi .sge (iota Kind.tc S1x128 32 [1] iota_S1x128_d1_w32) (broadcast S1x128 64#32)

/-- The scaled queries, zero off the head's lanes. -/
def queries (h : IVec S1x128 1) (q : FVec Ideal S1x256x128 .bf16) : FVec Ideal S256x128 .bf16 :=
  select (broadcastTo S256x128 (shapeCast S1x128 h shapeCasts_S1x128_S1x128) broadcasts_S1x128_S256x128)
    (truncf .bf16 (mulf (extf .f32 (shapeCast S256x128 q shapeCasts_S1x256x128_S256x128) bitsLt_bf16_f32)
      (broadcast S256x128 (Named.named κ "qscale" 0x3E38AA3B#32 : Ideal .f32))) bitsLt_bf16_f32)
    (broadcast S256x128 (Scalar.ofBits .bf16 0x0000#16 : Ideal .bf16))

/-- The products of the queries and 256 keys, plus a row. -/
def scores (q : FVec Ideal S256x128 .bf16) (k : FVec Ideal S1x128x256 .bf16) (g : FVec Ideal S1x256 .f32) : FVec Ideal S256x256 .f32 :=
  addf (matmul dot_S256x128_S128x256_S256x256_1_0_0_1_n_n none q (shapeCast S128x256 k shapeCasts_S1x128x256_S128x256) (constant S256x256 .f32 0x00000000#32))
    (broadcastTo S256x256 g broadcasts_S1x256_S256x256)

/-- Scores with the keys after the query masked. -/
def causal (s : FVec Ideal S256x256 .f32) (mask : FVec Ideal S256x256 .f32) : FVec Ideal S256x256 .f32 :=
  addf s (select (cmpf .ogt (shapeCast S256x256 mask shapeCasts_S256x256_S256x256) (broadcast S256x256 (Scalar.ofBits .f32 0x00000000#32 : Ideal .f32)))
    (broadcast S256x256 (Scalar.ofBits .f32 0x00000000#32 : Ideal .f32)) (broadcast S256x256 (Named.named κ "mask" 0xF149F2CA#32 : Ideal .f32)))

/-- The larger of the two halves of a tile. -/
def halves (s : FVec Ideal S256x256 .f32) : FVec Ideal S256x128 .f32 :=
  maximumf (extractStridedSlice S256x128 ![0, 0] s slices_S256x256_o0_0_S256x128) (extractStridedSlice S256x128 ![0, 128] s slices_S256x256_o0_128_S256x128)

/-- The largest entry of each row. -/
def rowMax (x : FVec Ideal S256x128 .f32) : FVec Ideal S256x1 .f32 :=
  shapeCast S256x1 (multiReduction .maximumf [1] S256 x 0xFF800000#32 reduces_S256x128_S256 (.inl rfl) rfl) shapeCasts_S256_S256x1

/-- The weights of a tile. -/
def weights (mx : FVec Ideal S256x1 .f32) (s : FVec Ideal S256x256 .f32) : S1x256x256.Idx → EReal :=
  shapeCast S1x256x256 (truncf .bf16 (exp2 (subf (shapeCast S256x256 (shapeCast S1x256x256 s shapeCasts_S256x256_S1x256x256) shapeCasts_S1x256x256_S256x256)
    (broadcastTo S256x256 mx broadcasts_S256x1_S256x256))) bitsLt_bf16_f32 : FVec Ideal S256x256 .bf16) shapeCasts_S256x256_S1x256x256

/-- The values of a head, one off the head's lanes. -/
def values (h : IVec S1x128 1) (v : FVec Ideal S1x2048x128 .bf16) : S1x2048x128.Idx → EReal :=
  shapeCast S1x2048x128 (select (broadcastTo S2048x128 (shapeCast S1x128 h shapeCasts_S1x128_S1x128) broadcasts_S1x128_S2048x128)
    (shapeCast S2048x128 v shapeCasts_S1x2048x128_S2048x128) (broadcast S2048x128 (Scalar.ofBits .bf16 0x3F80#16 : Ideal .bf16))) shapeCasts_S2048x128_S1x2048x128

/-- The two heads side by side. -/
def both (a b : FVec Ideal S256x128 .f32) : FVec Ideal S1x256x128 .bf16 :=
  shapeCast S1x256x128 (truncf .bf16 (select (broadcastTo S256x128 (shapeCast S1x128 lanes0 shapeCasts_S1x128_S1x128) broadcasts_S1x128_S256x128) a b) bitsLt_bf16_f32 : FVec Ideal S256x128 .bf16)
    shapeCasts_S256x128_S1x256x128

/-- The gates of 256 keys against the last of them. -/
def gates1 (c : FVec Ideal S1x1x256 .f32) : FVec Ideal S1x256 .f32 :=
  subf (broadcastTo S1x256 (extractStridedSlice S1x1 ![0, 255] (mulf (shapeCast S1x256 c shapeCasts_S1x1x256_S1x256) (broadcast S1x256 (Named.named κ "log2e" 0x3FB8AA3B#32 : Ideal .f32)))
    slices_S1x256_o0_255_S1x1) broadcasts_S1x1_S1x256) (mulf (shapeCast S1x256 c shapeCasts_S1x1x256_S1x256) (broadcast S1x256 (Named.named κ "log2e" 0x3FB8AA3B#32 : Ideal .f32)))

def tile1_0 (h : IVec S1x128 1) (q : FVec Ideal S1x256x128 .bf16) (k : FVec Ideal S1x128x256 .bf16) (c : FVec Ideal S1x1x256 .f32) (mask : FVec Ideal S256x256 .f32) : FVec Ideal S256x256 .f32 :=
  causal (scores (queries h q) k (gates1 c)) mask

def top1 (h : IVec S1x128 1) (q : FVec Ideal S1x256x128 .bf16) (k0 : FVec Ideal S1x128x256 .bf16) (c : FVec Ideal S1x1x256 .f32) (mask : FVec Ideal S256x256 .f32) : FVec Ideal S256x1 .f32 :=
  rowMax (halves (tile1_0 h q k0 c mask))

def product1 (p : FVec Ideal S1x256x256 .bf16) (v : FVec Ideal S1x256x128 .bf16) : FVec Ideal S256x128 .f32 :=
  matmul dot_S256x256_S256x128_S256x128_1_0_0_1_n_n none (shapeCast S256x256 p shapeCasts_S1x256x256_S256x256) (shapeCast S256x128 v shapeCasts_S1x256x128_S256x128) (constant S256x128 .f32 0x00000000#32)

def head1 (o : ℕ) (ho : S256x128.Slices ![0, o] S256x1) (h : IVec S1x128 1) (q : FVec Ideal S1x256x128 .bf16) (k0 : FVec Ideal S1x128x256 .bf16) (c : FVec Ideal S1x1x256 .f32) (mask : FVec Ideal S256x256 .f32) (v : FVec Ideal S1x2048x128 .bf16) : FVec Ideal S256x128 .f32 :=
  divf (product1 (weights (top1 h q k0 c mask) (tile1_0 h q k0 c mask)) (headRows 256 (by decide) (values h v)))
    (broadcastTo S256x128 (extractStridedSlice S256x1 ![0, o] (product1 (weights (top1 h q k0 c mask) (tile1_0 h q k0 c mask)) (headRows 256 (by decide) (values h v))) ho) broadcasts_S256x1_S256x128)

def pair1 (q : FVec Ideal S1x256x128 .bf16) (k0 : FVec Ideal S1x128x256 .bf16) (c c' : FVec Ideal S1x1x256 .f32) (mask : FVec Ideal S256x256 .f32) (v : FVec Ideal S1x2048x128 .bf16) :
    FVec Ideal S1x256x128 .bf16 :=
  both (head1 64 slices_S256x128_o0_64_S256x1 lanes0 q k0 c mask v) (head1 0 slices_S256x128_o0_0_S256x1 lanes1 q k0 c' mask v)

/-- The gates of 512 keys against the last of them. -/
def gates2 (c : FVec Ideal S1x1x512 .f32) : FVec Ideal S1x512 .f32 :=
  subf (broadcastTo S1x512 (extractStridedSlice S1x1 ![0, 511] (mulf (shapeCast S1x512 c shapeCasts_S1x1x512_S1x512) (broadcast S1x512 (Named.named κ "log2e" 0x3FB8AA3B#32 : Ideal .f32)))
    slices_S1x512_o0_511_S1x1) broadcasts_S1x1_S1x512) (mulf (shapeCast S1x512 c shapeCasts_S1x1x512_S1x512) (broadcast S1x512 (Named.named κ "log2e" 0x3FB8AA3B#32 : Ideal .f32)))

def tile2_0 (h : IVec S1x128 1) (q : FVec Ideal S1x256x128 .bf16) (k : FVec Ideal S1x128x256 .bf16) (c : FVec Ideal S1x1x512 .f32) : FVec Ideal S256x256 .f32 :=
  scores (queries h q) k (extractStridedSlice S1x256 ![0, 0] (gates2 c) slices_S1x512_o0_0_S1x256)

def tile2_1 (h : IVec S1x128 1) (q : FVec Ideal S1x256x128 .bf16) (k : FVec Ideal S1x128x256 .bf16) (c : FVec Ideal S1x1x512 .f32) (mask : FVec Ideal S256x256 .f32) : FVec Ideal S256x256 .f32 :=
  causal (scores (queries h q) k (extractStridedSlice S1x256 ![0, 256] (gates2 c) slices_S1x512_o0_256_S1x256)) mask

def top2 (h : IVec S1x128 1) (q : FVec Ideal S1x256x128 .bf16) (k0 k1 : FVec Ideal S1x128x256 .bf16) (c : FVec Ideal S1x1x512 .f32) (mask : FVec Ideal S256x256 .f32) : FVec Ideal S256x1 .f32 :=
  rowMax (maximumf (halves (tile2_0 h q k0 c)) (halves (tile2_1 h q k1 c mask)))

def product2 (p : FVec Ideal S1x256x512 .bf16) (v : FVec Ideal S1x512x128 .bf16) : FVec Ideal S256x128 .f32 :=
  matmul dot_S256x512_S512x128_S256x128_1_0_0_1_n_n none (shapeCast S256x512 p shapeCasts_S1x256x512_S256x512) (shapeCast S512x128 v shapeCasts_S1x512x128_S512x128) (constant S256x128 .f32 0x00000000#32)

def head2 (o : ℕ) (ho : S256x128.Slices ![0, o] S256x1) (h : IVec S1x128 1) (q : FVec Ideal S1x256x128 .bf16) (k0 k1 : FVec Ideal S1x128x256 .bf16) (c : FVec Ideal S1x1x512 .f32) (mask : FVec Ideal S256x256 .f32) (v : FVec Ideal S1x2048x128 .bf16) : FVec Ideal S256x128 .f32 :=
  divf (product2 (catP 512 [weights (top2 h q k0 k1 c mask) (tile2_0 h q k0 c), weights (top2 h q k0 k1 c mask) (tile2_1 h q k1 c mask)]) (headRows 512 (by decide) (values h v)))
    (broadcastTo S256x128 (extractStridedSlice S256x1 ![0, o] (product2 (catP 512 [weights (top2 h q k0 k1 c mask) (tile2_0 h q k0 c), weights (top2 h q k0 k1 c mask) (tile2_1 h q k1 c mask)]) (headRows 512 (by decide) (values h v))) ho) broadcasts_S256x1_S256x128)

def pair2 (q : FVec Ideal S1x256x128 .bf16) (k0 k1 : FVec Ideal S1x128x256 .bf16) (c c' : FVec Ideal S1x1x512 .f32) (mask : FVec Ideal S256x256 .f32) (v : FVec Ideal S1x2048x128 .bf16) :
    FVec Ideal S1x256x128 .bf16 :=
  both (head2 64 slices_S256x128_o0_64_S256x1 lanes0 q k0 k1 c mask v) (head2 0 slices_S256x128_o0_0_S256x1 lanes1 q k0 k1 c' mask v)

/-- The gates of 768 keys against the last of them. -/
def gates3 (c : FVec Ideal S1x1x768 .f32) : FVec Ideal S1x768 .f32 :=
  subf (broadcastTo S1x768 (extractStridedSlice S1x1 ![0, 767] (mulf (shapeCast S1x768 c shapeCasts_S1x1x768_S1x768) (broadcast S1x768 (Named.named κ "log2e" 0x3FB8AA3B#32 : Ideal .f32)))
    slices_S1x768_o0_767_S1x1) broadcasts_S1x1_S1x768) (mulf (shapeCast S1x768 c shapeCasts_S1x1x768_S1x768) (broadcast S1x768 (Named.named κ "log2e" 0x3FB8AA3B#32 : Ideal .f32)))

def tile3_0 (h : IVec S1x128 1) (q : FVec Ideal S1x256x128 .bf16) (k : FVec Ideal S1x128x256 .bf16) (c : FVec Ideal S1x1x768 .f32) : FVec Ideal S256x256 .f32 :=
  scores (queries h q) k (extractStridedSlice S1x256 ![0, 0] (gates3 c) slices_S1x768_o0_0_S1x256)

def tile3_1 (h : IVec S1x128 1) (q : FVec Ideal S1x256x128 .bf16) (k : FVec Ideal S1x128x256 .bf16) (c : FVec Ideal S1x1x768 .f32) : FVec Ideal S256x256 .f32 :=
  scores (queries h q) k (extractStridedSlice S1x256 ![0, 256] (gates3 c) slices_S1x768_o0_256_S1x256)

def tile3_2 (h : IVec S1x128 1) (q : FVec Ideal S1x256x128 .bf16) (k : FVec Ideal S1x128x256 .bf16) (c : FVec Ideal S1x1x768 .f32) (mask : FVec Ideal S256x256 .f32) : FVec Ideal S256x256 .f32 :=
  causal (scores (queries h q) k (extractStridedSlice S1x256 ![0, 512] (gates3 c) slices_S1x768_o0_512_S1x256)) mask

def top3 (h : IVec S1x128 1) (q : FVec Ideal S1x256x128 .bf16) (k0 k1 k2 : FVec Ideal S1x128x256 .bf16) (c : FVec Ideal S1x1x768 .f32) (mask : FVec Ideal S256x256 .f32) : FVec Ideal S256x1 .f32 :=
  rowMax (maximumf (maximumf (halves (tile3_0 h q k0 c)) (halves (tile3_1 h q k1 c))) (halves (tile3_2 h q k2 c mask)))

def product3 (p : FVec Ideal S1x256x768 .bf16) (v : FVec Ideal S1x768x128 .bf16) : FVec Ideal S256x128 .f32 :=
  matmul dot_S256x768_S768x128_S256x128_1_0_0_1_n_n none (shapeCast S256x768 p shapeCasts_S1x256x768_S256x768) (shapeCast S768x128 v shapeCasts_S1x768x128_S768x128) (constant S256x128 .f32 0x00000000#32)

def head3 (o : ℕ) (ho : S256x128.Slices ![0, o] S256x1) (h : IVec S1x128 1) (q : FVec Ideal S1x256x128 .bf16) (k0 k1 k2 : FVec Ideal S1x128x256 .bf16) (c : FVec Ideal S1x1x768 .f32) (mask : FVec Ideal S256x256 .f32) (v : FVec Ideal S1x2048x128 .bf16) : FVec Ideal S256x128 .f32 :=
  divf (product3 (catP 768 [weights (top3 h q k0 k1 k2 c mask) (tile3_0 h q k0 c), weights (top3 h q k0 k1 k2 c mask) (tile3_1 h q k1 c), weights (top3 h q k0 k1 k2 c mask) (tile3_2 h q k2 c mask)]) (headRows 768 (by decide) (values h v)))
    (broadcastTo S256x128 (extractStridedSlice S256x1 ![0, o] (product3 (catP 768 [weights (top3 h q k0 k1 k2 c mask) (tile3_0 h q k0 c), weights (top3 h q k0 k1 k2 c mask) (tile3_1 h q k1 c), weights (top3 h q k0 k1 k2 c mask) (tile3_2 h q k2 c mask)]) (headRows 768 (by decide) (values h v))) ho) broadcasts_S256x1_S256x128)

def pair3 (q : FVec Ideal S1x256x128 .bf16) (k0 k1 k2 : FVec Ideal S1x128x256 .bf16) (c c' : FVec Ideal S1x1x768 .f32) (mask : FVec Ideal S256x256 .f32) (v : FVec Ideal S1x2048x128 .bf16) :
    FVec Ideal S1x256x128 .bf16 :=
  both (head3 64 slices_S256x128_o0_64_S256x1 lanes0 q k0 k1 k2 c mask v) (head3 0 slices_S256x128_o0_0_S256x1 lanes1 q k0 k1 k2 c' mask v)

/-- The gates of 1024 keys against the last of them. -/
def gates4 (c : FVec Ideal S1x1x1024 .f32) : FVec Ideal S1x1024 .f32 :=
  subf (broadcastTo S1x1024 (extractStridedSlice S1x1 ![0, 1023] (mulf (shapeCast S1x1024 c shapeCasts_S1x1x1024_S1x1024) (broadcast S1x1024 (Named.named κ "log2e" 0x3FB8AA3B#32 : Ideal .f32)))
    slices_S1x1024_o0_1023_S1x1) broadcasts_S1x1_S1x1024) (mulf (shapeCast S1x1024 c shapeCasts_S1x1x1024_S1x1024) (broadcast S1x1024 (Named.named κ "log2e" 0x3FB8AA3B#32 : Ideal .f32)))

def tile4_0 (h : IVec S1x128 1) (q : FVec Ideal S1x256x128 .bf16) (k : FVec Ideal S1x128x256 .bf16) (c : FVec Ideal S1x1x1024 .f32) : FVec Ideal S256x256 .f32 :=
  scores (queries h q) k (extractStridedSlice S1x256 ![0, 0] (gates4 c) slices_S1x1024_o0_0_S1x256)

def tile4_1 (h : IVec S1x128 1) (q : FVec Ideal S1x256x128 .bf16) (k : FVec Ideal S1x128x256 .bf16) (c : FVec Ideal S1x1x1024 .f32) : FVec Ideal S256x256 .f32 :=
  scores (queries h q) k (extractStridedSlice S1x256 ![0, 256] (gates4 c) slices_S1x1024_o0_256_S1x256)

def tile4_2 (h : IVec S1x128 1) (q : FVec Ideal S1x256x128 .bf16) (k : FVec Ideal S1x128x256 .bf16) (c : FVec Ideal S1x1x1024 .f32) : FVec Ideal S256x256 .f32 :=
  scores (queries h q) k (extractStridedSlice S1x256 ![0, 512] (gates4 c) slices_S1x1024_o0_512_S1x256)

def tile4_3 (h : IVec S1x128 1) (q : FVec Ideal S1x256x128 .bf16) (k : FVec Ideal S1x128x256 .bf16) (c : FVec Ideal S1x1x1024 .f32) (mask : FVec Ideal S256x256 .f32) : FVec Ideal S256x256 .f32 :=
  causal (scores (queries h q) k (extractStridedSlice S1x256 ![0, 768] (gates4 c) slices_S1x1024_o0_768_S1x256)) mask

def top4 (h : IVec S1x128 1) (q : FVec Ideal S1x256x128 .bf16) (k0 k1 k2 k3 : FVec Ideal S1x128x256 .bf16) (c : FVec Ideal S1x1x1024 .f32) (mask : FVec Ideal S256x256 .f32) : FVec Ideal S256x1 .f32 :=
  rowMax (maximumf (maximumf (maximumf (halves (tile4_0 h q k0 c)) (halves (tile4_1 h q k1 c))) (halves (tile4_2 h q k2 c))) (halves (tile4_3 h q k3 c mask)))

def product4 (p : FVec Ideal S1x256x1024 .bf16) (v : FVec Ideal S1x1024x128 .bf16) : FVec Ideal S256x128 .f32 :=
  matmul dot_S256x1024_S1024x128_S256x128_1_0_0_1_n_n none (shapeCast S256x1024 p shapeCasts_S1x256x1024_S256x1024) (shapeCast S1024x128 v shapeCasts_S1x1024x128_S1024x128) (constant S256x128 .f32 0x00000000#32)

def head4 (o : ℕ) (ho : S256x128.Slices ![0, o] S256x1) (h : IVec S1x128 1) (q : FVec Ideal S1x256x128 .bf16) (k0 k1 k2 k3 : FVec Ideal S1x128x256 .bf16) (c : FVec Ideal S1x1x1024 .f32) (mask : FVec Ideal S256x256 .f32) (v : FVec Ideal S1x2048x128 .bf16) : FVec Ideal S256x128 .f32 :=
  divf (product4 (catP 1024 [weights (top4 h q k0 k1 k2 k3 c mask) (tile4_0 h q k0 c), weights (top4 h q k0 k1 k2 k3 c mask) (tile4_1 h q k1 c), weights (top4 h q k0 k1 k2 k3 c mask) (tile4_2 h q k2 c), weights (top4 h q k0 k1 k2 k3 c mask) (tile4_3 h q k3 c mask)]) (headRows 1024 (by decide) (values h v)))
    (broadcastTo S256x128 (extractStridedSlice S256x1 ![0, o] (product4 (catP 1024 [weights (top4 h q k0 k1 k2 k3 c mask) (tile4_0 h q k0 c), weights (top4 h q k0 k1 k2 k3 c mask) (tile4_1 h q k1 c), weights (top4 h q k0 k1 k2 k3 c mask) (tile4_2 h q k2 c), weights (top4 h q k0 k1 k2 k3 c mask) (tile4_3 h q k3 c mask)]) (headRows 1024 (by decide) (values h v))) ho) broadcasts_S256x1_S256x128)

def pair4 (q : FVec Ideal S1x256x128 .bf16) (k0 k1 k2 k3 : FVec Ideal S1x128x256 .bf16) (c c' : FVec Ideal S1x1x1024 .f32) (mask : FVec Ideal S256x256 .f32) (v : FVec Ideal S1x2048x128 .bf16) :
    FVec Ideal S1x256x128 .bf16 :=
  both (head4 64 slices_S256x128_o0_64_S256x1 lanes0 q k0 k1 k2 k3 c mask v) (head4 0 slices_S256x128_o0_0_S256x1 lanes1 q k0 k1 k2 k3 c' mask v)

/-- The gates of 1280 keys against the last of them. -/
def gates5 (c : FVec Ideal S1x1x1280 .f32) : FVec Ideal S1x1280 .f32 :=
  subf (broadcastTo S1x1280 (extractStridedSlice S1x1 ![0, 1279] (mulf (shapeCast S1x1280 c shapeCasts_S1x1x1280_S1x1280) (broadcast S1x1280 (Named.named κ "log2e" 0x3FB8AA3B#32 : Ideal .f32)))
    slices_S1x1280_o0_1279_S1x1) broadcasts_S1x1_S1x1280) (mulf (shapeCast S1x1280 c shapeCasts_S1x1x1280_S1x1280) (broadcast S1x1280 (Named.named κ "log2e" 0x3FB8AA3B#32 : Ideal .f32)))

def tile5_0 (h : IVec S1x128 1) (q : FVec Ideal S1x256x128 .bf16) (k : FVec Ideal S1x128x256 .bf16) (c : FVec Ideal S1x1x1280 .f32) : FVec Ideal S256x256 .f32 :=
  scores (queries h q) k (extractStridedSlice S1x256 ![0, 0] (gates5 c) slices_S1x1280_o0_0_S1x256)

def tile5_1 (h : IVec S1x128 1) (q : FVec Ideal S1x256x128 .bf16) (k : FVec Ideal S1x128x256 .bf16) (c : FVec Ideal S1x1x1280 .f32) : FVec Ideal S256x256 .f32 :=
  scores (queries h q) k (extractStridedSlice S1x256 ![0, 256] (gates5 c) slices_S1x1280_o0_256_S1x256)

def tile5_2 (h : IVec S1x128 1) (q : FVec Ideal S1x256x128 .bf16) (k : FVec Ideal S1x128x256 .bf16) (c : FVec Ideal S1x1x1280 .f32) : FVec Ideal S256x256 .f32 :=
  scores (queries h q) k (extractStridedSlice S1x256 ![0, 512] (gates5 c) slices_S1x1280_o0_512_S1x256)

def tile5_3 (h : IVec S1x128 1) (q : FVec Ideal S1x256x128 .bf16) (k : FVec Ideal S1x128x256 .bf16) (c : FVec Ideal S1x1x1280 .f32) : FVec Ideal S256x256 .f32 :=
  scores (queries h q) k (extractStridedSlice S1x256 ![0, 768] (gates5 c) slices_S1x1280_o0_768_S1x256)

def tile5_4 (h : IVec S1x128 1) (q : FVec Ideal S1x256x128 .bf16) (k : FVec Ideal S1x128x256 .bf16) (c : FVec Ideal S1x1x1280 .f32) (mask : FVec Ideal S256x256 .f32) : FVec Ideal S256x256 .f32 :=
  causal (scores (queries h q) k (extractStridedSlice S1x256 ![0, 1024] (gates5 c) slices_S1x1280_o0_1024_S1x256)) mask

def top5 (h : IVec S1x128 1) (q : FVec Ideal S1x256x128 .bf16) (k0 k1 k2 k3 k4 : FVec Ideal S1x128x256 .bf16) (c : FVec Ideal S1x1x1280 .f32) (mask : FVec Ideal S256x256 .f32) : FVec Ideal S256x1 .f32 :=
  rowMax (maximumf (maximumf (maximumf (maximumf (halves (tile5_0 h q k0 c)) (halves (tile5_1 h q k1 c))) (halves (tile5_2 h q k2 c))) (halves (tile5_3 h q k3 c))) (halves (tile5_4 h q k4 c mask)))

def product5 (p : FVec Ideal S1x256x1280 .bf16) (v : FVec Ideal S1x1280x128 .bf16) : FVec Ideal S256x128 .f32 :=
  matmul dot_S256x1280_S1280x128_S256x128_1_0_0_1_n_n none (shapeCast S256x1280 p shapeCasts_S1x256x1280_S256x1280) (shapeCast S1280x128 v shapeCasts_S1x1280x128_S1280x128) (constant S256x128 .f32 0x00000000#32)

def head5 (o : ℕ) (ho : S256x128.Slices ![0, o] S256x1) (h : IVec S1x128 1) (q : FVec Ideal S1x256x128 .bf16) (k0 k1 k2 k3 k4 : FVec Ideal S1x128x256 .bf16) (c : FVec Ideal S1x1x1280 .f32) (mask : FVec Ideal S256x256 .f32) (v : FVec Ideal S1x2048x128 .bf16) : FVec Ideal S256x128 .f32 :=
  divf (product5 (catP 1280 [weights (top5 h q k0 k1 k2 k3 k4 c mask) (tile5_0 h q k0 c), weights (top5 h q k0 k1 k2 k3 k4 c mask) (tile5_1 h q k1 c), weights (top5 h q k0 k1 k2 k3 k4 c mask) (tile5_2 h q k2 c), weights (top5 h q k0 k1 k2 k3 k4 c mask) (tile5_3 h q k3 c), weights (top5 h q k0 k1 k2 k3 k4 c mask) (tile5_4 h q k4 c mask)]) (headRows 1280 (by decide) (values h v)))
    (broadcastTo S256x128 (extractStridedSlice S256x1 ![0, o] (product5 (catP 1280 [weights (top5 h q k0 k1 k2 k3 k4 c mask) (tile5_0 h q k0 c), weights (top5 h q k0 k1 k2 k3 k4 c mask) (tile5_1 h q k1 c), weights (top5 h q k0 k1 k2 k3 k4 c mask) (tile5_2 h q k2 c), weights (top5 h q k0 k1 k2 k3 k4 c mask) (tile5_3 h q k3 c), weights (top5 h q k0 k1 k2 k3 k4 c mask) (tile5_4 h q k4 c mask)]) (headRows 1280 (by decide) (values h v))) ho) broadcasts_S256x1_S256x128)

def pair5 (q : FVec Ideal S1x256x128 .bf16) (k0 k1 k2 k3 k4 : FVec Ideal S1x128x256 .bf16) (c c' : FVec Ideal S1x1x1280 .f32) (mask : FVec Ideal S256x256 .f32) (v : FVec Ideal S1x2048x128 .bf16) :
    FVec Ideal S1x256x128 .bf16 :=
  both (head5 64 slices_S256x128_o0_64_S256x1 lanes0 q k0 k1 k2 k3 k4 c mask v) (head5 0 slices_S256x128_o0_0_S256x1 lanes1 q k0 k1 k2 k3 k4 c' mask v)

/-- The gates of 1536 keys against the last of them. -/
def gates6 (c : FVec Ideal S1x1x1536 .f32) : FVec Ideal S1x1536 .f32 :=
  subf (broadcastTo S1x1536 (extractStridedSlice S1x1 ![0, 1535] (mulf (shapeCast S1x1536 c shapeCasts_S1x1x1536_S1x1536) (broadcast S1x1536 (Named.named κ "log2e" 0x3FB8AA3B#32 : Ideal .f32)))
    slices_S1x1536_o0_1535_S1x1) broadcasts_S1x1_S1x1536) (mulf (shapeCast S1x1536 c shapeCasts_S1x1x1536_S1x1536) (broadcast S1x1536 (Named.named κ "log2e" 0x3FB8AA3B#32 : Ideal .f32)))

def tile6_0 (h : IVec S1x128 1) (q : FVec Ideal S1x256x128 .bf16) (k : FVec Ideal S1x128x256 .bf16) (c : FVec Ideal S1x1x1536 .f32) : FVec Ideal S256x256 .f32 :=
  scores (queries h q) k (extractStridedSlice S1x256 ![0, 0] (gates6 c) slices_S1x1536_o0_0_S1x256)

def tile6_1 (h : IVec S1x128 1) (q : FVec Ideal S1x256x128 .bf16) (k : FVec Ideal S1x128x256 .bf16) (c : FVec Ideal S1x1x1536 .f32) : FVec Ideal S256x256 .f32 :=
  scores (queries h q) k (extractStridedSlice S1x256 ![0, 256] (gates6 c) slices_S1x1536_o0_256_S1x256)

def tile6_2 (h : IVec S1x128 1) (q : FVec Ideal S1x256x128 .bf16) (k : FVec Ideal S1x128x256 .bf16) (c : FVec Ideal S1x1x1536 .f32) : FVec Ideal S256x256 .f32 :=
  scores (queries h q) k (extractStridedSlice S1x256 ![0, 512] (gates6 c) slices_S1x1536_o0_512_S1x256)

def tile6_3 (h : IVec S1x128 1) (q : FVec Ideal S1x256x128 .bf16) (k : FVec Ideal S1x128x256 .bf16) (c : FVec Ideal S1x1x1536 .f32) : FVec Ideal S256x256 .f32 :=
  scores (queries h q) k (extractStridedSlice S1x256 ![0, 768] (gates6 c) slices_S1x1536_o0_768_S1x256)

def tile6_4 (h : IVec S1x128 1) (q : FVec Ideal S1x256x128 .bf16) (k : FVec Ideal S1x128x256 .bf16) (c : FVec Ideal S1x1x1536 .f32) : FVec Ideal S256x256 .f32 :=
  scores (queries h q) k (extractStridedSlice S1x256 ![0, 1024] (gates6 c) slices_S1x1536_o0_1024_S1x256)

def tile6_5 (h : IVec S1x128 1) (q : FVec Ideal S1x256x128 .bf16) (k : FVec Ideal S1x128x256 .bf16) (c : FVec Ideal S1x1x1536 .f32) (mask : FVec Ideal S256x256 .f32) : FVec Ideal S256x256 .f32 :=
  causal (scores (queries h q) k (extractStridedSlice S1x256 ![0, 1280] (gates6 c) slices_S1x1536_o0_1280_S1x256)) mask

def top6 (h : IVec S1x128 1) (q : FVec Ideal S1x256x128 .bf16) (k0 k1 k2 k3 k4 k5 : FVec Ideal S1x128x256 .bf16) (c : FVec Ideal S1x1x1536 .f32) (mask : FVec Ideal S256x256 .f32) : FVec Ideal S256x1 .f32 :=
  rowMax (maximumf (maximumf (maximumf (maximumf (maximumf (halves (tile6_0 h q k0 c)) (halves (tile6_1 h q k1 c))) (halves (tile6_2 h q k2 c))) (halves (tile6_3 h q k3 c))) (halves (tile6_4 h q k4 c))) (halves (tile6_5 h q k5 c mask)))

def product6 (p : FVec Ideal S1x256x1536 .bf16) (v : FVec Ideal S1x1536x128 .bf16) : FVec Ideal S256x128 .f32 :=
  matmul dot_S256x1536_S1536x128_S256x128_1_0_0_1_n_n none (shapeCast S256x1536 p shapeCasts_S1x256x1536_S256x1536) (shapeCast S1536x128 v shapeCasts_S1x1536x128_S1536x128) (constant S256x128 .f32 0x00000000#32)

def head6 (o : ℕ) (ho : S256x128.Slices ![0, o] S256x1) (h : IVec S1x128 1) (q : FVec Ideal S1x256x128 .bf16) (k0 k1 k2 k3 k4 k5 : FVec Ideal S1x128x256 .bf16) (c : FVec Ideal S1x1x1536 .f32) (mask : FVec Ideal S256x256 .f32) (v : FVec Ideal S1x2048x128 .bf16) : FVec Ideal S256x128 .f32 :=
  divf (product6 (catP 1536 [weights (top6 h q k0 k1 k2 k3 k4 k5 c mask) (tile6_0 h q k0 c), weights (top6 h q k0 k1 k2 k3 k4 k5 c mask) (tile6_1 h q k1 c), weights (top6 h q k0 k1 k2 k3 k4 k5 c mask) (tile6_2 h q k2 c), weights (top6 h q k0 k1 k2 k3 k4 k5 c mask) (tile6_3 h q k3 c), weights (top6 h q k0 k1 k2 k3 k4 k5 c mask) (tile6_4 h q k4 c), weights (top6 h q k0 k1 k2 k3 k4 k5 c mask) (tile6_5 h q k5 c mask)]) (headRows 1536 (by decide) (values h v)))
    (broadcastTo S256x128 (extractStridedSlice S256x1 ![0, o] (product6 (catP 1536 [weights (top6 h q k0 k1 k2 k3 k4 k5 c mask) (tile6_0 h q k0 c), weights (top6 h q k0 k1 k2 k3 k4 k5 c mask) (tile6_1 h q k1 c), weights (top6 h q k0 k1 k2 k3 k4 k5 c mask) (tile6_2 h q k2 c), weights (top6 h q k0 k1 k2 k3 k4 k5 c mask) (tile6_3 h q k3 c), weights (top6 h q k0 k1 k2 k3 k4 k5 c mask) (tile6_4 h q k4 c), weights (top6 h q k0 k1 k2 k3 k4 k5 c mask) (tile6_5 h q k5 c mask)]) (headRows 1536 (by decide) (values h v))) ho) broadcasts_S256x1_S256x128)

def pair6 (q : FVec Ideal S1x256x128 .bf16) (k0 k1 k2 k3 k4 k5 : FVec Ideal S1x128x256 .bf16) (c c' : FVec Ideal S1x1x1536 .f32) (mask : FVec Ideal S256x256 .f32) (v : FVec Ideal S1x2048x128 .bf16) :
    FVec Ideal S1x256x128 .bf16 :=
  both (head6 64 slices_S256x128_o0_64_S256x1 lanes0 q k0 k1 k2 k3 k4 k5 c mask v) (head6 0 slices_S256x128_o0_0_S256x1 lanes1 q k0 k1 k2 k3 k4 k5 c' mask v)

/-- The gates of 1792 keys against the last of them. -/
def gates7 (c : FVec Ideal S1x1x1792 .f32) : FVec Ideal S1x1792 .f32 :=
  subf (broadcastTo S1x1792 (extractStridedSlice S1x1 ![0, 1791] (mulf (shapeCast S1x1792 c shapeCasts_S1x1x1792_S1x1792) (broadcast S1x1792 (Named.named κ "log2e" 0x3FB8AA3B#32 : Ideal .f32)))
    slices_S1x1792_o0_1791_S1x1) broadcasts_S1x1_S1x1792) (mulf (shapeCast S1x1792 c shapeCasts_S1x1x1792_S1x1792) (broadcast S1x1792 (Named.named κ "log2e" 0x3FB8AA3B#32 : Ideal .f32)))

def tile7_0 (h : IVec S1x128 1) (q : FVec Ideal S1x256x128 .bf16) (k : FVec Ideal S1x128x256 .bf16) (c : FVec Ideal S1x1x1792 .f32) : FVec Ideal S256x256 .f32 :=
  scores (queries h q) k (extractStridedSlice S1x256 ![0, 0] (gates7 c) slices_S1x1792_o0_0_S1x256)

def tile7_1 (h : IVec S1x128 1) (q : FVec Ideal S1x256x128 .bf16) (k : FVec Ideal S1x128x256 .bf16) (c : FVec Ideal S1x1x1792 .f32) : FVec Ideal S256x256 .f32 :=
  scores (queries h q) k (extractStridedSlice S1x256 ![0, 256] (gates7 c) slices_S1x1792_o0_256_S1x256)

def tile7_2 (h : IVec S1x128 1) (q : FVec Ideal S1x256x128 .bf16) (k : FVec Ideal S1x128x256 .bf16) (c : FVec Ideal S1x1x1792 .f32) : FVec Ideal S256x256 .f32 :=
  scores (queries h q) k (extractStridedSlice S1x256 ![0, 512] (gates7 c) slices_S1x1792_o0_512_S1x256)

def tile7_3 (h : IVec S1x128 1) (q : FVec Ideal S1x256x128 .bf16) (k : FVec Ideal S1x128x256 .bf16) (c : FVec Ideal S1x1x1792 .f32) : FVec Ideal S256x256 .f32 :=
  scores (queries h q) k (extractStridedSlice S1x256 ![0, 768] (gates7 c) slices_S1x1792_o0_768_S1x256)

def tile7_4 (h : IVec S1x128 1) (q : FVec Ideal S1x256x128 .bf16) (k : FVec Ideal S1x128x256 .bf16) (c : FVec Ideal S1x1x1792 .f32) : FVec Ideal S256x256 .f32 :=
  scores (queries h q) k (extractStridedSlice S1x256 ![0, 1024] (gates7 c) slices_S1x1792_o0_1024_S1x256)

def tile7_5 (h : IVec S1x128 1) (q : FVec Ideal S1x256x128 .bf16) (k : FVec Ideal S1x128x256 .bf16) (c : FVec Ideal S1x1x1792 .f32) : FVec Ideal S256x256 .f32 :=
  scores (queries h q) k (extractStridedSlice S1x256 ![0, 1280] (gates7 c) slices_S1x1792_o0_1280_S1x256)

def tile7_6 (h : IVec S1x128 1) (q : FVec Ideal S1x256x128 .bf16) (k : FVec Ideal S1x128x256 .bf16) (c : FVec Ideal S1x1x1792 .f32) (mask : FVec Ideal S256x256 .f32) : FVec Ideal S256x256 .f32 :=
  causal (scores (queries h q) k (extractStridedSlice S1x256 ![0, 1536] (gates7 c) slices_S1x1792_o0_1536_S1x256)) mask

def top7 (h : IVec S1x128 1) (q : FVec Ideal S1x256x128 .bf16) (k0 k1 k2 k3 k4 k5 k6 : FVec Ideal S1x128x256 .bf16) (c : FVec Ideal S1x1x1792 .f32) (mask : FVec Ideal S256x256 .f32) : FVec Ideal S256x1 .f32 :=
  rowMax (maximumf (maximumf (maximumf (maximumf (maximumf (maximumf (halves (tile7_0 h q k0 c)) (halves (tile7_1 h q k1 c))) (halves (tile7_2 h q k2 c))) (halves (tile7_3 h q k3 c))) (halves (tile7_4 h q k4 c))) (halves (tile7_5 h q k5 c))) (halves (tile7_6 h q k6 c mask)))

def product7 (p : FVec Ideal S1x256x1792 .bf16) (v : FVec Ideal S1x1792x128 .bf16) : FVec Ideal S256x128 .f32 :=
  matmul dot_S256x1792_S1792x128_S256x128_1_0_0_1_n_n none (shapeCast S256x1792 p shapeCasts_S1x256x1792_S256x1792) (shapeCast S1792x128 v shapeCasts_S1x1792x128_S1792x128) (constant S256x128 .f32 0x00000000#32)

def head7 (o : ℕ) (ho : S256x128.Slices ![0, o] S256x1) (h : IVec S1x128 1) (q : FVec Ideal S1x256x128 .bf16) (k0 k1 k2 k3 k4 k5 k6 : FVec Ideal S1x128x256 .bf16) (c : FVec Ideal S1x1x1792 .f32) (mask : FVec Ideal S256x256 .f32) (v : FVec Ideal S1x2048x128 .bf16) : FVec Ideal S256x128 .f32 :=
  divf (product7 (catP 1792 [weights (top7 h q k0 k1 k2 k3 k4 k5 k6 c mask) (tile7_0 h q k0 c), weights (top7 h q k0 k1 k2 k3 k4 k5 k6 c mask) (tile7_1 h q k1 c), weights (top7 h q k0 k1 k2 k3 k4 k5 k6 c mask) (tile7_2 h q k2 c), weights (top7 h q k0 k1 k2 k3 k4 k5 k6 c mask) (tile7_3 h q k3 c), weights (top7 h q k0 k1 k2 k3 k4 k5 k6 c mask) (tile7_4 h q k4 c), weights (top7 h q k0 k1 k2 k3 k4 k5 k6 c mask) (tile7_5 h q k5 c), weights (top7 h q k0 k1 k2 k3 k4 k5 k6 c mask) (tile7_6 h q k6 c mask)]) (headRows 1792 (by decide) (values h v)))
    (broadcastTo S256x128 (extractStridedSlice S256x1 ![0, o] (product7 (catP 1792 [weights (top7 h q k0 k1 k2 k3 k4 k5 k6 c mask) (tile7_0 h q k0 c), weights (top7 h q k0 k1 k2 k3 k4 k5 k6 c mask) (tile7_1 h q k1 c), weights (top7 h q k0 k1 k2 k3 k4 k5 k6 c mask) (tile7_2 h q k2 c), weights (top7 h q k0 k1 k2 k3 k4 k5 k6 c mask) (tile7_3 h q k3 c), weights (top7 h q k0 k1 k2 k3 k4 k5 k6 c mask) (tile7_4 h q k4 c), weights (top7 h q k0 k1 k2 k3 k4 k5 k6 c mask) (tile7_5 h q k5 c), weights (top7 h q k0 k1 k2 k3 k4 k5 k6 c mask) (tile7_6 h q k6 c mask)]) (headRows 1792 (by decide) (values h v))) ho) broadcasts_S256x1_S256x128)

def pair7 (q : FVec Ideal S1x256x128 .bf16) (k0 k1 k2 k3 k4 k5 k6 : FVec Ideal S1x128x256 .bf16) (c c' : FVec Ideal S1x1x1792 .f32) (mask : FVec Ideal S256x256 .f32) (v : FVec Ideal S1x2048x128 .bf16) :
    FVec Ideal S1x256x128 .bf16 :=
  both (head7 64 slices_S256x128_o0_64_S256x1 lanes0 q k0 k1 k2 k3 k4 k5 k6 c mask v) (head7 0 slices_S256x128_o0_0_S256x1 lanes1 q k0 k1 k2 k3 k4 k5 k6 c' mask v)

/-- The gates of 2048 keys against the last of them. -/
def gates8 (c : FVec Ideal S1x1x2048 .f32) : FVec Ideal S1x2048 .f32 :=
  subf (broadcastTo S1x2048 (extractStridedSlice S1x1 ![0, 2047] (mulf (shapeCast S1x2048 c shapeCasts_S1x1x2048_S1x2048) (broadcast S1x2048 (Named.named κ "log2e" 0x3FB8AA3B#32 : Ideal .f32)))
    slices_S1x2048_o0_2047_S1x1) broadcasts_S1x1_S1x2048) (mulf (shapeCast S1x2048 c shapeCasts_S1x1x2048_S1x2048) (broadcast S1x2048 (Named.named κ "log2e" 0x3FB8AA3B#32 : Ideal .f32)))

def tile8_0 (h : IVec S1x128 1) (q : FVec Ideal S1x256x128 .bf16) (k : FVec Ideal S1x128x256 .bf16) (c : FVec Ideal S1x1x2048 .f32) : FVec Ideal S256x256 .f32 :=
  scores (queries h q) k (extractStridedSlice S1x256 ![0, 0] (gates8 c) slices_S1x2048_o0_0_S1x256)

def tile8_1 (h : IVec S1x128 1) (q : FVec Ideal S1x256x128 .bf16) (k : FVec Ideal S1x128x256 .bf16) (c : FVec Ideal S1x1x2048 .f32) : FVec Ideal S256x256 .f32 :=
  scores (queries h q) k (extractStridedSlice S1x256 ![0, 256] (gates8 c) slices_S1x2048_o0_256_S1x256)

def tile8_2 (h : IVec S1x128 1) (q : FVec Ideal S1x256x128 .bf16) (k : FVec Ideal S1x128x256 .bf16) (c : FVec Ideal S1x1x2048 .f32) : FVec Ideal S256x256 .f32 :=
  scores (queries h q) k (extractStridedSlice S1x256 ![0, 512] (gates8 c) slices_S1x2048_o0_512_S1x256)

def tile8_3 (h : IVec S1x128 1) (q : FVec Ideal S1x256x128 .bf16) (k : FVec Ideal S1x128x256 .bf16) (c : FVec Ideal S1x1x2048 .f32) : FVec Ideal S256x256 .f32 :=
  scores (queries h q) k (extractStridedSlice S1x256 ![0, 768] (gates8 c) slices_S1x2048_o0_768_S1x256)

def tile8_4 (h : IVec S1x128 1) (q : FVec Ideal S1x256x128 .bf16) (k : FVec Ideal S1x128x256 .bf16) (c : FVec Ideal S1x1x2048 .f32) : FVec Ideal S256x256 .f32 :=
  scores (queries h q) k (extractStridedSlice S1x256 ![0, 1024] (gates8 c) slices_S1x2048_o0_1024_S1x256)

def tile8_5 (h : IVec S1x128 1) (q : FVec Ideal S1x256x128 .bf16) (k : FVec Ideal S1x128x256 .bf16) (c : FVec Ideal S1x1x2048 .f32) : FVec Ideal S256x256 .f32 :=
  scores (queries h q) k (extractStridedSlice S1x256 ![0, 1280] (gates8 c) slices_S1x2048_o0_1280_S1x256)

def tile8_6 (h : IVec S1x128 1) (q : FVec Ideal S1x256x128 .bf16) (k : FVec Ideal S1x128x256 .bf16) (c : FVec Ideal S1x1x2048 .f32) : FVec Ideal S256x256 .f32 :=
  scores (queries h q) k (extractStridedSlice S1x256 ![0, 1536] (gates8 c) slices_S1x2048_o0_1536_S1x256)

def tile8_7 (h : IVec S1x128 1) (q : FVec Ideal S1x256x128 .bf16) (k : FVec Ideal S1x128x256 .bf16) (c : FVec Ideal S1x1x2048 .f32) (mask : FVec Ideal S256x256 .f32) : FVec Ideal S256x256 .f32 :=
  causal (scores (queries h q) k (extractStridedSlice S1x256 ![0, 1792] (gates8 c) slices_S1x2048_o0_1792_S1x256)) mask

def top8 (h : IVec S1x128 1) (q : FVec Ideal S1x256x128 .bf16) (k0 k1 k2 k3 k4 k5 k6 k7 : FVec Ideal S1x128x256 .bf16) (c : FVec Ideal S1x1x2048 .f32) (mask : FVec Ideal S256x256 .f32) : FVec Ideal S256x1 .f32 :=
  rowMax (maximumf (maximumf (maximumf (maximumf (maximumf (maximumf (maximumf (halves (tile8_0 h q k0 c)) (halves (tile8_1 h q k1 c))) (halves (tile8_2 h q k2 c))) (halves (tile8_3 h q k3 c))) (halves (tile8_4 h q k4 c))) (halves (tile8_5 h q k5 c))) (halves (tile8_6 h q k6 c))) (halves (tile8_7 h q k7 c mask)))

def product8 (p : FVec Ideal S1x256x2048 .bf16) (v : FVec Ideal S1x2048x128 .bf16) : FVec Ideal S256x128 .f32 :=
  matmul dot_S256x2048_S2048x128_S256x128_1_0_0_1_n_n none (shapeCast S256x2048 p shapeCasts_S1x256x2048_S256x2048) (shapeCast S2048x128 v shapeCasts_S1x2048x128_S2048x128) (constant S256x128 .f32 0x00000000#32)

def head8 (o : ℕ) (ho : S256x128.Slices ![0, o] S256x1) (h : IVec S1x128 1) (q : FVec Ideal S1x256x128 .bf16) (k0 k1 k2 k3 k4 k5 k6 k7 : FVec Ideal S1x128x256 .bf16) (c : FVec Ideal S1x1x2048 .f32) (mask : FVec Ideal S256x256 .f32) (v : FVec Ideal S1x2048x128 .bf16) : FVec Ideal S256x128 .f32 :=
  divf (product8 (catP 2048 [weights (top8 h q k0 k1 k2 k3 k4 k5 k6 k7 c mask) (tile8_0 h q k0 c), weights (top8 h q k0 k1 k2 k3 k4 k5 k6 k7 c mask) (tile8_1 h q k1 c), weights (top8 h q k0 k1 k2 k3 k4 k5 k6 k7 c mask) (tile8_2 h q k2 c), weights (top8 h q k0 k1 k2 k3 k4 k5 k6 k7 c mask) (tile8_3 h q k3 c), weights (top8 h q k0 k1 k2 k3 k4 k5 k6 k7 c mask) (tile8_4 h q k4 c), weights (top8 h q k0 k1 k2 k3 k4 k5 k6 k7 c mask) (tile8_5 h q k5 c), weights (top8 h q k0 k1 k2 k3 k4 k5 k6 k7 c mask) (tile8_6 h q k6 c), weights (top8 h q k0 k1 k2 k3 k4 k5 k6 k7 c mask) (tile8_7 h q k7 c mask)]) (values h v))
    (broadcastTo S256x128 (extractStridedSlice S256x1 ![0, o] (product8 (catP 2048 [weights (top8 h q k0 k1 k2 k3 k4 k5 k6 k7 c mask) (tile8_0 h q k0 c), weights (top8 h q k0 k1 k2 k3 k4 k5 k6 k7 c mask) (tile8_1 h q k1 c), weights (top8 h q k0 k1 k2 k3 k4 k5 k6 k7 c mask) (tile8_2 h q k2 c), weights (top8 h q k0 k1 k2 k3 k4 k5 k6 k7 c mask) (tile8_3 h q k3 c), weights (top8 h q k0 k1 k2 k3 k4 k5 k6 k7 c mask) (tile8_4 h q k4 c), weights (top8 h q k0 k1 k2 k3 k4 k5 k6 k7 c mask) (tile8_5 h q k5 c), weights (top8 h q k0 k1 k2 k3 k4 k5 k6 k7 c mask) (tile8_6 h q k6 c), weights (top8 h q k0 k1 k2 k3 k4 k5 k6 k7 c mask) (tile8_7 h q k7 c mask)]) (values h v)) ho) broadcasts_S256x1_S256x128)

def pair8 (q : FVec Ideal S1x256x128 .bf16) (k0 k1 k2 k3 k4 k5 k6 k7 : FVec Ideal S1x128x256 .bf16) (c c' : FVec Ideal S1x1x2048 .f32) (mask : FVec Ideal S256x256 .f32) (v : FVec Ideal S1x2048x128 .bf16) :
    FVec Ideal S1x256x128 .bf16 :=
  both (head8 64 slices_S256x128_o0_64_S256x1 lanes0 q k0 k1 k2 k3 k4 k5 k6 k7 c mask v) (head8 0 slices_S256x128_o0_0_S256x1 lanes1 q k0 k1 k2 k3 k4 k5 k6 k7 c' mask v)

end Cert.KernelIdeal.Fox
-- ==== Proof.FoxValue.lean ====
module

public import proofs.«01_k».proof.Proof.FoxTile

/-! The attention kernel's operations on one head, read at an index. -/

@[expose] public section

set_option maxRecDepth 16384
noncomputable section
open Idealize.ShloMosaic Idealize.ShloMosaic.TcCoe Idealize.SL.Sem
namespace Cert.KernelIdeal.Fox
open Cert.KernelIdeal Cert.KernelIdeal.Gen

theorem lanes0_apply (d : Fin 128) : lanes0 (ix2 (0 : Fin 1) d) = if d.val < 64 then 1#1 else 0#1 := by
  revert d; decide +kernel

theorem lanes1_apply (d : Fin 128) : lanes1 (ix2 (0 : Fin 1) d) = if d.val < 64 then 0#1 else 1#1 := by
  revert d; decide +kernel

theorem queries_apply (h : IVec S1x128 1) (q : FVec Ideal S1x256x128 .bf16) (r : Fin 256) (d : Fin 128) :
    queries h q (ix2 r d) = Scalar.select (h (ix2 (0 : Fin 1) d)) (q (ix3 (0 : Fin 1) r d) * (((8 * Real.log 2)⁻¹ : ℝ) : EReal)) 0 := by
  pointwise [queries]
  rfl

theorem scores_apply (q : FVec Ideal S256x128 .bf16) (k : FVec Ideal S1x128x256 .bf16) (g : FVec Ideal S1x256 .f32) (r j : Fin 256) :
    scores q k g (ix2 r j) = ∑ d : Fin 128, q (ix2 r d) * k (ix3 (0 : Fin 1) d j) + g (ix2 (0 : Fin 1) j) := by
  pointwise [scores]

theorem causal_apply (s mask : FVec Ideal S256x256 .f32) (r j : Fin 256) :
    causal s mask (ix2 r j) = s (ix2 r j) + (if 0 < mask (ix2 r j) then 0 else (⊥ : EReal)) := by
  pointwise [causal]
  rfl

theorem halves_apply (s : FVec Ideal S256x256 .f32) (r : Fin 256) (l : Fin 128) :
    halves s (ix2 r l) = max (s (ix2 r (⟨l.val, by omega⟩ : Fin 256))) (s (ix2 r (⟨128 + l.val, by omega⟩ : Fin 256))) := by
  pointwise [halves]

/-- The largest of finitely many scores is real when none is infinite above and one is not minus infinity. -/
theorem fold_max_real {ι : Type} (s : Finset ι) (f : ι → EReal) (h : ∀ i ∈ s, f i ≠ ⊤) (h' : ∃ i ∈ s, f i ≠ ⊥) : ∃ M : ℝ, Finset.fold max (⊥ : EReal) f s = (M : EReal) := by
  classical
  have h1 : Finset.fold max (⊥ : EReal) f s ≠ ⊤ := by
    clear h'
    induction s using Finset.induction_on with
    | empty => rw [Finset.fold_empty]; exact bot_ne_top
    | insert a s ha ih =>
      rw [Finset.fold_insert ha]
      rcases max_choice (f a) (Finset.fold max (⊥ : EReal) f s) with e | e <;> rw [e]
      · exact h a (Finset.mem_insert_self a s)
      · exact ih fun i hi => h i (Finset.mem_insert_of_mem hi)
  have h2 : Finset.fold max (⊥ : EReal) f s ≠ ⊥ := by
    clear h h1
    induction s using Finset.induction_on with
    | empty => obtain ⟨i, hi, _⟩ := h'; exact absurd hi (Finset.notMem_empty i)
    | insert a s ha ih =>
      rw [Finset.fold_insert ha]
      intro e
      obtain ⟨e1, e2⟩ := max_eq_bot.mp e
      obtain ⟨i, hi, hb⟩ := h'
      rcases Finset.mem_insert.mp hi with rfl | hi
      · exact hb e1
      · exact ih ⟨i, hi, hb⟩ e2
  exact ⟨_, (EReal.coe_toReal h1 h2).symm⟩

theorem rowMax_real (x : FVec Ideal S256x128 .f32) (r : Fin 256) (h : ∀ l, x (ix2 r l) ≠ ⊤) (h' : x (ix2 r (0 : Fin 128)) ≠ ⊥) :
    ∃ M : ℝ, rowMax x (ix2 r (0 : Fin 1)) = (M : EReal) := by
  have e : rowMax x (ix2 r (0 : Fin 1)) = Finset.fold max (⊥ : EReal) (fun l : Fin 128 => x (ix2 r l)) Finset.univ := by
    have hb : Ideal.ofBits .f32 0xFF800000#32 = ⊥ := by simp [Ideal.ofBits, Ideal.ieee, -EReal.coe_mul]
    rw [← hb]
    pointwise [rowMax]
  rw [e]
  exact fold_max_real _ _ (fun l _ => h l) ⟨0, Finset.mem_univ _, h'⟩

theorem ratio_apply (a : FVec Ideal S256x128 .f32) (o : ℕ) (ho : S256x128.Slices ![0, o] S256x1) (ho' : o < 128) (r : Fin 256) (d : Fin 128) :
    divf a (broadcastTo S256x128 (extractStridedSlice S256x1 ![0, o] a ho) broadcasts_S256x1_S256x128) (ix2 r d) = Ideal.div (a (ix2 r d)) (a (ix2 r (⟨o, ho'⟩ : Fin 128))) := by
  pointwise

theorem slice_apply (K o : ℕ) (g : (⟨2, ![1, K]⟩ : Shape).Idx → EReal) (h : (⟨2, ![1, K]⟩ : Shape).Slices ![0, o] S1x256) (j : Fin 256) (hj : o + j.val < K) :
    extractStridedSlice S1x256 ![0, o] g h (ix2 (0 : Fin 1) j) = g (ix2 (0 : Fin 1) (⟨o + j.val, hj⟩ : Fin K)) := by
  refine congrArg g (funext fun a => Fin.ext ?_)
  match a with
  | ⟨0, _⟩ => rfl
  | ⟨1, _⟩ => rfl

theorem catP_apply (K n : ℕ) (hK : K = 256 * n) (xs : List (S1x256x256.Idx → EReal)) (r : Fin 256) (f : ℕ → EReal)
    (h : ∀ c, c < n → ∀ i : Fin 256, xs.getD c (fun _ => 0) (ix3 (0 : Fin 1) r i) = f (256 * c + i.val)) (j : Fin K) : catP K xs (ix3 (0 : Fin 1) r j) = f j.val := by
  refine (h (j.val / 256) (by omega) ⟨j.val % 256, Nat.mod_lt _ (by decide)⟩).trans (congrArg f ?_)
  show 256 * (j.val / 256) + j.val % 256 = j.val
  omega

theorem weights_apply (mx : FVec Ideal S256x1 .f32) (s : FVec Ideal S256x256 .f32) (r j : Fin 256) :
    weights mx s (ix3 (0 : Fin 1) r j) = Ideal.exp2 (s (ix2 r j) - mx (ix2 r (0 : Fin 1))) := by
  pointwise [weights]
  rfl

theorem values_apply (h : IVec S1x128 1) (v : FVec Ideal S1x2048x128 .bf16) (j : Fin 2048) (d : Fin 128) :
    values h v (ix3 (0 : Fin 1) j d) = Scalar.select (h (ix2 (0 : Fin 1) d)) (v (ix3 (0 : Fin 1) j d)) 1 := by
  pointwise [values]

theorem both_apply (a b : FVec Ideal S256x128 .f32) (r : Fin 256) (d : Fin 128) :
    both a b (ix3 (0 : Fin 1) r d) = Scalar.select (lanes0 (ix2 (0 : Fin 1) d)) (a (ix2 r d)) (b (ix2 r d)) := by
  generalize hl : lanes0 = l
  unfold both
  rw [hl]
  pointwise

theorem gates1_apply (c : FVec Ideal S1x1x256 .f32) (j : Fin 256) : gates1 c (ix2 (0 : Fin 1) j) =
    c (ix3 (0 : Fin 1) (0 : Fin 1) (⟨255, by decide⟩ : Fin 256)) * (((Real.log 2)⁻¹ : ℝ) : EReal) - c (ix3 (0 : Fin 1) (0 : Fin 1) j) * (((Real.log 2)⁻¹ : ℝ) : EReal) := by
  pointwise [gates1]
  try rfl

theorem product1_apply (p : FVec Ideal S1x256x256 .bf16) (v : FVec Ideal S1x256x128 .bf16) (r : Fin 256) (d : Fin 128) :
    product1 p v (ix2 r d) = ∑ j : Fin 256, p (ix3 (0 : Fin 1) r j) * v (ix3 (0 : Fin 1) j d) := by
  pointwise [product1]

theorem gates2_apply (c : FVec Ideal S1x1x512 .f32) (j : Fin 512) : gates2 c (ix2 (0 : Fin 1) j) =
    c (ix3 (0 : Fin 1) (0 : Fin 1) (⟨511, by decide⟩ : Fin 512)) * (((Real.log 2)⁻¹ : ℝ) : EReal) - c (ix3 (0 : Fin 1) (0 : Fin 1) j) * (((Real.log 2)⁻¹ : ℝ) : EReal) := by
  pointwise [gates2]
  try rfl

theorem product2_apply (p : FVec Ideal S1x256x512 .bf16) (v : FVec Ideal S1x512x128 .bf16) (r : Fin 256) (d : Fin 128) :
    product2 p v (ix2 r d) = ∑ j : Fin 512, p (ix3 (0 : Fin 1) r j) * v (ix3 (0 : Fin 1) j d) := by
  pointwise [product2]

theorem gates3_apply (c : FVec Ideal S1x1x768 .f32) (j : Fin 768) : gates3 c (ix2 (0 : Fin 1) j) =
    c (ix3 (0 : Fin 1) (0 : Fin 1) (⟨767, by decide⟩ : Fin 768)) * (((Real.log 2)⁻¹ : ℝ) : EReal) - c (ix3 (0 : Fin 1) (0 : Fin 1) j) * (((Real.log 2)⁻¹ : ℝ) : EReal) := by
  pointwise [gates3]
  try rfl

theorem product3_apply (p : FVec Ideal S1x256x768 .bf16) (v : FVec Ideal S1x768x128 .bf16) (r : Fin 256) (d : Fin 128) :
    product3 p v (ix2 r d) = ∑ j : Fin 768, p (ix3 (0 : Fin 1) r j) * v (ix3 (0 : Fin 1) j d) := by
  pointwise [product3]

theorem gates4_apply (c : FVec Ideal S1x1x1024 .f32) (j : Fin 1024) : gates4 c (ix2 (0 : Fin 1) j) =
    c (ix3 (0 : Fin 1) (0 : Fin 1) (⟨1023, by decide⟩ : Fin 1024)) * (((Real.log 2)⁻¹ : ℝ) : EReal) - c (ix3 (0 : Fin 1) (0 : Fin 1) j) * (((Real.log 2)⁻¹ : ℝ) : EReal) := by
  pointwise [gates4]
  try rfl

theorem product4_apply (p : FVec Ideal S1x256x1024 .bf16) (v : FVec Ideal S1x1024x128 .bf16) (r : Fin 256) (d : Fin 128) :
    product4 p v (ix2 r d) = ∑ j : Fin 1024, p (ix3 (0 : Fin 1) r j) * v (ix3 (0 : Fin 1) j d) := by
  pointwise [product4]

theorem gates5_apply (c : FVec Ideal S1x1x1280 .f32) (j : Fin 1280) : gates5 c (ix2 (0 : Fin 1) j) =
    c (ix3 (0 : Fin 1) (0 : Fin 1) (⟨1279, by decide⟩ : Fin 1280)) * (((Real.log 2)⁻¹ : ℝ) : EReal) - c (ix3 (0 : Fin 1) (0 : Fin 1) j) * (((Real.log 2)⁻¹ : ℝ) : EReal) := by
  pointwise [gates5]
  try rfl

theorem product5_apply (p : FVec Ideal S1x256x1280 .bf16) (v : FVec Ideal S1x1280x128 .bf16) (r : Fin 256) (d : Fin 128) :
    product5 p v (ix2 r d) = ∑ j : Fin 1280, p (ix3 (0 : Fin 1) r j) * v (ix3 (0 : Fin 1) j d) := by
  pointwise [product5]

theorem gates6_apply (c : FVec Ideal S1x1x1536 .f32) (j : Fin 1536) : gates6 c (ix2 (0 : Fin 1) j) =
    c (ix3 (0 : Fin 1) (0 : Fin 1) (⟨1535, by decide⟩ : Fin 1536)) * (((Real.log 2)⁻¹ : ℝ) : EReal) - c (ix3 (0 : Fin 1) (0 : Fin 1) j) * (((Real.log 2)⁻¹ : ℝ) : EReal) := by
  pointwise [gates6]
  try rfl

theorem product6_apply (p : FVec Ideal S1x256x1536 .bf16) (v : FVec Ideal S1x1536x128 .bf16) (r : Fin 256) (d : Fin 128) :
    product6 p v (ix2 r d) = ∑ j : Fin 1536, p (ix3 (0 : Fin 1) r j) * v (ix3 (0 : Fin 1) j d) := by
  pointwise [product6]

theorem gates7_apply (c : FVec Ideal S1x1x1792 .f32) (j : Fin 1792) : gates7 c (ix2 (0 : Fin 1) j) =
    c (ix3 (0 : Fin 1) (0 : Fin 1) (⟨1791, by decide⟩ : Fin 1792)) * (((Real.log 2)⁻¹ : ℝ) : EReal) - c (ix3 (0 : Fin 1) (0 : Fin 1) j) * (((Real.log 2)⁻¹ : ℝ) : EReal) := by
  pointwise [gates7]
  try rfl

theorem product7_apply (p : FVec Ideal S1x256x1792 .bf16) (v : FVec Ideal S1x1792x128 .bf16) (r : Fin 256) (d : Fin 128) :
    product7 p v (ix2 r d) = ∑ j : Fin 1792, p (ix3 (0 : Fin 1) r j) * v (ix3 (0 : Fin 1) j d) := by
  pointwise [product7]

theorem gates8_apply (c : FVec Ideal S1x1x2048 .f32) (j : Fin 2048) : gates8 c (ix2 (0 : Fin 1) j) =
    c (ix3 (0 : Fin 1) (0 : Fin 1) (⟨2047, by decide⟩ : Fin 2048)) * (((Real.log 2)⁻¹ : ℝ) : EReal) - c (ix3 (0 : Fin 1) (0 : Fin 1) j) * (((Real.log 2)⁻¹ : ℝ) : EReal) := by
  pointwise [gates8]
  try rfl

theorem product8_apply (p : FVec Ideal S1x256x2048 .bf16) (v : FVec Ideal S1x2048x128 .bf16) (r : Fin 256) (d : Fin 128) :
    product8 p v (ix2 r d) = ∑ j : Fin 2048, p (ix3 (0 : Fin 1) r j) * v (ix3 (0 : Fin 1) j d) := by
  pointwise [product8]

end Cert.KernelIdeal.Fox
-- ==== Proof.FoxMaths.lean ====
module

public import Idealize.ShloMosaic.Lib.Pipeline.Value
public import Idealize.ShloMosaic.PureOps.Ideal.Laws

/-! The mathematics of a softmax with a mask. Real scores that are masked by minus infinity, exponentiated after any real
    shift and in base e or in base 2, give the same shares; a weighted sum divided by the sum of the weights is the sum
    with the shares. The values that are weighted may be infinite. -/

@[expose] public section

noncomputable section

open Idealize.ShloMosaic

namespace Cert.Fox

variable {n : ℕ} (A : Fin n → Prop) [DecidablePred A] (x y : Fin n → ℝ)

/-- A masked score. -/
def masked (j : Fin n) : EReal := if A j then (x j : EReal) else ⊥

/-- The weight of a key before the weights are made to sum to one. -/
def weight (j : Fin n) : ℝ := if A j then Real.exp (x j) else 0

/-- The share of a key. -/
def share (j : Fin n) : ℝ := weight A x j / ∑ i, weight A x i

theorem weight_nonneg (j : Fin n) : 0 ≤ weight A x j := by
  unfold weight; split
  · exact (Real.exp_pos _).le
  · exact le_rfl

theorem total_pos (h : ∃ j, A j) : 0 < ∑ i, weight A x i := by
  obtain ⟨j, hj⟩ := h
  refine Finset.sum_pos' (fun i _ => weight_nonneg A x i) ⟨j, Finset.mem_univ _, ?_⟩
  unfold weight; rw [if_pos hj]; exact Real.exp_pos _

theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_masked (M : ℝ) (j : Fin n) : Ideal.exp (masked A x j - (M : EReal)) = ((weight A x j * Real.exp (-M) : ℝ) : EReal) := by
  unfold masked weight
  split
  · rw [← EReal.coe_sub, Ideal.exp_coe, sub_eq_add_neg, Real.exp_add]
  · rw [EReal.bot_sub, Ideal.exp_bot, zero_mul, EReal.coe_zero]

/-- The natural softmax gives the shares. -/
theorem softmax_eq (h : ∃ j, A j) (M : ℝ) (j : Fin n) :
    Ideal.div (Ideal.exp (masked A x j - (M : EReal))) (∑ i, Ideal.exp (masked A x i - (M : EReal))) = (share A x j : EReal) := by
  simp only [exp_masked]
  rw [← coe_sum', ← Finset.sum_mul]
  have h1 : ∑ i, weight A x i ≠ 0 := (total_pos A x h).ne'
  have h2 : Real.exp (-M) ≠ 0 := (Real.exp_pos _).ne'
  rw [Ideal.div_coe (mul_ne_zero h1 h2), ← EReal.coe_mul]
  unfold share
  congr 1
  field_simp

/-- Base 2, with scores that are the natural ones in units of log 2 but for a shift. -/
theorem exp2_masked (C M : ℝ) (hy : ∀ j, y j * Real.log 2 = x j + C) (j : Fin n) :
    Ideal.exp2 (masked A y j - (M : EReal)) = ((weight A x j * Real.exp (C - M * Real.log 2) : ℝ) : EReal) := by
  unfold masked weight
  split
  · rw [← EReal.coe_sub, Ideal.exp2_coe]
    congr 1
    show (2 : ℝ) ^ (y j - M) = _
    rw [Real.rpow_def_of_pos (by norm_num), ← Real.exp_add]
    congr 1
    linear_combination hy j
  · rw [EReal.bot_sub, Ideal.exp2_bot, zero_mul, EReal.coe_zero]

theorem sum_mul_coe {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih, EReal.right_distrib_of_nonneg_of_ne_top (EReal.coe_nonneg.mpr hc) (EReal.coe_ne_top c)]

/-- The weighted sum over the sum of the weights. -/
theorem weighted_eq (h : ∃ j, A j) (C M : ℝ) (hy : ∀ j, y j * Real.log 2 = x j + C) (V : Fin n → EReal) :
    Ideal.div (∑ j, Ideal.exp2 (masked A y j - (M : EReal)) * V j) (∑ j, Ideal.exp2 (masked A y j - (M : EReal)) * 1) = ∑ j, (share A x j : EReal) * V j := by
  simp only [exp2_masked A x y C M hy, mul_one]
  rw [← coe_sum', ← Finset.sum_mul]
  have h1 : 0 < ∑ i, weight A x i := total_pos A x h
  have h2 : 0 < Real.exp (C - M * Real.log 2) := Real.exp_pos _
  rw [Ideal.div_coe (mul_pos h1 h2).ne', sum_mul_coe _ _ _ (by positivity)]
  refine Finset.sum_congr rfl fun j _ => ?_
  rw [mul_right_comm, ← EReal.coe_mul]
  congr 2
  unfold share
  field_simp

/-- A sum whose terms are zero from `n` on. -/
theorem sum_prefix {M : Type} [AddCommMonoid M] {N : ℕ} (hn : n ≤ N) (f : Fin N → M) (h : ∀ j : Fin N, n ≤ j.val → f j = 0) :
    ∑ j, f j = ∑ j : Fin n, f (j.castLE hn) := by
  obtain ⟨k, rfl⟩ := Nat.exists_eq_add_of_le hn
  rw [Fin.sum_univ_add, Finset.sum_eq_zero (s := Finset.univ) (f := fun i : Fin k => f (Fin.natAdd n i)) (fun i _ => h _ (by simp)), add_zero]
  rfl

/-- Keys that are masked may be left out. -/
theorem share_prefix {N : ℕ} (hn : n ≤ N) (B : Fin N → Prop) [DecidablePred B] (z : Fin N → ℝ) (hB : ∀ j : Fin N, n ≤ j.val → ¬B j) (V : Fin N → EReal) :
    ∑ j, (share B z j : EReal) * V j = ∑ j : Fin n, (share (fun j => B (j.castLE hn)) (fun j => z (j.castLE hn)) j : EReal) * V (j.castLE hn) := by
  have hw : ∀ j : Fin N, n ≤ j.val → weight B z j = 0 := fun j hj => by unfold weight; rw [if_neg (hB j hj)]
  rw [sum_prefix hn (fun j => (share B z j : EReal) * V j) (fun j hj => by unfold share; rw [hw j hj, zero_div, EReal.coe_zero, zero_mul])]
  refine Finset.sum_congr rfl fun j _ => ?_
  unfold share
  rw [sum_prefix hn (weight B z) hw]
  rfl

end Cert.Fox
-- ==== Proof.FoxSpec.lean ====
module

public import proofs.«01_k».proof.Proof.FoxMaths
public import Idealize.ShloMosaic.Lib.Pipeline.ValueKit
public import Idealize.ShloMosaic.Lib.Pointwise

/-! What forgetting attention computes from real queries, keys and cumulative log gates and from values that may be
    infinite. Eight heads of 64 lanes; a query sees the keys that are not after it; the score of a key is the scaled
    product plus the cumulative gate of the query minus that of the key. -/

@[expose] public section

noncomputable section

open Idealize.ShloMosaic

namespace Cert.Fox

/-- Lane `d` of head `h`. -/
def lane (h : Fin 8) (d : Fin 64) : Fin 512 := ⟨64 * h.val + d.val, by omega⟩

variable (q k : (⟨3, ![16, 2048, 512]⟩ : Shape).Idx → ℝ) (c : (⟨3, ![16, 8, 2048]⟩ : Shape).Idx → ℝ)

/-- The score of key `j` for query `i`. -/
def score (b : Fin 16) (h : Fin 8) (i j : Fin 2048) : ℝ :=
  (∑ d : Fin 64, q (ix3 b i (lane h d)) * k (ix3 b j (lane h d))) * (8 : ℝ)⁻¹ + c (ix3 b h i) - c (ix3 b h j)

/-- The attended values. -/
def attend (v : (⟨3, ![16, 2048, 512]⟩ : Shape).Idx → EReal) (y : (⟨3, ![16, 2048, 512]⟩ : Shape).Idx) : EReal :=
  ∑ j : Fin 2048, (share (fun j => j.val ≤ (y 1).val) (score q k c (y 0) ⟨(y 2).val / 64, by have : (y 2).val < 512 := (y 2).isLt; omega⟩ (y 1)) j : EReal) * v (ix3 (y 0) j (y 2))

end Cert.Fox
-- ==== Proof.FoxHead.lean ====
module

public import proofs.«01_k».proof.Proof.FoxValue
public import proofs.«01_k».proof.Proof.FoxSpec

/-! One head on 256 queries: with real queries, keys and gates, a row of the result is the sum of the values with the
    softmax shares. The scores of a row differ from the natural ones by the unit log 2 and by a shift. -/

@[expose] public section

set_option maxRecDepth 16384
noncomputable section
open Idealize.ShloMosaic Idealize.ShloMosaic.TcCoe Idealize.SL.Sem
namespace Cert.KernelIdeal.Fox
open Cert.KernelIdeal Cert.KernelIdeal.Gen Cert.Fox

variable (P : Fin 128 → Prop) [DecidablePred P] (Q : Fin 128 → ℝ) (W : ℕ → Fin 128 → ℝ) (C : ℕ → ℝ)

/-- The score of key `j` as the kernel computes it, in units of log 2, against the gate of key `L`. -/
def raw (L j : ℕ) : ℝ := (∑ d : Fin 128, (if P d then Q d * (8 * Real.log 2)⁻¹ else 0) * W j d) + (C L * (Real.log 2)⁻¹ - C j * (Real.log 2)⁻¹)

/-- The natural score of key `j`, with the gate `g` of the query. -/
def nat (g : ℝ) (j : ℕ) : ℝ := (∑ d : Fin 128, (if P d then Q d else 0) * W j d) * (8 : ℝ)⁻¹ + g - C j

theorem raw_log (g : ℝ) (L j : ℕ) : raw P Q W C L j * Real.log 2 = nat P Q W C g j + (C L - g) := by
  have h2 : Real.log 2 ≠ 0 := (Real.log_pos (by norm_num)).ne'
  unfold raw nat
  have e : (∑ d : Fin 128, (if P d then Q d * (8 * Real.log 2)⁻¹ else 0) * W j d) = (∑ d : Fin 128, (if P d then Q d else 0) * W j d) * (8 * Real.log 2)⁻¹ := by
    rw [Finset.sum_mul]
    refine Finset.sum_congr rfl fun d _ => ?_
    split <;> ring
  rw [e]
  field_simp
  ring

theorem score_real (h : IVec S1x128 1) (q : FVec Ideal S1x256x128 .bf16) (k : FVec Ideal S1x128x256 .bf16) (g : FVec Ideal S1x256 .f32) (r j : Fin 256) (J L : ℕ)
    (hl : ∀ d, h (ix2 (0 : Fin 1) d) = if P d then 1#1 else 0#1) (hq : ∀ d, q (ix3 (0 : Fin 1) r d) = (Q d : EReal)) (hk : ∀ d, k (ix3 (0 : Fin 1) d j) = (W J d : EReal))
    (hg : g (ix2 (0 : Fin 1) j) = ((C L * (Real.log 2)⁻¹ - C J * (Real.log 2)⁻¹ : ℝ) : EReal)) :
    scores (queries h q) k g (ix2 r j) = (raw P Q W C L J : EReal) := by
  rw [scores_apply, hg]
  unfold raw
  rw [EReal.coe_add, coe_sum']
  refine congrArg (· + _) (Finset.sum_congr rfl fun d _ => ?_)
  rw [queries_apply, hl, hq, hk, EReal.coe_mul]
  refine congrArg (· * _) ?_
  split
  · rw [EReal.coe_mul]; rfl
  · rfl

theorem causal_real (s mask : FVec Ideal S256x256 .f32) (r j : Fin 256) (y : ℝ) (hm : mask (ix2 r j) = if j.val ≤ r.val then 1 else 0) (hs : s (ix2 r j) = (y : EReal)) :
    causal s mask (ix2 r j) = if j.val ≤ r.val then (y : EReal) else ⊥ := by
  rw [causal_apply, hm, hs]
  split
  · rw [if_pos (by norm_num), add_zero]
  · rw [if_neg (lt_irrefl _), EReal.add_bot]

/-- A masked score as the tiles hold it. -/
def cell (L R j : ℕ) : EReal := if j ≤ R then (raw P Q W C L j : EReal) else ⊥

theorem cell_ne_top (L R j : ℕ) : cell P Q W C L R j ≠ ⊤ := by
  unfold cell; split
  · exact EReal.coe_ne_top _
  · exact bot_ne_top

theorem cell_ne_bot (L R j : ℕ) (h : j ≤ R) : cell P Q W C L R j ≠ ⊥ := by
  unfold cell; rw [if_pos h]; exact EReal.coe_ne_bot _

theorem halves_ne_top (s : FVec Ideal S256x256 .f32) (r : Fin 256) (h : ∀ j, s (ix2 r j) ≠ ⊤) (l : Fin 128) : halves s (ix2 r l) ≠ ⊤ := by
  rw [halves_apply]
  rcases max_choice (s (ix2 r (⟨l.val, by omega⟩ : Fin 256))) (s (ix2 r (⟨128 + l.val, by omega⟩ : Fin 256))) with e | e <;> rw [e] <;> exact h _

theorem halves_ne_bot (s : FVec Ideal S256x256 .f32) (r : Fin 256) (h : s (ix2 r (0 : Fin 256)) ≠ ⊥) : halves s (ix2 r (0 : Fin 128)) ≠ ⊥ := by
  rw [halves_apply]
  exact fun e => h (max_eq_bot.mp e).1

theorem max_ne_top' (a b : FVec Ideal S256x128 .f32) (r : Fin 256) (ha : ∀ l, a (ix2 r l) ≠ ⊤) (hb : ∀ l, b (ix2 r l) ≠ ⊤) (l : Fin 128) : maximumf a b (ix2 r l) ≠ ⊤ := by
  show max (a (ix2 r l)) (b (ix2 r l)) ≠ ⊤
  rcases max_choice (a (ix2 r l)) (b (ix2 r l)) with e | e <;> rw [e]
  · exact ha l
  · exact hb l

theorem max_ne_bot' (a b : FVec Ideal S256x128 .f32) (r : Fin 256) (ha : a (ix2 r (0 : Fin 128)) ≠ ⊥) : maximumf a b (ix2 r (0 : Fin 128)) ≠ ⊥ :=
  fun e => ha (max_eq_bot.mp e).1

/-- From the weights and the values of a row to the shares. -/
theorem row_shares (K : ℕ) (L R : ℕ) (g M : ℝ) (V : Fin K → EReal) (hK : 0 < K) :
    Ideal.div (∑ j : Fin K, Ideal.exp2 (cell P Q W C L R j.val - (M : EReal)) * V j) (∑ j : Fin K, Ideal.exp2 (cell P Q W C L R j.val - (M : EReal)) * 1) =
      ∑ j : Fin K, (share (fun j : Fin K => j.val ≤ R) (fun j : Fin K => nat P Q W C g j.val) j : EReal) * V j :=
  weighted_eq (fun j : Fin K => j.val ≤ R) (fun j => nat P Q W C g j.val) (fun j => raw P Q W C L j.val) ⟨⟨0, hK⟩, Nat.zero_le _⟩ (C L - g) M
    (fun j => raw_log P Q W C g L j.val) V

theorem values_in (h : IVec S1x128 1) (v : FVec Ideal S1x2048x128 .bf16) (hl : ∀ d, h (ix2 (0 : Fin 1) d) = if P d then 1#1 else 0#1) (j : Fin 2048) (d : Fin 128) (hd : P d) :
    values h v (ix3 (0 : Fin 1) j d) = v (ix3 (0 : Fin 1) j d) := by
  rw [values_apply, hl, if_pos hd]; rfl

theorem values_out (h : IVec S1x128 1) (v : FVec Ideal S1x2048x128 .bf16) (hl : ∀ d, h (ix2 (0 : Fin 1) d) = if P d then 1#1 else 0#1) (j : Fin 2048) (d : Fin 128) (hd : ¬P d) :
    values h v (ix3 (0 : Fin 1) j d) = 1 := by
  rw [values_apply, hl, if_neg hd]; rfl

section
variable (h : IVec S1x128 1) (q : FVec Ideal S1x256x128 .bf16) (c : FVec Ideal S1x1x256 .f32) (mask : FVec Ideal S256x256 .f32) (r : Fin 256)
  (hl : ∀ d, h (ix2 (0 : Fin 1) d) = if P d then 1#1 else 0#1) (hq : ∀ d, q (ix3 (0 : Fin 1) r d) = (Q d : EReal))
  (hc : ∀ j : Fin 256, c (ix3 (0 : Fin 1) (0 : Fin 1) j) = (C j.val : EReal)) (hm : ∀ j : Fin 256, mask (ix2 r j) = if j.val ≤ r.val then 1 else 0)

include hc in
theorem gates1_real (j : Fin 256) : gates1 c (ix2 (0 : Fin 1) j) = ((C 255 * (Real.log 2)⁻¹ - C j.val * (Real.log 2)⁻¹ : ℝ) : EReal) := by
  rw [gates1_apply, hc, hc, EReal.coe_sub, EReal.coe_mul, EReal.coe_mul]

include hl hq hc hm in
theorem tile1_0_real (k : FVec Ideal S1x128x256 .bf16) (hk : ∀ (d : Fin 128) (j : Fin 256), k (ix3 (0 : Fin 1) d j) = (W (0 + j.val) d : EReal)) (j : Fin 256) :
    tile1_0 h q k c mask (ix2 r j) = cell P Q W C 255 (0 + r.val) (0 + j.val) := by
  refine (causal_real _ mask r j _ (hm j) (score_real P Q W C h q k _ r j (0 + j.val) 255 hl hq (fun d => hk d j) ((gates1_real C c hc j).trans (by rw [Nat.zero_add])))).trans ?_
  unfold cell
  exact if_congr (by omega) rfl rfl

include hl hq hc hm in
theorem top1_real (k0 : FVec Ideal S1x128x256 .bf16) (hk0 : ∀ (d : Fin 128) (j : Fin 256), k0 (ix3 (0 : Fin 1) d j) = (W (0 + j.val) d : EReal)) : ∃ M : ℝ, top1 h q k0 c mask (ix2 r (0 : Fin 1)) = (M : EReal) :=
  rowMax_real _ r (halves_ne_top _ r fun j => (((tile1_0_real P Q W C h q c mask r hl hq hc hm k0 hk0) j).trans_ne (cell_ne_top P Q W C _ _ _))) (halves_ne_bot _ r (((tile1_0_real P Q W C h q c mask r hl hq hc hm k0 hk0) 0).trans_ne (cell_ne_bot P Q W C _ _ _ (by simp))))

include hl hq hc hm in
theorem weights1_real (k0 : FVec Ideal S1x128x256 .bf16) (hk0 : ∀ (d : Fin 128) (j : Fin 256), k0 (ix3 (0 : Fin 1) d j) = (W (0 + j.val) d : EReal)) (M : ℝ) (hM : top1 h q k0 c mask (ix2 r (0 : Fin 1)) = (M : EReal)) (j : Fin 256) :
    (weights (top1 h q k0 c mask) (tile1_0 h q k0 c mask) : (⟨3, ![1, 256, 256]⟩ : Shape).Idx → EReal) (ix3 (0 : Fin 1) r j) = Ideal.exp2 (cell P Q W C 255 (0 + r.val) j.val - (M : EReal)) :=
  (weights_apply _ _ r j).trans (congrArg₂ (fun a b : EReal => Ideal.exp2 (a - b)) (((tile1_0_real P Q W C h q c mask r hl hq hc hm k0 hk0) j).trans (by rw [Nat.zero_add j.val])) hM)

include hl hq hc hm in
theorem head1_apply (o : ℕ) (ho : S256x128.Slices ![0, o] S256x1) (ho' : o < 128) (hP : ¬P ⟨o, ho'⟩) (k0 : FVec Ideal S1x128x256 .bf16) (hk0 : ∀ (d : Fin 128) (j : Fin 256), k0 (ix3 (0 : Fin 1) d j) = (W (0 + j.val) d : EReal)) (v : FVec Ideal S1x2048x128 .bf16) (d : Fin 128) (hd : P d) (g : ℝ) :
    head1 o ho h q k0 c mask v (ix2 r d) =
      ∑ j : Fin 256, (share (fun j : Fin 256 => j.val ≤ 0 + r.val) (fun j : Fin 256 => nat P Q W C g j.val) j : EReal) * v (ix3 (0 : Fin 1) (j.castLE (by decide) : Fin 2048) d) := by
  obtain ⟨M, hM⟩ := top1_real P Q W C h q c mask r hl hq hc hm k0 hk0
  refine (ratio_apply _ o ho ho' r d).trans ?_
  rw [← row_shares P Q W C 256 255 (0 + r.val) g M _ (by decide)]
  refine congrArg₂ Ideal.div ((product1_apply _ _ r d).trans (Finset.sum_congr rfl fun j _ => congrArg₂ (fun a b : EReal => a * b) (weights1_real P Q W C h q c mask r hl hq hc hm k0 hk0 M hM j) ?_))
    ((product1_apply _ _ r _).trans (Finset.sum_congr rfl fun j _ => congrArg₂ (fun a b : EReal => a * b) (weights1_real P Q W C h q c mask r hl hq hc hm k0 hk0 M hM j) ?_))
  · exact values_in P h v hl (j.castLE (by decide)) d hd
  · exact values_out P h v hl (j.castLE (by decide)) _ hP
end

section
variable (h : IVec S1x128 1) (q : FVec Ideal S1x256x128 .bf16) (c : FVec Ideal S1x1x512 .f32) (mask : FVec Ideal S256x256 .f32) (r : Fin 256)
  (hl : ∀ d, h (ix2 (0 : Fin 1) d) = if P d then 1#1 else 0#1) (hq : ∀ d, q (ix3 (0 : Fin 1) r d) = (Q d : EReal))
  (hc : ∀ j : Fin 512, c (ix3 (0 : Fin 1) (0 : Fin 1) j) = (C j.val : EReal)) (hm : ∀ j : Fin 256, mask (ix2 r j) = if j.val ≤ r.val then 1 else 0)

include hc in
theorem gates2_real (j : Fin 512) : gates2 c (ix2 (0 : Fin 1) j) = ((C 511 * (Real.log 2)⁻¹ - C j.val * (Real.log 2)⁻¹ : ℝ) : EReal) := by
  rw [gates2_apply, hc, hc, EReal.coe_sub, EReal.coe_mul, EReal.coe_mul]

include hl hq hc in
theorem tile2_0_real (k : FVec Ideal S1x128x256 .bf16) (hk : ∀ (d : Fin 128) (j : Fin 256), k (ix3 (0 : Fin 1) d j) = (W (0 + j.val) d : EReal)) (j : Fin 256) :
    tile2_0 h q k c (ix2 r j) = cell P Q W C 511 (256 + r.val) (0 + j.val) := by
  refine (score_real P Q W C h q k _ r j (0 + j.val) 511 hl hq (fun d => hk d j) ((slice_apply 512 0 (gates2 c) slices_S1x512_o0_0_S1x256 j (by omega)).trans (gates2_real C c hc _)) : _ = _).trans ?_
  unfold cell
  rw [if_pos (by omega)]

include hl hq hc hm in
theorem tile2_1_real (k : FVec Ideal S1x128x256 .bf16) (hk : ∀ (d : Fin 128) (j : Fin 256), k (ix3 (0 : Fin 1) d j) = (W (256 + j.val) d : EReal)) (j : Fin 256) :
    tile2_1 h q k c mask (ix2 r j) = cell P Q W C 511 (256 + r.val) (256 + j.val) := by
  refine (causal_real _ mask r j _ (hm j) (score_real P Q W C h q k _ r j (256 + j.val) 511 hl hq (fun d => hk d j) ((slice_apply 512 256 (gates2 c) slices_S1x512_o0_256_S1x256 j (by omega)).trans (gates2_real C c hc _)))).trans ?_
  unfold cell
  exact if_congr (by omega) rfl rfl

include hl hq hc hm in
theorem top2_real (k0 k1 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) : ∃ M : ℝ, top2 h q k0 k1 c mask (ix2 r (0 : Fin 1)) = (M : EReal) :=
  rowMax_real _ r (max_ne_top' _ _ r (halves_ne_top _ r fun j => (((tile2_0_real P Q W C h q c r hl hq hc k0 hk0) j).trans_ne (cell_ne_top P Q W C _ _ _))) (halves_ne_top _ r fun j => (((tile2_1_real P Q W C h q c mask r hl hq hc hm k1 hk1) j).trans_ne (cell_ne_top P Q W C _ _ _)))) (max_ne_bot' _ _ r (halves_ne_bot _ r (((tile2_0_real P Q W C h q c r hl hq hc k0 hk0) 0).trans_ne (cell_ne_bot P Q W C _ _ _ (by simp)))))

include hl hq hc hm in
theorem weights2_real (k0 k1 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (M : ℝ) (hM : top2 h q k0 k1 c mask (ix2 r (0 : Fin 1)) = (M : EReal)) (j : Fin 512) :
    (catP 512 [weights (top2 h q k0 k1 c mask) (tile2_0 h q k0 c), weights (top2 h q k0 k1 c mask) (tile2_1 h q k1 c mask)] : (⟨3, ![1, 256, 512]⟩ : Shape).Idx → EReal) (ix3 (0 : Fin 1) r j) = Ideal.exp2 (cell P Q W C 511 (256 + r.val) j.val - (M : EReal)) :=
  catP_apply 512 2 rfl [weights (top2 h q k0 k1 c mask) (tile2_0 h q k0 c), weights (top2 h q k0 k1 c mask) (tile2_1 h q k1 c mask)] r (fun j => Ideal.exp2 (cell P Q W C 511 (256 + r.val) j - (M : EReal))) (fun a ha i => match a, ha with
    | 0, _ => ((weights_apply _ _ r i).trans (congrArg₂ (fun a b : EReal => Ideal.exp2 (a - b)) ((tile2_0_real P Q W C h q c r hl hq hc k0 hk0) i) hM))
    | 1, _ => ((weights_apply _ _ r i).trans (congrArg₂ (fun a b : EReal => Ideal.exp2 (a - b)) ((tile2_1_real P Q W C h q c mask r hl hq hc hm k1 hk1) i) hM))
    | a + 2, ha => absurd ha (by omega)) j

include hl hq hc hm in
theorem head2_apply (o : ℕ) (ho : S256x128.Slices ![0, o] S256x1) (ho' : o < 128) (hP : ¬P ⟨o, ho'⟩) (k0 k1 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (v : FVec Ideal S1x2048x128 .bf16) (d : Fin 128) (hd : P d) (g : ℝ) :
    head2 o ho h q k0 k1 c mask v (ix2 r d) =
      ∑ j : Fin 512, (share (fun j : Fin 512 => j.val ≤ 256 + r.val) (fun j : Fin 512 => nat P Q W C g j.val) j : EReal) * v (ix3 (0 : Fin 1) (j.castLE (by decide) : Fin 2048) d) := by
  obtain ⟨M, hM⟩ := top2_real P Q W C h q c mask r hl hq hc hm k0 k1 hk0 hk1
  refine (ratio_apply _ o ho ho' r d).trans ?_
  rw [← row_shares P Q W C 512 511 (256 + r.val) g M _ (by decide)]
  refine congrArg₂ Ideal.div ((product2_apply _ _ r d).trans (Finset.sum_congr rfl fun j _ => congrArg₂ (fun a b : EReal => a * b) (weights2_real P Q W C h q c mask r hl hq hc hm k0 k1 hk0 hk1 M hM j) ?_))
    ((product2_apply _ _ r _).trans (Finset.sum_congr rfl fun j _ => congrArg₂ (fun a b : EReal => a * b) (weights2_real P Q W C h q c mask r hl hq hc hm k0 k1 hk0 hk1 M hM j) ?_))
  · exact values_in P h v hl (j.castLE (by decide)) d hd
  · exact values_out P h v hl (j.castLE (by decide)) _ hP
end

section
variable (h : IVec S1x128 1) (q : FVec Ideal S1x256x128 .bf16) (c : FVec Ideal S1x1x768 .f32) (mask : FVec Ideal S256x256 .f32) (r : Fin 256)
  (hl : ∀ d, h (ix2 (0 : Fin 1) d) = if P d then 1#1 else 0#1) (hq : ∀ d, q (ix3 (0 : Fin 1) r d) = (Q d : EReal))
  (hc : ∀ j : Fin 768, c (ix3 (0 : Fin 1) (0 : Fin 1) j) = (C j.val : EReal)) (hm : ∀ j : Fin 256, mask (ix2 r j) = if j.val ≤ r.val then 1 else 0)

include hc in
theorem gates3_real (j : Fin 768) : gates3 c (ix2 (0 : Fin 1) j) = ((C 767 * (Real.log 2)⁻¹ - C j.val * (Real.log 2)⁻¹ : ℝ) : EReal) := by
  rw [gates3_apply, hc, hc, EReal.coe_sub, EReal.coe_mul, EReal.coe_mul]

include hl hq hc in
theorem tile3_0_real (k : FVec Ideal S1x128x256 .bf16) (hk : ∀ (d : Fin 128) (j : Fin 256), k (ix3 (0 : Fin 1) d j) = (W (0 + j.val) d : EReal)) (j : Fin 256) :
    tile3_0 h q k c (ix2 r j) = cell P Q W C 767 (512 + r.val) (0 + j.val) := by
  refine (score_real P Q W C h q k _ r j (0 + j.val) 767 hl hq (fun d => hk d j) ((slice_apply 768 0 (gates3 c) slices_S1x768_o0_0_S1x256 j (by omega)).trans (gates3_real C c hc _)) : _ = _).trans ?_
  unfold cell
  rw [if_pos (by omega)]

include hl hq hc in
theorem tile3_1_real (k : FVec Ideal S1x128x256 .bf16) (hk : ∀ (d : Fin 128) (j : Fin 256), k (ix3 (0 : Fin 1) d j) = (W (256 + j.val) d : EReal)) (j : Fin 256) :
    tile3_1 h q k c (ix2 r j) = cell P Q W C 767 (512 + r.val) (256 + j.val) := by
  refine (score_real P Q W C h q k _ r j (256 + j.val) 767 hl hq (fun d => hk d j) ((slice_apply 768 256 (gates3 c) slices_S1x768_o0_256_S1x256 j (by omega)).trans (gates3_real C c hc _)) : _ = _).trans ?_
  unfold cell
  rw [if_pos (by omega)]

include hl hq hc hm in
theorem tile3_2_real (k : FVec Ideal S1x128x256 .bf16) (hk : ∀ (d : Fin 128) (j : Fin 256), k (ix3 (0 : Fin 1) d j) = (W (512 + j.val) d : EReal)) (j : Fin 256) :
    tile3_2 h q k c mask (ix2 r j) = cell P Q W C 767 (512 + r.val) (512 + j.val) := by
  refine (causal_real _ mask r j _ (hm j) (score_real P Q W C h q k _ r j (512 + j.val) 767 hl hq (fun d => hk d j) ((slice_apply 768 512 (gates3 c) slices_S1x768_o0_512_S1x256 j (by omega)).trans (gates3_real C c hc _)))).trans ?_
  unfold cell
  exact if_congr (by omega) rfl rfl

include hl hq hc hm in
theorem top3_real (k0 k1 k2 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (hk2 : ∀ (d : Fin 128) (j : Fin 256), k2 (ix3 (0 : Fin 1) d j) = (W (512 + j.val) d : EReal)) : ∃ M : ℝ, top3 h q k0 k1 k2 c mask (ix2 r (0 : Fin 1)) = (M : EReal) :=
  rowMax_real _ r (max_ne_top' _ _ r (max_ne_top' _ _ r (halves_ne_top _ r fun j => (((tile3_0_real P Q W C h q c r hl hq hc k0 hk0) j).trans_ne (cell_ne_top P Q W C _ _ _))) (halves_ne_top _ r fun j => (((tile3_1_real P Q W C h q c r hl hq hc k1 hk1) j).trans_ne (cell_ne_top P Q W C _ _ _)))) (halves_ne_top _ r fun j => (((tile3_2_real P Q W C h q c mask r hl hq hc hm k2 hk2) j).trans_ne (cell_ne_top P Q W C _ _ _)))) (max_ne_bot' _ _ r (max_ne_bot' _ _ r (halves_ne_bot _ r (((tile3_0_real P Q W C h q c r hl hq hc k0 hk0) 0).trans_ne (cell_ne_bot P Q W C _ _ _ (by simp))))))

include hl hq hc hm in
theorem weights3_real (k0 k1 k2 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (hk2 : ∀ (d : Fin 128) (j : Fin 256), k2 (ix3 (0 : Fin 1) d j) = (W (512 + j.val) d : EReal)) (M : ℝ) (hM : top3 h q k0 k1 k2 c mask (ix2 r (0 : Fin 1)) = (M : EReal)) (j : Fin 768) :
    (catP 768 [weights (top3 h q k0 k1 k2 c mask) (tile3_0 h q k0 c), weights (top3 h q k0 k1 k2 c mask) (tile3_1 h q k1 c), weights (top3 h q k0 k1 k2 c mask) (tile3_2 h q k2 c mask)] : (⟨3, ![1, 256, 768]⟩ : Shape).Idx → EReal) (ix3 (0 : Fin 1) r j) = Ideal.exp2 (cell P Q W C 767 (512 + r.val) j.val - (M : EReal)) :=
  catP_apply 768 3 rfl [weights (top3 h q k0 k1 k2 c mask) (tile3_0 h q k0 c), weights (top3 h q k0 k1 k2 c mask) (tile3_1 h q k1 c), weights (top3 h q k0 k1 k2 c mask) (tile3_2 h q k2 c mask)] r (fun j => Ideal.exp2 (cell P Q W C 767 (512 + r.val) j - (M : EReal))) (fun a ha i => match a, ha with
    | 0, _ => ((weights_apply _ _ r i).trans (congrArg₂ (fun a b : EReal => Ideal.exp2 (a - b)) ((tile3_0_real P Q W C h q c r hl hq hc k0 hk0) i) hM))
    | 1, _ => ((weights_apply _ _ r i).trans (congrArg₂ (fun a b : EReal => Ideal.exp2 (a - b)) ((tile3_1_real P Q W C h q c r hl hq hc k1 hk1) i) hM))
    | 2, _ => ((weights_apply _ _ r i).trans (congrArg₂ (fun a b : EReal => Ideal.exp2 (a - b)) ((tile3_2_real P Q W C h q c mask r hl hq hc hm k2 hk2) i) hM))
    | a + 3, ha => absurd ha (by omega)) j

include hl hq hc hm in
theorem head3_apply (o : ℕ) (ho : S256x128.Slices ![0, o] S256x1) (ho' : o < 128) (hP : ¬P ⟨o, ho'⟩) (k0 k1 k2 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (hk2 : ∀ (d : Fin 128) (j : Fin 256), k2 (ix3 (0 : Fin 1) d j) = (W (512 + j.val) d : EReal)) (v : FVec Ideal S1x2048x128 .bf16) (d : Fin 128) (hd : P d) (g : ℝ) :
    head3 o ho h q k0 k1 k2 c mask v (ix2 r d) =
      ∑ j : Fin 768, (share (fun j : Fin 768 => j.val ≤ 512 + r.val) (fun j : Fin 768 => nat P Q W C g j.val) j : EReal) * v (ix3 (0 : Fin 1) (j.castLE (by decide) : Fin 2048) d) := by
  obtain ⟨M, hM⟩ := top3_real P Q W C h q c mask r hl hq hc hm k0 k1 k2 hk0 hk1 hk2
  refine (ratio_apply _ o ho ho' r d).trans ?_
  rw [← row_shares P Q W C 768 767 (512 + r.val) g M _ (by decide)]
  refine congrArg₂ Ideal.div ((product3_apply _ _ r d).trans (Finset.sum_congr rfl fun j _ => congrArg₂ (fun a b : EReal => a * b) (weights3_real P Q W C h q c mask r hl hq hc hm k0 k1 k2 hk0 hk1 hk2 M hM j) ?_))
    ((product3_apply _ _ r _).trans (Finset.sum_congr rfl fun j _ => congrArg₂ (fun a b : EReal => a * b) (weights3_real P Q W C h q c mask r hl hq hc hm k0 k1 k2 hk0 hk1 hk2 M hM j) ?_))
  · exact values_in P h v hl (j.castLE (by decide)) d hd
  · exact values_out P h v hl (j.castLE (by decide)) _ hP
end

section
variable (h : IVec S1x128 1) (q : FVec Ideal S1x256x128 .bf16) (c : FVec Ideal S1x1x1024 .f32) (mask : FVec Ideal S256x256 .f32) (r : Fin 256)
  (hl : ∀ d, h (ix2 (0 : Fin 1) d) = if P d then 1#1 else 0#1) (hq : ∀ d, q (ix3 (0 : Fin 1) r d) = (Q d : EReal))
  (hc : ∀ j : Fin 1024, c (ix3 (0 : Fin 1) (0 : Fin 1) j) = (C j.val : EReal)) (hm : ∀ j : Fin 256, mask (ix2 r j) = if j.val ≤ r.val then 1 else 0)

include hc in
theorem gates4_real (j : Fin 1024) : gates4 c (ix2 (0 : Fin 1) j) = ((C 1023 * (Real.log 2)⁻¹ - C j.val * (Real.log 2)⁻¹ : ℝ) : EReal) := by
  rw [gates4_apply, hc, hc, EReal.coe_sub, EReal.coe_mul, EReal.coe_mul]

include hl hq hc in
theorem tile4_0_real (k : FVec Ideal S1x128x256 .bf16) (hk : ∀ (d : Fin 128) (j : Fin 256), k (ix3 (0 : Fin 1) d j) = (W (0 + j.val) d : EReal)) (j : Fin 256) :
    tile4_0 h q k c (ix2 r j) = cell P Q W C 1023 (768 + r.val) (0 + j.val) := by
  refine (score_real P Q W C h q k _ r j (0 + j.val) 1023 hl hq (fun d => hk d j) ((slice_apply 1024 0 (gates4 c) slices_S1x1024_o0_0_S1x256 j (by omega)).trans (gates4_real C c hc _)) : _ = _).trans ?_
  unfold cell
  rw [if_pos (by omega)]

include hl hq hc in
theorem tile4_1_real (k : FVec Ideal S1x128x256 .bf16) (hk : ∀ (d : Fin 128) (j : Fin 256), k (ix3 (0 : Fin 1) d j) = (W (256 + j.val) d : EReal)) (j : Fin 256) :
    tile4_1 h q k c (ix2 r j) = cell P Q W C 1023 (768 + r.val) (256 + j.val) := by
  refine (score_real P Q W C h q k _ r j (256 + j.val) 1023 hl hq (fun d => hk d j) ((slice_apply 1024 256 (gates4 c) slices_S1x1024_o0_256_S1x256 j (by omega)).trans (gates4_real C c hc _)) : _ = _).trans ?_
  unfold cell
  rw [if_pos (by omega)]

include hl hq hc in
theorem tile4_2_real (k : FVec Ideal S1x128x256 .bf16) (hk : ∀ (d : Fin 128) (j : Fin 256), k (ix3 (0 : Fin 1) d j) = (W (512 + j.val) d : EReal)) (j : Fin 256) :
    tile4_2 h q k c (ix2 r j) = cell P Q W C 1023 (768 + r.val) (512 + j.val) := by
  refine (score_real P Q W C h q k _ r j (512 + j.val) 1023 hl hq (fun d => hk d j) ((slice_apply 1024 512 (gates4 c) slices_S1x1024_o0_512_S1x256 j (by omega)).trans (gates4_real C c hc _)) : _ = _).trans ?_
  unfold cell
  rw [if_pos (by omega)]

include hl hq hc hm in
theorem tile4_3_real (k : FVec Ideal S1x128x256 .bf16) (hk : ∀ (d : Fin 128) (j : Fin 256), k (ix3 (0 : Fin 1) d j) = (W (768 + j.val) d : EReal)) (j : Fin 256) :
    tile4_3 h q k c mask (ix2 r j) = cell P Q W C 1023 (768 + r.val) (768 + j.val) := by
  refine (causal_real _ mask r j _ (hm j) (score_real P Q W C h q k _ r j (768 + j.val) 1023 hl hq (fun d => hk d j) ((slice_apply 1024 768 (gates4 c) slices_S1x1024_o0_768_S1x256 j (by omega)).trans (gates4_real C c hc _)))).trans ?_
  unfold cell
  exact if_congr (by omega) rfl rfl

include hl hq hc hm in
theorem top4_real (k0 k1 k2 k3 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (hk2 : ∀ (d : Fin 128) (j : Fin 256), k2 (ix3 (0 : Fin 1) d j) = (W (512 + j.val) d : EReal)) (hk3 : ∀ (d : Fin 128) (j : Fin 256), k3 (ix3 (0 : Fin 1) d j) = (W (768 + j.val) d : EReal)) : ∃ M : ℝ, top4 h q k0 k1 k2 k3 c mask (ix2 r (0 : Fin 1)) = (M : EReal) :=
  rowMax_real _ r (max_ne_top' _ _ r (max_ne_top' _ _ r (max_ne_top' _ _ r (halves_ne_top _ r fun j => (((tile4_0_real P Q W C h q c r hl hq hc k0 hk0) j).trans_ne (cell_ne_top P Q W C _ _ _))) (halves_ne_top _ r fun j => (((tile4_1_real P Q W C h q c r hl hq hc k1 hk1) j).trans_ne (cell_ne_top P Q W C _ _ _)))) (halves_ne_top _ r fun j => (((tile4_2_real P Q W C h q c r hl hq hc k2 hk2) j).trans_ne (cell_ne_top P Q W C _ _ _)))) (halves_ne_top _ r fun j => (((tile4_3_real P Q W C h q c mask r hl hq hc hm k3 hk3) j).trans_ne (cell_ne_top P Q W C _ _ _)))) (max_ne_bot' _ _ r (max_ne_bot' _ _ r (max_ne_bot' _ _ r (halves_ne_bot _ r (((tile4_0_real P Q W C h q c r hl hq hc k0 hk0) 0).trans_ne (cell_ne_bot P Q W C _ _ _ (by simp)))))))

include hl hq hc hm in
theorem weights4_real (k0 k1 k2 k3 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (hk2 : ∀ (d : Fin 128) (j : Fin 256), k2 (ix3 (0 : Fin 1) d j) = (W (512 + j.val) d : EReal)) (hk3 : ∀ (d : Fin 128) (j : Fin 256), k3 (ix3 (0 : Fin 1) d j) = (W (768 + j.val) d : EReal)) (M : ℝ) (hM : top4 h q k0 k1 k2 k3 c mask (ix2 r (0 : Fin 1)) = (M : EReal)) (j : Fin 1024) :
    (catP 1024 [weights (top4 h q k0 k1 k2 k3 c mask) (tile4_0 h q k0 c), weights (top4 h q k0 k1 k2 k3 c mask) (tile4_1 h q k1 c), weights (top4 h q k0 k1 k2 k3 c mask) (tile4_2 h q k2 c), weights (top4 h q k0 k1 k2 k3 c mask) (tile4_3 h q k3 c mask)] : (⟨3, ![1, 256, 1024]⟩ : Shape).Idx → EReal) (ix3 (0 : Fin 1) r j) = Ideal.exp2 (cell P Q W C 1023 (768 + r.val) j.val - (M : EReal)) :=
  catP_apply 1024 4 rfl [weights (top4 h q k0 k1 k2 k3 c mask) (tile4_0 h q k0 c), weights (top4 h q k0 k1 k2 k3 c mask) (tile4_1 h q k1 c), weights (top4 h q k0 k1 k2 k3 c mask) (tile4_2 h q k2 c), weights (top4 h q k0 k1 k2 k3 c mask) (tile4_3 h q k3 c mask)] r (fun j => Ideal.exp2 (cell P Q W C 1023 (768 + r.val) j - (M : EReal))) (fun a ha i => match a, ha with
    | 0, _ => ((weights_apply _ _ r i).trans (congrArg₂ (fun a b : EReal => Ideal.exp2 (a - b)) ((tile4_0_real P Q W C h q c r hl hq hc k0 hk0) i) hM))
    | 1, _ => ((weights_apply _ _ r i).trans (congrArg₂ (fun a b : EReal => Ideal.exp2 (a - b)) ((tile4_1_real P Q W C h q c r hl hq hc k1 hk1) i) hM))
    | 2, _ => ((weights_apply _ _ r i).trans (congrArg₂ (fun a b : EReal => Ideal.exp2 (a - b)) ((tile4_2_real P Q W C h q c r hl hq hc k2 hk2) i) hM))
    | 3, _ => ((weights_apply _ _ r i).trans (congrArg₂ (fun a b : EReal => Ideal.exp2 (a - b)) ((tile4_3_real P Q W C h q c mask r hl hq hc hm k3 hk3) i) hM))
    | a + 4, ha => absurd ha (by omega)) j

include hl hq hc hm in
theorem head4_apply (o : ℕ) (ho : S256x128.Slices ![0, o] S256x1) (ho' : o < 128) (hP : ¬P ⟨o, ho'⟩) (k0 k1 k2 k3 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (hk2 : ∀ (d : Fin 128) (j : Fin 256), k2 (ix3 (0 : Fin 1) d j) = (W (512 + j.val) d : EReal)) (hk3 : ∀ (d : Fin 128) (j : Fin 256), k3 (ix3 (0 : Fin 1) d j) = (W (768 + j.val) d : EReal)) (v : FVec Ideal S1x2048x128 .bf16) (d : Fin 128) (hd : P d) (g : ℝ) :
    head4 o ho h q k0 k1 k2 k3 c mask v (ix2 r d) =
      ∑ j : Fin 1024, (share (fun j : Fin 1024 => j.val ≤ 768 + r.val) (fun j : Fin 1024 => nat P Q W C g j.val) j : EReal) * v (ix3 (0 : Fin 1) (j.castLE (by decide) : Fin 2048) d) := by
  obtain ⟨M, hM⟩ := top4_real P Q W C h q c mask r hl hq hc hm k0 k1 k2 k3 hk0 hk1 hk2 hk3
  refine (ratio_apply _ o ho ho' r d).trans ?_
  rw [← row_shares P Q W C 1024 1023 (768 + r.val) g M _ (by decide)]
  refine congrArg₂ Ideal.div ((product4_apply _ _ r d).trans (Finset.sum_congr rfl fun j _ => congrArg₂ (fun a b : EReal => a * b) (weights4_real P Q W C h q c mask r hl hq hc hm k0 k1 k2 k3 hk0 hk1 hk2 hk3 M hM j) ?_))
    ((product4_apply _ _ r _).trans (Finset.sum_congr rfl fun j _ => congrArg₂ (fun a b : EReal => a * b) (weights4_real P Q W C h q c mask r hl hq hc hm k0 k1 k2 k3 hk0 hk1 hk2 hk3 M hM j) ?_))
  · exact values_in P h v hl (j.castLE (by decide)) d hd
  · exact values_out P h v hl (j.castLE (by decide)) _ hP
end

section
variable (h : IVec S1x128 1) (q : FVec Ideal S1x256x128 .bf16) (c : FVec Ideal S1x1x1280 .f32) (mask : FVec Ideal S256x256 .f32) (r : Fin 256)
  (hl : ∀ d, h (ix2 (0 : Fin 1) d) = if P d then 1#1 else 0#1) (hq : ∀ d, q (ix3 (0 : Fin 1) r d) = (Q d : EReal))
  (hc : ∀ j : Fin 1280, c (ix3 (0 : Fin 1) (0 : Fin 1) j) = (C j.val : EReal)) (hm : ∀ j : Fin 256, mask (ix2 r j) = if j.val ≤ r.val then 1 else 0)

include hc in
theorem gates5_real (j : Fin 1280) : gates5 c (ix2 (0 : Fin 1) j) = ((C 1279 * (Real.log 2)⁻¹ - C j.val * (Real.log 2)⁻¹ : ℝ) : EReal) := by
  rw [gates5_apply, hc, hc, EReal.coe_sub, EReal.coe_mul, EReal.coe_mul]

include hl hq hc in
theorem tile5_0_real (k : FVec Ideal S1x128x256 .bf16) (hk : ∀ (d : Fin 128) (j : Fin 256), k (ix3 (0 : Fin 1) d j) = (W (0 + j.val) d : EReal)) (j : Fin 256) :
    tile5_0 h q k c (ix2 r j) = cell P Q W C 1279 (1024 + r.val) (0 + j.val) := by
  refine (score_real P Q W C h q k _ r j (0 + j.val) 1279 hl hq (fun d => hk d j) ((slice_apply 1280 0 (gates5 c) slices_S1x1280_o0_0_S1x256 j (by omega)).trans (gates5_real C c hc _)) : _ = _).trans ?_
  unfold cell
  rw [if_pos (by omega)]

include hl hq hc in
theorem tile5_1_real (k : FVec Ideal S1x128x256 .bf16) (hk : ∀ (d : Fin 128) (j : Fin 256), k (ix3 (0 : Fin 1) d j) = (W (256 + j.val) d : EReal)) (j : Fin 256) :
    tile5_1 h q k c (ix2 r j) = cell P Q W C 1279 (1024 + r.val) (256 + j.val) := by
  refine (score_real P Q W C h q k _ r j (256 + j.val) 1279 hl hq (fun d => hk d j) ((slice_apply 1280 256 (gates5 c) slices_S1x1280_o0_256_S1x256 j (by omega)).trans (gates5_real C c hc _)) : _ = _).trans ?_
  unfold cell
  rw [if_pos (by omega)]

include hl hq hc in
theorem tile5_2_real (k : FVec Ideal S1x128x256 .bf16) (hk : ∀ (d : Fin 128) (j : Fin 256), k (ix3 (0 : Fin 1) d j) = (W (512 + j.val) d : EReal)) (j : Fin 256) :
    tile5_2 h q k c (ix2 r j) = cell P Q W C 1279 (1024 + r.val) (512 + j.val) := by
  refine (score_real P Q W C h q k _ r j (512 + j.val) 1279 hl hq (fun d => hk d j) ((slice_apply 1280 512 (gates5 c) slices_S1x1280_o0_512_S1x256 j (by omega)).trans (gates5_real C c hc _)) : _ = _).trans ?_
  unfold cell
  rw [if_pos (by omega)]

include hl hq hc in
theorem tile5_3_real (k : FVec Ideal S1x128x256 .bf16) (hk : ∀ (d : Fin 128) (j : Fin 256), k (ix3 (0 : Fin 1) d j) = (W (768 + j.val) d : EReal)) (j : Fin 256) :
    tile5_3 h q k c (ix2 r j) = cell P Q W C 1279 (1024 + r.val) (768 + j.val) := by
  refine (score_real P Q W C h q k _ r j (768 + j.val) 1279 hl hq (fun d => hk d j) ((slice_apply 1280 768 (gates5 c) slices_S1x1280_o0_768_S1x256 j (by omega)).trans (gates5_real C c hc _)) : _ = _).trans ?_
  unfold cell
  rw [if_pos (by omega)]

include hl hq hc hm in
theorem tile5_4_real (k : FVec Ideal S1x128x256 .bf16) (hk : ∀ (d : Fin 128) (j : Fin 256), k (ix3 (0 : Fin 1) d j) = (W (1024 + j.val) d : EReal)) (j : Fin 256) :
    tile5_4 h q k c mask (ix2 r j) = cell P Q W C 1279 (1024 + r.val) (1024 + j.val) := by
  refine (causal_real _ mask r j _ (hm j) (score_real P Q W C h q k _ r j (1024 + j.val) 1279 hl hq (fun d => hk d j) ((slice_apply 1280 1024 (gates5 c) slices_S1x1280_o0_1024_S1x256 j (by omega)).trans (gates5_real C c hc _)))).trans ?_
  unfold cell
  exact if_congr (by omega) rfl rfl

include hl hq hc hm in
theorem top5_real (k0 k1 k2 k3 k4 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (hk2 : ∀ (d : Fin 128) (j : Fin 256), k2 (ix3 (0 : Fin 1) d j) = (W (512 + j.val) d : EReal)) (hk3 : ∀ (d : Fin 128) (j : Fin 256), k3 (ix3 (0 : Fin 1) d j) = (W (768 + j.val) d : EReal)) (hk4 : ∀ (d : Fin 128) (j : Fin 256), k4 (ix3 (0 : Fin 1) d j) = (W (1024 + j.val) d : EReal)) : ∃ M : ℝ, top5 h q k0 k1 k2 k3 k4 c mask (ix2 r (0 : Fin 1)) = (M : EReal) :=
  rowMax_real _ r (max_ne_top' _ _ r (max_ne_top' _ _ r (max_ne_top' _ _ r (max_ne_top' _ _ r (halves_ne_top _ r fun j => (((tile5_0_real P Q W C h q c r hl hq hc k0 hk0) j).trans_ne (cell_ne_top P Q W C _ _ _))) (halves_ne_top _ r fun j => (((tile5_1_real P Q W C h q c r hl hq hc k1 hk1) j).trans_ne (cell_ne_top P Q W C _ _ _)))) (halves_ne_top _ r fun j => (((tile5_2_real P Q W C h q c r hl hq hc k2 hk2) j).trans_ne (cell_ne_top P Q W C _ _ _)))) (halves_ne_top _ r fun j => (((tile5_3_real P Q W C h q c r hl hq hc k3 hk3) j).trans_ne (cell_ne_top P Q W C _ _ _)))) (halves_ne_top _ r fun j => (((tile5_4_real P Q W C h q c mask r hl hq hc hm k4 hk4) j).trans_ne (cell_ne_top P Q W C _ _ _)))) (max_ne_bot' _ _ r (max_ne_bot' _ _ r (max_ne_bot' _ _ r (max_ne_bot' _ _ r (halves_ne_bot _ r (((tile5_0_real P Q W C h q c r hl hq hc k0 hk0) 0).trans_ne (cell_ne_bot P Q W C _ _ _ (by simp))))))))

include hl hq hc hm in
theorem weights5_real (k0 k1 k2 k3 k4 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (hk2 : ∀ (d : Fin 128) (j : Fin 256), k2 (ix3 (0 : Fin 1) d j) = (W (512 + j.val) d : EReal)) (hk3 : ∀ (d : Fin 128) (j : Fin 256), k3 (ix3 (0 : Fin 1) d j) = (W (768 + j.val) d : EReal)) (hk4 : ∀ (d : Fin 128) (j : Fin 256), k4 (ix3 (0 : Fin 1) d j) = (W (1024 + j.val) d : EReal)) (M : ℝ) (hM : top5 h q k0 k1 k2 k3 k4 c mask (ix2 r (0 : Fin 1)) = (M : EReal)) (j : Fin 1280) :
    (catP 1280 [weights (top5 h q k0 k1 k2 k3 k4 c mask) (tile5_0 h q k0 c), weights (top5 h q k0 k1 k2 k3 k4 c mask) (tile5_1 h q k1 c), weights (top5 h q k0 k1 k2 k3 k4 c mask) (tile5_2 h q k2 c), weights (top5 h q k0 k1 k2 k3 k4 c mask) (tile5_3 h q k3 c), weights (top5 h q k0 k1 k2 k3 k4 c mask) (tile5_4 h q k4 c mask)] : (⟨3, ![1, 256, 1280]⟩ : Shape).Idx → EReal) (ix3 (0 : Fin 1) r j) = Ideal.exp2 (cell P Q W C 1279 (1024 + r.val) j.val - (M : EReal)) :=
  catP_apply 1280 5 rfl [weights (top5 h q k0 k1 k2 k3 k4 c mask) (tile5_0 h q k0 c), weights (top5 h q k0 k1 k2 k3 k4 c mask) (tile5_1 h q k1 c), weights (top5 h q k0 k1 k2 k3 k4 c mask) (tile5_2 h q k2 c), weights (top5 h q k0 k1 k2 k3 k4 c mask) (tile5_3 h q k3 c), weights (top5 h q k0 k1 k2 k3 k4 c mask) (tile5_4 h q k4 c mask)] r (fun j => Ideal.exp2 (cell P Q W C 1279 (1024 + r.val) j - (M : EReal))) (fun a ha i => match a, ha with
    | 0, _ => ((weights_apply _ _ r i).trans (congrArg₂ (fun a b : EReal => Ideal.exp2 (a - b)) ((tile5_0_real P Q W C h q c r hl hq hc k0 hk0) i) hM))
    | 1, _ => ((weights_apply _ _ r i).trans (congrArg₂ (fun a b : EReal => Ideal.exp2 (a - b)) ((tile5_1_real P Q W C h q c r hl hq hc k1 hk1) i) hM))
    | 2, _ => ((weights_apply _ _ r i).trans (congrArg₂ (fun a b : EReal => Ideal.exp2 (a - b)) ((tile5_2_real P Q W C h q c r hl hq hc k2 hk2) i) hM))
    | 3, _ => ((weights_apply _ _ r i).trans (congrArg₂ (fun a b : EReal => Ideal.exp2 (a - b)) ((tile5_3_real P Q W C h q c r hl hq hc k3 hk3) i) hM))
    | 4, _ => ((weights_apply _ _ r i).trans (congrArg₂ (fun a b : EReal => Ideal.exp2 (a - b)) ((tile5_4_real P Q W C h q c mask r hl hq hc hm k4 hk4) i) hM))
    | a + 5, ha => absurd ha (by omega)) j

include hl hq hc hm in
theorem head5_apply (o : ℕ) (ho : S256x128.Slices ![0, o] S256x1) (ho' : o < 128) (hP : ¬P ⟨o, ho'⟩) (k0 k1 k2 k3 k4 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (hk2 : ∀ (d : Fin 128) (j : Fin 256), k2 (ix3 (0 : Fin 1) d j) = (W (512 + j.val) d : EReal)) (hk3 : ∀ (d : Fin 128) (j : Fin 256), k3 (ix3 (0 : Fin 1) d j) = (W (768 + j.val) d : EReal)) (hk4 : ∀ (d : Fin 128) (j : Fin 256), k4 (ix3 (0 : Fin 1) d j) = (W (1024 + j.val) d : EReal)) (v : FVec Ideal S1x2048x128 .bf16) (d : Fin 128) (hd : P d) (g : ℝ) :
    head5 o ho h q k0 k1 k2 k3 k4 c mask v (ix2 r d) =
      ∑ j : Fin 1280, (share (fun j : Fin 1280 => j.val ≤ 1024 + r.val) (fun j : Fin 1280 => nat P Q W C g j.val) j : EReal) * v (ix3 (0 : Fin 1) (j.castLE (by decide) : Fin 2048) d) := by
  obtain ⟨M, hM⟩ := top5_real P Q W C h q c mask r hl hq hc hm k0 k1 k2 k3 k4 hk0 hk1 hk2 hk3 hk4
  refine (ratio_apply _ o ho ho' r d).trans ?_
  rw [← row_shares P Q W C 1280 1279 (1024 + r.val) g M _ (by decide)]
  refine congrArg₂ Ideal.div ((product5_apply _ _ r d).trans (Finset.sum_congr rfl fun j _ => congrArg₂ (fun a b : EReal => a * b) (weights5_real P Q W C h q c mask r hl hq hc hm k0 k1 k2 k3 k4 hk0 hk1 hk2 hk3 hk4 M hM j) ?_))
    ((product5_apply _ _ r _).trans (Finset.sum_congr rfl fun j _ => congrArg₂ (fun a b : EReal => a * b) (weights5_real P Q W C h q c mask r hl hq hc hm k0 k1 k2 k3 k4 hk0 hk1 hk2 hk3 hk4 M hM j) ?_))
  · exact values_in P h v hl (j.castLE (by decide)) d hd
  · exact values_out P h v hl (j.castLE (by decide)) _ hP
end

section
variable (h : IVec S1x128 1) (q : FVec Ideal S1x256x128 .bf16) (c : FVec Ideal S1x1x1536 .f32) (mask : FVec Ideal S256x256 .f32) (r : Fin 256)
  (hl : ∀ d, h (ix2 (0 : Fin 1) d) = if P d then 1#1 else 0#1) (hq : ∀ d, q (ix3 (0 : Fin 1) r d) = (Q d : EReal))
  (hc : ∀ j : Fin 1536, c (ix3 (0 : Fin 1) (0 : Fin 1) j) = (C j.val : EReal)) (hm : ∀ j : Fin 256, mask (ix2 r j) = if j.val ≤ r.val then 1 else 0)

include hc in
theorem gates6_real (j : Fin 1536) : gates6 c (ix2 (0 : Fin 1) j) = ((C 1535 * (Real.log 2)⁻¹ - C j.val * (Real.log 2)⁻¹ : ℝ) : EReal) := by
  rw [gates6_apply, hc, hc, EReal.coe_sub, EReal.coe_mul, EReal.coe_mul]

include hl hq hc in
theorem tile6_0_real (k : FVec Ideal S1x128x256 .bf16) (hk : ∀ (d : Fin 128) (j : Fin 256), k (ix3 (0 : Fin 1) d j) = (W (0 + j.val) d : EReal)) (j : Fin 256) :
    tile6_0 h q k c (ix2 r j) = cell P Q W C 1535 (1280 + r.val) (0 + j.val) := by
  refine (score_real P Q W C h q k _ r j (0 + j.val) 1535 hl hq (fun d => hk d j) ((slice_apply 1536 0 (gates6 c) slices_S1x1536_o0_0_S1x256 j (by omega)).trans (gates6_real C c hc _)) : _ = _).trans ?_
  unfold cell
  rw [if_pos (by omega)]

include hl hq hc in
theorem tile6_1_real (k : FVec Ideal S1x128x256 .bf16) (hk : ∀ (d : Fin 128) (j : Fin 256), k (ix3 (0 : Fin 1) d j) = (W (256 + j.val) d : EReal)) (j : Fin 256) :
    tile6_1 h q k c (ix2 r j) = cell P Q W C 1535 (1280 + r.val) (256 + j.val) := by
  refine (score_real P Q W C h q k _ r j (256 + j.val) 1535 hl hq (fun d => hk d j) ((slice_apply 1536 256 (gates6 c) slices_S1x1536_o0_256_S1x256 j (by omega)).trans (gates6_real C c hc _)) : _ = _).trans ?_
  unfold cell
  rw [if_pos (by omega)]

include hl hq hc in
theorem tile6_2_real (k : FVec Ideal S1x128x256 .bf16) (hk : ∀ (d : Fin 128) (j : Fin 256), k (ix3 (0 : Fin 1) d j) = (W (512 + j.val) d : EReal)) (j : Fin 256) :
    tile6_2 h q k c (ix2 r j) = cell P Q W C 1535 (1280 + r.val) (512 + j.val) := by
  refine (score_real P Q W C h q k _ r j (512 + j.val) 1535 hl hq (fun d => hk d j) ((slice_apply 1536 512 (gates6 c) slices_S1x1536_o0_512_S1x256 j (by omega)).trans (gates6_real C c hc _)) : _ = _).trans ?_
  unfold cell
  rw [if_pos (by omega)]

include hl hq hc in
theorem tile6_3_real (k : FVec Ideal S1x128x256 .bf16) (hk : ∀ (d : Fin 128) (j : Fin 256), k (ix3 (0 : Fin 1) d j) = (W (768 + j.val) d : EReal)) (j : Fin 256) :
    tile6_3 h q k c (ix2 r j) = cell P Q W C 1535 (1280 + r.val) (768 + j.val) := by
  refine (score_real P Q W C h q k _ r j (768 + j.val) 1535 hl hq (fun d => hk d j) ((slice_apply 1536 768 (gates6 c) slices_S1x1536_o0_768_S1x256 j (by omega)).trans (gates6_real C c hc _)) : _ = _).trans ?_
  unfold cell
  rw [if_pos (by omega)]

include hl hq hc in
theorem tile6_4_real (k : FVec Ideal S1x128x256 .bf16) (hk : ∀ (d : Fin 128) (j : Fin 256), k (ix3 (0 : Fin 1) d j) = (W (1024 + j.val) d : EReal)) (j : Fin 256) :
    tile6_4 h q k c (ix2 r j) = cell P Q W C 1535 (1280 + r.val) (1024 + j.val) := by
  refine (score_real P Q W C h q k _ r j (1024 + j.val) 1535 hl hq (fun d => hk d j) ((slice_apply 1536 1024 (gates6 c) slices_S1x1536_o0_1024_S1x256 j (by omega)).trans (gates6_real C c hc _)) : _ = _).trans ?_
  unfold cell
  rw [if_pos (by omega)]

include hl hq hc hm in
theorem tile6_5_real (k : FVec Ideal S1x128x256 .bf16) (hk : ∀ (d : Fin 128) (j : Fin 256), k (ix3 (0 : Fin 1) d j) = (W (1280 + j.val) d : EReal)) (j : Fin 256) :
    tile6_5 h q k c mask (ix2 r j) = cell P Q W C 1535 (1280 + r.val) (1280 + j.val) := by
  refine (causal_real _ mask r j _ (hm j) (score_real P Q W C h q k _ r j (1280 + j.val) 1535 hl hq (fun d => hk d j) ((slice_apply 1536 1280 (gates6 c) slices_S1x1536_o0_1280_S1x256 j (by omega)).trans (gates6_real C c hc _)))).trans ?_
  unfold cell
  exact if_congr (by omega) rfl rfl

include hl hq hc hm in
theorem top6_real (k0 k1 k2 k3 k4 k5 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (hk2 : ∀ (d : Fin 128) (j : Fin 256), k2 (ix3 (0 : Fin 1) d j) = (W (512 + j.val) d : EReal)) (hk3 : ∀ (d : Fin 128) (j : Fin 256), k3 (ix3 (0 : Fin 1) d j) = (W (768 + j.val) d : EReal)) (hk4 : ∀ (d : Fin 128) (j : Fin 256), k4 (ix3 (0 : Fin 1) d j) = (W (1024 + j.val) d : EReal)) (hk5 : ∀ (d : Fin 128) (j : Fin 256), k5 (ix3 (0 : Fin 1) d j) = (W (1280 + j.val) d : EReal)) : ∃ M : ℝ, top6 h q k0 k1 k2 k3 k4 k5 c mask (ix2 r (0 : Fin 1)) = (M : EReal) :=
  rowMax_real _ r (max_ne_top' _ _ r (max_ne_top' _ _ r (max_ne_top' _ _ r (max_ne_top' _ _ r (max_ne_top' _ _ r (halves_ne_top _ r fun j => (((tile6_0_real P Q W C h q c r hl hq hc k0 hk0) j).trans_ne (cell_ne_top P Q W C _ _ _))) (halves_ne_top _ r fun j => (((tile6_1_real P Q W C h q c r hl hq hc k1 hk1) j).trans_ne (cell_ne_top P Q W C _ _ _)))) (halves_ne_top _ r fun j => (((tile6_2_real P Q W C h q c r hl hq hc k2 hk2) j).trans_ne (cell_ne_top P Q W C _ _ _)))) (halves_ne_top _ r fun j => (((tile6_3_real P Q W C h q c r hl hq hc k3 hk3) j).trans_ne (cell_ne_top P Q W C _ _ _)))) (halves_ne_top _ r fun j => (((tile6_4_real P Q W C h q c r hl hq hc k4 hk4) j).trans_ne (cell_ne_top P Q W C _ _ _)))) (halves_ne_top _ r fun j => (((tile6_5_real P Q W C h q c mask r hl hq hc hm k5 hk5) j).trans_ne (cell_ne_top P Q W C _ _ _)))) (max_ne_bot' _ _ r (max_ne_bot' _ _ r (max_ne_bot' _ _ r (max_ne_bot' _ _ r (max_ne_bot' _ _ r (halves_ne_bot _ r (((tile6_0_real P Q W C h q c r hl hq hc k0 hk0) 0).trans_ne (cell_ne_bot P Q W C _ _ _ (by simp)))))))))

include hl hq hc hm in
theorem weights6_real (k0 k1 k2 k3 k4 k5 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (hk2 : ∀ (d : Fin 128) (j : Fin 256), k2 (ix3 (0 : Fin 1) d j) = (W (512 + j.val) d : EReal)) (hk3 : ∀ (d : Fin 128) (j : Fin 256), k3 (ix3 (0 : Fin 1) d j) = (W (768 + j.val) d : EReal)) (hk4 : ∀ (d : Fin 128) (j : Fin 256), k4 (ix3 (0 : Fin 1) d j) = (W (1024 + j.val) d : EReal)) (hk5 : ∀ (d : Fin 128) (j : Fin 256), k5 (ix3 (0 : Fin 1) d j) = (W (1280 + j.val) d : EReal)) (M : ℝ) (hM : top6 h q k0 k1 k2 k3 k4 k5 c mask (ix2 r (0 : Fin 1)) = (M : EReal)) (j : Fin 1536) :
    (catP 1536 [weights (top6 h q k0 k1 k2 k3 k4 k5 c mask) (tile6_0 h q k0 c), weights (top6 h q k0 k1 k2 k3 k4 k5 c mask) (tile6_1 h q k1 c), weights (top6 h q k0 k1 k2 k3 k4 k5 c mask) (tile6_2 h q k2 c), weights (top6 h q k0 k1 k2 k3 k4 k5 c mask) (tile6_3 h q k3 c), weights (top6 h q k0 k1 k2 k3 k4 k5 c mask) (tile6_4 h q k4 c), weights (top6 h q k0 k1 k2 k3 k4 k5 c mask) (tile6_5 h q k5 c mask)] : (⟨3, ![1, 256, 1536]⟩ : Shape).Idx → EReal) (ix3 (0 : Fin 1) r j) = Ideal.exp2 (cell P Q W C 1535 (1280 + r.val) j.val - (M : EReal)) :=
  catP_apply 1536 6 rfl [weights (top6 h q k0 k1 k2 k3 k4 k5 c mask) (tile6_0 h q k0 c), weights (top6 h q k0 k1 k2 k3 k4 k5 c mask) (tile6_1 h q k1 c), weights (top6 h q k0 k1 k2 k3 k4 k5 c mask) (tile6_2 h q k2 c), weights (top6 h q k0 k1 k2 k3 k4 k5 c mask) (tile6_3 h q k3 c), weights (top6 h q k0 k1 k2 k3 k4 k5 c mask) (tile6_4 h q k4 c), weights (top6 h q k0 k1 k2 k3 k4 k5 c mask) (tile6_5 h q k5 c mask)] r (fun j => Ideal.exp2 (cell P Q W C 1535 (1280 + r.val) j - (M : EReal))) (fun a ha i => match a, ha with
    | 0, _ => ((weights_apply _ _ r i).trans (congrArg₂ (fun a b : EReal => Ideal.exp2 (a - b)) ((tile6_0_real P Q W C h q c r hl hq hc k0 hk0) i) hM))
    | 1, _ => ((weights_apply _ _ r i).trans (congrArg₂ (fun a b : EReal => Ideal.exp2 (a - b)) ((tile6_1_real P Q W C h q c r hl hq hc k1 hk1) i) hM))
    | 2, _ => ((weights_apply _ _ r i).trans (congrArg₂ (fun a b : EReal => Ideal.exp2 (a - b)) ((tile6_2_real P Q W C h q c r hl hq hc k2 hk2) i) hM))
    | 3, _ => ((weights_apply _ _ r i).trans (congrArg₂ (fun a b : EReal => Ideal.exp2 (a - b)) ((tile6_3_real P Q W C h q c r hl hq hc k3 hk3) i) hM))
    | 4, _ => ((weights_apply _ _ r i).trans (congrArg₂ (fun a b : EReal => Ideal.exp2 (a - b)) ((tile6_4_real P Q W C h q c r hl hq hc k4 hk4) i) hM))
    | 5, _ => ((weights_apply _ _ r i).trans (congrArg₂ (fun a b : EReal => Ideal.exp2 (a - b)) ((tile6_5_real P Q W C h q c mask r hl hq hc hm k5 hk5) i) hM))
    | a + 6, ha => absurd ha (by omega)) j

include hl hq hc hm in
theorem head6_apply (o : ℕ) (ho : S256x128.Slices ![0, o] S256x1) (ho' : o < 128) (hP : ¬P ⟨o, ho'⟩) (k0 k1 k2 k3 k4 k5 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (hk2 : ∀ (d : Fin 128) (j : Fin 256), k2 (ix3 (0 : Fin 1) d j) = (W (512 + j.val) d : EReal)) (hk3 : ∀ (d : Fin 128) (j : Fin 256), k3 (ix3 (0 : Fin 1) d j) = (W (768 + j.val) d : EReal)) (hk4 : ∀ (d : Fin 128) (j : Fin 256), k4 (ix3 (0 : Fin 1) d j) = (W (1024 + j.val) d : EReal)) (hk5 : ∀ (d : Fin 128) (j : Fin 256), k5 (ix3 (0 : Fin 1) d j) = (W (1280 + j.val) d : EReal)) (v : FVec Ideal S1x2048x128 .bf16) (d : Fin 128) (hd : P d) (g : ℝ) :
    head6 o ho h q k0 k1 k2 k3 k4 k5 c mask v (ix2 r d) =
      ∑ j : Fin 1536, (share (fun j : Fin 1536 => j.val ≤ 1280 + r.val) (fun j : Fin 1536 => nat P Q W C g j.val) j : EReal) * v (ix3 (0 : Fin 1) (j.castLE (by decide) : Fin 2048) d) := by
  obtain ⟨M, hM⟩ := top6_real P Q W C h q c mask r hl hq hc hm k0 k1 k2 k3 k4 k5 hk0 hk1 hk2 hk3 hk4 hk5
  refine (ratio_apply _ o ho ho' r d).trans ?_
  rw [← row_shares P Q W C 1536 1535 (1280 + r.val) g M _ (by decide)]
  refine congrArg₂ Ideal.div ((product6_apply _ _ r d).trans (Finset.sum_congr rfl fun j _ => congrArg₂ (fun a b : EReal => a * b) (weights6_real P Q W C h q c mask r hl hq hc hm k0 k1 k2 k3 k4 k5 hk0 hk1 hk2 hk3 hk4 hk5 M hM j) ?_))
    ((product6_apply _ _ r _).trans (Finset.sum_congr rfl fun j _ => congrArg₂ (fun a b : EReal => a * b) (weights6_real P Q W C h q c mask r hl hq hc hm k0 k1 k2 k3 k4 k5 hk0 hk1 hk2 hk3 hk4 hk5 M hM j) ?_))
  · exact values_in P h v hl (j.castLE (by decide)) d hd
  · exact values_out P h v hl (j.castLE (by decide)) _ hP
end

section
variable (h : IVec S1x128 1) (q : FVec Ideal S1x256x128 .bf16) (c : FVec Ideal S1x1x1792 .f32) (mask : FVec Ideal S256x256 .f32) (r : Fin 256)
  (hl : ∀ d, h (ix2 (0 : Fin 1) d) = if P d then 1#1 else 0#1) (hq : ∀ d, q (ix3 (0 : Fin 1) r d) = (Q d : EReal))
  (hc : ∀ j : Fin 1792, c (ix3 (0 : Fin 1) (0 : Fin 1) j) = (C j.val : EReal)) (hm : ∀ j : Fin 256, mask (ix2 r j) = if j.val ≤ r.val then 1 else 0)

include hc in
theorem gates7_real (j : Fin 1792) : gates7 c (ix2 (0 : Fin 1) j) = ((C 1791 * (Real.log 2)⁻¹ - C j.val * (Real.log 2)⁻¹ : ℝ) : EReal) := by
  rw [gates7_apply, hc, hc, EReal.coe_sub, EReal.coe_mul, EReal.coe_mul]

include hl hq hc in
theorem tile7_0_real (k : FVec Ideal S1x128x256 .bf16) (hk : ∀ (d : Fin 128) (j : Fin 256), k (ix3 (0 : Fin 1) d j) = (W (0 + j.val) d : EReal)) (j : Fin 256) :
    tile7_0 h q k c (ix2 r j) = cell P Q W C 1791 (1536 + r.val) (0 + j.val) := by
  refine (score_real P Q W C h q k _ r j (0 + j.val) 1791 hl hq (fun d => hk d j) ((slice_apply 1792 0 (gates7 c) slices_S1x1792_o0_0_S1x256 j (by omega)).trans (gates7_real C c hc _)) : _ = _).trans ?_
  unfold cell
  rw [if_pos (by omega)]

include hl hq hc in
theorem tile7_1_real (k : FVec Ideal S1x128x256 .bf16) (hk : ∀ (d : Fin 128) (j : Fin 256), k (ix3 (0 : Fin 1) d j) = (W (256 + j.val) d : EReal)) (j : Fin 256) :
    tile7_1 h q k c (ix2 r j) = cell P Q W C 1791 (1536 + r.val) (256 + j.val) := by
  refine (score_real P Q W C h q k _ r j (256 + j.val) 1791 hl hq (fun d => hk d j) ((slice_apply 1792 256 (gates7 c) slices_S1x1792_o0_256_S1x256 j (by omega)).trans (gates7_real C c hc _)) : _ = _).trans ?_
  unfold cell
  rw [if_pos (by omega)]

include hl hq hc in
theorem tile7_2_real (k : FVec Ideal S1x128x256 .bf16) (hk : ∀ (d : Fin 128) (j : Fin 256), k (ix3 (0 : Fin 1) d j) = (W (512 + j.val) d : EReal)) (j : Fin 256) :
    tile7_2 h q k c (ix2 r j) = cell P Q W C 1791 (1536 + r.val) (512 + j.val) := by
  refine (score_real P Q W C h q k _ r j (512 + j.val) 1791 hl hq (fun d => hk d j) ((slice_apply 1792 512 (gates7 c) slices_S1x1792_o0_512_S1x256 j (by omega)).trans (gates7_real C c hc _)) : _ = _).trans ?_
  unfold cell
  rw [if_pos (by omega)]

include hl hq hc in
theorem tile7_3_real (k : FVec Ideal S1x128x256 .bf16) (hk : ∀ (d : Fin 128) (j : Fin 256), k (ix3 (0 : Fin 1) d j) = (W (768 + j.val) d : EReal)) (j : Fin 256) :
    tile7_3 h q k c (ix2 r j) = cell P Q W C 1791 (1536 + r.val) (768 + j.val) := by
  refine (score_real P Q W C h q k _ r j (768 + j.val) 1791 hl hq (fun d => hk d j) ((slice_apply 1792 768 (gates7 c) slices_S1x1792_o0_768_S1x256 j (by omega)).trans (gates7_real C c hc _)) : _ = _).trans ?_
  unfold cell
  rw [if_pos (by omega)]

include hl hq hc in
theorem tile7_4_real (k : FVec Ideal S1x128x256 .bf16) (hk : ∀ (d : Fin 128) (j : Fin 256), k (ix3 (0 : Fin 1) d j) = (W (1024 + j.val) d : EReal)) (j : Fin 256) :
    tile7_4 h q k c (ix2 r j) = cell P Q W C 1791 (1536 + r.val) (1024 + j.val) := by
  refine (score_real P Q W C h q k _ r j (1024 + j.val) 1791 hl hq (fun d => hk d j) ((slice_apply 1792 1024 (gates7 c) slices_S1x1792_o0_1024_S1x256 j (by omega)).trans (gates7_real C c hc _)) : _ = _).trans ?_
  unfold cell
  rw [if_pos (by omega)]

include hl hq hc in
theorem tile7_5_real (k : FVec Ideal S1x128x256 .bf16) (hk : ∀ (d : Fin 128) (j : Fin 256), k (ix3 (0 : Fin 1) d j) = (W (1280 + j.val) d : EReal)) (j : Fin 256) :
    tile7_5 h q k c (ix2 r j) = cell P Q W C 1791 (1536 + r.val) (1280 + j.val) := by
  refine (score_real P Q W C h q k _ r j (1280 + j.val) 1791 hl hq (fun d => hk d j) ((slice_apply 1792 1280 (gates7 c) slices_S1x1792_o0_1280_S1x256 j (by omega)).trans (gates7_real C c hc _)) : _ = _).trans ?_
  unfold cell
  rw [if_pos (by omega)]

include hl hq hc hm in
theorem tile7_6_real (k : FVec Ideal S1x128x256 .bf16) (hk : ∀ (d : Fin 128) (j : Fin 256), k (ix3 (0 : Fin 1) d j) = (W (1536 + j.val) d : EReal)) (j : Fin 256) :
    tile7_6 h q k c mask (ix2 r j) = cell P Q W C 1791 (1536 + r.val) (1536 + j.val) := by
  refine (causal_real _ mask r j _ (hm j) (score_real P Q W C h q k _ r j (1536 + j.val) 1791 hl hq (fun d => hk d j) ((slice_apply 1792 1536 (gates7 c) slices_S1x1792_o0_1536_S1x256 j (by omega)).trans (gates7_real C c hc _)))).trans ?_
  unfold cell
  exact if_congr (by omega) rfl rfl

include hl hq hc hm in
theorem top7_real (k0 k1 k2 k3 k4 k5 k6 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (hk2 : ∀ (d : Fin 128) (j : Fin 256), k2 (ix3 (0 : Fin 1) d j) = (W (512 + j.val) d : EReal)) (hk3 : ∀ (d : Fin 128) (j : Fin 256), k3 (ix3 (0 : Fin 1) d j) = (W (768 + j.val) d : EReal)) (hk4 : ∀ (d : Fin 128) (j : Fin 256), k4 (ix3 (0 : Fin 1) d j) = (W (1024 + j.val) d : EReal)) (hk5 : ∀ (d : Fin 128) (j : Fin 256), k5 (ix3 (0 : Fin 1) d j) = (W (1280 + j.val) d : EReal)) (hk6 : ∀ (d : Fin 128) (j : Fin 256), k6 (ix3 (0 : Fin 1) d j) = (W (1536 + j.val) d : EReal)) : ∃ M : ℝ, top7 h q k0 k1 k2 k3 k4 k5 k6 c mask (ix2 r (0 : Fin 1)) = (M : EReal) :=
  rowMax_real _ r (max_ne_top' _ _ r (max_ne_top' _ _ r (max_ne_top' _ _ r (max_ne_top' _ _ r (max_ne_top' _ _ r (max_ne_top' _ _ r (halves_ne_top _ r fun j => (((tile7_0_real P Q W C h q c r hl hq hc k0 hk0) j).trans_ne (cell_ne_top P Q W C _ _ _))) (halves_ne_top _ r fun j => (((tile7_1_real P Q W C h q c r hl hq hc k1 hk1) j).trans_ne (cell_ne_top P Q W C _ _ _)))) (halves_ne_top _ r fun j => (((tile7_2_real P Q W C h q c r hl hq hc k2 hk2) j).trans_ne (cell_ne_top P Q W C _ _ _)))) (halves_ne_top _ r fun j => (((tile7_3_real P Q W C h q c r hl hq hc k3 hk3) j).trans_ne (cell_ne_top P Q W C _ _ _)))) (halves_ne_top _ r fun j => (((tile7_4_real P Q W C h q c r hl hq hc k4 hk4) j).trans_ne (cell_ne_top P Q W C _ _ _)))) (halves_ne_top _ r fun j => (((tile7_5_real P Q W C h q c r hl hq hc k5 hk5) j).trans_ne (cell_ne_top P Q W C _ _ _)))) (halves_ne_top _ r fun j => (((tile7_6_real P Q W C h q c mask r hl hq hc hm k6 hk6) j).trans_ne (cell_ne_top P Q W C _ _ _)))) (max_ne_bot' _ _ r (max_ne_bot' _ _ r (max_ne_bot' _ _ r (max_ne_bot' _ _ r (max_ne_bot' _ _ r (max_ne_bot' _ _ r (halves_ne_bot _ r (((tile7_0_real P Q W C h q c r hl hq hc k0 hk0) 0).trans_ne (cell_ne_bot P Q W C _ _ _ (by simp))))))))))

include hl hq hc hm in
theorem weights7_real (k0 k1 k2 k3 k4 k5 k6 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (hk2 : ∀ (d : Fin 128) (j : Fin 256), k2 (ix3 (0 : Fin 1) d j) = (W (512 + j.val) d : EReal)) (hk3 : ∀ (d : Fin 128) (j : Fin 256), k3 (ix3 (0 : Fin 1) d j) = (W (768 + j.val) d : EReal)) (hk4 : ∀ (d : Fin 128) (j : Fin 256), k4 (ix3 (0 : Fin 1) d j) = (W (1024 + j.val) d : EReal)) (hk5 : ∀ (d : Fin 128) (j : Fin 256), k5 (ix3 (0 : Fin 1) d j) = (W (1280 + j.val) d : EReal)) (hk6 : ∀ (d : Fin 128) (j : Fin 256), k6 (ix3 (0 : Fin 1) d j) = (W (1536 + j.val) d : EReal)) (M : ℝ) (hM : top7 h q k0 k1 k2 k3 k4 k5 k6 c mask (ix2 r (0 : Fin 1)) = (M : EReal)) (j : Fin 1792) :
    (catP 1792 [weights (top7 h q k0 k1 k2 k3 k4 k5 k6 c mask) (tile7_0 h q k0 c), weights (top7 h q k0 k1 k2 k3 k4 k5 k6 c mask) (tile7_1 h q k1 c), weights (top7 h q k0 k1 k2 k3 k4 k5 k6 c mask) (tile7_2 h q k2 c), weights (top7 h q k0 k1 k2 k3 k4 k5 k6 c mask) (tile7_3 h q k3 c), weights (top7 h q k0 k1 k2 k3 k4 k5 k6 c mask) (tile7_4 h q k4 c), weights (top7 h q k0 k1 k2 k3 k4 k5 k6 c mask) (tile7_5 h q k5 c), weights (top7 h q k0 k1 k2 k3 k4 k5 k6 c mask) (tile7_6 h q k6 c mask)] : (⟨3, ![1, 256, 1792]⟩ : Shape).Idx → EReal) (ix3 (0 : Fin 1) r j) = Ideal.exp2 (cell P Q W C 1791 (1536 + r.val) j.val - (M : EReal)) :=
  catP_apply 1792 7 rfl [weights (top7 h q k0 k1 k2 k3 k4 k5 k6 c mask) (tile7_0 h q k0 c), weights (top7 h q k0 k1 k2 k3 k4 k5 k6 c mask) (tile7_1 h q k1 c), weights (top7 h q k0 k1 k2 k3 k4 k5 k6 c mask) (tile7_2 h q k2 c), weights (top7 h q k0 k1 k2 k3 k4 k5 k6 c mask) (tile7_3 h q k3 c), weights (top7 h q k0 k1 k2 k3 k4 k5 k6 c mask) (tile7_4 h q k4 c), weights (top7 h q k0 k1 k2 k3 k4 k5 k6 c mask) (tile7_5 h q k5 c), weights (top7 h q k0 k1 k2 k3 k4 k5 k6 c mask) (tile7_6 h q k6 c mask)] r (fun j => Ideal.exp2 (cell P Q W C 1791 (1536 + r.val) j - (M : EReal))) (fun a ha i => match a, ha with
    | 0, _ => ((weights_apply _ _ r i).trans (congrArg₂ (fun a b : EReal => Ideal.exp2 (a - b)) ((tile7_0_real P Q W C h q c r hl hq hc k0 hk0) i) hM))
    | 1, _ => ((weights_apply _ _ r i).trans (congrArg₂ (fun a b : EReal => Ideal.exp2 (a - b)) ((tile7_1_real P Q W C h q c r hl hq hc k1 hk1) i) hM))
    | 2, _ => ((weights_apply _ _ r i).trans (congrArg₂ (fun a b : EReal => Ideal.exp2 (a - b)) ((tile7_2_real P Q W C h q c r hl hq hc k2 hk2) i) hM))
    | 3, _ => ((weights_apply _ _ r i).trans (congrArg₂ (fun a b : EReal => Ideal.exp2 (a - b)) ((tile7_3_real P Q W C h q c r hl hq hc k3 hk3) i) hM))
    | 4, _ => ((weights_apply _ _ r i).trans (congrArg₂ (fun a b : EReal => Ideal.exp2 (a - b)) ((tile7_4_real P Q W C h q c r hl hq hc k4 hk4) i) hM))
    | 5, _ => ((weights_apply _ _ r i).trans (congrArg₂ (fun a b : EReal => Ideal.exp2 (a - b)) ((tile7_5_real P Q W C h q c r hl hq hc k5 hk5) i) hM))
    | 6, _ => ((weights_apply _ _ r i).trans (congrArg₂ (fun a b : EReal => Ideal.exp2 (a - b)) ((tile7_6_real P Q W C h q c mask r hl hq hc hm k6 hk6) i) hM))
    | a + 7, ha => absurd ha (by omega)) j

include hl hq hc hm in
theorem head7_apply (o : ℕ) (ho : S256x128.Slices ![0, o] S256x1) (ho' : o < 128) (hP : ¬P ⟨o, ho'⟩) (k0 k1 k2 k3 k4 k5 k6 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (hk2 : ∀ (d : Fin 128) (j : Fin 256), k2 (ix3 (0 : Fin 1) d j) = (W (512 + j.val) d : EReal)) (hk3 : ∀ (d : Fin 128) (j : Fin 256), k3 (ix3 (0 : Fin 1) d j) = (W (768 + j.val) d : EReal)) (hk4 : ∀ (d : Fin 128) (j : Fin 256), k4 (ix3 (0 : Fin 1) d j) = (W (1024 + j.val) d : EReal)) (hk5 : ∀ (d : Fin 128) (j : Fin 256), k5 (ix3 (0 : Fin 1) d j) = (W (1280 + j.val) d : EReal)) (hk6 : ∀ (d : Fin 128) (j : Fin 256), k6 (ix3 (0 : Fin 1) d j) = (W (1536 + j.val) d : EReal)) (v : FVec Ideal S1x2048x128 .bf16) (d : Fin 128) (hd : P d) (g : ℝ) :
    head7 o ho h q k0 k1 k2 k3 k4 k5 k6 c mask v (ix2 r d) =
      ∑ j : Fin 1792, (share (fun j : Fin 1792 => j.val ≤ 1536 + r.val) (fun j : Fin 1792 => nat P Q W C g j.val) j : EReal) * v (ix3 (0 : Fin 1) (j.castLE (by decide) : Fin 2048) d) := by
  obtain ⟨M, hM⟩ := top7_real P Q W C h q c mask r hl hq hc hm k0 k1 k2 k3 k4 k5 k6 hk0 hk1 hk2 hk3 hk4 hk5 hk6
  refine (ratio_apply _ o ho ho' r d).trans ?_
  rw [← row_shares P Q W C 1792 1791 (1536 + r.val) g M _ (by decide)]
  refine congrArg₂ Ideal.div ((product7_apply _ _ r d).trans (Finset.sum_congr rfl fun j _ => congrArg₂ (fun a b : EReal => a * b) (weights7_real P Q W C h q c mask r hl hq hc hm k0 k1 k2 k3 k4 k5 k6 hk0 hk1 hk2 hk3 hk4 hk5 hk6 M hM j) ?_))
    ((product7_apply _ _ r _).trans (Finset.sum_congr rfl fun j _ => congrArg₂ (fun a b : EReal => a * b) (weights7_real P Q W C h q c mask r hl hq hc hm k0 k1 k2 k3 k4 k5 k6 hk0 hk1 hk2 hk3 hk4 hk5 hk6 M hM j) ?_))
  · exact values_in P h v hl (j.castLE (by decide)) d hd
  · exact values_out P h v hl (j.castLE (by decide)) _ hP
end

section
variable (h : IVec S1x128 1) (q : FVec Ideal S1x256x128 .bf16) (c : FVec Ideal S1x1x2048 .f32) (mask : FVec Ideal S256x256 .f32) (r : Fin 256)
  (hl : ∀ d, h (ix2 (0 : Fin 1) d) = if P d then 1#1 else 0#1) (hq : ∀ d, q (ix3 (0 : Fin 1) r d) = (Q d : EReal))
  (hc : ∀ j : Fin 2048, c (ix3 (0 : Fin 1) (0 : Fin 1) j) = (C j.val : EReal)) (hm : ∀ j : Fin 256, mask (ix2 r j) = if j.val ≤ r.val then 1 else 0)

include hc in
theorem gates8_real (j : Fin 2048) : gates8 c (ix2 (0 : Fin 1) j) = ((C 2047 * (Real.log 2)⁻¹ - C j.val * (Real.log 2)⁻¹ : ℝ) : EReal) := by
  rw [gates8_apply, hc, hc, EReal.coe_sub, EReal.coe_mul, EReal.coe_mul]

include hl hq hc in
theorem tile8_0_real (k : FVec Ideal S1x128x256 .bf16) (hk : ∀ (d : Fin 128) (j : Fin 256), k (ix3 (0 : Fin 1) d j) = (W (0 + j.val) d : EReal)) (j : Fin 256) :
    tile8_0 h q k c (ix2 r j) = cell P Q W C 2047 (1792 + r.val) (0 + j.val) := by
  refine (score_real P Q W C h q k _ r j (0 + j.val) 2047 hl hq (fun d => hk d j) ((slice_apply 2048 0 (gates8 c) slices_S1x2048_o0_0_S1x256 j (by omega)).trans (gates8_real C c hc _)) : _ = _).trans ?_
  unfold cell
  rw [if_pos (by omega)]

include hl hq hc in
theorem tile8_1_real (k : FVec Ideal S1x128x256 .bf16) (hk : ∀ (d : Fin 128) (j : Fin 256), k (ix3 (0 : Fin 1) d j) = (W (256 + j.val) d : EReal)) (j : Fin 256) :
    tile8_1 h q k c (ix2 r j) = cell P Q W C 2047 (1792 + r.val) (256 + j.val) := by
  refine (score_real P Q W C h q k _ r j (256 + j.val) 2047 hl hq (fun d => hk d j) ((slice_apply 2048 256 (gates8 c) slices_S1x2048_o0_256_S1x256 j (by omega)).trans (gates8_real C c hc _)) : _ = _).trans ?_
  unfold cell
  rw [if_pos (by omega)]

include hl hq hc in
theorem tile8_2_real (k : FVec Ideal S1x128x256 .bf16) (hk : ∀ (d : Fin 128) (j : Fin 256), k (ix3 (0 : Fin 1) d j) = (W (512 + j.val) d : EReal)) (j : Fin 256) :
    tile8_2 h q k c (ix2 r j) = cell P Q W C 2047 (1792 + r.val) (512 + j.val) := by
  refine (score_real P Q W C h q k _ r j (512 + j.val) 2047 hl hq (fun d => hk d j) ((slice_apply 2048 512 (gates8 c) slices_S1x2048_o0_512_S1x256 j (by omega)).trans (gates8_real C c hc _)) : _ = _).trans ?_
  unfold cell
  rw [if_pos (by omega)]

include hl hq hc in
theorem tile8_3_real (k : FVec Ideal S1x128x256 .bf16) (hk : ∀ (d : Fin 128) (j : Fin 256), k (ix3 (0 : Fin 1) d j) = (W (768 + j.val) d : EReal)) (j : Fin 256) :
    tile8_3 h q k c (ix2 r j) = cell P Q W C 2047 (1792 + r.val) (768 + j.val) := by
  refine (score_real P Q W C h q k _ r j (768 + j.val) 2047 hl hq (fun d => hk d j) ((slice_apply 2048 768 (gates8 c) slices_S1x2048_o0_768_S1x256 j (by omega)).trans (gates8_real C c hc _)) : _ = _).trans ?_
  unfold cell
  rw [if_pos (by omega)]

include hl hq hc in
theorem tile8_4_real (k : FVec Ideal S1x128x256 .bf16) (hk : ∀ (d : Fin 128) (j : Fin 256), k (ix3 (0 : Fin 1) d j) = (W (1024 + j.val) d : EReal)) (j : Fin 256) :
    tile8_4 h q k c (ix2 r j) = cell P Q W C 2047 (1792 + r.val) (1024 + j.val) := by
  refine (score_real P Q W C h q k _ r j (1024 + j.val) 2047 hl hq (fun d => hk d j) ((slice_apply 2048 1024 (gates8 c) slices_S1x2048_o0_1024_S1x256 j (by omega)).trans (gates8_real C c hc _)) : _ = _).trans ?_
  unfold cell
  rw [if_pos (by omega)]

include hl hq hc in
theorem tile8_5_real (k : FVec Ideal S1x128x256 .bf16) (hk : ∀ (d : Fin 128) (j : Fin 256), k (ix3 (0 : Fin 1) d j) = (W (1280 + j.val) d : EReal)) (j : Fin 256) :
    tile8_5 h q k c (ix2 r j) = cell P Q W C 2047 (1792 + r.val) (1280 + j.val) := by
  refine (score_real P Q W C h q k _ r j (1280 + j.val) 2047 hl hq (fun d => hk d j) ((slice_apply 2048 1280 (gates8 c) slices_S1x2048_o0_1280_S1x256 j (by omega)).trans (gates8_real C c hc _)) : _ = _).trans ?_
  unfold cell
  rw [if_pos (by omega)]

include hl hq hc in
theorem tile8_6_real (k : FVec Ideal S1x128x256 .bf16) (hk : ∀ (d : Fin 128) (j : Fin 256), k (ix3 (0 : Fin 1) d j) = (W (1536 + j.val) d : EReal)) (j : Fin 256) :
    tile8_6 h q k c (ix2 r j) = cell P Q W C 2047 (1792 + r.val) (1536 + j.val) := by
  refine (score_real P Q W C h q k _ r j (1536 + j.val) 2047 hl hq (fun d => hk d j) ((slice_apply 2048 1536 (gates8 c) slices_S1x2048_o0_1536_S1x256 j (by omega)).trans (gates8_real C c hc _)) : _ = _).trans ?_
  unfold cell
  rw [if_pos (by omega)]

include hl hq hc hm in
theorem tile8_7_real (k : FVec Ideal S1x128x256 .bf16) (hk : ∀ (d : Fin 128) (j : Fin 256), k (ix3 (0 : Fin 1) d j) = (W (1792 + j.val) d : EReal)) (j : Fin 256) :
    tile8_7 h q k c mask (ix2 r j) = cell P Q W C 2047 (1792 + r.val) (1792 + j.val) := by
  refine (causal_real _ mask r j _ (hm j) (score_real P Q W C h q k _ r j (1792 + j.val) 2047 hl hq (fun d => hk d j) ((slice_apply 2048 1792 (gates8 c) slices_S1x2048_o0_1792_S1x256 j (by omega)).trans (gates8_real C c hc _)))).trans ?_
  unfold cell
  exact if_congr (by omega) rfl rfl

include hl hq hc hm in
theorem top8_real (k0 k1 k2 k3 k4 k5 k6 k7 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (hk2 : ∀ (d : Fin 128) (j : Fin 256), k2 (ix3 (0 : Fin 1) d j) = (W (512 + j.val) d : EReal)) (hk3 : ∀ (d : Fin 128) (j : Fin 256), k3 (ix3 (0 : Fin 1) d j) = (W (768 + j.val) d : EReal)) (hk4 : ∀ (d : Fin 128) (j : Fin 256), k4 (ix3 (0 : Fin 1) d j) = (W (1024 + j.val) d : EReal)) (hk5 : ∀ (d : Fin 128) (j : Fin 256), k5 (ix3 (0 : Fin 1) d j) = (W (1280 + j.val) d : EReal)) (hk6 : ∀ (d : Fin 128) (j : Fin 256), k6 (ix3 (0 : Fin 1) d j) = (W (1536 + j.val) d : EReal)) (hk7 : ∀ (d : Fin 128) (j : Fin 256), k7 (ix3 (0 : Fin 1) d j) = (W (1792 + j.val) d : EReal)) : ∃ M : ℝ, top8 h q k0 k1 k2 k3 k4 k5 k6 k7 c mask (ix2 r (0 : Fin 1)) = (M : EReal) :=
  rowMax_real _ r (max_ne_top' _ _ r (max_ne_top' _ _ r (max_ne_top' _ _ r (max_ne_top' _ _ r (max_ne_top' _ _ r (max_ne_top' _ _ r (max_ne_top' _ _ r (halves_ne_top _ r fun j => (((tile8_0_real P Q W C h q c r hl hq hc k0 hk0) j).trans_ne (cell_ne_top P Q W C _ _ _))) (halves_ne_top _ r fun j => (((tile8_1_real P Q W C h q c r hl hq hc k1 hk1) j).trans_ne (cell_ne_top P Q W C _ _ _)))) (halves_ne_top _ r fun j => (((tile8_2_real P Q W C h q c r hl hq hc k2 hk2) j).trans_ne (cell_ne_top P Q W C _ _ _)))) (halves_ne_top _ r fun j => (((tile8_3_real P Q W C h q c r hl hq hc k3 hk3) j).trans_ne (cell_ne_top P Q W C _ _ _)))) (halves_ne_top _ r fun j => (((tile8_4_real P Q W C h q c r hl hq hc k4 hk4) j).trans_ne (cell_ne_top P Q W C _ _ _)))) (halves_ne_top _ r fun j => (((tile8_5_real P Q W C h q c r hl hq hc k5 hk5) j).trans_ne (cell_ne_top P Q W C _ _ _)))) (halves_ne_top _ r fun j => (((tile8_6_real P Q W C h q c r hl hq hc k6 hk6) j).trans_ne (cell_ne_top P Q W C _ _ _)))) (halves_ne_top _ r fun j => (((tile8_7_real P Q W C h q c mask r hl hq hc hm k7 hk7) j).trans_ne (cell_ne_top P Q W C _ _ _)))) (max_ne_bot' _ _ r (max_ne_bot' _ _ r (max_ne_bot' _ _ r (max_ne_bot' _ _ r (max_ne_bot' _ _ r (max_ne_bot' _ _ r (max_ne_bot' _ _ r (halves_ne_bot _ r (((tile8_0_real P Q W C h q c r hl hq hc k0 hk0) 0).trans_ne (cell_ne_bot P Q W C _ _ _ (by simp)))))))))))

include hl hq hc hm in
theorem weights8_real (k0 k1 k2 k3 k4 k5 k6 k7 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (hk2 : ∀ (d : Fin 128) (j : Fin 256), k2 (ix3 (0 : Fin 1) d j) = (W (512 + j.val) d : EReal)) (hk3 : ∀ (d : Fin 128) (j : Fin 256), k3 (ix3 (0 : Fin 1) d j) = (W (768 + j.val) d : EReal)) (hk4 : ∀ (d : Fin 128) (j : Fin 256), k4 (ix3 (0 : Fin 1) d j) = (W (1024 + j.val) d : EReal)) (hk5 : ∀ (d : Fin 128) (j : Fin 256), k5 (ix3 (0 : Fin 1) d j) = (W (1280 + j.val) d : EReal)) (hk6 : ∀ (d : Fin 128) (j : Fin 256), k6 (ix3 (0 : Fin 1) d j) = (W (1536 + j.val) d : EReal)) (hk7 : ∀ (d : Fin 128) (j : Fin 256), k7 (ix3 (0 : Fin 1) d j) = (W (1792 + j.val) d : EReal)) (M : ℝ) (hM : top8 h q k0 k1 k2 k3 k4 k5 k6 k7 c mask (ix2 r (0 : Fin 1)) = (M : EReal)) (j : Fin 2048) :
    (catP 2048 [weights (top8 h q k0 k1 k2 k3 k4 k5 k6 k7 c mask) (tile8_0 h q k0 c), weights (top8 h q k0 k1 k2 k3 k4 k5 k6 k7 c mask) (tile8_1 h q k1 c), weights (top8 h q k0 k1 k2 k3 k4 k5 k6 k7 c mask) (tile8_2 h q k2 c), weights (top8 h q k0 k1 k2 k3 k4 k5 k6 k7 c mask) (tile8_3 h q k3 c), weights (top8 h q k0 k1 k2 k3 k4 k5 k6 k7 c mask) (tile8_4 h q k4 c), weights (top8 h q k0 k1 k2 k3 k4 k5 k6 k7 c mask) (tile8_5 h q k5 c), weights (top8 h q k0 k1 k2 k3 k4 k5 k6 k7 c mask) (tile8_6 h q k6 c), weights (top8 h q k0 k1 k2 k3 k4 k5 k6 k7 c mask) (tile8_7 h q k7 c mask)] : (⟨3, ![1, 256, 2048]⟩ : Shape).Idx → EReal) (ix3 (0 : Fin 1) r j) = Ideal.exp2 (cell P Q W C 2047 (1792 + r.val) j.val - (M : EReal)) :=
  catP_apply 2048 8 rfl [weights (top8 h q k0 k1 k2 k3 k4 k5 k6 k7 c mask) (tile8_0 h q k0 c), weights (top8 h q k0 k1 k2 k3 k4 k5 k6 k7 c mask) (tile8_1 h q k1 c), weights (top8 h q k0 k1 k2 k3 k4 k5 k6 k7 c mask) (tile8_2 h q k2 c), weights (top8 h q k0 k1 k2 k3 k4 k5 k6 k7 c mask) (tile8_3 h q k3 c), weights (top8 h q k0 k1 k2 k3 k4 k5 k6 k7 c mask) (tile8_4 h q k4 c), weights (top8 h q k0 k1 k2 k3 k4 k5 k6 k7 c mask) (tile8_5 h q k5 c), weights (top8 h q k0 k1 k2 k3 k4 k5 k6 k7 c mask) (tile8_6 h q k6 c), weights (top8 h q k0 k1 k2 k3 k4 k5 k6 k7 c mask) (tile8_7 h q k7 c mask)] r (fun j => Ideal.exp2 (cell P Q W C 2047 (1792 + r.val) j - (M : EReal))) (fun a ha i => match a, ha with
    | 0, _ => ((weights_apply _ _ r i).trans (congrArg₂ (fun a b : EReal => Ideal.exp2 (a - b)) ((tile8_0_real P Q W C h q c r hl hq hc k0 hk0) i) hM))
    | 1, _ => ((weights_apply _ _ r i).trans (congrArg₂ (fun a b : EReal => Ideal.exp2 (a - b)) ((tile8_1_real P Q W C h q c r hl hq hc k1 hk1) i) hM))
    | 2, _ => ((weights_apply _ _ r i).trans (congrArg₂ (fun a b : EReal => Ideal.exp2 (a - b)) ((tile8_2_real P Q W C h q c r hl hq hc k2 hk2) i) hM))
    | 3, _ => ((weights_apply _ _ r i).trans (congrArg₂ (fun a b : EReal => Ideal.exp2 (a - b)) ((tile8_3_real P Q W C h q c r hl hq hc k3 hk3) i) hM))
    | 4, _ => ((weights_apply _ _ r i).trans (congrArg₂ (fun a b : EReal => Ideal.exp2 (a - b)) ((tile8_4_real P Q W C h q c r hl hq hc k4 hk4) i) hM))
    | 5, _ => ((weights_apply _ _ r i).trans (congrArg₂ (fun a b : EReal => Ideal.exp2 (a - b)) ((tile8_5_real P Q W C h q c r hl hq hc k5 hk5) i) hM))
    | 6, _ => ((weights_apply _ _ r i).trans (congrArg₂ (fun a b : EReal => Ideal.exp2 (a - b)) ((tile8_6_real P Q W C h q c r hl hq hc k6 hk6) i) hM))
    | 7, _ => ((weights_apply _ _ r i).trans (congrArg₂ (fun a b : EReal => Ideal.exp2 (a - b)) ((tile8_7_real P Q W C h q c mask r hl hq hc hm k7 hk7) i) hM))
    | a + 8, ha => absurd ha (by omega)) j

include hl hq hc hm in
theorem head8_apply (o : ℕ) (ho : S256x128.Slices ![0, o] S256x1) (ho' : o < 128) (hP : ¬P ⟨o, ho'⟩) (k0 k1 k2 k3 k4 k5 k6 k7 : FVec Ideal S1x128x256 .bf16) (hk0 : ∀ (d : Fin 128) (j : Fin 256), k0 (ix3 (0 : Fin 1) d j) = (W (0 + j.val) d : EReal)) (hk1 : ∀ (d : Fin 128) (j : Fin 256), k1 (ix3 (0 : Fin 1) d j) = (W (256 + j.val) d : EReal)) (hk2 : ∀ (d : Fin 128) (j : Fin 256), k2 (ix3 (0 : Fin 1) d j) = (W (512 + j.val) d : EReal)) (hk3 : ∀ (d : Fin 128) (j : Fin 256), k3 (ix3 (0 : Fin 1) d j) = (W (768 + j.val) d : EReal)) (hk4 : ∀ (d : Fin 128) (j : Fin 256), k4 (ix3 (0 : Fin 1) d j) = (W (1024 + j.val) d : EReal)) (hk5 : ∀ (d : Fin 128) (j : Fin 256), k5 (ix3 (0 : Fin 1) d j) = (W (1280 + j.val) d : EReal)) (hk6 : ∀ (d : Fin 128) (j : Fin 256), k6 (ix3 (0 : Fin 1) d j) = (W (1536 + j.val) d : EReal)) (hk7 : ∀ (d : Fin 128) (j : Fin 256), k7 (ix3 (0 : Fin 1) d j) = (W (1792 + j.val) d : EReal)) (v : FVec Ideal S1x2048x128 .bf16) (d : Fin 128) (hd : P d) (g : ℝ) :
    head8 o ho h q k0 k1 k2 k3 k4 k5 k6 k7 c mask v (ix2 r d) =
      ∑ j : Fin 2048, (share (fun j : Fin 2048 => j.val ≤ 1792 + r.val) (fun j : Fin 2048 => nat P Q W C g j.val) j : EReal) * v (ix3 (0 : Fin 1) (j.castLE (by decide) : Fin 2048) d) := by
  obtain ⟨M, hM⟩ := top8_real P Q W C h q c mask r hl hq hc hm k0 k1 k2 k3 k4 k5 k6 k7 hk0 hk1 hk2 hk3 hk4 hk5 hk6 hk7
  refine (ratio_apply _ o ho ho' r d).trans ?_
  rw [← row_shares P Q W C 2048 2047 (1792 + r.val) g M _ (by decide)]
  refine congrArg₂ Ideal.div ((product8_apply _ _ r d).trans (Finset.sum_congr rfl fun j _ => congrArg₂ (fun a b : EReal => a * b) (weights8_real P Q W C h q c mask r hl hq hc hm k0 k1 k2 k3 k4 k5 k6 k7 hk0 hk1 hk2 hk3 hk4 hk5 hk6 hk7 M hM j) ?_))
    ((product8_apply _ _ r _).trans (Finset.sum_congr rfl fun j _ => congrArg₂ (fun a b : EReal => a * b) (weights8_real P Q W C h q c mask r hl hq hc hm k0 k1 k2 k3 k4 k5 k6 k7 hk0 hk1 hk2 hk3 hk4 hk5 hk6 hk7 M hM j) ?_))
  · exact values_in P h v hl (j.castLE (by decide)) d hd
  · exact values_out P h v hl (j.castLE (by decide)) _ hP
end

end Cert.KernelIdeal.Fox
-- ==== Proof.FoxPair.lean ====
module

public import proofs.«01_k».proof.Proof.FoxHead

/-! Two heads on 256 queries are the attended values of those queries. A query sees only keys that are not after it, so
    the keys up to the end of its block are all the keys it needs. -/

@[expose] public section

set_option maxRecDepth 16384
noncomputable section
open Idealize.ShloMosaic Idealize.ShloMosaic.TcCoe Idealize.SL.Sem
namespace Cert.KernelIdeal.Fox
open Cert.KernelIdeal Cert.KernelIdeal.Gen Cert.Fox

variable (qr kr : S16x2048x512.Idx → ℝ) (cr : S16x8x2048.Idx → ℝ) (vv : S16x2048x512.Idx → EReal) (b : Fin 16) (p : Fin 4)

/-- The first head of a pair. -/
def headA : Fin 8 := ⟨2 * p.val, by omega⟩

/-- The second head of a pair. -/
def headB : Fin 8 := ⟨2 * p.val + 1, by omega⟩

/-- Lane `d` of a pair. -/
def col (d : Fin 128) : Fin 512 := ⟨128 * p.val + d.val, by omega⟩

/-- Key `j` of a pair. -/
def keyOf (j : ℕ) (d : Fin 128) : ℝ := if hj : j < 2048 then kr (ix3 b (⟨j, hj⟩ : Fin 2048) (col p d)) else 0

/-- The gate of key `j`. -/
def gateOf (h : Fin 8) (j : ℕ) : ℝ := if hj : j < 2048 then cr (ix3 b h (⟨j, hj⟩ : Fin 2048)) else 0

theorem keyOf_val (j : Fin 2048) (d : Fin 128) : keyOf kr b p j.val d = kr (ix3 b j (col p d)) := by
  unfold keyOf; rw [dif_pos j.isLt]

theorem gateOf_val (h : Fin 8) (j : Fin 2048) : gateOf cr b h j.val = cr (ix3 b h j) := by
  unfold gateOf; rw [dif_pos j.isLt]

theorem sum_low (f : Fin 128 → ℝ) : (∑ d : Fin 128, if d.val < 64 then f d else 0) = ∑ d : Fin 64, f ⟨d.val, by omega⟩ := by
  refine (Fin.sum_univ_add (a := 64) (b := 64) _).trans ?_
  rw [Finset.sum_eq_zero (s := Finset.univ) (f := fun i : Fin 64 => if (Fin.natAdd 64 i).val < 64 then f (Fin.natAdd 64 i) else 0) (fun i _ => if_neg (by simp)), add_zero]
  exact Finset.sum_congr rfl fun d _ => if_pos d.isLt

theorem sum_high (f : Fin 128 → ℝ) : (∑ d : Fin 128, if ¬d.val < 64 then f d else 0) = ∑ d : Fin 64, f ⟨64 + d.val, by omega⟩ := by
  refine (Fin.sum_univ_add (a := 64) (b := 64) _).trans ?_
  rw [Finset.sum_eq_zero (s := Finset.univ) (f := fun i : Fin 64 => if ¬(Fin.castAdd 64 i).val < 64 then f (Fin.castAdd 64 i) else 0) (fun i _ => if_neg (by simp)), zero_add]
  exact Finset.sum_congr rfl fun d _ => if_pos (by simp)

theorem nat_low (i j : Fin 2048) : nat (fun d => d.val < 64) (fun d => qr (ix3 b i (col p d))) (keyOf kr b p) (gateOf cr b (headA p)) (cr (ix3 b (headA p) i)) j.val =
    score qr kr cr b (headA p) i j := by
  unfold nat score
  rw [gateOf_val]
  simp only [ite_mul, zero_mul, keyOf_val]
  rw [sum_low]
  refine congrArg (fun z : ℝ => z * (8 : ℝ)⁻¹ + _ - _) (Finset.sum_congr rfl fun d _ => ?_)
  have e : col p ⟨d.val, by omega⟩ = lane (headA p) d := Fin.ext (by show 128 * p.val + d.val = 64 * (2 * p.val) + d.val; omega)
  rw [e]

theorem nat_high (i j : Fin 2048) : nat (fun d => ¬d.val < 64) (fun d => qr (ix3 b i (col p d))) (keyOf kr b p) (gateOf cr b (headB p)) (cr (ix3 b (headB p) i)) j.val =
    score qr kr cr b (headB p) i j := by
  unfold nat score
  rw [gateOf_val]
  simp only [ite_mul, zero_mul, keyOf_val]
  rw [sum_high]
  refine congrArg (fun z : ℝ => z * (8 : ℝ)⁻¹ + _ - _) (Finset.sum_congr rfl fun d _ => ?_)
  have e : col p ⟨64 + d.val, by omega⟩ = lane (headB p) d := Fin.ext (by show 128 * p.val + (64 + d.val) = 64 * (2 * p.val + 1) + d.val; omega)
  rw [e]

theorem attend_prefix (K : ℕ) (hK : K ≤ 2048) (i : Fin 2048) (hi : i.val < K) (h : Fin 8) (l : Fin 512) (hl : l.val / 64 = h.val) :
    attend qr kr cr vv (ix3 b i l) = ∑ j : Fin K, (share (fun j : Fin K => j.val ≤ i.val) (fun j : Fin K => score qr kr cr b h i (j.castLE hK)) j : EReal) * vv (ix3 b (j.castLE hK) l) := by
  rw [show h = (⟨l.val / 64, Nat.div_lt_of_lt_mul (n := 64) (k := 8) l.isLt⟩ : Fin 8) from Fin.ext hl.symm]
  exact share_prefix hK (fun j : Fin 2048 => j.val ≤ i.val) (score qr kr cr b ⟨l.val / 64, by omega⟩ i) (fun j hj => by omega) (fun j => vv (ix3 b j l))

theorem shares_congr {K : ℕ} (A : Fin K → Prop) [DecidablePred A] (x x' : Fin K → ℝ) (V V' : Fin K → EReal) (hx : ∀ j, x j = x' j) (hV : ∀ j, V j = V' j) :
    ∑ j, (share A x j : EReal) * V j = ∑ j, (share A x' j : EReal) * V' j := by
  obtain rfl : x = x' := funext hx
  obtain rfl : V = V' := funext hV
  rfl

theorem pair1_attend (q : FVec Ideal S1x256x128 .bf16) (k0 : FVec Ideal S1x128x256 .bf16) (c c' : FVec Ideal S1x1x256 .f32) (mask : FVec Ideal S256x256 .f32) (v : FVec Ideal S1x2048x128 .bf16)
    (hq : ∀ (r : Fin 256) (d : Fin 128), q (ix3 (0 : Fin 1) r d) = (qr (ix3 b (⟨0 + r.val, by omega⟩ : Fin 2048) (col p d)) : EReal))
    (hk0 : ∀ (d : Fin 128) (j : Fin 256), k0 (ix3 (0 : Fin 1) d j) = (kr (ix3 b (⟨0 + j.val, by omega⟩ : Fin 2048) (col p d)) : EReal))
    (hc : ∀ j : Fin 256, c (ix3 (0 : Fin 1) (0 : Fin 1) j) = (cr (ix3 b (headA p) (j.castLE (by decide) : Fin 2048)) : EReal))
    (hc' : ∀ j : Fin 256, c' (ix3 (0 : Fin 1) (0 : Fin 1) j) = (cr (ix3 b (headB p) (j.castLE (by decide) : Fin 2048)) : EReal))
    (hm : ∀ r j : Fin 256, mask (ix2 r j) = if j.val ≤ r.val then 1 else 0)
    (hv : ∀ (j : Fin 2048) (d : Fin 128), v (ix3 (0 : Fin 1) j d) = vv (ix3 b j (col p d))) (r : Fin 256) (d : Fin 128) :
    pair1 q k0 c c' mask v (ix3 (0 : Fin 1) r d) = attend qr kr cr vv (ix3 b (⟨0 + r.val, by omega⟩ : Fin 2048) (col p d)) := by
  refine (both_apply _ _ r d).trans ?_
  rw [lanes0_apply]
  by_cases hd : d.val < 64
  · rw [if_pos hd, attend_prefix qr kr cr vv b 256 (by decide) ⟨0 + r.val, by omega⟩ (by show 0 + r.val < 256; omega) (headA p) (col p d) (by show (128 * p.val + d.val) / 64 = 2 * p.val; omega)]
    refine (head1_apply (fun d => d.val < 64) (fun d => qr (ix3 b (⟨0 + r.val, by omega⟩ : Fin 2048) (col p d))) (keyOf kr b p) (gateOf cr b (headA p)) lanes0 q c mask r lanes0_apply (hq r)
      (fun j => (hc j).trans (congrArg _ (gateOf_val cr b (headA p) (j.castLE (by decide))).symm)) (hm r) 64 _ (by decide) (by decide) k0
      (fun d j => (hk0 d j).trans (congrArg _ (keyOf_val kr b p ⟨0 + j.val, by omega⟩ d).symm)) v d hd (cr (ix3 b (headA p) ⟨0 + r.val, by omega⟩))).trans ?_
    exact shares_congr _ _ _ _ _ (fun j => nat_low qr kr cr b p _ (j.castLE (by decide))) (fun j => hv _ d)
  · rw [if_neg hd, attend_prefix qr kr cr vv b 256 (by decide) ⟨0 + r.val, by omega⟩ (by show 0 + r.val < 256; omega) (headB p) (col p d) (by show (128 * p.val + d.val) / 64 = 2 * p.val + 1; omega)]
    refine (head1_apply (fun d => ¬d.val < 64) (fun d => qr (ix3 b (⟨0 + r.val, by omega⟩ : Fin 2048) (col p d))) (keyOf kr b p) (gateOf cr b (headB p)) lanes1 q c' mask r (fun d => (lanes1_apply d).trans (ite_not _ _ _).symm) (hq r)
      (fun j => (hc' j).trans (congrArg _ (gateOf_val cr b (headB p) (j.castLE (by decide))).symm)) (hm r) 0 _ (by decide) (by decide) k0
      (fun d j => (hk0 d j).trans (congrArg _ (keyOf_val kr b p ⟨0 + j.val, by omega⟩ d).symm)) v d hd (cr (ix3 b (headB p) ⟨0 + r.val, by omega⟩))).trans ?_
    exact shares_congr _ _ _ _ _ (fun j => nat_high qr kr cr b p _ (j.castLE (by decide))) (fun j => hv _ d)

theorem pair2_attend (q : FVec Ideal S1x256x128 .bf16) (k0 k1 : FVec Ideal S1x128x256 .bf16) (c c' : FVec Ideal S1x1x512 .f32) (mask : FVec Ideal S256x256 .f32) (v : FVec Ideal S1x2048x128 .bf16)
    (hq : ∀ (r : Fin 256) (d : Fin 128), q (ix3 (0 : Fin 1) r d) = (qr (ix3 b (⟨256 + r.val, by omega⟩ : Fin 2048) (col p d)) : EReal))
    (hk0 : ∀ (d : Fin 128) (j : Fin 256), k0 (ix3 (0 : Fin 1) d j) = (kr (ix3 b (⟨0 + j.val, by omega⟩ : Fin 2048) (col p d)) : EReal)) (hk1 : ∀ (d : Fin 128) (j : Fin 256), k1 (ix3 (0 : Fin 1) d j) = (kr (ix3 b (⟨256 + j.val, by omega⟩ : Fin 2048) (col p d)) : EReal))
    (hc : ∀ j : Fin 512, c (ix3 (0 : Fin 1) (0 : Fin 1) j) = (cr (ix3 b (headA p) (j.castLE (by decide) : Fin 2048)) : EReal))
    (hc' : ∀ j : Fin 512, c' (ix3 (0 : Fin 1) (0 : Fin 1) j) = (cr (ix3 b (headB p) (j.castLE (by decide) : Fin 2048)) : EReal))
    (hm : ∀ r j : Fin 256, mask (ix2 r j) = if j.val ≤ r.val then 1 else 0)
    (hv : ∀ (j : Fin 2048) (d : Fin 128), v (ix3 (0 : Fin 1) j d) = vv (ix3 b j (col p d))) (r : Fin 256) (d : Fin 128) :
    pair2 q k0 k1 c c' mask v (ix3 (0 : Fin 1) r d) = attend qr kr cr vv (ix3 b (⟨256 + r.val, by omega⟩ : Fin 2048) (col p d)) := by
  refine (both_apply _ _ r d).trans ?_
  rw [lanes0_apply]
  by_cases hd : d.val < 64
  · rw [if_pos hd, attend_prefix qr kr cr vv b 512 (by decide) ⟨256 + r.val, by omega⟩ (by show 256 + r.val < 512; omega) (headA p) (col p d) (by show (128 * p.val + d.val) / 64 = 2 * p.val; omega)]
    refine (head2_apply (fun d => d.val < 64) (fun d => qr (ix3 b (⟨256 + r.val, by omega⟩ : Fin 2048) (col p d))) (keyOf kr b p) (gateOf cr b (headA p)) lanes0 q c mask r lanes0_apply (hq r)
      (fun j => (hc j).trans (congrArg _ (gateOf_val cr b (headA p) (j.castLE (by decide))).symm)) (hm r) 64 _ (by decide) (by decide) k0 k1
      (fun d j => (hk0 d j).trans (congrArg _ (keyOf_val kr b p ⟨0 + j.val, by omega⟩ d).symm)) (fun d j => (hk1 d j).trans (congrArg _ (keyOf_val kr b p ⟨256 + j.val, by omega⟩ d).symm)) v d hd (cr (ix3 b (headA p) ⟨256 + r.val, by omega⟩))).trans ?_
    exact shares_congr _ _ _ _ _ (fun j => nat_low qr kr cr b p _ (j.castLE (by decide))) (fun j => hv _ d)
  · rw [if_neg hd, attend_prefix qr kr cr vv b 512 (by decide) ⟨256 + r.val, by omega⟩ (by show 256 + r.val < 512; omega) (headB p) (col p d) (by show (128 * p.val + d.val) / 64 = 2 * p.val + 1; omega)]
    refine (head2_apply (fun d => ¬d.val < 64) (fun d => qr (ix3 b (⟨256 + r.val, by omega⟩ : Fin 2048) (col p d))) (keyOf kr b p) (gateOf cr b (headB p)) lanes1 q c' mask r (fun d => (lanes1_apply d).trans (ite_not _ _ _).symm) (hq r)
      (fun j => (hc' j).trans (congrArg _ (gateOf_val cr b (headB p) (j.castLE (by decide))).symm)) (hm r) 0 _ (by decide) (by decide) k0 k1
      (fun d j => (hk0 d j).trans (congrArg _ (keyOf_val kr b p ⟨0 + j.val, by omega⟩ d).symm)) (fun d j => (hk1 d j).trans (congrArg _ (keyOf_val kr b p ⟨256 + j.val, by omega⟩ d).symm)) v d hd (cr (ix3 b (headB p) ⟨256 + r.val, by omega⟩))).trans ?_
    exact shares_congr _ _ _ _ _ (fun j => nat_high qr kr cr b p _ (j.castLE (by decide))) (fun j => hv _ d)

theorem pair3_attend (q : FVec Ideal S1x256x128 .bf16) (k0 k1 k2 : FVec Ideal S1x128x256 .bf16) (c c' : FVec Ideal S1x1x768 .f32) (mask : FVec Ideal S256x256 .f32) (v : FVec Ideal S1x2048x128 .bf16)
    (hq : ∀ (r : Fin 256) (d : Fin 128), q (ix3 (0 : Fin 1) r d) = (qr (ix3 b (⟨512 + r.val, by omega⟩ : Fin 2048) (col p d)) : EReal))
    (hk0 : ∀ (d : Fin 128) (j : Fin 256), k0 (ix3 (0 : Fin 1) d j) = (kr (ix3 b (⟨0 + j.val, by omega⟩ : Fin 2048) (col p d)) : EReal)) (hk1 : ∀ (d : Fin 128) (j : Fin 256), k1 (ix3 (0 : Fin 1) d j) = (kr (ix3 b (⟨256 + j.val, by omega⟩ : Fin 2048) (col p d)) : EReal)) (hk2 : ∀ (d : Fin 128) (j : Fin 256), k2 (ix3 (0 : Fin 1) d j) = (kr (ix3 b (⟨512 + j.val, by omega⟩ : Fin 2048) (col p d)) : EReal))
    (hc : ∀ j : Fin 768, c (ix3 (0 : Fin 1) (0 : Fin 1) j) = (cr (ix3 b (headA p) (j.castLE (by decide) : Fin 2048)) : EReal))
    (hc' : ∀ j : Fin 768, c' (ix3 (0 : Fin 1) (0 : Fin 1) j) = (cr (ix3 b (headB p) (j.castLE (by decide) : Fin 2048)) : EReal))
    (hm : ∀ r j : Fin 256, mask (ix2 r j) = if j.val ≤ r.val then 1 else 0)
    (hv : ∀ (j : Fin 2048) (d : Fin 128), v (ix3 (0 : Fin 1) j d) = vv (ix3 b j (col p d))) (r : Fin 256) (d : Fin 128) :
    pair3 q k0 k1 k2 c c' mask v (ix3 (0 : Fin 1) r d) = attend qr kr cr vv (ix3 b (⟨512 + r.val, by omega⟩ : Fin 2048) (col p d)) := by
  refine (both_apply _ _ r d).trans ?_
  rw [lanes0_apply]
  by_cases hd : d.val < 64
  · rw [if_pos hd, attend_prefix qr kr cr vv b 768 (by decide) ⟨512 + r.val, by omega⟩ (by show 512 + r.val < 768; omega) (headA p) (col p d) (by show (128 * p.val + d.val) / 64 = 2 * p.val; omega)]
    refine (head3_apply (fun d => d.val < 64) (fun d => qr (ix3 b (⟨512 + r.val, by omega⟩ : Fin 2048) (col p d))) (keyOf kr b p) (gateOf cr b (headA p)) lanes0 q c mask r lanes0_apply (hq r)
      (fun j => (hc j).trans (congrArg _ (gateOf_val cr b (headA p) (j.castLE (by decide))).symm)) (hm r) 64 _ (by decide) (by decide) k0 k1 k2
      (fun d j => (hk0 d j).trans (congrArg _ (keyOf_val kr b p ⟨0 + j.val, by omega⟩ d).symm)) (fun d j => (hk1 d j).trans (congrArg _ (keyOf_val kr b p ⟨256 + j.val, by omega⟩ d).symm)) (fun d j => (hk2 d j).trans (congrArg _ (keyOf_val kr b p ⟨512 + j.val, by omega⟩ d).symm)) v d hd (cr (ix3 b (headA p) ⟨512 + r.val, by omega⟩))).trans ?_
    exact shares_congr _ _ _ _ _ (fun j => nat_low qr kr cr b p _ (j.castLE (by decide))) (fun j => hv _ d)
  · rw [if_neg hd, attend_prefix qr kr cr vv b 768 (by decide) ⟨512 + r.val, by omega⟩ (by show 512 + r.val < 768; omega) (headB p) (col p d) (by show (128 * p.val + d.val) / 64 = 2 * p.val + 1; omega)]
    refine (head3_apply (fun d => ¬d.val < 64) (fun d => qr (ix3 b (⟨512 + r.val, by omega⟩ : Fin 2048) (col p d))) (keyOf kr b p) (gateOf cr b (headB p)) lanes1 q c' mask r (fun d => (lanes1_apply d).trans (ite_not _ _ _).symm) (hq r)
      (fun j => (hc' j).trans (congrArg _ (gateOf_val cr b (headB p) (j.castLE (by decide))).symm)) (hm r) 0 _ (by decide) (by decide) k0 k1 k2
      (fun d j => (hk0 d j).trans (congrArg _ (keyOf_val kr b p ⟨0 + j.val, by omega⟩ d).symm)) (fun d j => (hk1 d j).trans (congrArg _ (keyOf_val kr b p ⟨256 + j.val, by omega⟩ d).symm)) (fun d j => (hk2 d j).trans (congrArg _ (keyOf_val kr b p ⟨512 + j.val, by omega⟩ d).symm)) v d hd (cr (ix3 b (headB p) ⟨512 + r.val, by omega⟩))).trans ?_
    exact shares_congr _ _ _ _ _ (fun j => nat_high qr kr cr b p _ (j.castLE (by decide))) (fun j => hv _ d)

theorem pair4_attend (q : FVec Ideal S1x256x128 .bf16) (k0 k1 k2 k3 : FVec Ideal S1x128x256 .bf16) (c c' : FVec Ideal S1x1x1024 .f32) (mask : FVec Ideal S256x256 .f32) (v : FVec Ideal S1x2048x128 .bf16)
    (hq : ∀ (r : Fin 256) (d : Fin 128), q (ix3 (0 : Fin 1) r d) = (qr (ix3 b (⟨768 + r.val, by omega⟩ : Fin 2048) (col p d)) : EReal))
    (hk0 : ∀ (d : Fin 128) (j : Fin 256), k0 (ix3 (0 : Fin 1) d j) = (kr (ix3 b (⟨0 + j.val, by omega⟩ : Fin 2048) (col p d)) : EReal)) (hk1 : ∀ (d : Fin 128) (j : Fin 256), k1 (ix3 (0 : Fin 1) d j) = (kr (ix3 b (⟨256 + j.val, by omega⟩ : Fin 2048) (col p d)) : EReal)) (hk2 : ∀ (d : Fin 128) (j : Fin 256), k2 (ix3 (0 : Fin 1) d j) = (kr (ix3 b (⟨512 + j.val, by omega⟩ : Fin 2048) (col p d)) : EReal)) (hk3 : ∀ (d : Fin 128) (j : Fin 256), k3 (ix3 (0 : Fin 1) d j) = (kr (ix3 b (⟨768 + j.val, by omega⟩ : Fin 2048) (col p d)) : EReal))
    (hc : ∀ j : Fin 1024, c (ix3 (0 : Fin 1) (0 : Fin 1) j) = (cr (ix3 b (headA p) (j.castLE (by decide) : Fin 2048)) : EReal))
    (hc' : ∀ j : Fin 1024, c' (ix3 (0 : Fin 1) (0 : Fin 1) j) = (cr (ix3 b (headB p) (j.castLE (by decide) : Fin 2048)) : EReal))
    (hm : ∀ r j : Fin 256, mask (ix2 r j) = if j.val ≤ r.val then 1 else 0)
    (hv : ∀ (j : Fin 2048) (d : Fin 128), v (ix3 (0 : Fin 1) j d) = vv (ix3 b j (col p d))) (r : Fin 256) (d : Fin 128) :
    pair4 q k0 k1 k2 k3 c c' mask v (ix3 (0 : Fin 1) r d) = attend qr kr cr vv (ix3 b (⟨768 + r.val, by omega⟩ : Fin 2048) (col p d)) := by
  refine (both_apply _ _ r d).trans ?_
  rw [lanes0_apply]
  by_cases hd : d.val < 64
  · rw [if_pos hd, attend_prefix qr kr cr vv b 1024 (by decide) ⟨768 + r.val, by omega⟩ (by show 768 + r.val < 1024; omega) (headA p) (col p d) (by show (128 * p.val + d.val) / 64 = 2 * p.val; omega)]
    refine (head4_apply (fun d => d.val < 64) (fun d => qr (ix3 b (⟨768 + r.val, by omega⟩ : Fin 2048) (col p d))) (keyOf kr b p) (gateOf cr b (headA p)) lanes0 q c mask r lanes0_apply (hq r)
      (fun j => (hc j).trans (congrArg _ (gateOf_val cr b (headA p) (j.castLE (by decide))).symm)) (hm r) 64 _ (by decide) (by decide) k0 k1 k2 k3
      (fun d j => (hk0 d j).trans (congrArg _ (keyOf_val kr b p ⟨0 + j.val, by omega⟩ d).symm)) (fun d j => (hk1 d j).trans (congrArg _ (keyOf_val kr b p ⟨256 + j.val, by omega⟩ d).symm)) (fun d j => (hk2 d j).trans (congrArg _ (keyOf_val kr b p ⟨512 + j.val, by omega⟩ d).symm)) (fun d j => (hk3 d j).trans (congrArg _ (keyOf_val kr b p ⟨768 + j.val, by omega⟩ d).symm)) v d hd (cr (ix3 b (headA p) ⟨768 + r.val, by omega⟩))).trans ?_
    exact shares_congr _ _ _ _ _ (fun j => nat_low qr kr cr b p _ (j.castLE (by decide))) (fun j => hv _ d)
  · rw [if_neg hd, attend_prefix qr kr cr vv b 1024 (by decide) ⟨768 + r.val, by omega⟩ (by show 768 + r.val < 1024; omega) (headB p) (col p d) (by show (128 * p.val + d.val) / 64 = 2 * p.val + 1; omega)]
    refine (head4_apply (fun d => ¬d.val < 64) (fun d => qr (ix3 b (⟨768 + r.val, by omega⟩ : Fin 2048) (col p d))) (keyOf kr b p) (gateOf cr b (headB p)) lanes1 q c' mask r (fun d => (lanes1_apply d).trans (ite_not _ _ _).symm) (hq r)
      (fun j => (hc' j).trans (congrArg _ (gateOf_val cr b (headB p) (j.castLE (by decide))).symm)) (hm r) 0 _ (by decide) (by decide) k0 k1 k2 k3
      (fun d j => (hk0 d j).trans (congrArg _ (keyOf_val kr b p ⟨0 + j.val, by omega⟩ d).symm)) (fun d j => (hk1 d j).trans (congrArg _ (keyOf_val kr b p ⟨256 + j.val, by omega⟩ d).symm)) (fun d j => (hk2 d j).trans (congrArg _ (keyOf_val kr b p ⟨512 + j.val, by omega⟩ d).symm)) (fun d j => (hk3 d j).trans (congrArg _ (keyOf_val kr b p ⟨768 + j.val, by omega⟩ d).symm)) v d hd (cr (ix3 b (headB p) ⟨768 + r.val, by omega⟩))).trans ?_
    exact shares_congr _ _ _ _ _ (fun j => nat_high qr kr cr b p _ (j.castLE (by decide))) (fun j => hv _ d)

theorem pair5_attend (q : FVec Ideal S1x256x128 .bf16) (k0 k1 k2 k3 k4 : FVec Ideal S1x128x256 .bf16) (c c' : FVec Ideal S1x1x1280 .f32) (mask : FVec Ideal S256x256 .f32) (v : FVec Ideal S1x2048x128 .bf16)
    (hq : ∀ (r : Fin 256) (d : Fin 128), q (ix3 (0 : Fin 1) r d) = (qr (ix3 b (⟨1024 + r.val, by omega⟩ : Fin 2048) (col p d)) : EReal))
    (hk0 : ∀ (d : Fin 128) (j : Fin 256), k0 (ix3 (0 : Fin 1) d j) = (kr (ix3 b (⟨0 + j.val, by omega⟩ : Fin 2048) (col p d)) : EReal)) (hk1 : ∀ (d : Fin 128) (j : Fin 256), k1 (ix3 (0 : Fin 1) d j) = (kr (ix3 b (⟨256 + j.val, by omega⟩ : Fin 2048) (col p d)) : EReal)) (hk2 : ∀ (d : Fin 128) (j : Fin 256), k2 (ix3 (0 : Fin 1) d j) = (kr (ix3 b (⟨512 + j.val, by omega⟩ : Fin 2048) (col p d)) : EReal)) (hk3 : ∀ (d : Fin 128) (j : Fin 256), k3 (ix3 (0 : Fin 1) d j) = (kr (ix3 b (⟨768 + j.val, by omega⟩ : Fin 2048) (col p d)) : EReal)) (hk4 : ∀ (d : Fin 128) (j : Fin 256), k4 (ix3 (0 : Fin 1) d j) = (kr (ix3 b (⟨1024 + j.val, by omega⟩ : Fin 2048) (col p d)) : EReal))
    (hc : ∀ j : Fin 1280, c (ix3 (0 : Fin 1) (0 : Fin 1) j) = (cr (ix3 b (headA p) (j.castLE (by decide) : Fin 2048)) : EReal))
    (hc' : ∀ j : Fin 1280, c' (ix3 (0 : Fin 1) (0 : Fin 1) j) = (cr (ix3 b (headB p) (j.castLE (by decide) : Fin 2048)) : EReal))
    (hm : ∀ r j : Fin 256, mask (ix2 r j) = if j.val ≤ r.val then 1 else 0)
    (hv : ∀ (j : Fin 2048) (d : Fin 128), v (ix3 (0 : Fin 1) j d) = vv (ix3 b j (col p d))) (r : Fin 256) (d : Fin 128) :
    pair5 q k0 k1 k2 k3 k4 c c' mask v (ix3 (0 : Fin 1) r d) = attend qr kr cr vv (ix3 b (⟨1024 + r.val, by omega⟩ : Fin 2048) (col p d)) := by
  refine (both_apply _ _ r d).trans ?_
  rw [lanes0_apply]
  by_cases hd : d.val < 64
  · rw [if_pos hd, attend_prefix qr kr cr vv b 1280 (by decide) ⟨1024 + r.val, by omega⟩ (by show 1024 + r.val < 1280; omega) (headA p) (col p d) (by show (128 * p.val + d.val) / 64 = 2 * p.val; omega)]
    refine (head5_apply (fun d => d.val < 64) (fun d => qr (ix3 b (⟨1024 + r.val, by omega⟩ : Fin 2048) (col p d))) (keyOf kr b p) (gateOf cr b (headA p)) lanes0 q c mask r lanes0_apply (hq r)
      (fun j => (hc j).trans (congrArg _ (gateOf_val cr b (headA p) (j.castLE (by decide))).symm)) (hm r) 64 _ (by decide) (by decide) k0 k1 k2 k3 k4
      (fun d j => (hk0 d j).trans (congrArg _ (keyOf_val kr b p ⟨0 + j.val, by omega⟩ d).symm)) (fun d j => (hk1 d j).trans (congrArg _ (keyOf_val kr b p ⟨256 + j.val, by omega⟩ d).symm)) (fun d j => (hk2 d j).trans (congrArg _ (keyOf_val kr b p ⟨512 + j.val, by omega⟩ d).symm)) (fun d j => (hk3 d j).trans (congrArg _ (keyOf_val kr b p ⟨768 + j.val, by omega⟩ d).symm)) (fun d j => (hk4 d j).trans (congrArg _ (keyOf_val kr b p ⟨1024 + j.val, by omega⟩ d).symm)) v d hd (cr (ix3 b (headA p) ⟨1024 + r.val, by omega⟩))).trans ?_
    exact shares_congr _ _ _ _ _ (fun j => nat_low qr kr cr b p _ (j.castLE (by decide))) (fun j => hv _ d)
  · rw [if_neg hd, attend_prefix qr kr cr vv b 1280 (by decide) ⟨1024 + r.val, by omega⟩ (by show 1024 + r.val < 1280; omega) (headB p) (col p d) (by show (128 * p.val + d.val) / 64 = 2 * p.val + 1; omega)]
    refine (head5_apply (fun d => ¬d.val < 64) (fun d => qr (ix3 b (⟨1024 + r.val, by omega⟩ : Fin 2048) (col p d))) (keyOf kr b p) (gateOf cr b (headB p)) lanes1 q c' mask r (fun d => (lanes1_apply d).trans (ite_not _ _ _).symm) (hq r)
      (fun j => (hc' j).trans (congrArg _ (gateOf_val cr b (headB p) (j.castLE (by decide))).symm)) (hm r) 0 _ (by decide) (by decide) k0 k1 k2 k3 k4
      (fun d j => (hk0 d j).trans (congrArg _ (keyOf_val kr b p ⟨0 + j.val, by omega⟩ d).symm)) (fun d j => (hk1 d j).trans (congrArg _ (keyOf_val kr b p ⟨256 + j.val, by omega⟩ d).symm)) (fun d j => (hk2 d j).trans (congrArg _ (keyOf_val kr b p ⟨512 + j.val, by omega⟩ d).symm)) (fun d j => (hk3 d j).trans (congrArg _ (keyOf_val kr b p ⟨768 + j.val, by omega⟩ d).symm)) (fun d j => (hk4 d j).trans (congrArg _ (keyOf_val kr b p ⟨1024 + j.val, by omega⟩ d).symm)) v d hd (cr (ix3 b (headB p) ⟨1024 + r.val, by omega⟩))).trans ?_
    exact shares_congr _ _ _ _ _ (fun j => nat_high qr kr cr b p _ (j.castLE (by decide))) (fun j => hv _ d)

theorem pair6_attend (q : FVec Ideal S1x256x128 .bf16) (k0 k1 k2 k3 k4 k5 : FVec Ideal S1x128x256 .bf16) (c c' : FVec Ideal S1x1x1536 .f32) (mask : FVec Ideal S256x256 .f32) (v : FVec Ideal S1x2048x128 .bf16)
    (hq : ∀ (r : Fin 256) (d : Fin 128), q (ix3 (0 : Fin 1) r d) = (qr (ix3 b (⟨1280 + r.val, by omega⟩ : Fin 2048) (col p d)) : EReal))
    (hk0 : ∀ (d : Fin 128) (j : Fin 256), k0 (ix3 (0 : Fin 1) d j) = (kr (ix3 b (⟨0 + j.val, by omega⟩ : Fin 2048) (col p d)) : EReal)) (hk1 : ∀ (d : Fin 128) (j : Fin 256), k1 (ix3 (0 : Fin 1) d j) = (kr (ix3 b (⟨256 + j.val, by omega⟩ : Fin 2048) (col p d)) : EReal)) (hk2 : ∀ (d : Fin 128) (j : Fin 256), k2 (ix3 (0 : Fin 1) d j) = (kr (ix3 b (⟨512 + j.val, by omega⟩ : Fin 2048) (col p d)) : EReal)) (hk3 : ∀ (d : Fin 128) (j : Fin 256), k3 (ix3 (0 : Fin 1) d j) = (kr (ix3 b (⟨768 + j.val, by omega⟩ : Fin 2048) (col p d)) : EReal)) (hk4 : ∀ (d : Fin 128) (j : Fin 256), k4 (ix3 (0 : Fin 1) d j) = (kr (ix3 b (⟨1024 + j.val, by omega⟩ : Fin 2048) (col p d)) : EReal)) (hk5 : ∀ (d : Fin 128) (j : Fin 256), k5 (ix3 (0 : Fin 1) d j) = (kr (ix3 b (⟨1280 + j.val, by omega⟩ : Fin 2048) (col p d)) : EReal))
    (hc : ∀ j : Fin 1536, c (ix3 (0 : Fin 1) (0 : Fin 1) j) = (cr (ix3 b (headA p) (j.castLE (by decide) : Fin 2048)) : EReal))
    (hc' : ∀ j : Fin 1536, c' (ix3 (0 : Fin 1) (0 : Fin 1) j) = (cr (ix3 b (headB p) (j.castLE (by decide) : Fin 2048)) : EReal))
    (hm : ∀ r j : Fin 256, mask (ix2 r j) = if j.val ≤ r.val then 1 else 0)
    (hv : ∀ (j : Fin 2048) (d : Fin 128), v (ix3 (0 : Fin 1) j d) = vv (ix3 b j (col p d))) (r : Fin 256) (d : Fin 128) :
    pair6 q k0 k1 k2 k3 k4 k5 c c' mask v (ix3 (0 : Fin 1) r d) = attend qr kr cr vv (ix3 b (⟨1280 + r.val, by omega⟩ : Fin 2048) (col p d)) := by
  refine (both_apply _ _ r d).trans ?_
  rw [lanes0_apply]
  by_cases hd : d.val < 64
  · rw [if_pos hd, attend_prefix qr kr cr vv b 1536 (by decide) ⟨1280 + r.val, by omega⟩ (by show 1280 + r.val < 1536; omega) (headA p) (col p d) (by show (128 * p.val + d.val) / 64 = 2 * p.val; omega)]
    refine (head6_apply (fun d => d.val < 64) (fun d => qr (ix3 b (⟨1280 + r.val, by omega⟩ : Fin 2048) (col p d))) (keyOf kr b p) (gateOf cr b (headA p)) lanes0 q c mask r lanes0_apply (hq r)
      (fun j => (hc j).trans (congrArg _ (gateOf_val cr b (headA p) (j.castLE (by decide))).symm)) (hm r) 64 _ (by decide) (by decide) k0 k1 k2 k3 k4 k5
      (fun d j => (hk0 d j).trans (congrArg _ (keyOf_val kr b p ⟨0 + j.val, by omega⟩ d).symm)) (fun d j => (hk1 d j).trans (congrArg _ (keyOf_val kr b p ⟨256 + j.val, by omega⟩ d).symm)) (fun d j => (hk2 d j).trans (congrArg _ (keyOf_val kr b p ⟨512 + j.val, by omega⟩ d).symm)) (fun d j => (hk3 d j).trans (congrArg _ (keyOf_val kr b p ⟨768 + j.val, by omega⟩ d).symm)) (fun d j => (hk4 d j).trans (congrArg _ (keyOf_val kr b p ⟨1024 + j.val, by omega⟩ d).symm)) (fun d j => (hk5 d j).trans (congrArg _ (keyOf_val kr b p ⟨1280 + j.val, by omega⟩ d).symm)) v d hd (cr (ix3 b (headA p) ⟨1280 + r.val, by omega⟩))).trans ?_
    exact shares_congr _ _ _ _ _ (fun j => nat_low qr kr cr b p _ (j.castLE (by decide))) (fun j => hv _ d)
  · rw [if_neg hd, attend_prefix qr kr cr vv b 1536 (by decide) ⟨1280 + r.val, by omega⟩ (by show 1280 + r.val < 1536; omega) (headB p) (col p d) (by show (128 * p.val + d.val) / 64 = 2 * p.val + 1; omega)]
    refine (head6_apply (fun d => ¬d.val < 64) (fun d => qr (ix3 b (⟨1280 + r.val, by omega⟩ : Fin 2048) (col p d))) (keyOf kr b p) (gateOf cr b (headB p)) lanes1 q c' mask r (fun d => (lanes1_apply d).trans (ite_not _ _ _).symm) (hq r)
      (fun j => (hc' j).trans (congrArg _ (gateOf_val cr b (headB p) (j.castLE (by decide))).symm)) (hm r) 0 _ (by decide) (by decide) k0 k1 k2 k3 k4 k5
      (fun d j => (hk0 d j).trans (congrArg _ (keyOf_val kr b p ⟨0 + j.val, by omega⟩ d).symm)) (fun d j => (hk1 d j).trans (congrArg _ (keyOf_val kr b p ⟨256 + j.val, by omega⟩ d).symm)) (fun d j => (hk2 d j).trans (congrArg _ (keyOf_val kr b p ⟨512 + j.val, by omega⟩ d).symm)) (fun d j => (hk3 d j).trans (congrArg _ (keyOf_val kr b p ⟨768 + j.val, by omega⟩ d).symm)) (fun d j => (hk4 d j).trans (congrArg _ (keyOf_val kr b p ⟨1024 + j.val, by omega⟩ d).symm)) (fun d j => (hk5 d j).trans (congrArg _ (keyOf_val kr b p ⟨1280 + j.val, by omega⟩ d).symm)) v d hd (cr (ix3 b (headB p) ⟨1280 + r.val, by omega⟩))).trans ?_
    exact shares_congr _ _ _ _ _ (fun j => nat_high qr kr cr b p _ (j.castLE (by decide))) (fun j => hv _ d)

theorem pair7_attend (q : FVec Ideal S1x256x128 .bf16) (k0 k1 k2 k3 k4 k5 k6 : FVec Ideal S1x128x256 .bf16) (c c' : FVec Ideal S1x1x1792 .f32) (mask : FVec Ideal S256x256 .f32) (v : FVec Ideal S1x2048x128 .bf16)
    (hq : ∀ (r : Fin 256) (d : Fin 128), q (ix3 (0 : Fin 1) r d) = (qr (ix3 b (⟨1536 + r.val, by omega⟩ : Fin 2048) (col p d)) : EReal))
    (hk0 : ∀ (d : Fin 128) (j : Fin 256), k0 (ix3 (0 : Fin 1) d j) = (kr (ix3 b (⟨0 + j.val, by omega⟩ : Fin 2048) (col p d)) : EReal)) (hk1 : ∀ (d : Fin 128) (j : Fin 256), k1 (ix3 (0 : Fin 1) d j) = (kr (ix3 b (⟨256 + j.val, by omega⟩ : Fin 2048) (col p d)) : EReal)) (hk2 : ∀ (d : Fin 128) (j : Fin 256), k2 (ix3 (0 : Fin 1) d j) = (kr (ix3 b (⟨512 + j.val, by omega⟩ : Fin 2048) (col p d)) : EReal)) (hk3 : ∀ (d : Fin 128) (j : Fin 256), k3 (ix3 (0 : Fin 1) d j) = (kr (ix3 b (⟨768 + j.val, by omega⟩ : Fin 2048) (col p d)) : EReal)) (hk4 : ∀ (d : Fin 128) (j : Fin 256), k4 (ix3 (0 : Fin 1) d j) = (kr (ix3 b (⟨1024 + j.val, by omega⟩ : Fin 2048) (col p d)) : EReal)) (hk5 : ∀ (d : Fin 128) (j : Fin 256), k5 (ix3 (0 : Fin 1) d j) = (kr (ix3 b (⟨1280 + j.val, by omega⟩ : Fin 2048) (col p d)) : EReal)) (hk6 : ∀ (d : Fin 128) (j : Fin 256), k6 (ix3 (0 : Fin 1) d j) = (kr (ix3 b (⟨1536 + j.val, by omega⟩ : Fin 2048) (col p d)) : EReal))
    (hc : ∀ j : Fin 1792, c (ix3 (0 : Fin 1) (0 : Fin 1) j) = (cr (ix3 b (headA p) (j.castLE (by decide) : Fin 2048)) : EReal))
    (hc' : ∀ j : Fin 1792, c' (ix3 (0 : Fin 1) (0 : Fin 1) j) = (cr (ix3 b (headB p) (j.castLE (by decide) : Fin 2048)) : EReal))
    (hm : ∀ r j : Fin 256, mask (ix2 r j) = if j.val ≤ r.val then 1 else 0)
    (hv : ∀ (j : Fin 2048) (d : Fin 128), v (ix3 (0 : Fin 1) j d) = vv (ix3 b j (col p d))) (r : Fin 256) (d : Fin 128) :
    pair7 q k0 k1 k2 k3 k4 k5 k6 c c' mask v (ix3 (0 : Fin 1) r d) = attend qr kr cr vv (ix3 b (⟨1536 + r.val, by omega⟩ : Fin 2048) (col p d)) := by
  refine (both_apply _ _ r d).trans ?_
  rw [lanes0_apply]
  by_cases hd : d.val < 64
  · rw [if_pos hd, attend_prefix qr kr cr vv b 1792 (by decide) ⟨1536 + r.val, by omega⟩ (by show 1536 + r.val < 1792; omega) (headA p) (col p d) (by show (128 * p.val + d.val) / 64 = 2 * p.val; omega)]
    refine (head7_apply (fun d => d.val < 64) (fun d => qr (ix3 b (⟨1536 + r.val, by omega⟩ : Fin 2048) (col p d))) (keyOf kr b p) (gateOf cr b (headA p)) lanes0 q c mask r lanes0_apply (hq r)
      (fun j => (hc j).trans (congrArg _ (gateOf_val cr b (headA p) (j.castLE (by decide))).symm)) (hm r) 64 _ (by decide) (by decide) k0 k1 k2 k3 k4 k5 k6
      (fun d j => (hk0 d j).trans (congrArg _ (keyOf_val kr b p ⟨0 + j.val, by omega⟩ d).symm)) (fun d j => (hk1 d j).trans (congrArg _ (keyOf_val kr b p ⟨256 + j.val, by omega⟩ d).symm)) (fun d j => (hk2 d j).trans (congrArg _ (keyOf_val kr b p ⟨512 + j.val, by omega⟩ d).symm)) (fun d j => (hk3 d j).trans (congrArg _ (keyOf_val kr b p ⟨768 + j.val, by omega⟩ d).symm)) (fun d j => (hk4 d j).trans (congrArg _ (keyOf_val kr b p ⟨1024 + j.val, by omega⟩ d).symm)) (fun d j => (hk5 d j).trans (congrArg _ (keyOf_val kr b p ⟨1280 + j.val, by omega⟩ d).symm)) (fun d j => (hk6 d j).trans (congrArg _ (keyOf_val kr b p ⟨1536 + j.val, by omega⟩ d).symm)) v d hd (cr (ix3 b (headA p) ⟨1536 + r.val, by omega⟩))).trans ?_
    exact shares_congr _ _ _ _ _ (fun j => nat_low qr kr cr b p _ (j.castLE (by decide))) (fun j => hv _ d)
  · rw [if_neg hd, attend_prefix qr kr cr vv b 1792 (by decide) ⟨1536 + r.val, by omega⟩ (by show 1536 + r.val < 1792; omega) (headB p) (col p d) (by show (128 * p.val + d.val) / 64 = 2 * p.val + 1; omega)]
    refine (head7_apply (fun d => ¬d.val < 64) (fun d => qr (ix3 b (⟨1536 + r.val, by omega⟩ : Fin 2048) (col p d))) (keyOf kr b p) (gateOf cr b (headB p)) lanes1 q c' mask r (fun d => (lanes1_apply d).trans (ite_not _ _ _).symm) (hq r)
      (fun j => (hc' j).trans (congrArg _ (gateOf_val cr b (headB p) (j.castLE (by decide))).symm)) (hm r) 0 _ (by decide) (by decide) k0 k1 k2 k3 k4 k5 k6
      (fun d j => (hk0 d j).trans (congrArg _ (keyOf_val kr b p ⟨0 + j.val, by omega⟩ d).symm)) (fun d j => (hk1 d j).trans (congrArg _ (keyOf_val kr b p ⟨256 + j.val, by omega⟩ d).symm)) (fun d j => (hk2 d j).trans (congrArg _ (keyOf_val kr b p ⟨512 + j.val, by omega⟩ d).symm)) (fun d j => (hk3 d j).trans (congrArg _ (keyOf_val kr b p ⟨768 + j.val, by omega⟩ d).symm)) (fun d j => (hk4 d j).trans (congrArg _ (keyOf_val kr b p ⟨1024 + j.val, by omega⟩ d).symm)) (fun d j => (hk5 d j).trans (congrArg _ (keyOf_val kr b p ⟨1280 + j.val, by omega⟩ d).symm)) (fun d j => (hk6 d j).trans (congrArg _ (keyOf_val kr b p ⟨1536 + j.val, by omega⟩ d).symm)) v d hd (cr (ix3 b (headB p) ⟨1536 + r.val, by omega⟩))).trans ?_
    exact shares_congr _ _ _ _ _ (fun j => nat_high qr kr cr b p _ (j.castLE (by decide))) (fun j => hv _ d)

theorem pair8_attend (q : FVec Ideal S1x256x128 .bf16) (k0 k1 k2 k3 k4 k5 k6 k7 : FVec Ideal S1x128x256 .bf16) (c c' : FVec Ideal S1x1x2048 .f32) (mask : FVec Ideal S256x256 .f32) (v : FVec Ideal S1x2048x128 .bf16)
    (hq : ∀ (r : Fin 256) (d : Fin 128), q (ix3 (0 : Fin 1) r d) = (qr (ix3 b (⟨1792 + r.val, by omega⟩ : Fin 2048) (col p d)) : EReal))
    (hk0 : ∀ (d : Fin 128) (j : Fin 256), k0 (ix3 (0 : Fin 1) d j) = (kr (ix3 b (⟨0 + j.val, by omega⟩ : Fin 2048) (col p d)) : EReal)) (hk1 : ∀ (d : Fin 128) (j : Fin 256), k1 (ix3 (0 : Fin 1) d j) = (kr (ix3 b (⟨256 + j.val, by omega⟩ : Fin 2048) (col p d)) : EReal)) (hk2 : ∀ (d : Fin 128) (j : Fin 256), k2 (ix3 (0 : Fin 1) d j) = (kr (ix3 b (⟨512 + j.val, by omega⟩ : Fin 2048) (col p d)) : EReal)) (hk3 : ∀ (d : Fin 128) (j : Fin 256), k3 (ix3 (0 : Fin 1) d j) = (kr (ix3 b (⟨768 + j.val, by omega⟩ : Fin 2048) (col p d)) : EReal)) (hk4 : ∀ (d : Fin 128) (j : Fin 256), k4 (ix3 (0 : Fin 1) d j) = (kr (ix3 b (⟨1024 + j.val, by omega⟩ : Fin 2048) (col p d)) : EReal)) (hk5 : ∀ (d : Fin 128) (j : Fin 256), k5 (ix3 (0 : Fin 1) d j) = (kr (ix3 b (⟨1280 + j.val, by omega⟩ : Fin 2048) (col p d)) : EReal)) (hk6 : ∀ (d : Fin 128) (j : Fin 256), k6 (ix3 (0 : Fin 1) d j) = (kr (ix3 b (⟨1536 + j.val, by omega⟩ : Fin 2048) (col p d)) : EReal)) (hk7 : ∀ (d : Fin 128) (j : Fin 256), k7 (ix3 (0 : Fin 1) d j) = (kr (ix3 b (⟨1792 + j.val, by omega⟩ : Fin 2048) (col p d)) : EReal))
    (hc : ∀ j : Fin 2048, c (ix3 (0 : Fin 1) (0 : Fin 1) j) = (cr (ix3 b (headA p) (j.castLE (by decide) : Fin 2048)) : EReal))
    (hc' : ∀ j : Fin 2048, c' (ix3 (0 : Fin 1) (0 : Fin 1) j) = (cr (ix3 b (headB p) (j.castLE (by decide) : Fin 2048)) : EReal))
    (hm : ∀ r j : Fin 256, mask (ix2 r j) = if j.val ≤ r.val then 1 else 0)
    (hv : ∀ (j : Fin 2048) (d : Fin 128), v (ix3 (0 : Fin 1) j d) = vv (ix3 b j (col p d))) (r : Fin 256) (d : Fin 128) :
    pair8 q k0 k1 k2 k3 k4 k5 k6 k7 c c' mask v (ix3 (0 : Fin 1) r d) = attend qr kr cr vv (ix3 b (⟨1792 + r.val, by omega⟩ : Fin 2048) (col p d)) := by
  refine (both_apply _ _ r d).trans ?_
  rw [lanes0_apply]
  by_cases hd : d.val < 64
  · rw [if_pos hd, attend_prefix qr kr cr vv b 2048 (by decide) ⟨1792 + r.val, by omega⟩ (by show 1792 + r.val < 2048; omega) (headA p) (col p d) (by show (128 * p.val + d.val) / 64 = 2 * p.val; omega)]
    refine (head8_apply (fun d => d.val < 64) (fun d => qr (ix3 b (⟨1792 + r.val, by omega⟩ : Fin 2048) (col p d))) (keyOf kr b p) (gateOf cr b (headA p)) lanes0 q c mask r lanes0_apply (hq r)
      (fun j => (hc j).trans (congrArg _ (gateOf_val cr b (headA p) (j.castLE (by decide))).symm)) (hm r) 64 _ (by decide) (by decide) k0 k1 k2 k3 k4 k5 k6 k7
      (fun d j => (hk0 d j).trans (congrArg _ (keyOf_val kr b p ⟨0 + j.val, by omega⟩ d).symm)) (fun d j => (hk1 d j).trans (congrArg _ (keyOf_val kr b p ⟨256 + j.val, by omega⟩ d).symm)) (fun d j => (hk2 d j).trans (congrArg _ (keyOf_val kr b p ⟨512 + j.val, by omega⟩ d).symm)) (fun d j => (hk3 d j).trans (congrArg _ (keyOf_val kr b p ⟨768 + j.val, by omega⟩ d).symm)) (fun d j => (hk4 d j).trans (congrArg _ (keyOf_val kr b p ⟨1024 + j.val, by omega⟩ d).symm)) (fun d j => (hk5 d j).trans (congrArg _ (keyOf_val kr b p ⟨1280 + j.val, by omega⟩ d).symm)) (fun d j => (hk6 d j).trans (congrArg _ (keyOf_val kr b p ⟨1536 + j.val, by omega⟩ d).symm)) (fun d j => (hk7 d j).trans (congrArg _ (keyOf_val kr b p ⟨1792 + j.val, by omega⟩ d).symm)) v d hd (cr (ix3 b (headA p) ⟨1792 + r.val, by omega⟩))).trans ?_
    exact shares_congr _ _ _ _ _ (fun j => nat_low qr kr cr b p _ (j.castLE (by decide))) (fun j => hv _ d)
  · rw [if_neg hd, attend_prefix qr kr cr vv b 2048 (by decide) ⟨1792 + r.val, by omega⟩ (by show 1792 + r.val < 2048; omega) (headB p) (col p d) (by show (128 * p.val + d.val) / 64 = 2 * p.val + 1; omega)]
    refine (head8_apply (fun d => ¬d.val < 64) (fun d => qr (ix3 b (⟨1792 + r.val, by omega⟩ : Fin 2048) (col p d))) (keyOf kr b p) (gateOf cr b (headB p)) lanes1 q c' mask r (fun d => (lanes1_apply d).trans (ite_not _ _ _).symm) (hq r)
      (fun j => (hc' j).trans (congrArg _ (gateOf_val cr b (headB p) (j.castLE (by decide))).symm)) (hm r) 0 _ (by decide) (by decide) k0 k1 k2 k3 k4 k5 k6 k7
      (fun d j => (hk0 d j).trans (congrArg _ (keyOf_val kr b p ⟨0 + j.val, by omega⟩ d).symm)) (fun d j => (hk1 d j).trans (congrArg _ (keyOf_val kr b p ⟨256 + j.val, by omega⟩ d).symm)) (fun d j => (hk2 d j).trans (congrArg _ (keyOf_val kr b p ⟨512 + j.val, by omega⟩ d).symm)) (fun d j => (hk3 d j).trans (congrArg _ (keyOf_val kr b p ⟨768 + j.val, by omega⟩ d).symm)) (fun d j => (hk4 d j).trans (congrArg _ (keyOf_val kr b p ⟨1024 + j.val, by omega⟩ d).symm)) (fun d j => (hk5 d j).trans (congrArg _ (keyOf_val kr b p ⟨1280 + j.val, by omega⟩ d).symm)) (fun d j => (hk6 d j).trans (congrArg _ (keyOf_val kr b p ⟨1536 + j.val, by omega⟩ d).symm)) (fun d j => (hk7 d j).trans (congrArg _ (keyOf_val kr b p ⟨1792 + j.val, by omega⟩ d).symm)) v d hd (cr (ix3 b (headB p) ⟨1792 + r.val, by omega⟩))).trans ?_
    exact shares_congr _ _ _ _ _ (fun j => nat_high qr kr cr b p _ (j.castLE (by decide))) (fun j => hv _ d)

end Cert.KernelIdeal.Fox
-- ==== Proof.FoxBlocks.lean ====
module

public import proofs.«01_k».proof.Proof.Gen.KernelIdeal.Frame
public import Idealize.ShloMosaic.Lib.Pipeline.ReadBack
public import Idealize.ShloMosaic.Lib.Pipeline.ValueKit
public import Idealize.ShloMosaic.Lib.StableHlo.ReadAt

/-! What the blocks of a grid point hold. Point `t` is sequence `t`: its queries, its keys (transposed), its values and
    its cumulative gates; the table of who may see whom is whole at every point. -/

@[expose] public section

set_option maxRecDepth 16384

noncomputable section

open Idealize.ShloMosaic Idealize.ShloMosaic.TcCoe Idealize.SL.Sem

namespace Cert.KernelIdeal.Fox
open Cert.KernelIdeal Cert.KernelIdeal.Gen

variable (m : (ℓ : Loc nD τ sig) → Buf (Elt Ideal) ℓ) (c : Dev nD)

/-- The queries as the run finds them. -/
def argQ : S16x2048x512.Idx → EReal := m ((c : Thread nD τ).loc main_arg0)

/-- The keys as the run finds them. -/
def argK : S16x2048x512.Idx → EReal := m ((c : Thread nD τ).loc main_arg1)

/-- The values as the run finds them. -/
def argV : S16x2048x512.Idx → EReal := m ((c : Thread nD τ).loc main_arg2)

/-- The cumulative gates as the run finds them. -/
def argC : S16x8x2048.Idx → EReal := m ((c : Thread nD τ).loc main_arg3)

theorem pt_lt (t : Fin cfg0.N) : t.val < 16 := lt_of_lt_of_eq t.isLt (show cfg0.N = 16 from N_0)

/-- The sequence of a grid point. -/
def sq (t : Fin cfg0.N) : Fin 16 := ⟨t.val, pt_lt t⟩

theorem tile_index : ∀ t : Fin cfg0.N, (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0)
    ∧ (win0_4.index t 0 = 0 ∧ win0_4.index t 1 = 0)
    ∧ (win0_5.index t 0 = t.val ∧ win0_5.index t 1 = 0 ∧ win0_5.index t 2 = 0) :=
  (by decide +kernel : ∀ t : Fin grid0.N, _)

theorem blk_q (t : Fin cfg0.N) (i : Fin 2048) (l : Fin 512) : iblk m c 0 t (ix3 (0 : Fin 1) i l) = argQ m c (ix3 (sq t) i l) := by
  obtain ⟨⟨e0, e1, e2⟩, -⟩ := tile_index t
  have h : iblk m c 0 t (ix3 (0 : Fin 1) i l) = V m c (Pipeline.arrRef spec0 0) (ix3 (sq t) i l) := by
    unfold sq
    blk_ext [iblk, e0, e1, e2]
  rw [h]
  unfold V argQ
  simp only [List.flatten_cons, List.flatten_nil, List.append_nil, List.cons_append, List.nil_append]
  after_reads_at

theorem blk_k (t : Fin cfg0.N) (l : Fin 512) (j : Fin 2048) : iblk m c 1 t (ix3 (0 : Fin 1) l j) = argK m c (ix3 (sq t) j l) := by
  obtain ⟨-, ⟨e0, e1, e2⟩, -⟩ := tile_index t
  have h : iblk m c 1 t (ix3 (0 : Fin 1) l j) = V m c (Pipeline.arrRef spec0 1) (ix3 (sq t) l j) := by
    unfold sq
    blk_ext [iblk, e0, e1, e2]
  rw [h]
  unfold V argK
  simp only [List.flatten_cons, List.flatten_nil, List.append_nil, List.cons_append, List.nil_append]
  after_reads_at

theorem blk_v (t : Fin cfg0.N) (j : Fin 2048) (l : Fin 512) : iblk m c 2 t (ix3 (0 : Fin 1) j l) = argV m c (ix3 (sq t) j l) := by
  obtain ⟨-, -, ⟨e0, e1, e2⟩, -⟩ := tile_index t
  have h : iblk m c 2 t (ix3 (0 : Fin 1) j l) = V m c (Pipeline.arrRef spec0 2) (ix3 (sq t) j l) := by
    unfold sq
    blk_ext [iblk, e0, e1, e2]
  rw [h]
  unfold V argV
  simp only [List.flatten_cons, List.flatten_nil, List.append_nil, List.cons_append, List.nil_append]
  after_reads_at

theorem blk_c (t : Fin cfg0.N) (h : Fin 8) (j : Fin 2048) : iblk m c 3 t (ix3 (0 : Fin 1) h j) = argC m c (ix3 (sq t) h j) := by
  obtain ⟨-, -, -, ⟨e0, e1, e2⟩, -⟩ := tile_index t
  unfold sq argC
  blk_ext [iblk, V, e0, e1, e2]

/-- The table of who may see whom in the block of 256 keys that holds the query itself. -/
theorem blk_m (t : Fin cfg0.N) (r j : Fin 256) : iblk m c 4 t (ix2 r j) = if j.val ≤ r.val then (1 : EReal) else 0 := by
  have h : iblk m c 4 t (ix2 r j) = V m c (Pipeline.arrRef spec0 4) (ix2 r j) := by
    blk_ext [iblk, (tile_index t).2.2.2.2.1.1, (tile_index t).2.2.2.2.1.2]
  rw [h]
  unfold V
  simp only [List.flatten_cons, List.flatten_nil, List.append_nil, List.cons_append, List.nil_append]
  after_reads_at
  have hj := j.isLt
  have hd := r.isLt
  have e : (BitVec.ofNat 32 j.val).sle (BitVec.ofNat 32 r.val) = decide (j.val ≤ r.val) := by
    have f : ∀ n : ℕ, n < 256 → (BitVec.ofNat 32 n).toInt = (n : ℤ) := fun n hn => by
      have e : (BitVec.ofNat 32 n).toNat = n := by rw [BitVec.toNat_ofNat]; exact Nat.mod_eq_of_lt (by omega)
      rw [BitVec.toInt_eq_toNat_of_lt (by rw [e]; omega), e]
    rw [BitVec.sle_eq_decide, f _ hj, f _ hd]
    exact decide_eq_decide.2 Int.ofNat_le
  by_cases h : j.val ≤ r.val
  · rw [if_pos h]
    simp [IntOp.cmpi, FloatOps.uitofp, e, h]
  · rw [if_neg h]
    simp [IntOp.cmpi, FloatOps.uitofp, e, h]

end Cert.KernelIdeal.Fox
-- ==== Proof.FoxPoint.lean ====
module

public import proofs.«01_k».proof.Proof.FoxPair
public import proofs.«01_k».proof.Proof.FoxReads
public import proofs.«01_k».proof.Proof.FoxBlocks

/-! What a grid point leaves in its block: eight blocks of 256 queries times four pairs of heads, each of them the
    attended values. -/

@[expose] public section

set_option maxRecDepth 65536
noncomputable section
open Idealize.ShloMosaic Idealize.ShloMosaic.TcCoe Idealize.SL.Sem
namespace Cert.KernelIdeal.Fox
open Cert.KernelIdeal Cert.KernelIdeal.Gen Cert.Fox

theorem canon_of_pieces (G : S1x2048x512.Idx → EReal) (L : List (View.Piece (Elt Ideal) S1x2048x512 .bf16)) (h : View.PiecesOf G L)
    (hc : View.Piece.tiledL L ![1, 256, 128] = true) : View.canon L = G := by
  funext y
  have := View.canon_append_of_piecesOf G [] L h y (View.cover_of_tiledL L ![1, 256, 128] hc y)
  rwa [List.append_nil] at this

/-- A read of part of a block. -/
theorem ld3 {A B C x y z o p : ℕ} (X : (⟨3, ![A, B, C]⟩ : Shape).Idx → EReal) (hb : ∀ a : Fin 3, (![0, o, p] : Fin 3 → ℕ) a + (![x, y, z] : Fin 3 → ℕ) a ≤ (![A, B, C] : Fin 3 → ℕ) a)
    (a : Fin x) (i : Fin y) (j : Fin z) (a' : Fin A) (i' : Fin B) (j' : Fin C) (ha : a'.val = a.val) (hi : i'.val = o + i.val) (hj : j'.val = p + j.val) :
    View.ld (Val := Elt Ideal) (e' := .f32) X (Rect.unit (s := ⟨3, ![A, B, C]⟩) ![0, o, p] ![x, y, z] hb) (ix3 a i j) = X (ix3 a' i' j') :=
  View.ld_unit_apply_of (Val := Elt Ideal) (e := .f32) X _ _ hb (ix3 a i j) (ix3 a' i' j') fun d => match d with
    | ⟨0, _⟩ => ha.trans (Nat.zero_add _).symm
    | ⟨1, _⟩ => hi
    | ⟨2, _⟩ => hj

section
variable (X0 X2 : S1x2048x512.Idx → EReal) (X1 : S1x512x2048.Idx → EReal) (X3 : S1x8x2048.Idx → EReal) (X4 : S256x256.Idx → EReal)
  (qr kr : S16x2048x512.Idx → ℝ) (cr : S16x8x2048.Idx → ℝ) (vv : S16x2048x512.Idx → EReal) (b : Fin 16)
  (h0 : ∀ (i : Fin 2048) (l : Fin 512), X0 (ix3 (0 : Fin 1) i l) = (qr (ix3 b i l) : EReal))
  (h1 : ∀ (l : Fin 512) (j : Fin 2048), X1 (ix3 (0 : Fin 1) l j) = (kr (ix3 b j l) : EReal))
  (h2 : ∀ (j : Fin 2048) (l : Fin 512), X2 (ix3 (0 : Fin 1) j l) = vv (ix3 b j l))
  (h3 : ∀ (h : Fin 8) (j : Fin 2048), X3 (ix3 (0 : Fin 1) h j) = (cr (ix3 b h j) : EReal))
  (h4 : ∀ r j : Fin 256, X4 (ix2 r j) = if j.val ≤ r.val then (1 : EReal) else 0)
include h0 h1 h2 h3 h4

theorem block1_3 (x : S1x256x128.Idx) :
    pair1 (View.ld (Val := Elt Ideal) (e' := .bf16) X0 (Rect.unit (s := S1x2048x512) ![0, 0, 384] ![1, 256, 128] (by decide))) (View.ld (Val := Elt Ideal) (e' := .bf16) X1 (Rect.unit (s := S1x512x2048) ![0, 384, 0] ![1, 128, 256] (by decide)))
      (View.ld (Val := Elt Ideal) (e' := .f32) X3 (Rect.unit (s := S1x8x2048) ![0, 6, 0] ![1, 1, 256] (by decide))) (View.ld (Val := Elt Ideal) (e' := .f32) X3 (Rect.unit (s := S1x8x2048) ![0, 7, 0] ![1, 1, 256] (by decide)))
      X4 (View.ld (Val := Elt Ideal) (e' := .bf16) X2 (Rect.unit (s := S1x2048x512) ![0, 0, 384] ![1, 2048, 128] (by decide))) x =
      attend qr kr cr vv (ix3 b ((Rect.unit (s := S1x2048x512) ![0, 0, 384] ![1, 256, 128] (by decide)).emb x 1) ((Rect.unit (s := S1x2048x512) ![0, 0, 384] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair1_attend qr kr cr vv b 3 _ _ _ _ X4 _
      (fun r d => (ld3 X0 (by decide) 0 r d (0 : Fin 1) ⟨0 + r.val, by omega⟩ (col 3 d) rfl rfl rfl).trans (h0 _ _))
      (fun d j => (ld3 X1 (by decide) 0 d j (0 : Fin 1) (col 3 d) ⟨0 + j.val, by omega⟩ rfl rfl rfl).trans (h1 _ _))
      (fun j => (ld3 X3 (by decide) 0 0 j (0 : Fin 1) (headA 3) (j.castLE (by decide)) rfl rfl (Nat.zero_add _).symm).trans (h3 _ _))
      (fun j => (ld3 X3 (by decide) 0 0 j (0 : Fin 1) (headB 3) (j.castLE (by decide)) rfl rfl (Nat.zero_add _).symm).trans (h3 _ _))
      h4 (fun j d => (ld3 X2 (by decide) 0 j d (0 : Fin 1) j (col 3 d) rfl (Nat.zero_add _).symm rfl).trans (h2 _ _)) r d).trans ?_
  exact congrArg _ (congrArg₂ (ix3 b) (Fin.ext (congrArg (fun z => 0 + z) (Nat.one_mul r.val).symm)) (Fin.ext (congrArg (fun z => 384 + z) (Nat.one_mul d.val).symm)))

theorem block1_2 (x : S1x256x128.Idx) :
    pair1 (View.ld (Val := Elt Ideal) (e' := .bf16) X0 (Rect.unit (s := S1x2048x512) ![0, 0, 256] ![1, 256, 128] (by decide))) (View.ld (Val := Elt Ideal) (e' := .bf16) X1 (Rect.unit (s := S1x512x2048) ![0, 256, 0] ![1, 128, 256] (by decide)))
      (View.ld (Val := Elt Ideal) (e' := .f32) X3 (Rect.unit (s := S1x8x2048) ![0, 4, 0] ![1, 1, 256] (by decide))) (View.ld (Val := Elt Ideal) (e' := .f32) X3 (Rect.unit (s := S1x8x2048) ![0, 5, 0] ![1, 1, 256] (by decide)))
      X4 (View.ld (Val := Elt Ideal) (e' := .bf16) X2 (Rect.unit (s := S1x2048x512) ![0, 0, 256] ![1, 2048, 128] (by decide))) x =
      attend qr kr cr vv (ix3 b ((Rect.unit (s := S1x2048x512) ![0, 0, 256] ![1, 256, 128] (by decide)).emb x 1) ((Rect.unit (s := S1x2048x512) ![0, 0, 256] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair1_attend qr kr cr vv b 2 _ _ _ _ X4 _
      (fun r d => (ld3 X0 (by decide) 0 r d (0 : Fin 1) ⟨0 + r.val, by omega⟩ (col 2 d) rfl rfl rfl).trans (h0 _ _))
      (fun d j => (ld3 X1 (by decide) 0 d j (0 : Fin 1) (col 2 d) ⟨0 + j.val, by omega⟩ rfl rfl rfl).trans (h1 _ _))
      (fun j => (ld3 X3 (by decide) 0 0 j (0 : Fin 1) (headA 2) (j.castLE (by decide)) rfl rfl (Nat.zero_add _).symm).trans (h3 _ _))
      (fun j => (ld3 X3 (by decide) 0 0 j (0 : Fin 1) (headB 2) (j.castLE (by decide)) rfl rfl (Nat.zero_add _).symm).trans (h3 _ _))
      h4 (fun j d => (ld3 X2 (by decide) 0 j d (0 : Fin 1) j (col 2 d) rfl (Nat.zero_add _).symm rfl).trans (h2 _ _)) r d).trans ?_
  exact congrArg _ (congrArg₂ (ix3 b) (Fin.ext (congrArg (fun z => 0 + z) (Nat.one_mul r.val).symm)) (Fin.ext (congrArg (fun z => 256 + z) (Nat.one_mul d.val).symm)))

theorem block1_1 (x : S1x256x128.Idx) :
    pair1 (View.ld (Val := Elt Ideal) (e' := .bf16) X0 (Rect.unit (s := S1x2048x512) ![0, 0, 128] ![1, 256, 128] (by decide))) (View.ld (Val := Elt Ideal) (e' := .bf16) X1 (Rect.unit (s := S1x512x2048) ![0, 128, 0] ![1, 128, 256] (by decide)))
      (View.ld (Val := Elt Ideal) (e' := .f32) X3 (Rect.unit (s := S1x8x2048) ![0, 2, 0] ![1, 1, 256] (by decide))) (View.ld (Val := Elt Ideal) (e' := .f32) X3 (Rect.unit (s := S1x8x2048) ![0, 3, 0] ![1, 1, 256] (by decide)))
      X4 (View.ld (Val := Elt Ideal) (e' := .bf16) X2 (Rect.unit (s := S1x2048x512) ![0, 0, 128] ![1, 2048, 128] (by decide))) x =
      attend qr kr cr vv (ix3 b ((Rect.unit (s := S1x2048x512) ![0, 0, 128] ![1, 256, 128] (by decide)).emb x 1) ((Rect.unit (s := S1x2048x512) ![0, 0, 128] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair1_attend qr kr cr vv b 1 _ _ _ _ X4 _
      (fun r d => (ld3 X0 (by decide) 0 r d (0 : Fin 1) ⟨0 + r.val, by omega⟩ (col 1 d) rfl rfl rfl).trans (h0 _ _))
      (fun d j => (ld3 X1 (by decide) 0 d j (0 : Fin 1) (col 1 d) ⟨0 + j.val, by omega⟩ rfl rfl rfl).trans (h1 _ _))
      (fun j => (ld3 X3 (by decide) 0 0 j (0 : Fin 1) (headA 1) (j.castLE (by decide)) rfl rfl (Nat.zero_add _).symm).trans (h3 _ _))
      (fun j => (ld3 X3 (by decide) 0 0 j (0 : Fin 1) (headB 1) (j.castLE (by decide)) rfl rfl (Nat.zero_add _).symm).trans (h3 _ _))
      h4 (fun j d => (ld3 X2 (by decide) 0 j d (0 : Fin 1) j (col 1 d) rfl (Nat.zero_add _).symm rfl).trans (h2 _ _)) r d).trans ?_
  exact congrArg _ (congrArg₂ (ix3 b) (Fin.ext (congrArg (fun z => 0 + z) (Nat.one_mul r.val).symm)) (Fin.ext (congrArg (fun z => 128 + z) (Nat.one_mul d.val).symm)))

theorem block1_0 (x : S1x256x128.Idx) :
    pair1 (View.ld (Val := Elt Ideal) (e' := .bf16) X0 (Rect.unit (s := S1x2048x512) ![0, 0, 0] ![1, 256, 128] (by decide))) (View.ld (Val := Elt Ideal) (e' := .bf16) X1 (Rect.unit (s := S1x512x2048) ![0, 0, 0] ![1, 128, 256] (by decide)))
      (View.ld (Val := Elt Ideal) (e' := .f32) X3 (Rect.unit (s := S1x8x2048) ![0, 0, 0] ![1, 1, 256] (by decide))) (View.ld (Val := Elt Ideal) (e' := .f32) X3 (Rect.unit (s := S1x8x2048) ![0, 1, 0] ![1, 1, 256] (by decide)))
      X4 (View.ld (Val := Elt Ideal) (e' := .bf16) X2 (Rect.unit (s := S1x2048x512) ![0, 0, 0] ![1, 2048, 128] (by decide))) x =
      attend qr kr cr vv (ix3 b ((Rect.unit (s := S1x2048x512) ![0, 0, 0] ![1, 256, 128] (by decide)).emb x 1) ((Rect.unit (s := S1x2048x512) ![0, 0, 0] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair1_attend qr kr cr vv b 0 _ _ _ _ X4 _
      (fun r d => (ld3 X0 (by decide) 0 r d (0 : Fin 1) ⟨0 + r.val, by omega⟩ (col 0 d) rfl rfl rfl).trans (h0 _ _))
      (fun d j => (ld3 X1 (by decide) 0 d j (0 : Fin 1) (col 0 d) ⟨0 + j.val, by omega⟩ rfl rfl rfl).trans (h1 _ _))
      (fun j => (ld3 X3 (by decide) 0 0 j (0 : Fin 1) (headA 0) (j.castLE (by decide)) rfl rfl (Nat.zero_add _).symm).trans (h3 _ _))
      (fun j => (ld3 X3 (by decide) 0 0 j (0 : Fin 1) (headB 0) (j.castLE (by decide)) rfl rfl (Nat.zero_add _).symm).trans (h3 _ _))
      h4 (fun j d => (ld3 X2 (by decide) 0 j d (0 : Fin 1) j (col 0 d) rfl (Nat.zero_add _).symm rfl).trans (h2 _ _)) r d).trans ?_
  exact congrArg _ (congrArg₂ (ix3 b) (Fin.ext (congrArg (fun z => 0 + z) (Nat.one_mul r.val).symm)) (Fin.ext (congrArg (fun z => 0 + z) (Nat.one_mul d.val).symm)))

theorem block2_3 (x : S1x256x128.Idx) :
    pair2 (View.ld (Val := Elt Ideal) (e' := .bf16) X0 (Rect.unit (s := S1x2048x512) ![0, 256, 384] ![1, 256, 128] (by decide))) (View.ld (Val := Elt Ideal) (e' := .bf16) X1 (Rect.unit (s := S1x512x2048) ![0, 384, 0] ![1, 128, 256] (by decide))) (View.ld (Val := Elt Ideal) (e' := .bf16) X1 (Rect.unit (s := S1x512x2048) ![0, 384, 256] ![1, 128, 256] (by decide)))
      (View.ld (Val := Elt Ideal) (e' := .f32) X3 (Rect.unit (s := S1x8x2048) ![0, 6, 0] ![1, 1, 512] (by decide))) (View.ld (Val := Elt Ideal) (e' := .f32) X3 (Rect.unit (s := S1x8x2048) ![0, 7, 0] ![1, 1, 512] (by decide)))
      X4 (View.ld (Val := Elt Ideal) (e' := .bf16) X2 (Rect.unit (s := S1x2048x512) ![0, 0, 384] ![1, 2048, 128] (by decide))) x =
      attend qr kr cr vv (ix3 b ((Rect.unit (s := S1x2048x512) ![0, 256, 384] ![1, 256, 128] (by decide)).emb x 1) ((Rect.unit (s := S1x2048x512) ![0, 256, 384] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair2_attend qr kr cr vv b 3 _ _ _ _ _ X4 _
      (fun r d => (ld3 X0 (by decide) 0 r d (0 : Fin 1) ⟨256 + r.val, by omega⟩ (col 3 d) rfl rfl rfl).trans (h0 _ _))
      (fun d j => (ld3 X1 (by decide) 0 d j (0 : Fin 1) (col 3 d) ⟨0 + j.val, by omega⟩ rfl rfl rfl).trans (h1 _ _))
      (fun d j => (ld3 X1 (by decide) 0 d j (0 : Fin 1) (col 3 d) ⟨256 + j.val, by omega⟩ rfl rfl rfl).trans (h1 _ _))
      (fun j => (ld3 X3 (by decide) 0 0 j (0 : Fin 1) (headA 3) (j.castLE (by decide)) rfl rfl (Nat.zero_add _).symm).trans (h3 _ _))
      (fun j => (ld3 X3 (by decide) 0 0 j (0 : Fin 1) (headB 3) (j.castLE (by decide)) rfl rfl (Nat.zero_add _).symm).trans (h3 _ _))
      h4 (fun j d => (ld3 X2 (by decide) 0 j d (0 : Fin 1) j (col 3 d) rfl (Nat.zero_add _).symm rfl).trans (h2 _ _)) r d).trans ?_
  exact congrArg _ (congrArg₂ (ix3 b) (Fin.ext (congrArg (fun z => 256 + z) (Nat.one_mul r.val).symm)) (Fin.ext (congrArg (fun z => 384 + z) (Nat.one_mul d.val).symm)))

theorem block2_2 (x : S1x256x128.Idx) :
    pair2 (View.ld (Val := Elt Ideal) (e' := .bf16) X0 (Rect.unit (s := S1x2048x512) ![0, 256, 256] ![1, 256, 128] (by decide))) (View.ld (Val := Elt Ideal) (e' := .bf16) X1 (Rect.unit (s := S1x512x2048) ![0, 256, 0] ![1, 128, 256] (by decide))) (View.ld (Val := Elt Ideal) (e' := .bf16) X1 (Rect.unit (s := S1x512x2048) ![0, 256, 256] ![1, 128, 256] (by decide)))
      (View.ld (Val := Elt Ideal) (e' := .f32) X3 (Rect.unit (s := S1x8x2048) ![0, 4, 0] ![1, 1, 512] (by decide))) (View.ld (Val := Elt Ideal) (e' := .f32) X3 (Rect.unit (s := S1x8x2048) ![0, 5, 0] ![1, 1, 512] (by decide)))
      X4 (View.ld (Val := Elt Ideal) (e' := .bf16) X2 (Rect.unit (s := S1x2048x512) ![0, 0, 256] ![1, 2048, 128] (by decide))) x =
      attend qr kr cr vv (ix3 b ((Rect.unit (s := S1x2048x512) ![0, 256, 256] ![1, 256, 128] (by decide)).emb x 1) ((Rect.unit (s := S1x2048x512) ![0, 256, 256] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair2_attend qr kr cr vv b 2 _ _ _ _ _ X4 _
      (fun r d => (ld3 X0 (by decide) 0 r d (0 : Fin 1) ⟨256 + r.val, by omega⟩ (col 2 d) rfl rfl rfl).trans (h0 _ _))
      (fun d j => (ld3 X1 (by decide) 0 d j (0 : Fin 1) (col 2 d) ⟨0 + j.val, by omega⟩ rfl rfl rfl).trans (h1 _ _))
      (fun d j => (ld3 X1 (by decide) 0 d j (0 : Fin 1) (col 2 d) ⟨256 + j.val, by omega⟩ rfl rfl rfl).trans (h1 _ _))
      (fun j => (ld3 X3 (by decide) 0 0 j (0 : Fin 1) (headA 2) (j.castLE (by decide)) rfl rfl (Nat.zero_add _).symm).trans (h3 _ _))
      (fun j => (ld3 X3 (by decide) 0 0 j (0 : Fin 1) (headB 2) (j.castLE (by decide)) rfl rfl (Nat.zero_add _).symm).trans (h3 _ _))
      h4 (fun j d => (ld3 X2 (by decide) 0 j d (0 : Fin 1) j (col 2 d) rfl (Nat.zero_add _).symm rfl).trans (h2 _ _)) r d).trans ?_
  exact congrArg _ (congrArg₂ (ix3 b) (Fin.ext (congrArg (fun z => 256 + z) (Nat.one_mul r.val).symm)) (Fin.ext (congrArg (fun z => 256 + z) (Nat.one_mul d.val).symm)))

theorem block2_1 (x : S1x256x128.Idx) :
    pair2 (View.ld (Val := Elt Ideal) (e' := .bf16) X0 (Rect.unit (s := S1x2048x512) ![0, 256, 128] ![1, 256, 128] (by decide))) (View.ld (Val := Elt Ideal) (e' := .bf16) X1 (Rect.unit (s := S1x512x2048) ![0, 128, 0] ![1, 128, 256] (by decide))) (View.ld (Val := Elt Ideal) (e' := .bf16) X1 (Rect.unit (s := S1x512x2048) ![0, 128, 256] ![1, 128, 256] (by decide)))
      (View.ld (Val := Elt Ideal) (e' := .f32) X3 (Rect.unit (s := S1x8x2048) ![0, 2, 0] ![1, 1, 512] (by decide))) (View.ld (Val := Elt Ideal) (e' := .f32) X3 (Rect.unit (s := S1x8x2048) ![0, 3, 0] ![1, 1, 512] (by decide)))
      X4 (View.ld (Val := Elt Ideal) (e' := .bf16) X2 (Rect.unit (s := S1x2048x512) ![0, 0, 128] ![1, 2048, 128] (by decide))) x =
      attend qr kr cr vv (ix3 b ((Rect.unit (s := S1x2048x512) ![0, 256, 128] ![1, 256, 128] (by decide)).emb x 1) ((Rect.unit (s := S1x2048x512) ![0, 256, 128] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair2_attend qr kr cr vv b 1 _ _ _ _ _ X4 _
      (fun r d => (ld3 X0 (by decide) 0 r d (0 : Fin 1) ⟨256 + r.val, by omega⟩ (col 1 d) rfl rfl rfl).trans (h0 _ _))
      (fun d j => (ld3 X1 (by decide) 0 d j (0 : Fin 1) (col 1 d) ⟨0 + j.val, by omega⟩ rfl rfl rfl).trans (h1 _ _))
      (fun d j => (ld3 X1 (by decide) 0 d j (0 : Fin 1) (col 1 d) ⟨256 + j.val, by omega⟩ rfl rfl rfl).trans (h1 _ _))
      (fun j => (ld3 X3 (by decide) 0 0 j (0 : Fin 1) (headA 1) (j.castLE (by decide)) rfl rfl (Nat.zero_add _).symm).trans (h3 _ _))
      (fun j => (ld3 X3 (by decide) 0 0 j (0 : Fin 1) (headB 1) (j.castLE (by decide)) rfl rfl (Nat.zero_add _).symm).trans (h3 _ _))
      h4 (fun j d => (ld3 X2 (by decide) 0 j d (0 : Fin 1) j (col 1 d) rfl (Nat.zero_add _).symm rfl).trans (h2 _ _)) r d).trans ?_
  exact congrArg _ (congrArg₂ (ix3 b) (Fin.ext (congrArg (fun z => 256 + z) (Nat.one_mul r.val).symm)) (Fin.ext (congrArg (fun z => 128 + z) (Nat.one_mul d.val).symm)))

theorem block2_0 (x : S1x256x128.Idx) :
    pair2 (View.ld (Val := Elt Ideal) (e' := .bf16) X0 (Rect.unit (s := S1x2048x512) ![0, 256, 0] ![1, 256, 128] (by decide))) (View.ld (Val := Elt Ideal) (e' := .bf16) X1 (Rect.unit (s := S1x512x2048) ![0, 0, 0] ![1, 128, 256] (by decide))) (View.ld (Val := Elt Ideal) (e' := .bf16) X1 (Rect.unit (s := S1x512x2048) ![0, 0, 256] ![1, 128, 256] (by decide)))
      (View.ld (Val := Elt Ideal) (e' := .f32) X3 (Rect.unit (s := S1x8x2048) ![0, 0, 0] ![1, 1, 512] (by decide))) (View.ld (Val := Elt Ideal) (e' := .f32) X3 (Rect.unit (s := S1x8x2048) ![0, 1, 0] ![1, 1, 512] (by decide)))
      X4 (View.ld (Val := Elt Ideal) (e' := .bf16) X2 (Rect.unit (s := S1x2048x512) ![0, 0, 0] ![1, 2048, 128] (by decide))) x =
      attend qr kr cr vv (ix3 b ((Rect.unit (s := S1x2048x512) ![0, 256, 0] ![1, 256, 128] (by decide)).emb x 1) ((Rect.unit (s := S1x2048x512) ![0, 256, 0] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair2_attend qr kr cr vv b 0 _ _ _ _ _ X4 _
      (fun r d => (ld3 X0 (by decide) 0 r d (0 : Fin 1) ⟨256 + r.val, by omega⟩ (col 0 d) rfl rfl rfl).trans (h0 _ _))
      (fun d j => (ld3 X1 (by decide) 0 d j (0 : Fin 1) (col 0 d) ⟨0 + j.val, by omega⟩ rfl rfl rfl).trans (h1 _ _))
      (fun d j => (ld3 X1 (by decide) 0 d j (0 : Fin 1) (col 0 d) ⟨256 + j.val, by omega⟩ rfl rfl rfl).trans (h1 _ _))
      (fun j => (ld3 X3 (by decide) 0 0 j (0 : Fin 1) (headA 0) (j.castLE (by decide)) rfl rfl (Nat.zero_add _).symm).trans (h3 _ _))
      (fun j => (ld3 X3 (by decide) 0 0 j (0 : Fin 1) (headB 0) (j.castLE (by decide)) rfl rfl (Nat.zero_add _).symm).trans (h3 _ _))
      h4 (fun j d => (ld3 X2 (by decide) 0 j d (0 : Fin 1) j (col 0 d) rfl (Nat.zero_add _).symm rfl).trans (h2 _ _)) r d).trans ?_
  exact congrArg _ (congrArg₂ (ix3 b) (Fin.ext (congrArg (fun z => 256 + z) (Nat.one_mul r.val).symm)) (Fin.ext (congrArg (fun z => 0 + z) (Nat.one_mul d.val).symm)))

theorem block3_3 (x : S1x256x128.Idx) :
    pair3 (View.ld (Val := Elt Ideal) (e' := .bf16) X0 (Rect.unit (s := S1x2048x512) ![0, 512, 384] ![1, 256, 128] (by decide))) (View.ld (Val := Elt Ideal) (e' := .bf16) X1 (Rect.unit (s := S1x512x2048) ![0, 384, 0] ![1, 128, 256] (by decide))) (View.ld (Val := Elt Ideal) (e' := .bf16) X1 (Rect.unit (s := S1x512x2048) ![0, 384, 256] ![1, 128, 256] (by decide))) (View.ld (Val := Elt Ideal) (e' := .bf16) X1 (Rect.unit (s := S1x512x2048) ![0, 384, 512] ![1, 128, 256] (by decide)))
      (View.ld (Val := Elt Ideal) (e' := .f32) X3 (Rect.unit (s := S1x8x2048) ![0, 6, 0] ![1, 1, 768] (by decide))) (View.ld (Val := Elt Ideal) (e' := .f32) X3 (Rect.unit (s := S1x8x2048) ![0, 7, 0] ![1, 1, 768] (by decide)))
      X4 (View.ld (Val := Elt Ideal) (e' := .bf16) X2 (Rect.unit (s := S1x2048x512) ![0, 0, 384] ![1, 2048, 128] (by decide))) x =
      attend qr kr cr vv (ix3 b ((Rect.unit (s := S1x2048x512) ![0, 512, 384] ![1, 256, 128] (by decide)).emb x 1) ((Rect.unit (s := S1x2048x512) ![0, 512, 384] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair3_attend qr kr cr vv b 3 _ _ _ _ _ _ X4 _
      (fun r d => (ld3 X0 (by decide) 0 r d (0 : Fin 1) ⟨512 + r.val, by omega⟩ (col 3 d) rfl rfl rfl).trans (h0 _ _))
      (fun d j => (ld3 X1 (by decide) 0 d j (0 : Fin 1) (col 3 d) ⟨0 + j.val, by omega⟩ rfl rfl rfl).trans (h1 _ _))
      (fun d j => (ld3 X1 (by decide) 0 d j (0 : Fin 1) (col 3 d) ⟨256 + j.val, by omega⟩ rfl rfl rfl).trans (h1 _ _))
      (fun d j => (ld3 X1 (by decide) 0 d j (0 : Fin 1) (col 3 d) ⟨512 + j.val, by omega⟩ rfl rfl rfl).trans (h1 _ _))
      (fun j => (ld3 X3 (by decide) 0 0 j (0 : Fin 1) (headA 3) (j.castLE (by decide)) rfl rfl (Nat.zero_add _).symm).trans (h3 _ _))
      (fun j => (ld3 X3 (by decide) 0 0 j (0 : Fin 1) (headB 3) (j.castLE (by decide)) rfl rfl (Nat.zero_add _).symm).trans (h3 _ _))
      h4 (fun j d => (ld3 X2 (by decide) 0 j d (0 : Fin 1) j (col 3 d) rfl (Nat.zero_add _).symm rfl).trans (h2 _ _)) r d).trans ?_
  exact congrArg _ (congrArg₂ (ix3 b) (Fin.ext (congrArg (fun z => 512 + z) (Nat.one_mul r.val).symm)) (Fin.ext (congrArg (fun z => 384 + z) (Nat.one_mul d.val).symm)))

theorem block3_2 (x : S1x256x128.Idx) :
    pair3 (View.ld (Val := Elt Ideal) (e' := .bf16) X0 (Rect.unit (s := S1x2048x512) ![0, 512, 256] ![1, 256, 128] (by decide))) (View.ld (Val := Elt Ideal) (e' := .bf16) X1 (Rect.unit (s := S1x512x2048) ![0, 256, 0] ![1, 128, 256] (by decide))) (View.ld (Val := Elt Ideal) (e' := .bf16) X1 (Rect.unit (s := S1x512x2048) ![0, 256, 256] ![1, 128, 256] (by decide))) (View.ld (Val := Elt Ideal) (e' := .bf16) X1 (Rect.unit (s := S1x512x2048) ![0, 256, 512] ![1, 128, 256] (by decide)))
      (View.ld (Val := Elt Ideal) (e' := .f32) X3 (Rect.unit (s := S1x8x2048) ![0, 4, 0] ![1, 1, 768] (by decide))) (View.ld (Val := Elt Ideal) (e' := .f32) X3 (Rect.unit (s := S1x8x2048) ![0, 5, 0] ![1, 1, 768] (by decide)))
      X4 (View.ld (Val := Elt Ideal) (e' := .bf16) X2 (Rect.unit (s := S1x2048x512) ![0, 0, 256] ![1, 2048, 128] (by decide))) x =
      attend qr kr cr vv (ix3 b ((Rect.unit (s := S1x2048x512) ![0, 512, 256] ![1, 256, 128] (by decide)).emb x 1) ((Rect.unit (s := S1x2048x512) ![0, 512, 256] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair3_attend qr kr cr vv b 2 _ _ _ _ _ _ X4 _
      (fun r d => (ld3 X0 (by decide) 0 r d (0 : Fin 1) ⟨512 + r.val, by omega⟩ (col 2 d) rfl rfl rfl).trans (h0 _ _))
      (fun d j => (ld3 X1 (by decide) 0 d j (0 : Fin 1) (col 2 d) ⟨0 + j.val, by omega⟩ rfl rfl rfl).trans (h1 _ _))
      (fun d j => (ld3 X1 (by decide) 0 d j (0 : Fin 1) (col 2 d) ⟨256 + j.val, by omega⟩ rfl rfl rfl).trans (h1 _ _))
      (fun d j => (ld3 X1 (by decide) 0 d j (0 : Fin 1) (col 2 d) ⟨512 + j.val, by omega⟩ rfl rfl rfl).trans (h1 _ _))
      (fun j => (ld3 X3 (by decide) 0 0 j (0 : Fin 1) (headA 2) (j.castLE (by decide)) rfl rfl (Nat.zero_add _).symm).trans (h3 _ _))
      (fun j => (ld3 X3 (by decide) 0 0 j (0 : Fin 1) (headB 2) (j.castLE (by decide)) rfl rfl (Nat.zero_add _).symm).trans (h3 _ _))
      h4 (fun j d => (ld3 X2 (by decide) 0 j d (0 : Fin 1) j (col 2 d) rfl (Nat.zero_add _).symm rfl).trans (h2 _ _)) r d).trans ?_
  exact congrArg _ (congrArg₂ (ix3 b) (Fin.ext (congrArg (fun z => 512 + z) (Nat.one_mul r.val).symm)) (Fin.ext (congrArg (fun z => 256 + z) (Nat.one_mul d.val).symm)))

theorem block3_1 (x : S1x256x128.Idx) :
    pair3 (View.ld (Val := Elt Ideal) (e' := .bf16) X0 (Rect.unit (s := S1x2048x512) ![0, 512, 128] ![1, 256, 128] (by decide))) (View.ld (Val := Elt Ideal) (e' := .bf16) X1 (Rect.unit (s := S1x512x2048) ![0, 128, 0] ![1, 128, 256] (by decide))) (View.ld (Val := Elt Ideal) (e' := .bf16) X1 (Rect.unit (s := S1x512x2048) ![0, 128, 256] ![1, 128, 256] (by decide))) (View.ld (Val := Elt Ideal) (e' := .bf16) X1 (Rect.unit (s := S1x512x2048) ![0, 128, 512] ![1, 128, 256] (by decide)))
      (View.ld (Val := Elt Ideal) (e' := .f32) X3 (Rect.unit (s := S1x8x2048) ![0, 2, 0] ![1, 1, 768] (by decide))) (View.ld (Val := Elt Ideal) (e' := .f32) X3 (Rect.unit (s := S1x8x2048) ![0, 3, 0] ![1, 1, 768] (by decide)))
      X4 (View.ld (Val := Elt Ideal) (e' := .bf16) X2 (Rect.unit (s := S1x2048x512) ![0, 0, 128] ![1, 2048, 128] (by decide))) x =
      attend qr kr cr vv (ix3 b ((Rect.unit (s := S1x2048x512) ![0, 512, 128] ![1, 256, 128] (by decide)).emb x 1) ((Rect.unit (s := S1x2048x512) ![0, 512, 128] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair3_attend qr kr cr vv b 1 _ _ _ _ _ _ X4 _
      (fun r d => (ld3 X0 (by decide) 0 r d (0 : Fin 1) ⟨512 + r.val, by omega⟩ (col 1 d) rfl rfl rfl).trans (h0 _ _))
      (fun d j => (ld3 X1 (by decide) 0 d j (0 : Fin 1) (col 1 d) ⟨0 + j.val, by omega⟩ rfl rfl rfl).trans (h1 _ _))
      (fun d j => (ld3 X1 (by decide) 0 d j (0 : Fin 1) (col 1 d) ⟨256 + j.val, by omega⟩ rfl rfl rfl).trans (h1 _ _))
      (fun d j => (ld3 X1 (by decide) 0 d j (0 : Fin 1) (col 1 d) ⟨512 + j.val, by omega⟩ rfl rfl rfl).trans (h1 _ _))
      (fun j => (ld3 X3 (by decide) 0 0 j (0 : Fin 1) (headA 1) (j.castLE (by decide)) rfl rfl (Nat.zero_add _).symm).trans (h3 _ _))
      (fun j => (ld3 X3 (by decide) 0 0 j (0 : Fin 1) (headB 1) (j.castLE (by decide)) rfl rfl (Nat.zero_add _).symm).trans (h3 _ _))
      h4 (fun j d => (ld3 X2 (by decide) 0 j d (0 : Fin 1) j (col 1 d) rfl (Nat.zero_add _).symm rfl).trans (h2 _ _)) r d).trans ?_
  exact congrArg _ (congrArg₂ (ix3 b) (Fin.ext (congrArg (fun z => 512 + z) (Nat.one_mul r.val).symm)) (Fin.ext (congrArg (fun z => 128 + z) (Nat.one_mul d.val).symm)))

theorem block3_0 (x : S1x256x128.Idx) :
    pair3 (View.ld (Val := Elt Ideal) (e' := .bf16) X0 (Rect.unit (s := S1x2048x512) ![0, 512, 0] ![1, 256, 128] (by decide))) (View.ld (Val := Elt Ideal) (e' := .bf16) X1 (Rect.unit (s := S1x512x2048) ![0, 0, 0] ![1, 128, 256] (by decide))) (View.ld (Val := Elt Ideal) (e' := .bf16) X1 (Rect.unit (s := S1x512x2048) ![0, 0, 256] ![1, 128, 256] (by decide))) (View.ld (Val := Elt Ideal) (e' := .bf16) X1 (Rect.unit (s := S1x512x2048) ![0, 0, 512] ![1, 128, 256] (by decide)))
      (View.ld (Val := Elt Ideal) (e' := .f32) X3 (Rect.unit (s := S1x8x2048) ![0, 0, 0] ![1, 1, 768] (by decide))) (View.ld (Val := Elt Ideal) (e' := .f32) X3 (Rect.unit (s := S1x8x2048) ![0, 1, 0] ![1, 1, 768] (by decide)))
      X4 (View.ld (Val := Elt Ideal) (e' := .bf16) X2 (Rect.unit (s := S1x2048x512) ![0, 0, 0] ![1, 2048, 128] (by decide))) x =
      attend qr kr cr vv (ix3 b ((Rect.unit (s := S1x2048x512) ![0, 512, 0] ![1, 256, 128] (by decide)).emb x 1) ((Rect.unit (s := S1x2048x512) ![0, 512, 0] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair3_attend qr kr cr vv b 0 _ _ _ _ _ _ X4 _
      (fun r d => (ld3 X0 (by decide) 0 r d (0 : Fin 1) ⟨512 + r.val, by omega⟩ (col 0 d) rfl rfl rfl).trans (h0 _ _))
      (fun d j => (ld3 X1 (by decide) 0 d j (0 : Fin 1) (col 0 d) ⟨0 + j.val, by omega⟩ rfl rfl rfl).trans (h1 _ _))
      (fun d j => (ld3 X1 (by decide) 0 d j (0 : Fin 1) (col 0 d) ⟨256 + j.val, by omega⟩ rfl rfl rfl).trans (h1 _ _))
      (fun d j => (ld3 X1 (by decide) 0 d j (0 : Fin 1) (col 0 d) ⟨512 + j.val, by omega⟩ rfl rfl rfl).trans (h1 _ _))
      (fun j => (ld3 X3 (by decide) 0 0 j (0 : Fin 1) (headA 0) (j.castLE (by decide)) rfl rfl (Nat.zero_add _).symm).trans (h3 _ _))
      (fun j => (ld3 X3 (by decide) 0 0 j (0 : Fin 1) (headB 0) (j.castLE (by decide)) rfl rfl (Nat.zero_add _).symm).trans (h3 _ _))
      h4 (fun j d => (ld3 X2 (by decide) 0 j d (0 : Fin 1) j (col 0 d) rfl (Nat.zero_add _).symm rfl).trans (h2 _ _)) r d).trans ?_
  exact congrArg _ (congrArg₂ (ix3 b) (Fin.ext (congrArg (fun z => 512 + z) (Nat.one_mul r.val).symm)) (Fin.ext (congrArg (fun z => 0 + z) (Nat.one_mul d.val).symm)))

theorem block4_3 (x : S1x256x128.Idx) :
    pair4 (View.ld (Val := Elt Ideal) (e' := .bf16) X0 (Rect.unit (s := S1x2048x512) ![0, 768, 384] ![1, 256, 128] (by decide))) (View.ld (Val := Elt Ideal) (e' := .bf16) X1 (Rect.unit (s := S1x512x2048) ![0, 384, 0] ![1, 128, 256] (by decide))) (View.ld (Val := Elt Ideal) (e' := .bf16) X1 (Rect.unit (s := S1x512x2048) ![0, 384, 256] ![1, 128, 256] (by decide))) (View.ld (Val := Elt Ideal) (e' := .bf16) X1 (Rect.unit (s := S1x512x2048) ![0, 384, 512] ![1, 128, 256] (by decide))) (View.ld (Val := Elt Ideal) (e' := .bf16) X1 (Rect.unit (s := S1x512x2048) ![0, 384, 768] ![1, 128, 256] (by decide)))
      (View.ld (Val := Elt Ideal) (e' := .f32) X3 (Rect.unit (s := S1x8x2048) ![0, 6, 0] ![1, 1, 1024] (by decide))) (View.ld (Val := Elt Ideal) (e' := .f32) X3 (Rect.unit (s := S1x8x2048) ![0, 7, 0] ![1, 1, 1024] (by decide)))
      X4 (View.ld (Val := Elt Ideal) (e' := .bf16) X2 (Rect.unit (s := S1x2048x512) ![0, 0, 384] ![1, 2048, 128] (by decide))) x =
      attend qr kr cr vv (ix3 b ((Rect.unit (s := S1x2048x512) ![0, 768, 384] ![1, 256, 128] (by decide)).emb x 1) ((Rect.unit (s := S1x2048x512) ![0, 768, 384] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair4_attend qr kr cr vv b 3 _ _ _ _ _ _ _ X4 _
      (fun r d => (ld3 X0 (by decide) 0 r d (0 : Fin 1) ⟨768 + r.val, by omega⟩ (col 3 d) rfl rfl rfl).trans (h0 _ _))
      (fun d j => (ld3 X1 (by decide) 0 d j (0 : Fin 1) (col 3 d) ⟨0 + j.val, by omega⟩ rfl rfl rfl).trans (h1 _ _))
      (fun d j => (ld3 X1 (by decide) 0 d j (0 : Fin 1) (col 3 d) ⟨256 + j.val, by omega⟩ rfl rfl rfl).trans (h1 _ _))
      (fun d j => (ld3 X1 (by decide) 0 d j (0 : Fin 1) (col 3 d) ⟨512 + j.val, by omega⟩ rfl rfl rfl).trans (h1 _ _))
      (fun d j => (ld3 X1 (by decide) 0 d j (0 : Fin 1) (col 3 d) ⟨768 + j.val, by omega⟩ rfl rfl rfl).trans (h1 _ _))
      (fun j => (ld3 X3 (by decide) 0 0 j (0 : Fin 1) (headA 3) (j.castLE (by decide)) rfl rfl (Nat.zero_add _).symm).trans (h3 _ _))
      (fun j => (ld3 X3 (by decide) 0 0 j (0 : Fin 1) (headB 3) (j.castLE (by decide)) rfl rfl (Nat.zero_add _).symm).trans (h3 _ _))
      h4 (fun j d => (ld3 X2 (by decide) 0 j d (0 : Fin 1) j (col 3 d) rfl (Nat.zero_add _).symm rfl).trans (h2 _ _)) r d).trans ?_
  exact congrArg _ (congrArg₂ (ix3 b) (Fin.ext (congrArg (fun z => 768 + z) (Nat.one_mul r.val).symm)) (Fin.ext (congrArg (fun z => 384 + z) (Nat.one_mul d.val).symm)))

theorem block4_2 (x : S1x256x128.Idx) :
    pair4 (View.ld (Val := Elt Ideal) (e' := .bf16) X0 (Rect.unit (s := S1x2048x512) ![0, 768, 256] ![1, 256, 128] (by decide))) (View.ld (Val := Elt Ideal) (e' := .bf16) X1 (Rect.unit (s := S1x512x2048) ![0, 256, 0] ![1, 128, 256] (by decide))) (View.ld (Val := Elt Ideal) (e' := .bf16) X1 (Rect.unit (s := S1x512x2048) ![0, 256, 256] ![1, 128, 256] (by decide))) (View.ld (Val := Elt Ideal) (e' := .bf16) X1 (Rect.unit (s := S1x512x2048) ![0, 256, 512] ![1, 128, 256] (by decide))) (View.ld (Val := Elt Ideal) (e' := .bf16) X1 (Rect.unit (s := S1x512x2048) ![0, 256, 768] ![1, 128, 256] (by decide)))
      (View.ld (Val := Elt Ideal) (e' := .f32) X3 (Rect.unit (s := S1x8x2048) ![0, 4, 0] ![1, 1, 1024] (by decide))) (View.ld (Val := Elt Ideal) (e' := .f32) X3 (Rect.unit (s := S1x8x2048) ![0, 5, 0] ![1, 1, 1024] (by decide)))
      X4 (View.ld (Val := Elt Ideal) (e' := .bf16) X2 (Rect.unit (s := S1x2048x512) ![0, 0, 256] ![1, 2048, 128] (by decide))) x =
      attend qr kr cr vv (ix3 b ((Rect.unit (s := S1x2048x512) ![0, 768, 256] ![1, 256, 128] (by decide)).emb x 1) ((Rect.unit (s := S1x2048x512) ![0, 768, 256] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair4_attend qr kr cr vv b 2 _ _ _ _ _ _ _ X4 _
      (fun r d => (ld3 X0 (by decide) 0 r d (0 : Fin 1) ⟨768 + r.val, by omega⟩ (col 2 d) rfl rfl rfl).trans (h0 _ _))
      (fun d j => (ld3 X1 (by decide) 0 d j (0 : Fin 1) (col 2 d) ⟨0 + j.val, by omega⟩ rfl rfl rfl).trans (h1 _ _))
      (fun d j => (ld3 X1 (by decide) 0 d j (0 : Fin 1) (col 2 d) ⟨256 + j.val, by omega⟩ rfl rfl rfl).trans (h1 _ _))
      (fun d j => (ld3 X1 (by decide) 0 d j (0 : Fin 1) (col 2 d) ⟨512 + j.val, by omega⟩ rfl rfl rfl).trans (h1 _ _))
      (fun d j => (ld3 X1 (by decide) 0 d j (0 : Fin 1) (col 2 d) ⟨768 + j.val, by omega⟩ rfl rfl rfl).trans (h1 _ _))
      (fun j => (ld3 X3 (by decide) 0 0 j (0 : Fin 1) (headA 2) (j.castLE (by decide)) rfl rfl (Nat.zero_add _).symm).trans (h3 _ _))
      (fun j => (ld3 X3 (by decide) 0 0 j (0 : Fin 1) (headB 2) (j.castLE (by decide)) rfl rfl (Nat.zero_add _).symm).trans (h3 _ _))
      h4 (fun j d => (ld3 X2 (by decide) 0 j d (0 : Fin 1) j (col 2 d) rfl (Nat.zero_add _).symm rfl).trans (h2 _ _)) r d).trans ?_
  exact congrArg _ (congrArg₂ (ix3 b) (Fin.ext (congrArg (fun z => 768 + z) (Nat.one_mul r.val).symm)) (Fin.ext (congrArg (fun z => 256 + z) (Nat.one_mul d.val).symm)))

theorem block4_1 (x : S1x256x128.Idx) :
    pair4 (View.ld (Val := Elt Ideal) (e' := .bf16) X0 (Rect.unit (s := S1x2048x512) ![0, 768, 128] ![1, 256, 128] (by decide))) (View.ld (Val := Elt Ideal) (e' := .bf16) X1 (Rect.unit (s := S1x512x2048) ![0, 128, 0] ![1, 128, 256] (by decide))) (View.ld (Val := Elt Ideal) (e' := .bf16) X1 (Rect.unit (s := S1x512x2048) ![0, 128, 256] ![1, 128, 256] (by decide))) (View.ld (Val := Elt Ideal) (e' := .bf16) X1 (Rect.unit (s := S1x512x2048) ![0, 128, 512] ![1, 128, 256] (by decide))) (View.ld (Val := Elt Ideal) (e' := .bf16) X1 (Rect.unit (s := S1x512x2048) ![0, 128, 768] ![1, 128, 256] (by decide)))
      (View.ld (Val := Elt Ideal) (e' := .f32) X3 (Rect.unit (s := S1x8x2048) ![0, 2, 0] ![1, 1, 1024] (by decide))) (View.ld (Val := Elt Ideal) (e' := .f32) X3 (Rect.unit (s := S1x8x2048) ![0, 3, 0] ![1, 1, 1024] (by decide)))
      X4 (View.ld (Val := Elt Ideal) (e' := .bf16) X2 (Rect.unit (s := S1x2048x512) ![0, 0, 128] ![1, 2048, 128] (by decide))) x =
      attend qr kr cr vv (ix3 b ((Rect.unit (s := S1x2048x512) ![0, 768, 128] ![1, 256, 128] (by decide)).emb x 1) ((Rect.unit (s := S1x2048x512) ![0, 768, 128] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair4_attend qr kr cr vv b 1 _ _ _ _ _ _ _ X4 _
      (fun r d => (ld3 X0 (by decide) 0 r d (0 : Fin 1) ⟨768 + r.val, by omega⟩ (col 1 d) rfl rfl rfl).trans (h0 _ _))
      (fun d j => (ld3 X1 (by decide) 0 d j (0 : Fin 1) (col 1 d) ⟨0 + j.val, by omega⟩ rfl rfl rfl).trans (h1 _ _))
      (fun d j => (ld3 X1 (by decide) 0 d j (0 : Fin 1) (col 1 d) ⟨256 + j.val, by omega⟩ rfl rfl rfl).trans (h1 _ _))
      (fun d j => (ld3 X1 (by decide) 0 d j (0 : Fin 1) (col 1 d) ⟨512 + j.val, by omega⟩ rfl rfl rfl).trans (h1 _ _))
      (fun d j => (ld3 X1 (by decide) 0 d j (0 : Fin 1) (col 1 d) ⟨768 + j.val, by omega⟩ rfl rfl rfl).trans (h1 _ _))
      (fun j => (ld3 X3 (by decide) 0 0 j (0 : Fin 1) (headA 1) (j.castLE (by decide)) rfl rfl (Nat.zero_add _).symm).trans (h3 _ _))
      (fun j => (ld3 X3 (by decide) 0 0 j (0 : Fin 1) (headB 1) (j.castLE (by decide)) rfl rfl (Nat.zero_add _).symm).trans (h3 _ _))
      h4 (fun j d => (ld3 X2 (by decide) 0 j d (0 : Fin 1) j (col 1 d) rfl (Nat.zero_add _).symm rfl).trans (h2 _ _)) r d).trans ?_
  exact congrArg _ (congrArg₂ (ix3 b) (Fin.ext (congrArg (fun z => 768 + z) (Nat.one_mul r.val).symm)) (Fin.ext (congrArg (fun z => 128 + z) (Nat.one_mul d.val).symm)))

theorem block4_0 (x : S1x256x128.Idx) :
    pair4 (View.ld (Val := Elt Ideal) (e' := .bf16) X0 (Rect.unit (s := S1x2048x512) ![0, 768, 0] ![1, 256, 128] (by decide))) (View.ld (Val := Elt Ideal) (e' := .bf16) X1 (Rect.unit (s := S1x512x2048) ![0, 0, 0] ![1, 128, 256] (by decide))) (View.ld (Val := Elt Ideal) (e' := .bf16) X1 (Rect.unit (s := S1x512x2048) ![0, 0, 256] ![1, 128, 256] (by decide))) (View.ld (Val := Elt Ideal) (e' := .bf16) X1 (Rect.unit (s := S1x512x2048) ![0, 0, 512] ![1, 128, 256] (by decide))) (View.ld (Val := Elt Ideal) (e' := .bf16) X1 (Rect.unit (s := S1x512x2048) ![0, 0, 768] ![1, 128, 256] (by decide)))
      (View.ld (Val := Elt Ideal) (e' := .f32) X3 (Rect.unit (s := S1x8x2048) ![0, 0, 0] ![1, 1, 1024] (by decide))) (View.ld (Val := Elt Ideal) (e' := .f32) X3 (Rect.unit (s := S1x8x2048) ![0, 1, 0] ![1, 1, 1024] (by decide)))
      X4 (View.ld (Val := Elt Ideal) (e' := .bf16) X2 (Rect.unit (s := S1x2048x512) ![0, 0, 0] ![1, 2048, 128] (by decide))) x =
      attend qr kr cr vv (ix3 b ((Rect.unit (s := S1x2048x512) ![0, 768, 0] ![1, 256, 128] (by decide)).emb x 1) ((Rect.unit (s := S1x2048x512) ![0, 768, 0] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair4_attend qr kr cr vv b 0 _ _ _ _ _ _ _ X4 _
      (fun r d => (ld3 X0 (by decide) 0 r d (0 : Fin 1) ⟨768 + r.val, by omega⟩ (col 0 d) rfl rfl rfl).trans (h0 _ _))
      (fun d j => (ld3 X1 (by decide) 0 d j (0 : Fin 1) (col 0 d) ⟨0 + j.val, by omega⟩ rfl rfl rfl).trans (h1 _ _))
      (fun d j => (ld3 X1 (by decide) 0 d j (0 : Fin 1) (col 0 d) ⟨256 + j.val, by omega⟩ rfl rfl rfl).trans (h1 _ _))
      (fun d j => (ld3 X1 (by decide) 0 d j (0 : Fin 1) (col 0 d) ⟨512 + j.val, by omega⟩ rfl rfl rfl).trans (h1 _ _))
      (fun d j => (ld3 X1 (by decide) 0 d j (0 : Fin 1) (col 0 d) ⟨768 + j.val, by omega⟩ rfl rfl rfl).trans (h1 _ _))
      (fun j => (ld3 X3 (by decide) 0 0 j (0 : Fin 1) (headA 0) (j.castLE (by decide)) rfl rfl (Nat.zero_add _).symm).trans (h3 _ _))
      (fun j => (ld3 X3 (by decide) 0 0 j (0 : Fin 1) (headB 0) (j.castLE (by decide)) rfl rfl (Nat.zero_add _).symm).trans (h3 _ _))
      h4 (fun j d => (ld3 X2 (by decide) 0 j d (0 : Fin 1) j (col 0 d) rfl (Nat.zero_add _).symm rfl).trans (h2 _ _)) r d).trans ?_
  exact congrArg _ (congrArg₂ (ix3 b) (Fin.ext (congrArg (fun z => 768 + z) (Nat.one_mul r.val).symm)) (Fin.ext (congrArg (fun z => 0 + z) (Nat.one_mul d.val).symm)))

theorem block5_3 (x : S1x256x128.Idx) :
    pair5 (View.ld (Val := Elt Ideal) (e' := .bf16) X0 (Rect.unit (s := S1x2048x512) ![0, 1024, 384] ![1, 256, 128] (by decide))) (View.ld (Val := Elt Ideal) (e' := .bf16) X1 (Rect.unit (s := S1x512x2048) ![0, 384, 0] ![1, 128, 256] (by decide))) (View.ld (Val := Elt Ideal) (e' := .bf16) X1 (Rect.unit (s := S1x512x2048) ![0, 384, 256] ![1, 128, 256] (by decide))) (View.ld (Val := Elt Ideal) (e' := .bf16) X1 (Rect.unit (s := S1x512x2048) ![0, 384, 512] ![1, 128, 256] (by decide))) (View.ld (Val := Elt Ideal) (e' := .bf16) X1 (Rect.unit (s := S1x512x2048) ![0, 384, 768] ![1, 128, 256] (by decide))) (View.ld (Val := Elt Ideal) (e' := .bf16) X1 (Rect.unit (s := S1x512x2048) ![0, 384, 1024] ![1, 128, 256] (by decide)))
      (View.ld (Val := Elt Ideal) (e' := .f32) X3 (Rect.unit (s := S1x8x2048) ![0, 6, 0] ![1, 1, 1280] (by decide))) (View.ld (Val := Elt Ideal) (e' := .f32) X3 (Rect.unit (s := S1x8x2048) ![0, 7, 0] ![1, 1, 1280] (by decide)))
      X4 (View.ld (Val := Elt Ideal) (e' := .bf16) X2 (Rect.unit (s := S1x2048x512) ![0, 0, 384] ![1, 2048, 128] (by decide))) x =
      attend qr kr cr vv (ix3 b ((Rect.unit (s := S1x2048x512) ![0, 1024, 384] ![1, 256, 128] (by decide)).emb x 1) ((Rect.unit (s := S1x2048x512) ![0, 1024, 384] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair5_attend qr kr cr vv b 3 _ _ _ _ _ _ _ _ X4 _
      (fun r d => (ld3 X0 (by decide) 0 r d (0 : Fin 1) ⟨1024 + r.val, by omega⟩ (col 3 d) rfl rfl rfl).trans (h0 _ _))
      (fun d j => (ld3 X1 (by decide) 0 d j (0 : Fin 1) (col 3 d) ⟨0 + j.val, by omega⟩ rfl rfl rfl).trans (h1 _ _))
      (fun d j => (ld3 X1 (by decide) 0 d j (0 : Fin 1) (col 3 d) ⟨256 + j.val, by omega⟩ rfl rfl rfl).trans (h1 _ _))
      (fun d j => (ld3 X1 (by decide) 0 d j (0 : Fin 1) (col 3 d) ⟨512 + j.val, by omega⟩ rfl rfl rfl).trans (h1 _ _))
      (fun d j => (ld3 X1 (by decide) 0 d j (0 : Fin 1) (col 3 d) ⟨768 + j.val, by omega⟩ rfl rfl rfl).trans (h1 _ _))
      (fun d j => (ld3 X1 (by decide) 0 d j (0 : Fin 1) (col 3 d) ⟨1024 + j.val, by omega⟩ rfl rfl rfl).trans (h1 _ _))
      (fun j => (ld3 X3 (by decide) 0 0 j (0 : Fin 1) (headA 3) (j.castLE (by decide)) rfl rfl (Nat.zero_add _).symm).trans (h3 _ _))
      (fun j => (ld3 X3 (by decide) 0 0 j (0 : Fin 1) (headB 3) (j.castLE (by decide)) rfl rfl (Nat.zero_add _).symm).trans (h3 _ _))
      h4 (fun j d => (ld3 X2 (by decide) 0 j d (0 : Fin 1) j (col 3 d) rfl (Nat.zero_add _).symm rfl).trans (h2 _ _)) r d).trans ?_
  exact congrArg _ (congrArg₂ (ix3 b) (Fin.ext (congrArg (fun z => 1024 + z) (Nat.one_mul r.val).symm)) (Fin.ext (congrArg (fun z => 384 + z) (Nat.one_mul d.val).symm)))

theorem block5_2 (x : S1x256x128.Idx) :
    pair5 (View.ld (Val := Elt Ideal) (e' := .bf16) X0 (Rect.unit (s := S1x2048x512) ![0, 1024, 256] ![1, 256, 128] (by decide))) (View.ld (Val := Elt Ideal) (e' := .bf16) X1 (Rect.unit (s := S1x512x2048) ![0, 256, 0] ![1, 128, 256] (by decide))) (View.ld (Val := Elt Ideal) (e' := .bf16) X1 (Rect.unit (s := S1x512x2048) ![0, 256, 256] ![1, 128, 256] (by decide))) (View.ld (Val := Elt Ideal) (e' := .bf16) X1 (Rect.unit (s := S1x512x2048) ![0, 256, 512] ![1, 128, 256] (by decide))) (View.ld (Val := Elt Ideal) (e' := .bf16) X1 (Rect.unit (s := S1x512x2048) ![0, 256, 768] ![1, 128, 256] (by decide))) (View.ld (Val := Elt Ideal) (e' := .bf16) X1 (Rect.unit (s := S1x512x2048) ![0, 256, 1024] ![1, 128, 256] (by decide)))
      (View.ld (Val := Elt Ideal) (e' := .f32) X3 (Rect.unit (s := S1x8x2048) ![0, 4, 0] ![1, 1, 1280] (by decide))) (View.ld (Val := Elt Ideal) (e' := .f32) X3 (Rect.unit (s := S1x8x2048) ![0, 5, 0] ![1, 1, 1280] (by decide)))
      X4 (View.ld (Val := Elt Ideal) (e' := .bf16) X2 (Rect.unit (s := S1x2048x512) ![0, 0, 256] ![1, 2048, 128] (by decide))) x =
      attend qr kr cr vv (ix3 b ((Rect.unit (s := S1x2048x512) ![0, 1024, 256] ![1, 256, 128] (by decide)).emb x 1) ((Rect.unit (s := S1x2048x512) ![0, 1024, 256] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair5_attend qr kr cr vv b 2 _ _ _ _ _ _ _ _ X4 _
      (fun r d => (ld3 X0 (by decide) 0 r d (0 : Fin 1) ⟨1024 + r.val, by omega⟩ (col 2 d) rfl rfl rfl).trans (h0 _ _))
      (fun d j => (ld3 X1 (by decide) 0 d j (0 : Fin 1) (col 2 d) ⟨0 + j.val, by omega⟩ rfl rfl rfl).trans (h1 _ _))
      (fun d j => (ld3 X1 (by decide) 0 d j (0 : Fin 1) (col 2 d) ⟨256 + j.val, by omega⟩ rfl rfl rfl).trans (h1 _ _))
      (fun d j => (ld3 X1 (by decide) 0 d j (0 : Fin 1) (col 2 d) ⟨512 + j.val, by omega⟩ rfl rfl rfl).trans (h1 _ _))
      (fun d j => (ld3 X1 (by decide) 0 d j (0 : Fin 1) (col 2 d) ⟨768 + j.val, by omega⟩ rfl rfl rfl).trans (h1 _ _))
      (fun d j => (ld3 X1 (by decide) 0 d j (0 : Fin 1) (col 2 d) ⟨1024 + j.val, by omega⟩ rfl rfl rfl).trans (h1 _ _))
      (fun j => (ld3 X3 (by decide) 0 0 j (0 : Fin 1) (headA 2) (j.castLE (by decide)) rfl rfl (Nat.zero_add _).symm).trans (h3 _ _))
      (fun j => (ld3 X3 (by decide) 0 0 j (0 : Fin 1) (headB 2) (j.castLE (by decide)) rfl rfl (Nat.zero_add _).symm).trans (h3 _ _))
      h4 (fun j d => (ld3 X2 (by decide) 0 j d (0 : Fin 1) j (col 2 d) rfl (Nat.zero_add _).symm rfl).trans (h2 _ _)) r d).trans ?_
  exact congrArg _ (congrArg₂ (ix3 b) (Fin.ext (congrArg (fun z => 1024 + z) (Nat.one_mul r.val).symm)) (Fin.ext (congrArg (fun z => 256 + z) (Nat.one_mul d.val).symm)))

theorem block5_1 (x : S1x256x128.Idx) :
    pair5 (View.ld (Val := Elt Ideal) (e' := .bf16) X0 (Rect.unit (s := S1x2048x512) ![0, 1024, 128] ![1, 256, 128] (by decide))) (View.ld (Val := Elt Ideal) (e' := .bf16) X1 (Rect.unit (s := S1x512x2048) ![0, 128, 0] ![1, 128, 256] (by decide))) (View.ld (Val := Elt Ideal) (e' := .bf16) X1 (Rect.unit (s := S1x512x2048) ![0, 128, 256] ![1, 128, 256] (by decide))) (View.ld (Val := Elt Ideal) (e' := .bf16) X1 (Rect.unit (s := S1x512x2048) ![0, 128, 512] ![1, 128, 256] (by decide))) (View.ld (Val := Elt Ideal) (e' := .bf16) X1 (Rect.unit (s := S1x512x2048) ![0, 128, 768] ![1, 128, 256] (by decide))) (View.ld (Val := Elt Ideal) (e' := .bf16) X1 (Rect.unit (s := S1x512x2048) ![0, 128, 1024] ![1, 128, 256] (by decide)))
      (View.ld (Val := Elt Ideal) (e' := .f32) X3 (Rect.unit (s := S1x8x2048) ![0, 2, 0] ![1, 1, 1280] (by decide))) (View.ld (Val := Elt Ideal) (e' := .f32) X3 (Rect.unit (s := S1x8x2048) ![0, 3, 0] ![1, 1, 1280] (by decide)))
      X4 (View.ld (Val := Elt Ideal) (e' := .bf16) X2 (Rect.unit (s := S1x2048x512) ![0, 0, 128] ![1, 2048, 128] (by decide))) x =
      attend qr kr cr vv (ix3 b ((Rect.unit (s := S1x2048x512) ![0, 1024, 128] ![1, 256, 128] (by decide)).emb x 1) ((Rect.unit (s := S1x2048x512) ![0, 1024, 128] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair5_attend qr kr cr vv b 1 _ _ _ _ _ _ _ _ X4 _
      (fun r d => (ld3 X0 (by decide) 0 r d (0 : Fin 1) ⟨1024 + r.val, by omega⟩ (col 1 d) rfl rfl rfl).trans (h0 _ _))
      (fun d j => (ld3 X1 (by decide) 0 d j (0 : Fin 1) (col 1 d) ⟨0 + j.val, by omega⟩ rfl rfl rfl).trans (h1 _ _))
      (fun d j => (ld3 X1 (by decide) 0 d j (0 : Fin 1) (col 1 d) ⟨256 + j.val, by omega⟩ rfl rfl rfl).trans (h1 _ _))
      (fun d j => (ld3 X1 (by decide) 0 d j (0 : Fin 1) (col 1 d) ⟨512 + j.val, by omega⟩ rfl rfl rfl).trans (h1 _ _))
      (fun d j => (ld3 X1 (by decide) 0 d j (0 : Fin 1) (col 1 d) ⟨768 + j.val, by omega⟩ rfl rfl rfl).trans (h1 _ _))
      (fun d j => (ld3 X1 (by decide) 0 d j (0 : Fin 1) (col 1 d) ⟨1024 + j.val, by omega⟩ rfl rfl rfl).trans (h1 _ _))
      (fun j => (ld3 X3 (by decide) 0 0 j (0 : Fin 1) (headA 1) (j.castLE (by decide)) rfl rfl (Nat.zero_add _).symm).trans (h3 _ _))
      (fun j => (ld3 X3 (by decide) 0 0 j (0 : Fin 1) (headB 1) (j.castLE (by decide)) rfl rfl (Nat.zero_add _).symm).trans (h3 _ _))
      h4 (fun j d => (ld3 X2 (by decide) 0 j d (0 : Fin 1) j (col 1 d) rfl (Nat.zero_add _).symm rfl).trans (h2 _ _)) r d).trans ?_
  exact congrArg _ (congrArg₂ (ix3 b) (Fin.ext (congrArg (fun z => 1024 + z) (Nat.one_mul r.val).symm)) (Fin.ext (congrArg (fun z => 128 + z) (Nat.one_mul d.val).symm)))

theorem block5_0 (x : S1x256x128.Idx) :
    pair5 (View.ld (Val := Elt Ideal) (e' := .bf16) X0 (Rect.unit (s := S1x2048x512) ![0, 1024, 0] ![1, 256, 128] (by decide))) (View.ld (Val := Elt Ideal) (e' := .bf16) X1 (Rect.unit (s := S1x512x2048) ![0, 0, 0] ![1, 128, 256] (by decide))) (View.ld (Val := Elt Ideal) (e' := .bf16) X1 (Rect.unit (s := S1x512x2048) ![0, 0, 256] ![1, 128, 256] (by decide))) (View.ld (Val := Elt Ideal) (e' := .bf16) X1 (Rect.unit (s := S1x512x2048) ![0, 0, 512] ![1, 128, 256] (by decide))) (View.ld (Val := Elt Ideal) (e' := .bf16) X1 (Rect.unit (s := S1x512x2048) ![0, 0, 768] ![1, 128, 256] (by decide))) (View.ld (Val := Elt Ideal) (e' := .bf16) X1 (Rect.unit (s := S1x512x2048) ![0, 0, 1024] ![1, 128, 256] (by decide)))
      (View.ld (Val := Elt Ideal) (e' := .f32) X3 (Rect.unit (s := S1x8x2048) ![0, 0, 0] ![1, 1, 1280] (by decide))) (View.ld (Val := Elt Ideal) (e' := .f32) X3 (Rect.unit (s := S1x8x2048) ![0, 1, 0] ![1, 1, 1280] (by decide)))
      X4 (View.ld (Val := Elt Ideal) (e' := .bf16) X2 (Rect.unit (s := S1x2048x512) ![0, 0, 0] ![1, 2048, 128] (by decide))) x =
      attend qr kr cr vv (ix3 b ((Rect.unit (s := S1x2048x512) ![0, 1024, 0] ![1, 256, 128] (by decide)).emb x 1) ((Rect.unit (s := S1x2048x512) ![0, 1024, 0] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair5_attend qr kr cr vv b 0 _ _ _ _ _ _ _ _ X4 _
      (fun r d => (ld3 X0 (by decide) 0 r d (0 : Fin 1) ⟨1024 + r.val, by omega⟩ (col 0 d) rfl rfl rfl).trans (h0 _ _))
      (fun d j => (ld3 X1 (by decide) 0 d j (0 : Fin 1) (col 0 d) ⟨0 + j.val, by omega⟩ rfl rfl rfl).trans (h1 _ _))
      (fun d j => (ld3 X1 (by decide) 0 d j (0 : Fin 1) (col 0 d) ⟨256 + j.val, by omega⟩ rfl rfl rfl).trans (h1 _ _))
      (fun d j => (ld3 X1 (by decide) 0 d j (0 : Fin 1) (col 0 d) ⟨512 + j.val, by omega⟩ rfl rfl rfl).trans (h1 _ _))
      (fun d j => (ld3 X1 (by decide) 0 d j (0 : Fin 1) (col 0 d) ⟨768 + j.val, by omega⟩ rfl rfl rfl).trans (h1 _ _))
      (fun d j => (ld3 X1 (by decide) 0 d j (0 : Fin 1) (col 0 d) ⟨1024 + j.val, by omega⟩ rfl rfl rfl).trans (h1 _ _))
      (fun j => (ld3 X3 (by decide) 0 0 j (0 : Fin 1) (headA 0) (j.castLE (by decide)) rfl rfl (Nat.zero_add _).symm).trans (h3 _ _))
      (fun j => (ld3 X3 (by decide) 0 0 j (0 : Fin 1) (headB 0) (j.castLE (by decide)) rfl rfl (Nat.zero_add _).symm).trans (h3 _ _))
      h4 (fun j d => (ld3 X2 (by decide) 0 j d (0 : Fin 1) j (col 0 d) rfl (Nat.zero_add _).symm rfl).trans (h2 _ _)) r d).trans ?_
  exact congrArg _ (congrArg₂ (ix3 b) (Fin.ext (congrArg (fun z => 1024 + z) (Nat.one_mul r.val).symm)) (Fin.ext (congrArg (fun z => 0 + z) (Nat.one_mul d.val).symm)))

theorem block6_3 (x : S1x256x128.Idx) :
    pair6 (View.ld (Val := Elt Ideal) (e' := .bf16) X0 (Rect.unit (s := S1x2048x512) ![0, 1280, 384] ![1, 256, 128] (by decide))) (View.ld (Val := Elt Ideal) (e' := .bf16) X1 (Rect.unit (s := S1x512x2048) ![0, 384, 0] ![1, 128, 256] (by decide))) (View.ld (Val := Elt Ideal) (e' := .bf16) X1 (Rect.unit (s := S1x512x2048) ![0, 384, 256] ![1, 128, 256] (by decide))) (View.ld (Val := Elt Ideal) (e' := .bf16) X1 (Rect.unit (s := S1x512x2048) ![0, 384, 512] ![1, 128, 256] (by decide))) (View.ld (Val := Elt Ideal) (e' := .bf16) X1 (Rect.unit (s := S1x512x2048) ![0, 384, 768] ![1, 128, 256] (by decide))) (View.ld (Val := Elt Ideal) (e' := .bf16) X1 (Rect.unit (s := S1x512x2048) ![0, 384, 1024] ![1, 128, 256] (by decide))) (View.ld (Val := Elt Ideal) (e' := .bf16) X1 (Rect.unit (s := S1x512x2048) ![0, 384, 1280] ![1, 128, 256] (by decide)))
      (View.ld (Val := Elt Ideal) (e' := .f32) X3 (Rect.unit (s := S1x8x2048) ![0, 6, 0] ![1, 1, 1536] (by decide))) (View.ld (Val := Elt Ideal) (e' := .f32) X3 (Rect.unit (s := S1x8x2048) ![0, 7, 0] ![1, 1, 1536] (by decide)))
      X4 (View.ld (Val := Elt Ideal) (e' := .bf16) X2 (Rect.unit (s := S1x2048x512) ![0, 0, 384] ![1, 2048, 128] (by decide))) x =
      attend qr kr cr vv (ix3 b ((Rect.unit (s := S1x2048x512) ![0, 1280, 384] ![1, 256, 128] (by decide)).emb x 1) ((Rect.unit (s := S1x2048x512) ![0, 1280, 384] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair6_attend qr kr cr vv b 3 _ _ _ _ _ _ _ _ _ X4 _
      (fun r d => (ld3 X0 (by decide) 0 r d (0 : Fin 1) ⟨1280 + r.val, by omega⟩ (col 3 d) rfl rfl rfl).trans (h0 _ _))
      (fun d j => (ld3 X1 (by decide) 0 d j (0 : Fin 1) (col 3 d) ⟨0 + j.val, by omega⟩ rfl rfl rfl).trans (h1 _ _))
      (fun d j => (ld3 X1 (by decide) 0 d j (0 : Fin 1) (col 3 d) ⟨256 + j.val, by omega⟩ rfl rfl rfl).trans (h1 _ _))
      (fun d j => (ld3 X1 (by decide) 0 d j (0 : Fin 1) (col 3 d) ⟨512 + j.val, by omega⟩ rfl rfl rfl).trans (h1 _ _))
      (fun d j => (ld3 X1 (by decide) 0 d j (0 : Fin 1) (col 3 d) ⟨768 + j.val, by omega⟩ rfl rfl rfl).trans (h1 _ _))
      (fun d j => (ld3 X1 (by decide) 0 d j (0 : Fin 1) (col 3 d) ⟨1024 + j.val, by omega⟩ rfl rfl rfl).trans (h1 _ _))
      (fun d j => (ld3 X1 (by decide) 0 d j (0 : Fin 1) (col 3 d) ⟨1280 + j.val, by omega⟩ rfl rfl rfl).trans (h1 _ _))
      (fun j => (ld3 X3 (by decide) 0 0 j (0 : Fin 1) (headA 3) (j.castLE (by decide)) rfl rfl (Nat.zero_add _).symm).trans (h3 _ _))
      (fun j => (ld3 X3 (by decide) 0 0 j (0 : Fin 1) (headB 3) (j.castLE (by decide)) rfl rfl (Nat.zero_add _).symm).trans (h3 _ _))
      h4 (fun j d => (ld3 X2 (by decide) 0 j d (0 : Fin 1) j (col 3 d) rfl (Nat.zero_add _).symm rfl).trans (h2 _ _)) r d).trans ?_
  exact congrArg _ (congrArg₂ (ix3 b) (Fin.ext (congrArg (fun z => 1280 + z) (Nat.one_mul r.val).symm)) (Fin.ext (congrArg (fun z => 384 + z) (Nat.one_mul d.val).symm)))

theorem block6_2 (x : S1x256x128.Idx) :
    pair6 (View.ld (Val := Elt Ideal) (e' := .bf16) X0 (Rect.unit (s := S1x2048x512) ![0, 1280, 256] ![1, 256, 128] (by decide))) (View.ld (Val := Elt Ideal) (e' := .bf16) X1 (Rect.unit (s := S1x512x2048) ![0, 256, 0] ![1, 128, 256] (by decide))) (View.ld (Val := Elt Ideal) (e' := .bf16) X1 (Rect.unit (s := S1x512x2048) ![0, 256, 256] ![1, 128, 256] (by decide))) (View.ld (Val := Elt Ideal) (e' := .bf16) X1 (Rect.unit (s := S1x512x2048) ![0, 256, 512] ![1, 128, 256] (by decide))) (View.ld (Val := Elt Ideal) (e' := .bf16) X1 (Rect.unit (s := S1x512x2048) ![0, 256, 768] ![1, 128, 256] (by decide))) (View.ld (Val := Elt Ideal) (e' := .bf16) X1 (Rect.unit (s := S1x512x2048) ![0, 256, 1024] ![1, 128, 256] (by decide))) (View.ld (Val := Elt Ideal) (e' := .bf16) X1 (Rect.unit (s := S1x512x2048) ![0, 256, 1280] ![1, 128, 256] (by decide)))
      (View.ld (Val := Elt Ideal) (e' := .f32) X3 (Rect.unit (s := S1x8x2048) ![0, 4, 0] ![1, 1, 1536] (by decide))) (View.ld (Val := Elt Ideal) (e' := .f32) X3 (Rect.unit (s := S1x8x2048) ![0, 5, 0] ![1, 1, 1536] (by decide)))
      X4 (View.ld (Val := Elt Ideal) (e' := .bf16) X2 (Rect.unit (s := S1x2048x512) ![0, 0, 256] ![1, 2048, 128] (by decide))) x =
      attend qr kr cr vv (ix3 b ((Rect.unit (s := S1x2048x512) ![0, 1280, 256] ![1, 256, 128] (by decide)).emb x 1) ((Rect.unit (s := S1x2048x512) ![0, 1280, 256] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair6_attend qr kr cr vv b 2 _ _ _ _ _ _ _ _ _ X4 _
      (fun r d => (ld3 X0 (by decide) 0 r d (0 : Fin 1) ⟨1280 + r.val, by omega⟩ (col 2 d) rfl rfl rfl).trans (h0 _ _))
      (fun d j => (ld3 X1 (by decide) 0 d j (0 : Fin 1) (col 2 d) ⟨0 + j.val, by omega⟩ rfl rfl rfl).trans (h1 _ _))
      (fun d j => (ld3 X1 (by decide) 0 d j (0 : Fin 1) (col 2 d) ⟨256 + j.val, by omega⟩ rfl rfl rfl).trans (h1 _ _))
      (fun d j => (ld3 X1 (by decide) 0 d j (0 : Fin 1) (col 2 d) ⟨512 + j.val, by omega⟩ rfl rfl rfl).trans (h1 _ _))
      (fun d j => (ld3 X1 (by decide) 0 d j (0 : Fin 1) (col 2 d) ⟨768 + j.val, by omega⟩ rfl rfl rfl).trans (h1 _ _))
      (fun d j => (ld3 X1 (by decide) 0 d j (0 : Fin 1) (col 2 d) ⟨1024 + j.val, by omega⟩ rfl rfl rfl).trans (h1 _ _))
      (fun d j => (ld3 X1 (by decide) 0 d j (0 : Fin 1) (col 2 d) ⟨1280 + j.val, by omega⟩ rfl rfl rfl).trans (h1 _ _))
      (fun j => (ld3 X3 (by decide) 0 0 j (0 : Fin 1) (headA 2) (j.castLE (by decide)) rfl rfl (Nat.zero_add _).symm).trans (h3 _ _))
      (fun j => (ld3 X3 (by decide) 0 0 j (0 : Fin 1) (headB 2) (j.castLE (by decide)) rfl rfl (Nat.zero_add _).symm).trans (h3 _ _))
      h4 (fun j d => (ld3 X2 (by decide) 0 j d (0 : Fin 1) j (col 2 d) rfl (Nat.zero_add _).symm rfl).trans (h2 _ _)) r d).trans ?_
  exact congrArg _ (congrArg₂ (ix3 b) (Fin.ext (congrArg (fun z => 1280 + z) (Nat.one_mul r.val).symm)) (Fin.ext (congrArg (fun z => 256 + z) (Nat.one_mul d.val).symm)))

theorem block6_1 (x : S1x256x128.Idx) :
    pair6 (View.ld (Val := Elt Ideal) (e' := .bf16) X0 (Rect.unit (s := S1x2048x512) ![0, 1280, 128] ![1, 256, 128] (by decide))) (View.ld (Val := Elt Ideal) (e' := .bf16) X1 (Rect.unit (s := S1x512x2048) ![0, 128, 0] ![1, 128, 256] (by decide))) (View.ld (Val := Elt Ideal) (e' := .bf16) X1 (Rect.unit (s := S1x512x2048) ![0, 128, 256] ![1, 128, 256] (by decide))) (View.ld (Val := Elt Ideal) (e' := .bf16) X1 (Rect.unit (s := S1x512x2048) ![0, 128, 512] ![1, 128, 256] (by decide))) (View.ld (Val := Elt Ideal) (e' := .bf16) X1 (Rect.unit (s := S1x512x2048) ![0, 128, 768] ![1, 128, 256] (by decide))) (View.ld (Val := Elt Ideal) (e' := .bf16) X1 (Rect.unit (s := S1x512x2048) ![0, 128, 1024] ![1, 128, 256] (by decide))) (View.ld (Val := Elt Ideal) (e' := .bf16) X1 (Rect.unit (s := S1x512x2048) ![0, 128, 1280] ![1, 128, 256] (by decide)))
      (View.ld (Val := Elt Ideal) (e' := .f32) X3 (Rect.unit (s := S1x8x2048) ![0, 2, 0] ![1, 1, 1536] (by decide))) (View.ld (Val := Elt Ideal) (e' := .f32) X3 (Rect.unit (s := S1x8x2048) ![0, 3, 0] ![1, 1, 1536] (by decide)))
      X4 (View.ld (Val := Elt Ideal) (e' := .bf16) X2 (Rect.unit (s := S1x2048x512) ![0, 0, 128] ![1, 2048, 128] (by decide))) x =
      attend qr kr cr vv (ix3 b ((Rect.unit (s := S1x2048x512) ![0, 1280, 128] ![1, 256, 128] (by decide)).emb x 1) ((Rect.unit (s := S1x2048x512) ![0, 1280, 128] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair6_attend qr kr cr vv b 1 _ _ _ _ _ _ _ _ _ X4 _
      (fun r d => (ld3 X0 (by decide) 0 r d (0 : Fin 1) ⟨1280 + r.val, by omega⟩ (col 1 d) rfl rfl rfl).trans (h0 _ _))
      (fun d j => (ld3 X1 (by decide) 0 d j (0 : Fin 1) (col 1 d) ⟨0 + j.val, by omega⟩ rfl rfl rfl).trans (h1 _ _))
      (fun d j => (ld3 X1 (by decide) 0 d j (0 : Fin 1) (col 1 d) ⟨256 + j.val, by omega⟩ rfl rfl rfl).trans (h1 _ _))
      (fun d j => (ld3 X1 (by decide) 0 d j (0 : Fin 1) (col 1 d) ⟨512 + j.val, by omega⟩ rfl rfl rfl).trans (h1 _ _))
      (fun d j => (ld3 X1 (by decide) 0 d j (0 : Fin 1) (col 1 d) ⟨768 + j.val, by omega⟩ rfl rfl rfl).trans (h1 _ _))
      (fun d j => (ld3 X1 (by decide) 0 d j (0 : Fin 1) (col 1 d) ⟨1024 + j.val, by omega⟩ rfl rfl rfl).trans (h1 _ _))
      (fun d j => (ld3 X1 (by decide) 0 d j (0 : Fin 1) (col 1 d) ⟨1280 + j.val, by omega⟩ rfl rfl rfl).trans (h1 _ _))
      (fun j => (ld3 X3 (by decide) 0 0 j (0 : Fin 1) (headA 1) (j.castLE (by decide)) rfl rfl (Nat.zero_add _).symm).trans (h3 _ _))
      (fun j => (ld3 X3 (by decide) 0 0 j (0 : Fin 1) (headB 1) (j.castLE (by decide)) rfl rfl (Nat.zero_add _).symm).trans (h3 _ _))
      h4 (fun j d => (ld3 X2 (by decide) 0 j d (0 : Fin 1) j (col 1 d) rfl (Nat.zero_add _).symm rfl).trans (h2 _ _)) r d).trans ?_
  exact congrArg _ (congrArg₂ (ix3 b) (Fin.ext (congrArg (fun z => 1280 + z) (Nat.one_mul r.val).symm)) (Fin.ext (congrArg (fun z => 128 + z) (Nat.one_mul d.val).symm)))

theorem block6_0 (x : S1x256x128.Idx) :
    pair6 (View.ld (Val := Elt Ideal) (e' := .bf16) X0 (Rect.unit (s := S1x2048x512) ![0, 1280, 0] ![1, 256, 128] (by decide))) (View.ld (Val := Elt Ideal) (e' := .bf16) X1 (Rect.unit (s := S1x512x2048) ![0, 0, 0] ![1, 128, 256] (by decide))) (View.ld (Val := Elt Ideal) (e' := .bf16) X1 (Rect.unit (s := S1x512x2048) ![0, 0, 256] ![1, 128, 256] (by decide))) (View.ld (Val := Elt Ideal) (e' := .bf16) X1 (Rect.unit (s := S1x512x2048) ![0, 0, 512] ![1, 128, 256] (by decide))) (View.ld (Val := Elt Ideal) (e' := .bf16) X1 (Rect.unit (s := S1x512x2048) ![0, 0, 768] ![1, 128, 256] (by decide))) (View.ld (Val := Elt Ideal) (e' := .bf16) X1 (Rect.unit (s := S1x512x2048) ![0, 0, 1024] ![1, 128, 256] (by decide))) (View.ld (Val := Elt Ideal) (e' := .bf16) X1 (Rect.unit (s := S1x512x2048) ![0, 0, 1280] ![1, 128, 256] (by decide)))
      (View.ld (Val := Elt Ideal) (e' := .f32) X3 (Rect.unit (s := S1x8x2048) ![0, 0, 0] ![1, 1, 1536] (by decide))) (View.ld (Val := Elt Ideal) (e' := .f32) X3 (Rect.unit (s := S1x8x2048) ![0, 1, 0] ![1, 1, 1536] (by decide)))
      X4 (View.ld (Val := Elt Ideal) (e' := .bf16) X2 (Rect.unit (s := S1x2048x512) ![0, 0, 0] ![1, 2048, 128] (by decide))) x =
      attend qr kr cr vv (ix3 b ((Rect.unit (s := S1x2048x512) ![0, 1280, 0] ![1, 256, 128] (by decide)).emb x 1) ((Rect.unit (s := S1x2048x512) ![0, 1280, 0] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair6_attend qr kr cr vv b 0 _ _ _ _ _ _ _ _ _ X4 _
      (fun r d => (ld3 X0 (by decide) 0 r d (0 : Fin 1) ⟨1280 + r.val, by omega⟩ (col 0 d) rfl rfl rfl).trans (h0 _ _))
      (fun d j => (ld3 X1 (by decide) 0 d j (0 : Fin 1) (col 0 d) ⟨0 + j.val, by omega⟩ rfl rfl rfl).trans (h1 _ _))
      (fun d j => (ld3 X1 (by decide) 0 d j (0 : Fin 1) (col 0 d) ⟨256 + j.val, by omega⟩ rfl rfl rfl).trans (h1 _ _))
      (fun d j => (ld3 X1 (by decide) 0 d j (0 : Fin 1) (col 0 d) ⟨512 + j.val, by omega⟩ rfl rfl rfl).trans (h1 _ _))
      (fun d j => (ld3 X1 (by decide) 0 d j (0 : Fin 1) (col 0 d) ⟨768 + j.val, by omega⟩ rfl rfl rfl).trans (h1 _ _))
      (fun d j => (ld3 X1 (by decide) 0 d j (0 : Fin 1) (col 0 d) ⟨1024 + j.val, by omega⟩ rfl rfl rfl).trans (h1 _ _))
      (fun d j => (ld3 X1 (by decide) 0 d j (0 : Fin 1) (col 0 d) ⟨1280 + j.val, by omega⟩ rfl rfl rfl).trans (h1 _ _))
      (fun j => (ld3 X3 (by decide) 0 0 j (0 : Fin 1) (headA 0) (j.castLE (by decide)) rfl rfl (Nat.zero_add _).symm).trans (h3 _ _))
      (fun j => (ld3 X3 (by decide) 0 0 j (0 : Fin 1) (headB 0) (j.castLE (by decide)) rfl rfl (Nat.zero_add _).symm).trans (h3 _ _))
      h4 (fun j d => (ld3 X2 (by decide) 0 j d (0 : Fin 1) j (col 0 d) rfl (Nat.zero_add _).symm rfl).trans (h2 _ _)) r d).trans ?_
  exact congrArg _ (congrArg₂ (ix3 b) (Fin.ext (congrArg (fun z => 1280 + z) (Nat.one_mul r.val).symm)) (Fin.ext (congrArg (fun z => 0 + z) (Nat.one_mul d.val).symm)))

theorem block7_3 (x : S1x256x128.Idx) :
    pair7 (View.ld (Val := Elt Ideal) (e' := .bf16) X0 (Rect.unit (s := S1x2048x512) ![0, 1536, 384] ![1, 256, 128] (by decide))) (View.ld (Val := Elt Ideal) (e' := .bf16) X1 (Rect.unit (s := S1x512x2048) ![0, 384, 0] ![1, 128, 256] (by decide))) (View.ld (Val := Elt Ideal) (e' := .bf16) X1 (Rect.unit (s := S1x512x2048) ![0, 384, 256] ![1, 128, 256] (by decide))) (View.ld (Val := Elt Ideal) (e' := .bf16) X1 (Rect.unit (s := S1x512x2048) ![0, 384, 512] ![1, 128, 256] (by decide))) (View.ld (Val := Elt Ideal) (e' := .bf16) X1 (Rect.unit (s := S1x512x2048) ![0, 384, 768] ![1, 128, 256] (by decide))) (View.ld (Val := Elt Ideal) (e' := .bf16) X1 (Rect.unit (s := S1x512x2048) ![0, 384, 1024] ![1, 128, 256] (by decide))) (View.ld (Val := Elt Ideal) (e' := .bf16) X1 (Rect.unit (s := S1x512x2048) ![0, 384, 1280] ![1, 128, 256] (by decide))) (View.ld (Val := Elt Ideal) (e' := .bf16) X1 (Rect.unit (s := S1x512x2048) ![0, 384, 1536] ![1, 128, 256] (by decide)))
      (View.ld (Val := Elt Ideal) (e' := .f32) X3 (Rect.unit (s := S1x8x2048) ![0, 6, 0] ![1, 1, 1792] (by decide))) (View.ld (Val := Elt Ideal) (e' := .f32) X3 (Rect.unit (s := S1x8x2048) ![0, 7, 0] ![1, 1, 1792] (by decide)))
      X4 (View.ld (Val := Elt Ideal) (e' := .bf16) X2 (Rect.unit (s := S1x2048x512) ![0, 0, 384] ![1, 2048, 128] (by decide))) x =
      attend qr kr cr vv (ix3 b ((Rect.unit (s := S1x2048x512) ![0, 1536, 384] ![1, 256, 128] (by decide)).emb x 1) ((Rect.unit (s := S1x2048x512) ![0, 1536, 384] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair7_attend qr kr cr vv b 3 _ _ _ _ _ _ _ _ _ _ X4 _
      (fun r d => (ld3 X0 (by decide) 0 r d (0 : Fin 1) ⟨1536 + r.val, by omega⟩ (col 3 d) rfl rfl rfl).trans (h0 _ _))
      (fun d j => (ld3 X1 (by decide) 0 d j (0 : Fin 1) (col 3 d) ⟨0 + j.val, by omega⟩ rfl rfl rfl).trans (h1 _ _))
      (fun d j => (ld3 X1 (by decide) 0 d j (0 : Fin 1) (col 3 d) ⟨256 + j.val, by omega⟩ rfl rfl rfl).trans (h1 _ _))
      (fun d j => (ld3 X1 (by decide) 0 d j (0 : Fin 1) (col 3 d) ⟨512 + j.val, by omega⟩ rfl rfl rfl).trans (h1 _ _))
      (fun d j => (ld3 X1 (by decide) 0 d j (0 : Fin 1) (col 3 d) ⟨768 + j.val, by omega⟩ rfl rfl rfl).trans (h1 _ _))
      (fun d j => (ld3 X1 (by decide) 0 d j (0 : Fin 1) (col 3 d) ⟨1024 + j.val, by omega⟩ rfl rfl rfl).trans (h1 _ _))
      (fun d j => (ld3 X1 (by decide) 0 d j (0 : Fin 1) (col 3 d) ⟨1280 + j.val, by omega⟩ rfl rfl rfl).trans (h1 _ _))
      (fun d j => (ld3 X1 (by decide) 0 d j (0 : Fin 1) (col 3 d) ⟨1536 + j.val, by omega⟩ rfl rfl rfl).trans (h1 _ _))
      (fun j => (ld3 X3 (by decide) 0 0 j (0 : Fin 1) (headA 3) (j.castLE (by decide)) rfl rfl (Nat.zero_add _).symm).trans (h3 _ _))
      (fun j => (ld3 X3 (by decide) 0 0 j (0 : Fin 1) (headB 3) (j.castLE (by decide)) rfl rfl (Nat.zero_add _).symm).trans (h3 _ _))
      h4 (fun j d => (ld3 X2 (by decide) 0 j d (0 : Fin 1) j (col 3 d) rfl (Nat.zero_add _).symm rfl).trans (h2 _ _)) r d).trans ?_
  exact congrArg _ (congrArg₂ (ix3 b) (Fin.ext (congrArg (fun z => 1536 + z) (Nat.one_mul r.val).symm)) (Fin.ext (congrArg (fun z => 384 + z) (Nat.one_mul d.val).symm)))

theorem block7_2 (x : S1x256x128.Idx) :
    pair7 (View.ld (Val := Elt Ideal) (e' := .bf16) X0 (Rect.unit (s := S1x2048x512) ![0, 1536, 256] ![1, 256, 128] (by decide))) (View.ld (Val := Elt Ideal) (e' := .bf16) X1 (Rect.unit (s := S1x512x2048) ![0, 256, 0] ![1, 128, 256] (by decide))) (View.ld (Val := Elt Ideal) (e' := .bf16) X1 (Rect.unit (s := S1x512x2048) ![0, 256, 256] ![1, 128, 256] (by decide))) (View.ld (Val := Elt Ideal) (e' := .bf16) X1 (Rect.unit (s := S1x512x2048) ![0, 256, 512] ![1, 128, 256] (by decide))) (View.ld (Val := Elt Ideal) (e' := .bf16) X1 (Rect.unit (s := S1x512x2048) ![0, 256, 768] ![1, 128, 256] (by decide))) (View.ld (Val := Elt Ideal) (e' := .bf16) X1 (Rect.unit (s := S1x512x2048) ![0, 256, 1024] ![1, 128, 256] (by decide))) (View.ld (Val := Elt Ideal) (e' := .bf16) X1 (Rect.unit (s := S1x512x2048) ![0, 256, 1280] ![1, 128, 256] (by decide))) (View.ld (Val := Elt Ideal) (e' := .bf16) X1 (Rect.unit (s := S1x512x2048) ![0, 256, 1536] ![1, 128, 256] (by decide)))
      (View.ld (Val := Elt Ideal) (e' := .f32) X3 (Rect.unit (s := S1x8x2048) ![0, 4, 0] ![1, 1, 1792] (by decide))) (View.ld (Val := Elt Ideal) (e' := .f32) X3 (Rect.unit (s := S1x8x2048) ![0, 5, 0] ![1, 1, 1792] (by decide)))
      X4 (View.ld (Val := Elt Ideal) (e' := .bf16) X2 (Rect.unit (s := S1x2048x512) ![0, 0, 256] ![1, 2048, 128] (by decide))) x =
      attend qr kr cr vv (ix3 b ((Rect.unit (s := S1x2048x512) ![0, 1536, 256] ![1, 256, 128] (by decide)).emb x 1) ((Rect.unit (s := S1x2048x512) ![0, 1536, 256] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair7_attend qr kr cr vv b 2 _ _ _ _ _ _ _ _ _ _ X4 _
      (fun r d => (ld3 X0 (by decide) 0 r d (0 : Fin 1) ⟨1536 + r.val, by omega⟩ (col 2 d) rfl rfl rfl).trans (h0 _ _))
      (fun d j => (ld3 X1 (by decide) 0 d j (0 : Fin 1) (col 2 d) ⟨0 + j.val, by omega⟩ rfl rfl rfl).trans (h1 _ _))
      (fun d j => (ld3 X1 (by decide) 0 d j (0 : Fin 1) (col 2 d) ⟨256 + j.val, by omega⟩ rfl rfl rfl).trans (h1 _ _))
      (fun d j => (ld3 X1 (by decide) 0 d j (0 : Fin 1) (col 2 d) ⟨512 + j.val, by omega⟩ rfl rfl rfl).trans (h1 _ _))
      (fun d j => (ld3 X1 (by decide) 0 d j (0 : Fin 1) (col 2 d) ⟨768 + j.val, by omega⟩ rfl rfl rfl).trans (h1 _ _))
      (fun d j => (ld3 X1 (by decide) 0 d j (0 : Fin 1) (col 2 d) ⟨1024 + j.val, by omega⟩ rfl rfl rfl).trans (h1 _ _))
      (fun d j => (ld3 X1 (by decide) 0 d j (0 : Fin 1) (col 2 d) ⟨1280 + j.val, by omega⟩ rfl rfl rfl).trans (h1 _ _))
      (fun d j => (ld3 X1 (by decide) 0 d j (0 : Fin 1) (col 2 d) ⟨1536 + j.val, by omega⟩ rfl rfl rfl).trans (h1 _ _))
      (fun j => (ld3 X3 (by decide) 0 0 j (0 : Fin 1) (headA 2) (j.castLE (by decide)) rfl rfl (Nat.zero_add _).symm).trans (h3 _ _))
      (fun j => (ld3 X3 (by decide) 0 0 j (0 : Fin 1) (headB 2) (j.castLE (by decide)) rfl rfl (Nat.zero_add _).symm).trans (h3 _ _))
      h4 (fun j d => (ld3 X2 (by decide) 0 j d (0 : Fin 1) j (col 2 d) rfl (Nat.zero_add _).symm rfl).trans (h2 _ _)) r d).trans ?_
  exact congrArg _ (congrArg₂ (ix3 b) (Fin.ext (congrArg (fun z => 1536 + z) (Nat.one_mul r.val).symm)) (Fin.ext (congrArg (fun z => 256 + z) (Nat.one_mul d.val).symm)))

theorem block7_1 (x : S1x256x128.Idx) :
    pair7 (View.ld (Val := Elt Ideal) (e' := .bf16) X0 (Rect.unit (s := S1x2048x512) ![0, 1536, 128] ![1, 256, 128] (by decide))) (View.ld (Val := Elt Ideal) (e' := .bf16) X1 (Rect.unit (s := S1x512x2048) ![0, 128, 0] ![1, 128, 256] (by decide))) (View.ld (Val := Elt Ideal) (e' := .bf16) X1 (Rect.unit (s := S1x512x2048) ![0, 128, 256] ![1, 128, 256] (by decide))) (View.ld (Val := Elt Ideal) (e' := .bf16) X1 (Rect.unit (s := S1x512x2048) ![0, 128, 512] ![1, 128, 256] (by decide))) (View.ld (Val := Elt Ideal) (e' := .bf16) X1 (Rect.unit (s := S1x512x2048) ![0, 128, 768] ![1, 128, 256] (by decide))) (View.ld (Val := Elt Ideal) (e' := .bf16) X1 (Rect.unit (s := S1x512x2048) ![0, 128, 1024] ![1, 128, 256] (by decide))) (View.ld (Val := Elt Ideal) (e' := .bf16) X1 (Rect.unit (s := S1x512x2048) ![0, 128, 1280] ![1, 128, 256] (by decide))) (View.ld (Val := Elt Ideal) (e' := .bf16) X1 (Rect.unit (s := S1x512x2048) ![0, 128, 1536] ![1, 128, 256] (by decide)))
      (View.ld (Val := Elt Ideal) (e' := .f32) X3 (Rect.unit (s := S1x8x2048) ![0, 2, 0] ![1, 1, 1792] (by decide))) (View.ld (Val := Elt Ideal) (e' := .f32) X3 (Rect.unit (s := S1x8x2048) ![0, 3, 0] ![1, 1, 1792] (by decide)))
      X4 (View.ld (Val := Elt Ideal) (e' := .bf16) X2 (Rect.unit (s := S1x2048x512) ![0, 0, 128] ![1, 2048, 128] (by decide))) x =
      attend qr kr cr vv (ix3 b ((Rect.unit (s := S1x2048x512) ![0, 1536, 128] ![1, 256, 128] (by decide)).emb x 1) ((Rect.unit (s := S1x2048x512) ![0, 1536, 128] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair7_attend qr kr cr vv b 1 _ _ _ _ _ _ _ _ _ _ X4 _
      (fun r d => (ld3 X0 (by decide) 0 r d (0 : Fin 1) ⟨1536 + r.val, by omega⟩ (col 1 d) rfl rfl rfl).trans (h0 _ _))
      (fun d j => (ld3 X1 (by decide) 0 d j (0 : Fin 1) (col 1 d) ⟨0 + j.val, by omega⟩ rfl rfl rfl).trans (h1 _ _))
      (fun d j => (ld3 X1 (by decide) 0 d j (0 : Fin 1) (col 1 d) ⟨256 + j.val, by omega⟩ rfl rfl rfl).trans (h1 _ _))
      (fun d j => (ld3 X1 (by decide) 0 d j (0 : Fin 1) (col 1 d) ⟨512 + j.val, by omega⟩ rfl rfl rfl).trans (h1 _ _))
      (fun d j => (ld3 X1 (by decide) 0 d j (0 : Fin 1) (col 1 d) ⟨768 + j.val, by omega⟩ rfl rfl rfl).trans (h1 _ _))
      (fun d j => (ld3 X1 (by decide) 0 d j (0 : Fin 1) (col 1 d) ⟨1024 + j.val, by omega⟩ rfl rfl rfl).trans (h1 _ _))
      (fun d j => (ld3 X1 (by decide) 0 d j (0 : Fin 1) (col 1 d) ⟨1280 + j.val, by omega⟩ rfl rfl rfl).trans (h1 _ _))
      (fun d j => (ld3 X1 (by decide) 0 d j (0 : Fin 1) (col 1 d) ⟨1536 + j.val, by omega⟩ rfl rfl rfl).trans (h1 _ _))
      (fun j => (ld3 X3 (by decide) 0 0 j (0 : Fin 1) (headA 1) (j.castLE (by decide)) rfl rfl (Nat.zero_add _).symm).trans (h3 _ _))
      (fun j => (ld3 X3 (by decide) 0 0 j (0 : Fin 1) (headB 1) (j.castLE (by decide)) rfl rfl (Nat.zero_add _).symm).trans (h3 _ _))
      h4 (fun j d => (ld3 X2 (by decide) 0 j d (0 : Fin 1) j (col 1 d) rfl (Nat.zero_add _).symm rfl).trans (h2 _ _)) r d).trans ?_
  exact congrArg _ (congrArg₂ (ix3 b) (Fin.ext (congrArg (fun z => 1536 + z) (Nat.one_mul r.val).symm)) (Fin.ext (congrArg (fun z => 128 + z) (Nat.one_mul d.val).symm)))

theorem block7_0 (x : S1x256x128.Idx) :
    pair7 (View.ld (Val := Elt Ideal) (e' := .bf16) X0 (Rect.unit (s := S1x2048x512) ![0, 1536, 0] ![1, 256, 128] (by decide))) (View.ld (Val := Elt Ideal) (e' := .bf16) X1 (Rect.unit (s := S1x512x2048) ![0, 0, 0] ![1, 128, 256] (by decide))) (View.ld (Val := Elt Ideal) (e' := .bf16) X1 (Rect.unit (s := S1x512x2048) ![0, 0, 256] ![1, 128, 256] (by decide))) (View.ld (Val := Elt Ideal) (e' := .bf16) X1 (Rect.unit (s := S1x512x2048) ![0, 0, 512] ![1, 128, 256] (by decide))) (View.ld (Val := Elt Ideal) (e' := .bf16) X1 (Rect.unit (s := S1x512x2048) ![0, 0, 768] ![1, 128, 256] (by decide))) (View.ld (Val := Elt Ideal) (e' := .bf16) X1 (Rect.unit (s := S1x512x2048) ![0, 0, 1024] ![1, 128, 256] (by decide))) (View.ld (Val := Elt Ideal) (e' := .bf16) X1 (Rect.unit (s := S1x512x2048) ![0, 0, 1280] ![1, 128, 256] (by decide))) (View.ld (Val := Elt Ideal) (e' := .bf16) X1 (Rect.unit (s := S1x512x2048) ![0, 0, 1536] ![1, 128, 256] (by decide)))
      (View.ld (Val := Elt Ideal) (e' := .f32) X3 (Rect.unit (s := S1x8x2048) ![0, 0, 0] ![1, 1, 1792] (by decide))) (View.ld (Val := Elt Ideal) (e' := .f32) X3 (Rect.unit (s := S1x8x2048) ![0, 1, 0] ![1, 1, 1792] (by decide)))
      X4 (View.ld (Val := Elt Ideal) (e' := .bf16) X2 (Rect.unit (s := S1x2048x512) ![0, 0, 0] ![1, 2048, 128] (by decide))) x =
      attend qr kr cr vv (ix3 b ((Rect.unit (s := S1x2048x512) ![0, 1536, 0] ![1, 256, 128] (by decide)).emb x 1) ((Rect.unit (s := S1x2048x512) ![0, 1536, 0] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair7_attend qr kr cr vv b 0 _ _ _ _ _ _ _ _ _ _ X4 _
      (fun r d => (ld3 X0 (by decide) 0 r d (0 : Fin 1) ⟨1536 + r.val, by omega⟩ (col 0 d) rfl rfl rfl).trans (h0 _ _))
      (fun d j => (ld3 X1 (by decide) 0 d j (0 : Fin 1) (col 0 d) ⟨0 + j.val, by omega⟩ rfl rfl rfl).trans (h1 _ _))
      (fun d j => (ld3 X1 (by decide) 0 d j (0 : Fin 1) (col 0 d) ⟨256 + j.val, by omega⟩ rfl rfl rfl).trans (h1 _ _))
      (fun d j => (ld3 X1 (by decide) 0 d j (0 : Fin 1) (col 0 d) ⟨512 + j.val, by omega⟩ rfl rfl rfl).trans (h1 _ _))
      (fun d j => (ld3 X1 (by decide) 0 d j (0 : Fin 1) (col 0 d) ⟨768 + j.val, by omega⟩ rfl rfl rfl).trans (h1 _ _))
      (fun d j => (ld3 X1 (by decide) 0 d j (0 : Fin 1) (col 0 d) ⟨1024 + j.val, by omega⟩ rfl rfl rfl).trans (h1 _ _))
      (fun d j => (ld3 X1 (by decide) 0 d j (0 : Fin 1) (col 0 d) ⟨1280 + j.val, by omega⟩ rfl rfl rfl).trans (h1 _ _))
      (fun d j => (ld3 X1 (by decide) 0 d j (0 : Fin 1) (col 0 d) ⟨1536 + j.val, by omega⟩ rfl rfl rfl).trans (h1 _ _))
      (fun j => (ld3 X3 (by decide) 0 0 j (0 : Fin 1) (headA 0) (j.castLE (by decide)) rfl rfl (Nat.zero_add _).symm).trans (h3 _ _))
      (fun j => (ld3 X3 (by decide) 0 0 j (0 : Fin 1) (headB 0) (j.castLE (by decide)) rfl rfl (Nat.zero_add _).symm).trans (h3 _ _))
      h4 (fun j d => (ld3 X2 (by decide) 0 j d (0 : Fin 1) j (col 0 d) rfl (Nat.zero_add _).symm rfl).trans (h2 _ _)) r d).trans ?_
  exact congrArg _ (congrArg₂ (ix3 b) (Fin.ext (congrArg (fun z => 1536 + z) (Nat.one_mul r.val).symm)) (Fin.ext (congrArg (fun z => 0 + z) (Nat.one_mul d.val).symm)))

theorem block8_3 (x : S1x256x128.Idx) :
    pair8 (View.ld (Val := Elt Ideal) (e' := .bf16) X0 (Rect.unit (s := S1x2048x512) ![0, 1792, 384] ![1, 256, 128] (by decide))) (View.ld (Val := Elt Ideal) (e' := .bf16) X1 (Rect.unit (s := S1x512x2048) ![0, 384, 0] ![1, 128, 256] (by decide))) (View.ld (Val := Elt Ideal) (e' := .bf16) X1 (Rect.unit (s := S1x512x2048) ![0, 384, 256] ![1, 128, 256] (by decide))) (View.ld (Val := Elt Ideal) (e' := .bf16) X1 (Rect.unit (s := S1x512x2048) ![0, 384, 512] ![1, 128, 256] (by decide))) (View.ld (Val := Elt Ideal) (e' := .bf16) X1 (Rect.unit (s := S1x512x2048) ![0, 384, 768] ![1, 128, 256] (by decide))) (View.ld (Val := Elt Ideal) (e' := .bf16) X1 (Rect.unit (s := S1x512x2048) ![0, 384, 1024] ![1, 128, 256] (by decide))) (View.ld (Val := Elt Ideal) (e' := .bf16) X1 (Rect.unit (s := S1x512x2048) ![0, 384, 1280] ![1, 128, 256] (by decide))) (View.ld (Val := Elt Ideal) (e' := .bf16) X1 (Rect.unit (s := S1x512x2048) ![0, 384, 1536] ![1, 128, 256] (by decide))) (View.ld (Val := Elt Ideal) (e' := .bf16) X1 (Rect.unit (s := S1x512x2048) ![0, 384, 1792] ![1, 128, 256] (by decide)))
      (View.ld (Val := Elt Ideal) (e' := .f32) X3 (Rect.unit (s := S1x8x2048) ![0, 6, 0] ![1, 1, 2048] (by decide))) (View.ld (Val := Elt Ideal) (e' := .f32) X3 (Rect.unit (s := S1x8x2048) ![0, 7, 0] ![1, 1, 2048] (by decide)))
      X4 (View.ld (Val := Elt Ideal) (e' := .bf16) X2 (Rect.unit (s := S1x2048x512) ![0, 0, 384] ![1, 2048, 128] (by decide))) x =
      attend qr kr cr vv (ix3 b ((Rect.unit (s := S1x2048x512) ![0, 1792, 384] ![1, 256, 128] (by decide)).emb x 1) ((Rect.unit (s := S1x2048x512) ![0, 1792, 384] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair8_attend qr kr cr vv b 3 _ _ _ _ _ _ _ _ _ _ _ X4 _
      (fun r d => (ld3 X0 (by decide) 0 r d (0 : Fin 1) ⟨1792 + r.val, by omega⟩ (col 3 d) rfl rfl rfl).trans (h0 _ _))
      (fun d j => (ld3 X1 (by decide) 0 d j (0 : Fin 1) (col 3 d) ⟨0 + j.val, by omega⟩ rfl rfl rfl).trans (h1 _ _))
      (fun d j => (ld3 X1 (by decide) 0 d j (0 : Fin 1) (col 3 d) ⟨256 + j.val, by omega⟩ rfl rfl rfl).trans (h1 _ _))
      (fun d j => (ld3 X1 (by decide) 0 d j (0 : Fin 1) (col 3 d) ⟨512 + j.val, by omega⟩ rfl rfl rfl).trans (h1 _ _))
      (fun d j => (ld3 X1 (by decide) 0 d j (0 : Fin 1) (col 3 d) ⟨768 + j.val, by omega⟩ rfl rfl rfl).trans (h1 _ _))
      (fun d j => (ld3 X1 (by decide) 0 d j (0 : Fin 1) (col 3 d) ⟨1024 + j.val, by omega⟩ rfl rfl rfl).trans (h1 _ _))
      (fun d j => (ld3 X1 (by decide) 0 d j (0 : Fin 1) (col 3 d) ⟨1280 + j.val, by omega⟩ rfl rfl rfl).trans (h1 _ _))
      (fun d j => (ld3 X1 (by decide) 0 d j (0 : Fin 1) (col 3 d) ⟨1536 + j.val, by omega⟩ rfl rfl rfl).trans (h1 _ _))
      (fun d j => (ld3 X1 (by decide) 0 d j (0 : Fin 1) (col 3 d) ⟨1792 + j.val, by omega⟩ rfl rfl rfl).trans (h1 _ _))
      (fun j => (ld3 X3 (by decide) 0 0 j (0 : Fin 1) (headA 3) (j.castLE (by decide)) rfl rfl (Nat.zero_add _).symm).trans (h3 _ _))
      (fun j => (ld3 X3 (by decide) 0 0 j (0 : Fin 1) (headB 3) (j.castLE (by decide)) rfl rfl (Nat.zero_add _).symm).trans (h3 _ _))
      h4 (fun j d => (ld3 X2 (by decide) 0 j d (0 : Fin 1) j (col 3 d) rfl (Nat.zero_add _).symm rfl).trans (h2 _ _)) r d).trans ?_
  exact congrArg _ (congrArg₂ (ix3 b) (Fin.ext (congrArg (fun z => 1792 + z) (Nat.one_mul r.val).symm)) (Fin.ext (congrArg (fun z => 384 + z) (Nat.one_mul d.val).symm)))

theorem block8_2 (x : S1x256x128.Idx) :
    pair8 (View.ld (Val := Elt Ideal) (e' := .bf16) X0 (Rect.unit (s := S1x2048x512) ![0, 1792, 256] ![1, 256, 128] (by decide))) (View.ld (Val := Elt Ideal) (e' := .bf16) X1 (Rect.unit (s := S1x512x2048) ![0, 256, 0] ![1, 128, 256] (by decide))) (View.ld (Val := Elt Ideal) (e' := .bf16) X1 (Rect.unit (s := S1x512x2048) ![0, 256, 256] ![1, 128, 256] (by decide))) (View.ld (Val := Elt Ideal) (e' := .bf16) X1 (Rect.unit (s := S1x512x2048) ![0, 256, 512] ![1, 128, 256] (by decide))) (View.ld (Val := Elt Ideal) (e' := .bf16) X1 (Rect.unit (s := S1x512x2048) ![0, 256, 768] ![1, 128, 256] (by decide))) (View.ld (Val := Elt Ideal) (e' := .bf16) X1 (Rect.unit (s := S1x512x2048) ![0, 256, 1024] ![1, 128, 256] (by decide))) (View.ld (Val := Elt Ideal) (e' := .bf16) X1 (Rect.unit (s := S1x512x2048) ![0, 256, 1280] ![1, 128, 256] (by decide))) (View.ld (Val := Elt Ideal) (e' := .bf16) X1 (Rect.unit (s := S1x512x2048) ![0, 256, 1536] ![1, 128, 256] (by decide))) (View.ld (Val := Elt Ideal) (e' := .bf16) X1 (Rect.unit (s := S1x512x2048) ![0, 256, 1792] ![1, 128, 256] (by decide)))
      (View.ld (Val := Elt Ideal) (e' := .f32) X3 (Rect.unit (s := S1x8x2048) ![0, 4, 0] ![1, 1, 2048] (by decide))) (View.ld (Val := Elt Ideal) (e' := .f32) X3 (Rect.unit (s := S1x8x2048) ![0, 5, 0] ![1, 1, 2048] (by decide)))
      X4 (View.ld (Val := Elt Ideal) (e' := .bf16) X2 (Rect.unit (s := S1x2048x512) ![0, 0, 256] ![1, 2048, 128] (by decide))) x =
      attend qr kr cr vv (ix3 b ((Rect.unit (s := S1x2048x512) ![0, 1792, 256] ![1, 256, 128] (by decide)).emb x 1) ((Rect.unit (s := S1x2048x512) ![0, 1792, 256] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair8_attend qr kr cr vv b 2 _ _ _ _ _ _ _ _ _ _ _ X4 _
      (fun r d => (ld3 X0 (by decide) 0 r d (0 : Fin 1) ⟨1792 + r.val, by omega⟩ (col 2 d) rfl rfl rfl).trans (h0 _ _))
      (fun d j => (ld3 X1 (by decide) 0 d j (0 : Fin 1) (col 2 d) ⟨0 + j.val, by omega⟩ rfl rfl rfl).trans (h1 _ _))
      (fun d j => (ld3 X1 (by decide) 0 d j (0 : Fin 1) (col 2 d) ⟨256 + j.val, by omega⟩ rfl rfl rfl).trans (h1 _ _))
      (fun d j => (ld3 X1 (by decide) 0 d j (0 : Fin 1) (col 2 d) ⟨512 + j.val, by omega⟩ rfl rfl rfl).trans (h1 _ _))
      (fun d j => (ld3 X1 (by decide) 0 d j (0 : Fin 1) (col 2 d) ⟨768 + j.val, by omega⟩ rfl rfl rfl).trans (h1 _ _))
      (fun d j => (ld3 X1 (by decide) 0 d j (0 : Fin 1) (col 2 d) ⟨1024 + j.val, by omega⟩ rfl rfl rfl).trans (h1 _ _))
      (fun d j => (ld3 X1 (by decide) 0 d j (0 : Fin 1) (col 2 d) ⟨1280 + j.val, by omega⟩ rfl rfl rfl).trans (h1 _ _))
      (fun d j => (ld3 X1 (by decide) 0 d j (0 : Fin 1) (col 2 d) ⟨1536 + j.val, by omega⟩ rfl rfl rfl).trans (h1 _ _))
      (fun d j => (ld3 X1 (by decide) 0 d j (0 : Fin 1) (col 2 d) ⟨1792 + j.val, by omega⟩ rfl rfl rfl).trans (h1 _ _))
      (fun j => (ld3 X3 (by decide) 0 0 j (0 : Fin 1) (headA 2) (j.castLE (by decide)) rfl rfl (Nat.zero_add _).symm).trans (h3 _ _))
      (fun j => (ld3 X3 (by decide) 0 0 j (0 : Fin 1) (headB 2) (j.castLE (by decide)) rfl rfl (Nat.zero_add _).symm).trans (h3 _ _))
      h4 (fun j d => (ld3 X2 (by decide) 0 j d (0 : Fin 1) j (col 2 d) rfl (Nat.zero_add _).symm rfl).trans (h2 _ _)) r d).trans ?_
  exact congrArg _ (congrArg₂ (ix3 b) (Fin.ext (congrArg (fun z => 1792 + z) (Nat.one_mul r.val).symm)) (Fin.ext (congrArg (fun z => 256 + z) (Nat.one_mul d.val).symm)))

theorem block8_1 (x : S1x256x128.Idx) :
    pair8 (View.ld (Val := Elt Ideal) (e' := .bf16) X0 (Rect.unit (s := S1x2048x512) ![0, 1792, 128] ![1, 256, 128] (by decide))) (View.ld (Val := Elt Ideal) (e' := .bf16) X1 (Rect.unit (s := S1x512x2048) ![0, 128, 0] ![1, 128, 256] (by decide))) (View.ld (Val := Elt Ideal) (e' := .bf16) X1 (Rect.unit (s := S1x512x2048) ![0, 128, 256] ![1, 128, 256] (by decide))) (View.ld (Val := Elt Ideal) (e' := .bf16) X1 (Rect.unit (s := S1x512x2048) ![0, 128, 512] ![1, 128, 256] (by decide))) (View.ld (Val := Elt Ideal) (e' := .bf16) X1 (Rect.unit (s := S1x512x2048) ![0, 128, 768] ![1, 128, 256] (by decide))) (View.ld (Val := Elt Ideal) (e' := .bf16) X1 (Rect.unit (s := S1x512x2048) ![0, 128, 1024] ![1, 128, 256] (by decide))) (View.ld (Val := Elt Ideal) (e' := .bf16) X1 (Rect.unit (s := S1x512x2048) ![0, 128, 1280] ![1, 128, 256] (by decide))) (View.ld (Val := Elt Ideal) (e' := .bf16) X1 (Rect.unit (s := S1x512x2048) ![0, 128, 1536] ![1, 128, 256] (by decide))) (View.ld (Val := Elt Ideal) (e' := .bf16) X1 (Rect.unit (s := S1x512x2048) ![0, 128, 1792] ![1, 128, 256] (by decide)))
      (View.ld (Val := Elt Ideal) (e' := .f32) X3 (Rect.unit (s := S1x8x2048) ![0, 2, 0] ![1, 1, 2048] (by decide))) (View.ld (Val := Elt Ideal) (e' := .f32) X3 (Rect.unit (s := S1x8x2048) ![0, 3, 0] ![1, 1, 2048] (by decide)))
      X4 (View.ld (Val := Elt Ideal) (e' := .bf16) X2 (Rect.unit (s := S1x2048x512) ![0, 0, 128] ![1, 2048, 128] (by decide))) x =
      attend qr kr cr vv (ix3 b ((Rect.unit (s := S1x2048x512) ![0, 1792, 128] ![1, 256, 128] (by decide)).emb x 1) ((Rect.unit (s := S1x2048x512) ![0, 1792, 128] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair8_attend qr kr cr vv b 1 _ _ _ _ _ _ _ _ _ _ _ X4 _
      (fun r d => (ld3 X0 (by decide) 0 r d (0 : Fin 1) ⟨1792 + r.val, by omega⟩ (col 1 d) rfl rfl rfl).trans (h0 _ _))
      (fun d j => (ld3 X1 (by decide) 0 d j (0 : Fin 1) (col 1 d) ⟨0 + j.val, by omega⟩ rfl rfl rfl).trans (h1 _ _))
      (fun d j => (ld3 X1 (by decide) 0 d j (0 : Fin 1) (col 1 d) ⟨256 + j.val, by omega⟩ rfl rfl rfl).trans (h1 _ _))
      (fun d j => (ld3 X1 (by decide) 0 d j (0 : Fin 1) (col 1 d) ⟨512 + j.val, by omega⟩ rfl rfl rfl).trans (h1 _ _))
      (fun d j => (ld3 X1 (by decide) 0 d j (0 : Fin 1) (col 1 d) ⟨768 + j.val, by omega⟩ rfl rfl rfl).trans (h1 _ _))
      (fun d j => (ld3 X1 (by decide) 0 d j (0 : Fin 1) (col 1 d) ⟨1024 + j.val, by omega⟩ rfl rfl rfl).trans (h1 _ _))
      (fun d j => (ld3 X1 (by decide) 0 d j (0 : Fin 1) (col 1 d) ⟨1280 + j.val, by omega⟩ rfl rfl rfl).trans (h1 _ _))
      (fun d j => (ld3 X1 (by decide) 0 d j (0 : Fin 1) (col 1 d) ⟨1536 + j.val, by omega⟩ rfl rfl rfl).trans (h1 _ _))
      (fun d j => (ld3 X1 (by decide) 0 d j (0 : Fin 1) (col 1 d) ⟨1792 + j.val, by omega⟩ rfl rfl rfl).trans (h1 _ _))
      (fun j => (ld3 X3 (by decide) 0 0 j (0 : Fin 1) (headA 1) (j.castLE (by decide)) rfl rfl (Nat.zero_add _).symm).trans (h3 _ _))
      (fun j => (ld3 X3 (by decide) 0 0 j (0 : Fin 1) (headB 1) (j.castLE (by decide)) rfl rfl (Nat.zero_add _).symm).trans (h3 _ _))
      h4 (fun j d => (ld3 X2 (by decide) 0 j d (0 : Fin 1) j (col 1 d) rfl (Nat.zero_add _).symm rfl).trans (h2 _ _)) r d).trans ?_
  exact congrArg _ (congrArg₂ (ix3 b) (Fin.ext (congrArg (fun z => 1792 + z) (Nat.one_mul r.val).symm)) (Fin.ext (congrArg (fun z => 128 + z) (Nat.one_mul d.val).symm)))

theorem block8_0 (x : S1x256x128.Idx) :
    pair8 (View.ld (Val := Elt Ideal) (e' := .bf16) X0 (Rect.unit (s := S1x2048x512) ![0, 1792, 0] ![1, 256, 128] (by decide))) (View.ld (Val := Elt Ideal) (e' := .bf16) X1 (Rect.unit (s := S1x512x2048) ![0, 0, 0] ![1, 128, 256] (by decide))) (View.ld (Val := Elt Ideal) (e' := .bf16) X1 (Rect.unit (s := S1x512x2048) ![0, 0, 256] ![1, 128, 256] (by decide))) (View.ld (Val := Elt Ideal) (e' := .bf16) X1 (Rect.unit (s := S1x512x2048) ![0, 0, 512] ![1, 128, 256] (by decide))) (View.ld (Val := Elt Ideal) (e' := .bf16) X1 (Rect.unit (s := S1x512x2048) ![0, 0, 768] ![1, 128, 256] (by decide))) (View.ld (Val := Elt Ideal) (e' := .bf16) X1 (Rect.unit (s := S1x512x2048) ![0, 0, 1024] ![1, 128, 256] (by decide))) (View.ld (Val := Elt Ideal) (e' := .bf16) X1 (Rect.unit (s := S1x512x2048) ![0, 0, 1280] ![1, 128, 256] (by decide))) (View.ld (Val := Elt Ideal) (e' := .bf16) X1 (Rect.unit (s := S1x512x2048) ![0, 0, 1536] ![1, 128, 256] (by decide))) (View.ld (Val := Elt Ideal) (e' := .bf16) X1 (Rect.unit (s := S1x512x2048) ![0, 0, 1792] ![1, 128, 256] (by decide)))
      (View.ld (Val := Elt Ideal) (e' := .f32) X3 (Rect.unit (s := S1x8x2048) ![0, 0, 0] ![1, 1, 2048] (by decide))) (View.ld (Val := Elt Ideal) (e' := .f32) X3 (Rect.unit (s := S1x8x2048) ![0, 1, 0] ![1, 1, 2048] (by decide)))
      X4 (View.ld (Val := Elt Ideal) (e' := .bf16) X2 (Rect.unit (s := S1x2048x512) ![0, 0, 0] ![1, 2048, 128] (by decide))) x =
      attend qr kr cr vv (ix3 b ((Rect.unit (s := S1x2048x512) ![0, 1792, 0] ![1, 256, 128] (by decide)).emb x 1) ((Rect.unit (s := S1x2048x512) ![0, 1792, 0] ![1, 256, 128] (by decide)).emb x 2)) := by
  obtain ⟨a, r, d, rfl⟩ : ∃ (a : Fin 1) (r : Fin 256) (d : Fin 128), x = ix3 a r d := ⟨x 0, x 1, x 2, eq_ix3 x⟩
  obtain rfl : a = 0 := Subsingleton.elim _ _
  refine (pair8_attend qr kr cr vv b 0 _ _ _ _ _ _ _ _ _ _ _ X4 _
      (fun r d => (ld3 X0 (by decide) 0 r d (0 : Fin 1) ⟨1792 + r.val, by omega⟩ (col 0 d) rfl rfl rfl).trans (h0 _ _))
      (fun d j => (ld3 X1 (by decide) 0 d j (0 : Fin 1) (col 0 d) ⟨0 + j.val, by omega⟩ rfl rfl rfl).trans (h1 _ _))
      (fun d j => (ld3 X1 (by decide) 0 d j (0 : Fin 1) (col 0 d) ⟨256 + j.val, by omega⟩ rfl rfl rfl).trans (h1 _ _))
      (fun d j => (ld3 X1 (by decide) 0 d j (0 : Fin 1) (col 0 d) ⟨512 + j.val, by omega⟩ rfl rfl rfl).trans (h1 _ _))
      (fun d j => (ld3 X1 (by decide) 0 d j (0 : Fin 1) (col 0 d) ⟨768 + j.val, by omega⟩ rfl rfl rfl).trans (h1 _ _))
      (fun d j => (ld3 X1 (by decide) 0 d j (0 : Fin 1) (col 0 d) ⟨1024 + j.val, by omega⟩ rfl rfl rfl).trans (h1 _ _))
      (fun d j => (ld3 X1 (by decide) 0 d j (0 : Fin 1) (col 0 d) ⟨1280 + j.val, by omega⟩ rfl rfl rfl).trans (h1 _ _))
      (fun d j => (ld3 X1 (by decide) 0 d j (0 : Fin 1) (col 0 d) ⟨1536 + j.val, by omega⟩ rfl rfl rfl).trans (h1 _ _))
      (fun d j => (ld3 X1 (by decide) 0 d j (0 : Fin 1) (col 0 d) ⟨1792 + j.val, by omega⟩ rfl rfl rfl).trans (h1 _ _))
      (fun j => (ld3 X3 (by decide) 0 0 j (0 : Fin 1) (headA 0) (j.castLE (by decide)) rfl rfl (Nat.zero_add _).symm).trans (h3 _ _))
      (fun j => (ld3 X3 (by decide) 0 0 j (0 : Fin 1) (headB 0) (j.castLE (by decide)) rfl rfl (Nat.zero_add _).symm).trans (h3 _ _))
      h4 (fun j d => (ld3 X2 (by decide) 0 j d (0 : Fin 1) j (col 0 d) rfl (Nat.zero_add _).symm rfl).trans (h2 _ _)) r d).trans ?_
  exact congrArg _ (congrArg₂ (ix3 b) (Fin.ext (congrArg (fun z => 1792 + z) (Nat.one_mul r.val).symm)) (Fin.ext (congrArg (fun z => 0 + z) (Nat.one_mul d.val).symm)))

end

variable (m : (ℓ : Loc nD τ sig) → Buf (Elt Ideal) ℓ)

set_option maxHeartbeats 40000000 in
/-- The block a grid point leaves, from real queries, keys and gates. -/
theorem out_eq (c : Dev nD) (t : Fin cfg0.N) (qr kr : S16x2048x512.Idx → ℝ) (cr : S16x8x2048.Idx → ℝ)
    (hq : ∀ y, argQ m c y = (qr y : EReal)) (hk : ∀ y, argK m c y = (kr y : EReal)) (hc : ∀ y, argC m c y = (cr y : EReal)) :
    outsAt0 m c t = fun y => attend qr kr cr (argV m c) (ix3 (sq t) (y 1) (y 2)) := by
  have h0 : ∀ (i : Fin 2048) (l : Fin 512), iblk m c 0 t (ix3 (0 : Fin 1) i l) = (qr (ix3 (sq t) i l) : EReal) := fun i l => (blk_q m c t i l).trans (hq _)
  have h1 : ∀ (l : Fin 512) (j : Fin 2048), iblk m c 1 t (ix3 (0 : Fin 1) l j) = (kr (ix3 (sq t) j l) : EReal) := fun l j => (blk_k m c t l j).trans (hk _)
  have h2 : ∀ (j : Fin 2048) (l : Fin 512), iblk m c 2 t (ix3 (0 : Fin 1) j l) = argV m c (ix3 (sq t) j l) := fun j l => blk_v m c t j l
  have h3 : ∀ (h : Fin 8) (j : Fin 2048), iblk m c 3 t (ix3 (0 : Fin 1) h j) = (cr (ix3 (sq t) h j) : EReal) := fun h j => (blk_c m c t h j).trans (hc _)
  have h4 := blk_m m c t
  unfold outsAt0 out0_A_5
  frame_open
  simp (disch := decide) only [↓ View.readCov_skip, ↓ View.readCov_cons_toLoadRect, ↓ View.readCov_fill, ↓ readCov_rows, ↓ readCov_p2, ↓ readCov_p3, ↓ readCov_p4, ↓ readCov_p5, ↓ readCov_p6, ↓ readCov_p7, ↓ readCov_p8]
  frame_out
  refine canon_of_pieces _ _ ?_ (by sl_kernel_rfl)
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · exact block1_3 (iblk m c 0 t) (iblk m c 2 t) (iblk m c 1 t) (iblk m c 3 t) (iblk m c 4 t) qr kr cr (argV m c) (sq t) h0 h1 h2 h3 h4
  · exact block1_2 (iblk m c 0 t) (iblk m c 2 t) (iblk m c 1 t) (iblk m c 3 t) (iblk m c 4 t) qr kr cr (argV m c) (sq t) h0 h1 h2 h3 h4
  · exact block1_1 (iblk m c 0 t) (iblk m c 2 t) (iblk m c 1 t) (iblk m c 3 t) (iblk m c 4 t) qr kr cr (argV m c) (sq t) h0 h1 h2 h3 h4
  · exact block1_0 (iblk m c 0 t) (iblk m c 2 t) (iblk m c 1 t) (iblk m c 3 t) (iblk m c 4 t) qr kr cr (argV m c) (sq t) h0 h1 h2 h3 h4
  · exact block2_3 (iblk m c 0 t) (iblk m c 2 t) (iblk m c 1 t) (iblk m c 3 t) (iblk m c 4 t) qr kr cr (argV m c) (sq t) h0 h1 h2 h3 h4
  · exact block2_2 (iblk m c 0 t) (iblk m c 2 t) (iblk m c 1 t) (iblk m c 3 t) (iblk m c 4 t) qr kr cr (argV m c) (sq t) h0 h1 h2 h3 h4
  · exact block2_1 (iblk m c 0 t) (iblk m c 2 t) (iblk m c 1 t) (iblk m c 3 t) (iblk m c 4 t) qr kr cr (argV m c) (sq t) h0 h1 h2 h3 h4
  · exact block2_0 (iblk m c 0 t) (iblk m c 2 t) (iblk m c 1 t) (iblk m c 3 t) (iblk m c 4 t) qr kr cr (argV m c) (sq t) h0 h1 h2 h3 h4
  · exact block3_3 (iblk m c 0 t) (iblk m c 2 t) (iblk m c 1 t) (iblk m c 3 t) (iblk m c 4 t) qr kr cr (argV m c) (sq t) h0 h1 h2 h3 h4
  · exact block3_2 (iblk m c 0 t) (iblk m c 2 t) (iblk m c 1 t) (iblk m c 3 t) (iblk m c 4 t) qr kr cr (argV m c) (sq t) h0 h1 h2 h3 h4
  · exact block3_1 (iblk m c 0 t) (iblk m c 2 t) (iblk m c 1 t) (iblk m c 3 t) (iblk m c 4 t) qr kr cr (argV m c) (sq t) h0 h1 h2 h3 h4
  · exact block3_0 (iblk m c 0 t) (iblk m c 2 t) (iblk m c 1 t) (iblk m c 3 t) (iblk m c 4 t) qr kr cr (argV m c) (sq t) h0 h1 h2 h3 h4
  · exact block4_3 (iblk m c 0 t) (iblk m c 2 t) (iblk m c 1 t) (iblk m c 3 t) (iblk m c 4 t) qr kr cr (argV m c) (sq t) h0 h1 h2 h3 h4
  · exact block4_2 (iblk m c 0 t) (iblk m c 2 t) (iblk m c 1 t) (iblk m c 3 t) (iblk m c 4 t) qr kr cr (argV m c) (sq t) h0 h1 h2 h3 h4
  · exact block4_1 (iblk m c 0 t) (iblk m c 2 t) (iblk m c 1 t) (iblk m c 3 t) (iblk m c 4 t) qr kr cr (argV m c) (sq t) h0 h1 h2 h3 h4
  · exact block4_0 (iblk m c 0 t) (iblk m c 2 t) (iblk m c 1 t) (iblk m c 3 t) (iblk m c 4 t) qr kr cr (argV m c) (sq t) h0 h1 h2 h3 h4
  · exact block5_3 (iblk m c 0 t) (iblk m c 2 t) (iblk m c 1 t) (iblk m c 3 t) (iblk m c 4 t) qr kr cr (argV m c) (sq t) h0 h1 h2 h3 h4
  · exact block5_2 (iblk m c 0 t) (iblk m c 2 t) (iblk m c 1 t) (iblk m c 3 t) (iblk m c 4 t) qr kr cr (argV m c) (sq t) h0 h1 h2 h3 h4
  · exact block5_1 (iblk m c 0 t) (iblk m c 2 t) (iblk m c 1 t) (iblk m c 3 t) (iblk m c 4 t) qr kr cr (argV m c) (sq t) h0 h1 h2 h3 h4
  · exact block5_0 (iblk m c 0 t) (iblk m c 2 t) (iblk m c 1 t) (iblk m c 3 t) (iblk m c 4 t) qr kr cr (argV m c) (sq t) h0 h1 h2 h3 h4
  · exact block6_3 (iblk m c 0 t) (iblk m c 2 t) (iblk m c 1 t) (iblk m c 3 t) (iblk m c 4 t) qr kr cr (argV m c) (sq t) h0 h1 h2 h3 h4
  · exact block6_2 (iblk m c 0 t) (iblk m c 2 t) (iblk m c 1 t) (iblk m c 3 t) (iblk m c 4 t) qr kr cr (argV m c) (sq t) h0 h1 h2 h3 h4
  · exact block6_1 (iblk m c 0 t) (iblk m c 2 t) (iblk m c 1 t) (iblk m c 3 t) (iblk m c 4 t) qr kr cr (argV m c) (sq t) h0 h1 h2 h3 h4
  · exact block6_0 (iblk m c 0 t) (iblk m c 2 t) (iblk m c 1 t) (iblk m c 3 t) (iblk m c 4 t) qr kr cr (argV m c) (sq t) h0 h1 h2 h3 h4
  · exact block7_3 (iblk m c 0 t) (iblk m c 2 t) (iblk m c 1 t) (iblk m c 3 t) (iblk m c 4 t) qr kr cr (argV m c) (sq t) h0 h1 h2 h3 h4
  · exact block7_2 (iblk m c 0 t) (iblk m c 2 t) (iblk m c 1 t) (iblk m c 3 t) (iblk m c 4 t) qr kr cr (argV m c) (sq t) h0 h1 h2 h3 h4
  · exact block7_1 (iblk m c 0 t) (iblk m c 2 t) (iblk m c 1 t) (iblk m c 3 t) (iblk m c 4 t) qr kr cr (argV m c) (sq t) h0 h1 h2 h3 h4
  · exact block7_0 (iblk m c 0 t) (iblk m c 2 t) (iblk m c 1 t) (iblk m c 3 t) (iblk m c 4 t) qr kr cr (argV m c) (sq t) h0 h1 h2 h3 h4
  · exact block8_3 (iblk m c 0 t) (iblk m c 2 t) (iblk m c 1 t) (iblk m c 3 t) (iblk m c 4 t) qr kr cr (argV m c) (sq t) h0 h1 h2 h3 h4
  · exact block8_2 (iblk m c 0 t) (iblk m c 2 t) (iblk m c 1 t) (iblk m c 3 t) (iblk m c 4 t) qr kr cr (argV m c) (sq t) h0 h1 h2 h3 h4
  · exact block8_1 (iblk m c 0 t) (iblk m c 2 t) (iblk m c 1 t) (iblk m c 3 t) (iblk m c 4 t) qr kr cr (argV m c) (sq t) h0 h1 h2 h3 h4
  · exact block8_0 (iblk m c 0 t) (iblk m c 2 t) (iblk m c 1 t) (iblk m c 3 t) (iblk m c 4 t) qr kr cr (argV m c) (sq t) h0 h1 h2 h3 h4
end Cert.KernelIdeal.Fox
-- ==== Proof.FoxKernel.lean ====
module

public import proofs.«01_k».proof.Proof.FoxPoint

/-! The kernel's result is the attended values of its arguments. -/

@[expose] public section

set_option maxRecDepth 16384

noncomputable section

open Idealize.ShloMosaic Idealize.ShloMosaic.TcCoe Idealize.SL.Sem

namespace Cert.KernelIdeal.Fox
open Cert.KernelIdeal Cert.KernelIdeal.Gen Cert.Fox

variable (m : (ℓ : Loc nD τ sig) → Buf (Elt Ideal) ℓ) (c : Dev nD)

theorem result (qr kr : S16x2048x512.Idx → ℝ) (cr : S16x8x2048.Idx → ℝ)
    (hq : ∀ y, argQ m c y = (qr y : EReal)) (hk : ∀ y, argK m c y = (kr y : EReal)) (hc : ∀ y, argC m c y = (cr y : EReal)) :
    (dats m 0 c).arrAt 5 cfg0.N = attend qr kr cr (argV m c) := by
  refine (dats m 0 c).arrAt_eq_of_covers 5 _ (by decide +kernel) fun t hf y => ?_
  obtain ⟨e0, e1, e2⟩ := (tile_index t).2.2.2.2.2
  blk_simp
  rw [after0_5]
  obtain ⟨b, r, d, rfl⟩ : ∃ (b : Fin 1) (r : Fin 2048) (d : Fin 512), y = ix3 b r d := ⟨y 0, y 1, y 2, eq_ix3 y⟩
  obtain rfl : b = 0 := Subsingleton.elim _ _
  refine (congrFun (out_eq m c t qr kr cr hq hk hc) (ix3 (0 : Fin 1) r d)).trans (congrArg _ ?_)
  unfold sq
  blk_ext [e0, e1, e2]

end Cert.KernelIdeal.Fox
-- ==== Proof.FoxReference.lean ====
module

public import proofs.«01_k».proof.Proof.FoxSpec
public import proofs.«01_k».proof.Proof.Gen.ReferenceIdeal.Read

/-! The reference's result at an index is the attended values: the softmax of the masked scores, times the values. -/

@[expose] public section

set_option maxRecDepth 16384

noncomputable section

open Idealize.ShloMosaic Idealize.ShloMosaic.TcCoe Idealize.SL.Sem

namespace Cert.Fox

/-- A maximum of scores, from minus infinity, is real when no score is plus infinity and one of them is not minus infinity. -/
theorem foldl_max_real {ι : Type} (f : ι → EReal) : ∀ (l : List ι) (a : EReal), a ≠ ⊤ → (∀ i, f i ≠ ⊤) → (a ≠ ⊥ ∨ ∃ i ∈ l, f i ≠ ⊥) →
    ∃ M : ℝ, l.foldl (fun r n => max r (f n)) a = (M : EReal)
  | [], a, ha, _, h => by
    rcases h with h | ⟨i, hi, _⟩
    · exact ⟨_, (EReal.coe_toReal ha h).symm⟩
    · exact absurd hi (List.not_mem_nil)
  | b :: l, a, ha, hf, h => by
    refine foldl_max_real f l (max a (f b)) ?_ hf ?_
    · rcases max_choice a (f b) with e | e <;> rw [e]
      · exact ha
      · exact hf b
    · rcases h with h | ⟨i, hi, hb⟩
      · exact Or.inl fun e => h (max_eq_bot.mp e).1
      · rcases List.mem_cons.1 hi with rfl | hi
        · exact Or.inl fun e => hb (max_eq_bot.mp e).2
        · exact Or.inr ⟨i, hi, hb⟩

theorem reduce_max_real {s t u : Shape} {axes : List (Fin s.rank)} (x : s.Idx → EReal) (init : u.Idx → EReal) (h : s.ReducesTo axes t) (hu : 0 < u.numel) (j : t.Idx)
    (hi : init (Shape.Idx.first hu) = ⊥) (hx : ∀ i, x i ≠ ⊤) (i : s.Idx) (hj : h.drop i = j) (hb : x i ≠ ⊥) :
    ∃ M : ℝ, Host.reduce (max : EReal → EReal → EReal) x init h hu j = (M : EReal) := by
  rw [Host.reduce_eq_foldl, hi]
  refine foldl_max_real x _ ⊥ bot_ne_top hx (Or.inr ⟨i, ?_, hb⟩)
  rw [List.mem_filter]
  exact ⟨List.mem_map.2 ⟨s.rowMajor i, List.mem_finRange _, Equiv.symm_apply_apply _ _⟩, by simp [hj]⟩

open Cert.ReferenceIdeal Cert.ReferenceIdeal.Gen Cert.ReferenceIdeal.Read

section
variable (x : S16x2048x512.Idx → EReal) (b : Fin 16) (i : Fin 2048) (h : Fin 8) (d : Fin 64)

theorem ref_q : val_main_v0 (F := Ideal) x (ix4 b i h d) = x (ix3 b i (lane h d)) :=
  (val_main_v0_apply (F := Ideal) x _).trans (congrArg x (funext fun a => match a with
    | ⟨0, _⟩ => Fin.ext (by show (((b.val * 2048 + i.val) * 8 + h.val) * 64 + d.val) / 1048576 = b.val; omega)
    | ⟨1, _⟩ => Fin.ext (by show (((b.val * 2048 + i.val) * 8 + h.val) * 64 + d.val) / 512 % 2048 = i.val; omega)
    | ⟨2, _⟩ => Fin.ext (by show (((b.val * 2048 + i.val) * 8 + h.val) * 64 + d.val) % 512 = 64 * h.val + d.val; omega)))

theorem ref_k : val_main_v1 (F := Ideal) x (ix4 b i h d) = x (ix3 b i (lane h d)) :=
  (val_main_v1_apply (F := Ideal) x _).trans (congrArg x (funext fun a => match a with
    | ⟨0, _⟩ => Fin.ext (by show (((b.val * 2048 + i.val) * 8 + h.val) * 64 + d.val) / 1048576 = b.val; omega)
    | ⟨1, _⟩ => Fin.ext (by show (((b.val * 2048 + i.val) * 8 + h.val) * 64 + d.val) / 512 % 2048 = i.val; omega)
    | ⟨2, _⟩ => Fin.ext (by show (((b.val * 2048 + i.val) * 8 + h.val) * 64 + d.val) % 512 = 64 * h.val + d.val; omega)))

theorem ref_v : val_main_v2 (F := Ideal) x (ix4 b i h d) = x (ix3 b i (lane h d)) :=
  (val_main_v2_apply (F := Ideal) x _).trans (congrArg x (funext fun a => match a with
    | ⟨0, _⟩ => Fin.ext (by show (((b.val * 2048 + i.val) * 8 + h.val) * 64 + d.val) / 1048576 = b.val; omega)
    | ⟨1, _⟩ => Fin.ext (by show (((b.val * 2048 + i.val) * 8 + h.val) * 64 + d.val) / 512 % 2048 = i.val; omega)
    | ⟨2, _⟩ => Fin.ext (by show (((b.val * 2048 + i.val) * 8 + h.val) * 64 + d.val) % 512 = 64 * h.val + d.val; omega)))
end

theorem eighth : Ideal.ofBits FTy.f32 0x3E000000#32 = (((8 : ℝ)⁻¹ : ℝ) : EReal) := by
  simp [Ideal.ofBits, Ideal.ieee, -EReal.coe_mul]
  norm_num

theorem minus_infinity : Ideal.ofBits FTy.f32 0xFF800000#32 = ⊥ := by
  simp [Ideal.ofBits, Ideal.ieee, -EReal.coe_mul]

/-- The comparison of two positions. -/
theorem after (i j : Fin 2048) : IntOp.cmpi .sge (BitVec.ofNat 32 i.val) (BitVec.ofNat 32 j.val) = if j.val ≤ i.val then 1#1 else 0#1 := by
  have hi := i.isLt
  have hj := j.isLt
  have e : (BitVec.ofNat 32 j.val).sle (BitVec.ofNat 32 i.val) = decide (j.val ≤ i.val) := by
    have f : ∀ n : ℕ, n < 2048 → (BitVec.ofNat 32 n).toInt = (n : ℤ) := fun n hn => by
      have e : (BitVec.ofNat 32 n).toNat = n := by rw [BitVec.toNat_ofNat]; exact Nat.mod_eq_of_lt (by omega)
      rw [BitVec.toInt_eq_toNat_of_lt (by rw [e]; omega), e]
    rw [BitVec.sle_eq_decide, f _ hj, f _ hi]
    exact decide_eq_decide.2 Int.ofNat_le
  by_cases h : j.val ≤ i.val
  · rw [if_pos h]
    simp [IntOp.cmpi, e, h]
  · rw [if_neg h]
    simp [IntOp.cmpi, e, h]

theorem ref_mask (b : Fin 16) (h : Fin 8) (i j : Fin 2048) : val_main_call0_v1 (F := Ideal) (ix4 b h i j) = if j.val ≤ i.val then 1#1 else 0#1 := by
  rw [val_main_call0_v1_apply, val_main_v18_apply, val_main_v16_apply, val_main_v17_apply, val_main_v13_apply, val_main_v15_apply, val_main_v12_apply, val_main_v14_apply]
  exact after i j

variable (x0 x1 x2 : S16x2048x512.Idx → EReal) (x3 : S16x8x2048.Idx → EReal)
  (qr kr : S16x2048x512.Idx → ℝ) (cr : S16x8x2048.Idx → ℝ)
  (hq : ∀ y, x0 y = (qr y : EReal)) (hk : ∀ y, x1 y = (kr y : EReal)) (hc : ∀ y, x3 y = (cr y : EReal))

include hq hk hc in
theorem ref_score (b : Fin 16) (h : Fin 8) (i j : Fin 2048) : val_main_v11 (F := Ideal) x0 x1 x3 (ix4 b h i j) = (score qr kr cr b h i j : EReal) := by
  have e7 : val_main_v7 (F := Ideal) x3 (ix4 b h i j) = (cr (ix3 b h i) : EReal) :=
    (val_main_v7_apply (F := Ideal) x3 _).trans ((val_main_v6_apply (F := Ideal) x3 _).trans ((hc _).trans (congrArg (fun y => (cr y : EReal)) (eq_ix3 _))))
  have e10 : val_main_v10 (F := Ideal) x3 (ix4 b h i j) = (cr (ix3 b h j) : EReal) :=
    (val_main_v10_apply (F := Ideal) x3 _).trans ((val_main_v9_apply (F := Ideal) x3 _).trans ((hc _).trans (congrArg (fun y => (cr y : EReal)) (eq_ix3 _))))
  have e4 : val_main_v4 (F := Ideal) (ix4 b h i j) = (((8 : ℝ)⁻¹ : ℝ) : EReal) := (val_main_v4_apply (F := Ideal) _).trans eighth
  have e3 : val_main_v3 (F := Ideal) x0 x1 (ix4 b h i j) = ((∑ d : Fin 64, qr (ix3 b i (lane h d)) * kr (ix3 b j (lane h d)) : ℝ) : EReal) := by
    rw [val_main_v3_apply, coe_sum']
    refine Finset.sum_congr rfl fun d _ => ?_
    rw [EReal.coe_mul]
    exact congrArg₂ (fun a b : EReal => a * b) ((congrArg (val_main_v0 (F := Ideal) x0) (eq_ix4 _)).trans ((ref_q x0 b i h d).trans (hq _)))
      ((congrArg (val_main_v1 (F := Ideal) x1) (eq_ix4 _)).trans ((ref_k x1 b j h d).trans (hk _)))
  rw [val_main_v11_apply, val_main_v8_apply, val_main_v5_apply, e3, e4, e7, e10]
  unfold score
  rw [EReal.coe_sub, EReal.coe_add, EReal.coe_mul]
  rfl

include hq hk hc in
theorem ref_masked (b : Fin 16) (h : Fin 8) (i j : Fin 2048) :
    val_main_v19 (F := Ideal) x0 x1 x3 (ix4 b h i j) = masked (fun j => j.val ≤ i.val) (score qr kr cr b h i) j := by
  have e : val_main_call0_v2 (F := Ideal) (ix4 b h i j) = ⊥ := (val_main_call0_v2_apply (F := Ideal) _).trans ((val_main_call0_v0_apply (F := Ideal) _).trans minus_infinity)
  rw [val_main_v19_apply, ref_mask, ref_score x0 x1 x3 qr kr cr hq hk hc, e]
  unfold masked
  split
  · rfl
  · rfl

theorem masked_ne_top {n : ℕ} (A : Fin n → Prop) [DecidablePred A] (x : Fin n → ℝ) (j : Fin n) : masked A x j ≠ ⊤ := by
  unfold masked; split
  · exact EReal.coe_ne_top _
  · exact bot_ne_top

include hq hk hc in
theorem ref_top (b : Fin 16) (h : Fin 8) (i : Fin 2048) : ∃ M : ℝ, ∀ j : Fin 2048, val_main_v24 (F := Ideal) x0 x1 x3 (ix4 b h i j) = (M : EReal) := by
  have hx : ∀ y, val_main_v19 (F := Ideal) x0 x1 x3 y ≠ ⊤ := fun y => by
    rw [eq_ix4 y]
    exact (ref_masked x0 x1 x3 qr kr cr hq hk hc _ _ _ _).trans_ne (masked_ne_top _ _ _)
  have hb : val_main_v19 (F := Ideal) x0 x1 x3 (ix4 b h i i) ≠ ⊥ := by
    rw [ref_masked x0 x1 x3 qr kr cr hq hk hc]
    unfold masked
    rw [if_pos (le_refl _)]
    exact EReal.coe_ne_bot _
  obtain ⟨M, hM⟩ := reduce_max_real (val_main_v19 (F := Ideal) x0 x1 x3) (val_main_cst_1 (F := Ideal)) reducesTo_S16x8x2048x2048_S16x8x2048_d3 h_S_ (ix3 b h i)
    minus_infinity hx (ix4 b h i i) (funext fun a => match a with | ⟨0, _⟩ => rfl | ⟨1, _⟩ => rfl | ⟨2, _⟩ => rfl) hb
  have h20 : val_main_v20 (F := Ideal) x0 x1 x3 (ix3 b h i) = (M : EReal) := hM
  have h21 : val_main_v21 (F := Ideal) (ix3 b h i) = ⊥ := (val_main_v21_apply (F := Ideal) _).trans minus_infinity
  refine ⟨M, fun j => ?_⟩
  refine (val_main_v24_apply (F := Ideal) x0 x1 x3 _).trans ((val_main_v23_apply (F := Ideal) x0 x1 x3 _).trans ((congrArg (val_main_v22 (F := Ideal) x0 x1 x3) (eq_ix3 _)).trans ?_))
  refine (val_main_v22_apply (F := Ideal) x0 x1 x3 (ix3 b h i)).trans ?_
  rw [h20, h21]
  exact bot_sup_eq _

include hq hk hc in
theorem ref_share (b : Fin 16) (h : Fin 8) (i j : Fin 2048) :
    val_main_v30 (F := Ideal) x0 x1 x3 (ix4 b h i j) = (share (fun j => j.val ≤ i.val) (score qr kr cr b h i) j : EReal) := by
  obtain ⟨M, hM⟩ := ref_top x0 x1 x3 qr kr cr hq hk hc b h i
  have h26 : ∀ j, val_main_v26 (F := Ideal) x0 x1 x3 (ix4 b h i j) = Ideal.exp (masked (fun j => j.val ≤ i.val) (score qr kr cr b h i) j - (M : EReal)) := fun j => by
    rw [val_main_v26_apply, val_main_v25_apply, hM, ref_masked x0 x1 x3 qr kr cr hq hk hc]
    rfl
  have h29 : val_main_v29 (F := Ideal) x0 x1 x3 (ix4 b h i j) = ∑ l : Fin 2048, Ideal.exp (masked (fun j => j.val ≤ i.val) (score qr kr cr b h i) l - (M : EReal)) := by
    refine (val_main_v29_apply (F := Ideal) x0 x1 x3 _).trans ((val_main_v28_apply (F := Ideal) x0 x1 x3 _).trans ((congrArg (val_main_v27 (F := Ideal) x0 x1 x3) (eq_ix3 _)).trans ?_))
    refine (val_main_v27_apply x0 x1 x3 (ix3 b h i)).trans ?_
    have z : val_main_cst_3 (F := Ideal) (Shape.Idx.first h_S_) = 0 := Ideal.ofBits_zero_f32
    rw [z, zero_add]
    exact Finset.sum_congr rfl fun l _ => (congrArg (val_main_v26 (F := Ideal) x0 x1 x3) (eq_ix4 _)).trans (h26 l)
  rw [val_main_v30_apply, h26, h29]
  exact softmax_eq (fun j => j.val ≤ i.val) (score qr kr cr b h i) ⟨i, le_refl _⟩ M j

include hq hk hc in
theorem ref_out (y : S16x2048x512.Idx) : val_main_v34 (F := Ideal) x0 x1 x2 x3 y = attend qr kr cr x2 y := by
  obtain ⟨b, i, l, rfl⟩ : ∃ (b : Fin 16) (i : Fin 2048) (l : Fin 512), y = ix3 b i l := ⟨y 0, y 1, y 2, eq_ix3 y⟩
  have hl := l.isLt
  obtain ⟨h, d, rfl⟩ : ∃ (h : Fin 8) (d : Fin 64), l = lane h d := ⟨⟨l.val / 64, by omega⟩, ⟨l.val % 64, by omega⟩, Fin.ext (by show l.val = 64 * (l.val / 64) + l.val % 64; omega)⟩
  have e33 : idx_main_v33 (ix3 b i (lane h d)) = ix4 b i h d := funext fun a => match a with
    | ⟨0, _⟩ => Fin.ext (by show ((b.val * 2048 + i.val) * 512 + (64 * h.val + d.val)) / 1048576 = b.val; omega)
    | ⟨1, _⟩ => Fin.ext (by show ((b.val * 2048 + i.val) * 512 + (64 * h.val + d.val)) / 512 % 2048 = i.val; omega)
    | ⟨2, _⟩ => Fin.ext (by show ((b.val * 2048 + i.val) * 512 + (64 * h.val + d.val)) / 64 % 8 = h.val; omega)
    | ⟨3, _⟩ => Fin.ext (by show ((b.val * 2048 + i.val) * 512 + (64 * h.val + d.val)) % 64 = d.val; omega)
  refine (val_main_v34_apply (F := Ideal) x0 x1 x2 x3 _).trans ?_
  refine (val_main_v33_apply (F := Ideal) x0 x1 x2 x3 _).trans ?_
  rw [e33]
  refine (val_main_v32_apply (F := Ideal) x0 x1 x2 x3 _).trans ((congrArg (val_main_v31 (F := Ideal) x0 x1 x2 x3) (eq_ix4 _)).trans ?_)
  refine (val_main_v31_apply x0 x1 x2 x3 (ix4 b h d i)).trans ?_
  unfold attend
  have eh : (⟨(lane h d).val / 64, by omega⟩ : Fin 8) = h := Fin.ext (by show (64 * h.val + d.val) / 64 = h.val; omega)
  refine Finset.sum_congr rfl fun j _ => ?_
  rw [mul_comm]
  refine congrArg₂ (fun a b : EReal => a * b) ((congrArg (val_main_v30 (F := Ideal) x0 x1 x3) (eq_ix4 _)).trans ((ref_share x0 x1 x3 qr kr cr hq hk hc b h i j).trans ?_))
    ((congrArg (val_main_v2 (F := Ideal) x2) (eq_ix4 _)).trans (ref_v x2 b j h d))
  show _ = (share (fun j => j.val ≤ i.val) (score qr kr cr b ⟨(lane h d).val / 64, _⟩ i) j : EReal)
  rw [eh]

end Cert.Fox
-- ==== Proof.FfnSpec.lean ====
module

public import Idealize.ShloMosaic.Lib.Pointwise

/-! The rows of the output projection and the feed-forward block, as plain formulas over the extended reals. -/

@[expose] public section

noncomputable section

open Idealize.ShloMosaic

namespace Cert.Ffn

/-- The constant under the square root of every normalisation. -/
def eps : EReal := Ideal.ofBits FTy.f32 897988541#32

/-- One row `x` divided by the root of its mean square (`n` is the row's length) and scaled by `g`. -/
def rms {k : ℕ} (n : EReal) (x g : Fin k → EReal) (i : Fin k) : EReal :=
  x i * Ideal.rsqrt (Ideal.div (∑ j, x j * x j) n + eps) * g i

/-- The two normalised streams of one token side by side. -/
def mixed (ys ya gs ga : Fin 512 → EReal) (k : Fin 1024) : EReal :=
  if h : k.val < 512 then rms (Ideal.ofBits FTy.f32 1140850688#32) ys gs ⟨k.val, h⟩
  else rms (Ideal.ofBits FTy.f32 1140850688#32) ya ga ⟨k.val - 512, by omega⟩

/-- One token after the output projection is added to it. -/
def resid (x : Fin 1024 → EReal) (mx : Fin 1024 → EReal) (wo : Fin 1024 → Fin 1024 → EReal) (d : Fin 1024) : EReal :=
  x d + ∑ k, mx k * wo k d

/-- The same token normalised for the feed-forward block. -/
def normed (h g : Fin 1024 → EReal) (d : Fin 1024) : EReal := rms (Ideal.ofBits FTy.f32 1149239296#32) h g d

/-- The row of the sequence that tap `k` of the causal convolution reads at row `s`: zero before the first row. -/
def tap (u : Fin 2048 → EReal) (k : ℕ) (hk : k ≤ 2) (s : Fin 2048) : EReal :=
  if h : 2 ≤ s.val + k then u ⟨s.val + k - 2, by omega⟩ else 0

/-- The causal convolution of width three along the sequence, with its bias. -/
def conv3 (u : Fin 2048 → EReal) (w0 w1 w2 b : EReal) (s : Fin 2048) : EReal :=
  tap u 0 (by decide) s * w0 + tap u 1 (by decide) s * w1 + tap u 2 (by decide) s * w2 + b

/-- The gated unit: the gate times its logistic, times the value. -/
def swish (g v : EReal) : EReal := g * Ideal.logistic g * v

/-- The problem's arrays: tokens, the two streams, their scales, the projection, the scale of the feed-forward block,
    its first weights, the convolution's weights and bias, its last weights. -/
structure Args where
  x : (⟨3, ![16, 2048, 1024]⟩ : Shape).Idx → EReal
  ys : (⟨3, ![16, 2048, 512]⟩ : Shape).Idx → EReal
  ya : (⟨3, ![16, 2048, 512]⟩ : Shape).Idx → EReal
  gs : (⟨1, ![512]⟩ : Shape).Idx → EReal
  ga : (⟨1, ![512]⟩ : Shape).Idx → EReal
  wo : (⟨2, ![1024, 1024]⟩ : Shape).Idx → EReal
  gf : (⟨1, ![1024]⟩ : Shape).Idx → EReal
  wu : (⟨2, ![1024, 5504]⟩ : Shape).Idx → EReal
  cw : (⟨2, ![3, 5504]⟩ : Shape).Idx → EReal
  cb : (⟨1, ![5504]⟩ : Shape).Idx → EReal
  wd : (⟨2, ![2752, 1024]⟩ : Shape).Idx → EReal

namespace Args
variable (A : Args)

def mix (b : Fin 16) (s : Fin 2048) : Fin 1024 → EReal :=
  mixed (fun k => A.ys (ix3 b s k)) (fun k => A.ya (ix3 b s k)) (fun k => A.gs (ix1 k)) (fun k => A.ga (ix1 k))

def res (b : Fin 16) (s : Fin 2048) : Fin 1024 → EReal :=
  resid (fun k => A.x (ix3 b s k)) (A.mix b s) (fun k d => A.wo (ix2 k d))

def nrm (b : Fin 16) (s : Fin 2048) : Fin 1024 → EReal := normed (A.res b s) (fun k => A.gf (ix1 k))

/-- The first product of the feed-forward block. -/
def up (b : Fin 16) (col : Fin 5504) (s : Fin 2048) : EReal := ∑ k, A.nrm b s k * A.wu (ix2 k col)

def con (b : Fin 16) (col : Fin 5504) (s : Fin 2048) : EReal :=
  conv3 (A.up b col) (A.cw (ix2 (0 : Fin 3) col)) (A.cw (ix2 (1 : Fin 3) col)) (A.cw (ix2 (2 : Fin 3) col)) (A.cb (ix1 col)) s

/-- The gated unit. -/
def gated (b : Fin 16) (s : Fin 2048) (j : Fin 2752) : EReal :=
  swish (A.con b ⟨j.val, by omega⟩ s) (A.con b ⟨2752 + j.val, by omega⟩ s)

/-- The result. -/
def out (i : (⟨3, ![16, 2048, 1024]⟩ : Shape).Idx) : EReal :=
  A.res (i 0) (i 1) (i 2) + ∑ j, A.gated (i 0) (i 1) j * A.wd (ix2 j (i 2))

end Args

end Cert.Ffn
-- ==== Proof.FfnBlocks.lean ====
module

public import proofs.«01_k».proof.Proof.FfnSpec
public import proofs.«01_k».proof.Proof.Gen.Kernel2Ideal.Frame
public import Idealize.ShloMosaic.Lib.Pipeline.ReadBack
public import Idealize.ShloMosaic.Lib.Pipeline.ValueKit
public import Idealize.ShloMosaic.Lib.StableHlo.ReadAt

/-! What the blocks of a grid point hold. Point `t` is tile `t % 4` (512 rows) of sequence `t / 4`; the scales, the
    weights and the bias are whole at every point. The weights of the feed-forward block have been cut into a gate half
    and a value half and each half filled up with zero columns from 2752 to 2816. -/

@[expose] public section

set_option maxRecDepth 16384

noncomputable section

open Idealize.ShloMosaic Idealize.ShloMosaic.TcCoe Idealize.SL.Sem

namespace Cert.Kernel2Ideal.FFN
open Cert.Kernel2Ideal Cert.Kernel2Ideal.Gen Cert.Ffn

variable (m : (ℓ : Loc nD τ sig) → Buf (Elt Ideal) ℓ) (c : Dev nD)

/-- The arguments as the run finds them. -/
def args : Args where
  x := m ((c : Thread nD τ).loc main_arg0)
  ys := m ((c : Thread nD τ).loc main_arg1)
  ya := m ((c : Thread nD τ).loc main_arg2)
  gs := m ((c : Thread nD τ).loc main_arg3)
  ga := m ((c : Thread nD τ).loc main_arg4)
  wo := m ((c : Thread nD τ).loc main_arg5)
  gf := m ((c : Thread nD τ).loc main_arg6)
  wu := m ((c : Thread nD τ).loc main_arg7)
  cw := m ((c : Thread nD τ).loc main_arg8)
  cb := m ((c : Thread nD τ).loc main_arg9)
  wd := m ((c : Thread nD τ).loc main_arg10)

theorem pt_lt (t : Fin cfg0.N) : t.val < 64 := lt_of_lt_of_eq t.isLt (show cfg0.N = 64 from N_0)

/-- The sequence of a grid point. -/
def sq (t : Fin cfg0.N) : Fin 16 := ⟨t.val / 4, by have := pt_lt t; omega⟩

/-- The row of the sequence that is row `r` of the point's tile. -/
def row (t : Fin cfg0.N) (r : Fin 512) : Fin 2048 := ⟨512 * (t.val % 4) + r.val, by omega⟩

theorem zero_word {φ : FTy} : (FloatOps.sitofp (F := Ideal) φ (0#32 : BitVec 32)) = (0 : EReal) :=
  (by simp : (((((0#32 : BitVec 32).toInt : ℤ) : ℝ)) : EReal) = 0)

theorem tile_index : ∀ t : Fin cfg0.N, (win0_0.index t 0 = t.val / 4 ∧ win0_0.index t 1 = t.val % 4 ∧ win0_0.index t 2 = 0)
    ∧ (win0_1.index t 0 = t.val / 4 ∧ win0_1.index t 1 = t.val % 4 ∧ win0_1.index t 2 = 0)
    ∧ (win0_2.index t 0 = t.val / 4 ∧ win0_2.index t 1 = t.val % 4 ∧ win0_2.index t 2 = 0)
    ∧ (win0_12.index t 0 = t.val / 4 ∧ win0_12.index t 1 = t.val % 4 ∧ win0_12.index t 2 = 0) :=
  (by decide +kernel : ∀ t : Fin grid0.N, _)

theorem whole_index : ∀ t : Fin cfg0.N, (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = 0 ∧ win0_10.index t 1 = 0)
    ∧ (win0_11.index t 0 = 0 ∧ win0_11.index t 1 = 0) :=
  (by decide +kernel : ∀ t : Fin grid0.N, _)

theorem blk_x (t : Fin cfg0.N) (r : Fin 512) (d : Fin 1024) : iblk m c 0 t (ix3 (0 : Fin 1) r d) = (args m c).x (ix3 (sq t) (row t r) d) := by
  obtain ⟨⟨e0, e1, e2⟩, -, -, -⟩ := tile_index t
  unfold args sq row
  blk_ext [iblk, V, e0, e1, e2]

theorem blk_ys (t : Fin cfg0.N) (r : Fin 512) (d : Fin 512) : iblk m c 1 t (ix3 (0 : Fin 1) r d) = (args m c).ys (ix3 (sq t) (row t r) d) := by
  obtain ⟨-, ⟨e0, e1, e2⟩, -, -⟩ := tile_index t
  unfold args sq row
  blk_ext [iblk, V, e0, e1, e2]

theorem blk_ya (t : Fin cfg0.N) (r : Fin 512) (d : Fin 512) : iblk m c 2 t (ix3 (0 : Fin 1) r d) = (args m c).ya (ix3 (sq t) (row t r) d) := by
  obtain ⟨-, -, ⟨e0, e1, e2⟩, -⟩ := tile_index t
  unfold args sq row
  blk_ext [iblk, V, e0, e1, e2]

theorem blk_gs (t : Fin cfg0.N) (d : Fin 512) : iblk m c 3 t (ix2 (0 : Fin 1) d) = (args m c).gs (ix1 d) := by
  have h : iblk m c 3 t (ix2 (0 : Fin 1) d) = V m c (Pipeline.arrRef spec0 3) (ix2 (0 : Fin 1) d) := by
    blk_ext [iblk, (whole_index t).1.1, (whole_index t).1.2]
  rw [h]
  unfold V args
  simp only [List.flatten_cons, List.flatten_nil, List.append_nil, List.cons_append, List.nil_append]
  after_reads_at

theorem blk_ga (t : Fin cfg0.N) (d : Fin 512) : iblk m c 4 t (ix2 (0 : Fin 1) d) = (args m c).ga (ix1 d) := by
  have h : iblk m c 4 t (ix2 (0 : Fin 1) d) = V m c (Pipeline.arrRef spec0 4) (ix2 (0 : Fin 1) d) := by
    blk_ext [iblk, (whole_index t).2.1.1, (whole_index t).2.1.2]
  rw [h]
  unfold V args
  simp only [List.flatten_cons, List.flatten_nil, List.append_nil, List.cons_append, List.nil_append]
  after_reads_at

theorem blk_wo (t : Fin cfg0.N) (k d : Fin 1024) : iblk m c 5 t (ix2 k d) = (args m c).wo (ix2 k d) := by
  have h : iblk m c 5 t (ix2 k d) = V m c (Pipeline.arrRef spec0 5) (ix2 k d) := by
    blk_ext [iblk, (whole_index t).2.2.1.1, (whole_index t).2.2.1.2]
  rw [h]
  unfold V args
  simp only [List.flatten_cons, List.flatten_nil, List.append_nil, List.cons_append, List.nil_append]
  after_reads_at

theorem blk_gf (t : Fin cfg0.N) (d : Fin 1024) : iblk m c 6 t (ix2 (0 : Fin 1) d) = (args m c).gf (ix1 d) := by
  have h : iblk m c 6 t (ix2 (0 : Fin 1) d) = V m c (Pipeline.arrRef spec0 6) (ix2 (0 : Fin 1) d) := by
    blk_ext [iblk, (whole_index t).2.2.2.1.1, (whole_index t).2.2.2.1.2]
  rw [h]
  unfold V args
  simp only [List.flatten_cons, List.flatten_nil, List.append_nil, List.cons_append, List.nil_append]
  after_reads_at

theorem blk_wg (t : Fin cfg0.N) (k : Fin 1024) (d : Fin 2816) : iblk m c 7 t (ix2 k d) =
    if h : d.val < 2752 then (args m c).wu (ix2 k (⟨d.val, by omega⟩ : Fin 5504)) else (0 : EReal) := by
  have h : iblk m c 7 t (ix2 k d) = V m c (Pipeline.arrRef spec0 7) (ix2 k d) := by
    blk_ext [iblk, (whole_index t).2.2.2.2.1.1, (whole_index t).2.2.2.2.1.2]
  rw [h]
  unfold V args
  simp only [List.flatten_cons, List.flatten_nil, List.append_nil, List.cons_append, List.nil_append]
  after_reads_at
  rw [zero_word]

theorem blk_wv (t : Fin cfg0.N) (k : Fin 1024) (d : Fin 2816) : iblk m c 8 t (ix2 k d) =
    if h : d.val < 2752 then (args m c).wu (ix2 k (⟨2752 + d.val, by omega⟩ : Fin 5504)) else (0 : EReal) := by
  have h : iblk m c 8 t (ix2 k d) = V m c (Pipeline.arrRef spec0 8) (ix2 k d) := by
    blk_ext [iblk, (whole_index t).2.2.2.2.2.1.1, (whole_index t).2.2.2.2.2.1.2]
  rw [h]
  unfold V args
  simp only [List.flatten_cons, List.flatten_nil, List.append_nil, List.cons_append, List.nil_append]
  after_reads_at
  rw [zero_word]

theorem blk_cw_gate (t : Fin cfg0.N) (k : Fin 3) (j : Fin 2752) : iblk m c 9 t (ix2 k (⟨j.val, by omega⟩ : Fin 5632)) = (args m c).cw (ix2 k (⟨j.val, by omega⟩ : Fin 5504)) := by
  have h : iblk m c 9 t (ix2 k (⟨j.val, by omega⟩ : Fin 5632)) = V m c (Pipeline.arrRef spec0 9) (ix2 k (⟨j.val, by omega⟩ : Fin 5632)) := by
    blk_ext [iblk, (whole_index t).2.2.2.2.2.2.1.1, (whole_index t).2.2.2.2.2.2.1.2]
  rw [h]
  unfold V args
  simp only [List.flatten_cons, List.flatten_nil, List.append_nil, List.cons_append, List.nil_append]
  after_reads_at
  exact dif_pos (show j.val < 2816 by omega)

theorem blk_cw_val (t : Fin cfg0.N) (k : Fin 3) (j : Fin 2752) : iblk m c 9 t (ix2 k (⟨2816 + j.val, by omega⟩ : Fin 5632)) = (args m c).cw (ix2 k (⟨2752 + j.val, by omega⟩ : Fin 5504)) := by
  have h : iblk m c 9 t (ix2 k (⟨2816 + j.val, by omega⟩ : Fin 5632)) = V m c (Pipeline.arrRef spec0 9) (ix2 k (⟨2816 + j.val, by omega⟩ : Fin 5632)) := by
    blk_ext [iblk, (whole_index t).2.2.2.2.2.2.1.1, (whole_index t).2.2.2.2.2.2.1.2]
  rw [h]
  unfold V args
  simp only [List.flatten_cons, List.flatten_nil, List.append_nil, List.cons_append, List.nil_append]
  after_reads_at

theorem blk_cb_gate (t : Fin cfg0.N) (j : Fin 2752) : iblk m c 10 t (ix2 (0 : Fin 1) (⟨j.val, by omega⟩ : Fin 5632)) = (args m c).cb (ix1 (⟨j.val, by omega⟩ : Fin 5504)) := by
  have h : iblk m c 10 t (ix2 (0 : Fin 1) (⟨j.val, by omega⟩ : Fin 5632)) = V m c (Pipeline.arrRef spec0 10) (ix2 (0 : Fin 1) (⟨j.val, by omega⟩ : Fin 5632)) := by
    blk_ext [iblk, (whole_index t).2.2.2.2.2.2.2.1.1, (whole_index t).2.2.2.2.2.2.2.1.2]
  rw [h]
  unfold V args
  simp only [List.flatten_cons, List.flatten_nil, List.append_nil, List.cons_append, List.nil_append]
  after_reads_at
  exact dif_pos (show j.val < 2816 by omega)

theorem blk_cb_val (t : Fin cfg0.N) (j : Fin 2752) : iblk m c 10 t (ix2 (0 : Fin 1) (⟨2816 + j.val, by omega⟩ : Fin 5632)) = (args m c).cb (ix1 (⟨2752 + j.val, by omega⟩ : Fin 5504)) := by
  have h : iblk m c 10 t (ix2 (0 : Fin 1) (⟨2816 + j.val, by omega⟩ : Fin 5632)) = V m c (Pipeline.arrRef spec0 10) (ix2 (0 : Fin 1) (⟨2816 + j.val, by omega⟩ : Fin 5632)) := by
    blk_ext [iblk, (whole_index t).2.2.2.2.2.2.2.1.1, (whole_index t).2.2.2.2.2.2.2.1.2]
  rw [h]
  unfold V args
  simp only [List.flatten_cons, List.flatten_nil, List.append_nil, List.cons_append, List.nil_append]
  after_reads_at

theorem blk_wd (t : Fin cfg0.N) (k : Fin 2816) (d : Fin 1024) : iblk m c 11 t (ix2 k d) =
    if h : k.val < 2752 then (args m c).wd (ix2 (⟨k.val, h⟩ : Fin 2752) d) else (0 : EReal) := by
  have h : iblk m c 11 t (ix2 k d) = V m c (Pipeline.arrRef spec0 11) (ix2 k d) := by
    blk_ext [iblk, (whole_index t).2.2.2.2.2.2.2.2.1, (whole_index t).2.2.2.2.2.2.2.2.2]
  rw [h]
  unfold V args
  simp only [List.flatten_cons, List.flatten_nil, List.append_nil, List.cons_append, List.nil_append]
  after_reads_at
  rw [zero_word]

end Cert.Kernel2Ideal.FFN
-- ==== Proof.FfnTile.lean ====
module

public import proofs.«01_k».proof.Proof.Gen.Kernel2Ideal.Frame
public import Idealize.ShloMosaic.Lib.Pipeline.ReadBack
public import Idealize.ShloMosaic.Lib.Pipeline.ValueKit
public import Idealize.ShloMosaic.Lib.Pointwise

/-! One tile of the feed-forward block: 512 rows of a sequence against all columns, computed 256 columns of the gate
    and of the value at a time. -/

@[expose] public section

set_option maxRecDepth 16384
noncomputable section
open Idealize.ShloMosaic Idealize.ShloMosaic.TcCoe Idealize.SL.Sem
namespace Cert.Kernel2Ideal.FFN
open Cert.Kernel2Ideal Cert.Kernel2Ideal.Gen

/-- rows `k …` of a slot of the extended buffer -/
def extRead (k : ℕ) (hk : k ≤ 8) (U : S1x512x128.Idx → EReal) (P : S1x8x128.Idx → EReal) : S1x512x128.Idx → EReal := fun x =>
  if h : (x 1).val + k < 8 then P (ix3 (0 : Fin 1) (⟨(x 1).val + k, h⟩ : Fin 8) (x 2)) else
  U (ix3 (0 : Fin 1) (⟨(x 1).val + k - 8, by have : (x 1).val < 512 := (x 1).isLt; omega⟩ : Fin 512) (x 2))

theorem readCov_ext {sig : RefSig} {κ : Kind} {sp : Space} (v : View sig κ sp S8x520x128 .f32) (s k : ℕ) (hk : k ≤ 8)
    (h1 : ∀ a : Fin 3, (![s, 8, 0] : Fin 3 → ℕ) a + (![1, 512, 128] : Fin 3 → ℕ) a ≤ S8x520x128.size a)
    (h2 : ∀ a : Fin 3, (![s, 0, 0] : Fin 3 → ℕ) a + (![1, 8, 128] : Fin 3 → ℕ) a ≤ S8x520x128.size a)
    (h3 : ∀ a : Fin 3, (![s, k, 0] : Fin 3 → ℕ) a + (![1, 512, 128] : Fin 3 → ℕ) a ≤ S8x520x128.size a)
    (U : S1x512x128.Idx → EReal) (P : S1x8x128.Idx → EReal) (L : List (View.Piece (Elt Ideal) S8x520x128 .f32)) :
    v.readCov ((⟨Rect.unit (s := S8x520x128) ![s, 8, 0] ![1, 512, 128] h1, U⟩ : View.Piece (Elt Ideal) S8x520x128 .f32) ::
      (⟨Rect.unit (s := S8x520x128) ![s, 0, 0] ![1, 8, 128] h2, P⟩ : View.Piece (Elt Ideal) S8x520x128 .f32) :: L)
      (Rect.unit (s := S8x520x128) ![s, k, 0] ![1, 512, 128] h3).toLoadRect = extRead k hk U P := by
  rw [View.readCov_eq_canon']
  funext x
  have x0 : (x 0).val < 1 := (x 0).isLt
  have x1 : (x 1).val < 512 := (x 1).isLt
  have x2 : (x 2).val < 128 := (x 2).isLt
  unfold extRead
  split
  · rename_i h
    rw [View.canon_cons_of_not_mem]
    · have e : ((Rect.unit (s := S8x520x128) ![s, k, 0] ![1, 512, 128] h3).toLoadRect.idx x) =
          (Rect.unit (s := S8x520x128) ![s, 0, 0] ![1, 8, 128] h2).emb (ix3 (0 : Fin 1) (⟨(x 1).val + k, h⟩ : Fin 8) (x 2)) := by
        funext a; apply Fin.ext
        match a with
        | ⟨0, _⟩ => show s + 1 * (x 0).val = s + 1 * 0; omega
        | ⟨1, _⟩ => show k + 1 * (x 1).val = 0 + 1 * ((x 1).val + k); omega
        | ⟨2, _⟩ => show 0 + 1 * (x 2).val = 0 + 1 * (x 2).val; omega
      rw [e, View.canon_cons_emb]
    · intro hm
      have h' : 8 ≤ k + 1 * (x 1).val := (Rect.mem_set_unit (inb := h1) |>.mp hm 1).1
      omega
  · rename_i h
    have e : ((Rect.unit (s := S8x520x128) ![s, k, 0] ![1, 512, 128] h3).toLoadRect.idx x) =
        (Rect.unit (s := S8x520x128) ![s, 8, 0] ![1, 512, 128] h1).emb (ix3 (0 : Fin 1) (⟨(x 1).val + k - 8, by omega⟩ : Fin 512) (x 2)) := by
      funext a; apply Fin.ext
      match a with
      | ⟨0, _⟩ => show s + 1 * (x 0).val = s + 1 * 0; omega
      | ⟨1, _⟩ => show k + 1 * (x 1).val = 8 + 1 * ((x 1).val + k - 8); omega
      | ⟨2, _⟩ => show 0 + 1 * (x 2).val = 0 + 1 * (x 2).val; omega
    rw [e, View.canon_cons_emb]

/-- the up projection's tile. -/
def up (hn : S512x1024.Idx → EReal) (wg wv : S1024x2816.Idx → EReal) (r : Fin 512) (col : Fin 5632) : EReal :=
  if h : col.val < 2816 then ∑ k : Fin 1024, hn (ix2 r k) * wg (ix2 k (⟨col.val, h⟩ : Fin 2816))
  else ∑ k : Fin 1024, hn (ix2 r k) * wv (ix2 k (⟨col.val - 2816, by omega⟩ : Fin 2816))

/-- the row `k` (6 or 7, counted from eight rows before the tile) -/
def before (hn : S512x1024.Idx → EReal) (wg wv : S1024x2816.Idx → EReal) (P : S8x5632.Idx → EReal) (k : ℕ) (hk : k ≤ 8) (r : Fin 512) (col : Fin 5632) : EReal :=
  if h : r.val + k < 8 then P (ix2 (⟨r.val + k, h⟩ : Fin 8) col) else up hn wg wv ⟨r.val + k - 8, by omega⟩ col

def conv (hn : S512x1024.Idx → EReal) (wg wv : S1024x2816.Idx → EReal) (cw : S3x5632.Idx → EReal) (cb : S1x5632.Idx → EReal) (P : S8x5632.Idx → EReal)
    (r : Fin 512) (col : Fin 5632) : EReal :=
  before hn wg wv P 6 (by decide) r col * cw (ix2 (0 : Fin 3) col) + before hn wg wv P 7 (by decide) r col * cw (ix2 (1 : Fin 3) col)
    + up hn wg wv r col * cw (ix2 (2 : Fin 3) col) + cb (ix2 (0 : Fin 1) col)

def act (hn : S512x1024.Idx → EReal) (wg wv : S1024x2816.Idx → EReal) (cw : S3x5632.Idx → EReal) (cb : S1x5632.Idx → EReal) (P : S8x5632.Idx → EReal)
    (y : S512x2816.Idx) : EReal :=
  conv hn wg wv cw cb P (y 0) ⟨(y 1).val, by have : (y 1).val < 2816 := (y 1).isLt; omega⟩
  * Ideal.logistic (conv hn wg wv cw cb P (y 0) ⟨(y 1).val, by have : (y 1).val < 2816 := (y 1).isLt; omega⟩)
  * conv hn wg wv cw cb P (y 0) ⟨2816 + (y 1).val, by have : (y 1).val < 2816 := (y 1).isLt; omega⟩

/-- One tile of the convolution from the tile of the product, the eight rows before, the weights and the bias. -/
def tileConv (U : S512x128.Idx → EReal) (P : S8x128.Idx → EReal) (w : S3x128.Idx → EReal) (b : S1x128.Idx → EReal) (r : Fin 512) (l : Fin 128) : EReal :=
  (if h : r.val + 6 < 8 then P (ix2 (⟨r.val + 6, h⟩ : Fin 8) l) else U (ix2 (⟨r.val + 6 - 8, by omega⟩ : Fin 512) l)) * w (ix2 (0 : Fin 3) l)
  + (if h : r.val + 7 < 8 then P (ix2 (⟨r.val + 7, h⟩ : Fin 8) l) else U (ix2 (⟨r.val + 7 - 8, by omega⟩ : Fin 512) l)) * w (ix2 (1 : Fin 3) l)
  + U (ix2 r l) * w (ix2 (2 : Fin 3) l) + b (ix2 (0 : Fin 1) l)

abbrev convV (U : FVec Ideal S512x128 .f32) (P : FVec Ideal S8x128 .f32) (w : FVec Ideal S3x128 .f32) (b : FVec Ideal S1x128 .f32) : FVec Ideal S512x128 .f32 :=
  k0_pay35 U w (extRead 6 (by decide) (k0_pay33 (F := Ideal) U) (k0_pay32 (F := Ideal) P)) (extRead 7 (by decide) (k0_pay33 (F := Ideal) U) (k0_pay32 (F := Ideal) P)) b

theorem convV_apply (U : FVec Ideal S512x128 .f32) (P : FVec Ideal S8x128 .f32) (w : FVec Ideal S3x128 .f32) (b : FVec Ideal S1x128 .f32) (r : Fin 512) (l : Fin 128) :
    convV U P w b (ix2 r l) = tileConv U P w b r l := by
  unfold convV tileConv
  pointwise [k0_pay35, extRead, k0_pay33, k0_pay32]

abbrev chunkV (hn : FVec Ideal S512x1024 .bf16) (Wg Wv : FVec Ideal S1024x256 .bf16) (Pa Pb Pc Pd : FVec Ideal S8x128 .f32) (wa wb wc wd : FVec Ideal S3x128 .f32)
   (ba bb bc bd : FVec Ideal S1x128 .f32) : FVec Ideal S512x256 .bf16 :=
  k0_pay51 (k0_pay40 (convV (k0_pay31 hn Wg) Pa wa ba) (k0_pay36 (k0_pay29 hn Wg)) wb (extRead 6 (by decide) (k0_pay33 (F := Ideal) (k0_pay36 (k0_pay29 hn Wg))) (k0_pay32 (F := Ideal) Pb)) (extRead 7 (by decide) (k0_pay33 (F := Ideal) (k0_pay36 (k0_pay29 hn Wg))) (k0_pay32 (F := Ideal) Pb)) bb)
    (convV (k0_pay31 hn Wv) Pc wc bc) (k0_pay36 (k0_pay29 hn Wv)) wd (extRead 6 (by decide) (k0_pay33 (F := Ideal) (k0_pay36 (k0_pay29 hn Wv))) (k0_pay32 (F := Ideal) Pd)) (extRead 7 (by decide) (k0_pay33 (F := Ideal) (k0_pay36 (k0_pay29 hn Wv))) (k0_pay32 (F := Ideal) Pd)) bd

theorem gate_eq (A : FVec Ideal S512x128 .f32) (U : FVec Ideal S512x128 .f32) (P : FVec Ideal S8x128 .f32) (w : FVec Ideal S3x128 .f32) (b : FVec Ideal S1x128 .f32) (r : Fin 512) (j : Fin 256) :
   k0_pay40 A U w (extRead 6 (by decide) (k0_pay33 (F := Ideal) U) (k0_pay32 (F := Ideal) P)) (extRead 7 (by decide) (k0_pay33 (F := Ideal) U) (k0_pay32 (F := Ideal) P)) b (ix2 r j) =
     if h : j.val < 128 then A (ix2 r (⟨j.val, h⟩ : Fin 128)) else convV U P w b (ix2 r (⟨j.val - 128, by omega⟩ : Fin 128)) := by
  have e : k0_pay40 A U w (extRead 6 (by decide) (k0_pay33 (F := Ideal) U) (k0_pay32 (F := Ideal) P)) (extRead 7 (by decide) (k0_pay33 (F := Ideal) U) (k0_pay32 (F := Ideal) P)) b =
     concatenate S512x256 1 [⟨S512x128, A⟩, ⟨S512x128, convV U P w b⟩] concatenates_S512x128_S512x128_S512x256_d1 := rfl
  rw [e]
  generalize convV U P w b = B
  pointwise

theorem act_eq (G : FVec Ideal S512x256 .f32) (A : FVec Ideal S512x128 .f32) (U : FVec Ideal S512x128 .f32) (P : FVec Ideal S8x128 .f32) (w : FVec Ideal S3x128 .f32) (b : FVec Ideal S1x128 .f32) (r : Fin 512) (j : Fin 256) :
   k0_pay51 G A U w (extRead 6 (by decide) (k0_pay33 (F := Ideal) U) (k0_pay32 (F := Ideal) P)) (extRead 7 (by decide) (k0_pay33 (F := Ideal) U) (k0_pay32 (F := Ideal) P)) b (ix2 r j) =
     G (ix2 r j) * Ideal.logistic (G (ix2 r j)) * (if h : j.val < 128 then A (ix2 r (⟨j.val, h⟩ : Fin 128)) else convV U P w b (ix2 r (⟨j.val - 128, by omega⟩ : Fin 128))) := by
  unfold convV
  pointwise [k0_pay51, k0_pay35]

theorem up_apply (hn : FVec Ideal S512x1024 .bf16) (W : FVec Ideal S1024x256 .bf16) (r : Fin 512) (j : Fin 256) : k0_pay29 hn W (ix2 r j) = ∑ k : Fin 1024, hn (ix2 r k) * W (ix2 k j) := by
  pointwise [k0_pay29]
theorem upL_apply (hn : FVec Ideal S512x1024 .bf16) (W : FVec Ideal S1024x256 .bf16) (r : Fin 512) (j : Fin 128) : k0_pay31 hn W (ix2 r j) = ∑ k : Fin 1024, hn (ix2 r k) * W (ix2 k (⟨j.val, by omega⟩ : Fin 256)) := by
  pointwise [k0_pay31, k0_pay29]
theorem upR_apply (hn : FVec Ideal S512x1024 .bf16) (W : FVec Ideal S1024x256 .bf16) (r : Fin 512) (j : Fin 128) : k0_pay36 (k0_pay29 hn W) (ix2 r j) = ∑ k : Fin 1024, hn (ix2 r k) * W (ix2 k (⟨128 + j.val, by omega⟩ : Fin 256)) := by
  pointwise [k0_pay36, k0_pay29]

theorem last_eq (U : FVec Ideal S512x128 .f32) (r : Fin 8) (j : Fin 128) : k0_pay34 U (ix2 r j) = U (ix2 (⟨504 + r.val, by omega⟩ : Fin 512) j) := by
  pointwise [k0_pay34]

theorem tileConv_eq (hn : FVec Ideal S512x1024 .bf16) (wg wv : FVec Ideal S1024x2816 .bf16) (cw : FVec Ideal S3x5632 .f32) (cb : FVec Ideal S1x5632 .f32) (P : FVec Ideal S8x5632 .f32)
   (U : FVec Ideal S512x128 .f32) (p : FVec Ideal S8x128 .f32) (w : FVec Ideal S3x128 .f32) (b : FVec Ideal S1x128 .f32) (r : Fin 512) (l : Fin 128) (col : Fin 5632)
   (hU : ∀ r' : Fin 512, U (ix2 r' l) = up hn wg wv r' col) (hp : ∀ r' : Fin 8, p (ix2 r' l) = P (ix2 r' col)) (hw : ∀ r' : Fin 3, w (ix2 r' l) = cw (ix2 r' col))
   (hb : b (ix2 (0 : Fin 1) l) = cb (ix2 (0 : Fin 1) col)) : tileConv U p w b r l = conv hn wg wv cw cb P r col := by
  unfold tileConv conv before
  simp only [hU, hp, hw, hb]

theorem ld2 {a b c d : ℕ} (X : (⟨2, ![a, b]⟩ : Shape).Idx → EReal) (o : ℕ) (h : ∀ i : Fin 2, (![0, o] : Fin 2 → ℕ) i + (![c, d] : Fin 2 → ℕ) i ≤ (⟨2, ![a, b]⟩ : Shape).size i)
    (r : Fin c) (l : Fin d) (hr : r.val < a) (hl : o + l.val < b) :
   View.ld (e' := .f32) (Val := Elt Ideal) X (Rect.unit (s := ⟨2, ![a, b]⟩) ![0, o] ![c, d] h) (ix2 r l) = X (ix2 (⟨r.val, hr⟩ : Fin a) (⟨o + l.val, hl⟩ : Fin b)) := by
  refine congrArg X (funext fun i => Fin.ext ?_)
  match i with
  | ⟨0, _⟩ => show 0 + 1 * r.val = r.val; omega
  | ⟨1, _⟩ => show o + 1 * l.val = o + l.val; omega

section
variable (hn : FVec Ideal S512x1024 .bf16) (wg wv : FVec Ideal S1024x2816 .bf16) (cw : FVec Ideal S3x5632 .f32) (cb : FVec Ideal S1x5632 .f32) (P : FVec Ideal S8x5632 .f32)

theorem up_left (c : ℕ) (hc : c + 256 ≤ 2816) (iw) (r : Fin 512) (l : Fin 128) :
    k0_pay31 hn (View.ld (e' := .bf16) (Val := Elt Ideal) wg (Rect.unit (s := S1024x2816) ![0, c] ![1024, 256] iw)) (ix2 r l) = up hn wg wv r ⟨c + l.val, by omega⟩ := by
  refine (upL_apply hn _ r l).trans ?_
  unfold up
  rw [dif_pos (show c + l.val < 2816 by omega)]
  exact Finset.sum_congr rfl fun k _ => congrArg _ (ld2 wg c iw k ⟨l.val, by omega⟩ (by omega) (by dsimp only; omega))

theorem up_right (c : ℕ) (hc : c + 256 ≤ 2816) (iw) (r : Fin 512) (l : Fin 128) :
    k0_pay36 (k0_pay29 hn (View.ld (e' := .bf16) (Val := Elt Ideal) wg (Rect.unit (s := S1024x2816) ![0, c] ![1024, 256] iw))) (ix2 r l) = up hn wg wv r ⟨c + 128 + l.val, by omega⟩ := by
  refine (upR_apply hn _ r l).trans ?_
  unfold up
  rw [dif_pos (show c + 128 + l.val < 2816 by omega)]
  refine Finset.sum_congr rfl fun k _ => congrArg _ ((ld2 wg c iw k ⟨128 + l.val, by omega⟩ (by omega) (by dsimp only; omega)).trans ?_)
  exact congrArg wg (congrArg (ix2 k) (Fin.ext (by dsimp only; omega)))

theorem up_left' (c : ℕ) (hc : c + 256 ≤ 2816) (iw) (r : Fin 512) (l : Fin 128) :
    k0_pay31 hn (View.ld (e' := .bf16) (Val := Elt Ideal) wv (Rect.unit (s := S1024x2816) ![0, c] ![1024, 256] iw)) (ix2 r l) = up hn wg wv r ⟨2816 + c + l.val, by omega⟩ := by
  refine (upL_apply hn _ r l).trans ?_
  unfold up
  rw [dif_neg (show ¬(2816 + c + l.val < 2816) by omega)]
  refine Finset.sum_congr rfl fun k _ => congrArg _ ((ld2 wv c iw k ⟨l.val, by omega⟩ (by omega) (by dsimp only; omega)).trans ?_)
  exact congrArg wv (congrArg (ix2 k) (Fin.ext (by dsimp only; omega)))

theorem up_right' (c : ℕ) (hc : c + 256 ≤ 2816) (iw) (r : Fin 512) (l : Fin 128) :
    k0_pay36 (k0_pay29 hn (View.ld (e' := .bf16) (Val := Elt Ideal) wv (Rect.unit (s := S1024x2816) ![0, c] ![1024, 256] iw))) (ix2 r l) = up hn wg wv r ⟨2816 + c + 128 + l.val, by omega⟩ := by
  refine (upR_apply hn _ r l).trans ?_
  unfold up
  rw [dif_neg (show ¬(2816 + c + 128 + l.val < 2816) by omega)]
  refine Finset.sum_congr rfl fun k _ => congrArg _ ((ld2 wv c iw k ⟨128 + l.val, by omega⟩ (by omega) (by dsimp only; omega)).trans ?_)
  exact congrArg wv (congrArg (ix2 k) (Fin.ext (by dsimp only; omega)))

theorem tile_act (o : ℕ) (ho : o + 128 ≤ 5632) (U : FVec Ideal S512x128 .f32) (hU : ∀ (r' : Fin 512) (l : Fin 128), U (ix2 r' l) = up hn wg wv r' ⟨o + l.val, by omega⟩)
    (ip iw ib) (r : Fin 512) (l : Fin 128) :
    convV U (View.ld (e' := .f32) (Val := Elt Ideal) P (Rect.unit (s := S8x5632) ![0, o] ![8, 128] ip)) (View.ld (e' := .f32) (Val := Elt Ideal) cw (Rect.unit (s := S3x5632) ![0, o] ![3, 128] iw))
      (View.ld (e' := .f32) (Val := Elt Ideal) cb (Rect.unit (s := S1x5632) ![0, o] ![1, 128] ib)) (ix2 r l) = conv hn wg wv cw cb P r ⟨o + l.val, by omega⟩ :=
  (convV_apply U _ _ _ r l).trans (tileConv_eq hn wg wv cw cb P _ _ _ _ r l _ (fun r' => hU r' l)
    (fun r' => ld2 P o ip r' l (by omega) (by omega)) (fun r' => ld2 cw o iw r' l (by omega) (by omega)) (ld2 cb o ib 0 l (by decide) (by omega)))

theorem chunk_act (c : ℕ) (hc : c + 256 ≤ 2816) (ig iv pa pb pc pd wa wb wc wd ba bb bc bd) (r : Fin 512) (j : Fin 256) :
    chunkV hn (View.ld (e' := .bf16) (Val := Elt Ideal) wg (Rect.unit (s := S1024x2816) ![0, c] ![1024, 256] ig)) (View.ld (e' := .bf16) (Val := Elt Ideal) wv (Rect.unit (s := S1024x2816) ![0, c] ![1024, 256] iv))
     (View.ld (e' := .f32) (Val := Elt Ideal) P (Rect.unit (s := S8x5632) ![0, c] ![8, 128] pa)) (View.ld (e' := .f32) (Val := Elt Ideal) P (Rect.unit (s := S8x5632) ![0, c + 128] ![8, 128] pb))
     (View.ld (e' := .f32) (Val := Elt Ideal) P (Rect.unit (s := S8x5632) ![0, 2816 + c] ![8, 128] pc)) (View.ld (e' := .f32) (Val := Elt Ideal) P (Rect.unit (s := S8x5632) ![0, 2816 + c + 128] ![8, 128] pd))
     (View.ld (e' := .f32) (Val := Elt Ideal) cw (Rect.unit (s := S3x5632) ![0, c] ![3, 128] wa)) (View.ld (e' := .f32) (Val := Elt Ideal) cw (Rect.unit (s := S3x5632) ![0, c + 128] ![3, 128] wb))
     (View.ld (e' := .f32) (Val := Elt Ideal) cw (Rect.unit (s := S3x5632) ![0, 2816 + c] ![3, 128] wc)) (View.ld (e' := .f32) (Val := Elt Ideal) cw (Rect.unit (s := S3x5632) ![0, 2816 + c + 128] ![3, 128] wd))
     (View.ld (e' := .f32) (Val := Elt Ideal) cb (Rect.unit (s := S1x5632) ![0, c] ![1, 128] ba)) (View.ld (e' := .f32) (Val := Elt Ideal) cb (Rect.unit (s := S1x5632) ![0, c + 128] ![1, 128] bb))
     (View.ld (e' := .f32) (Val := Elt Ideal) cb (Rect.unit (s := S1x5632) ![0, 2816 + c] ![1, 128] bc)) (View.ld (e' := .f32) (Val := Elt Ideal) cb (Rect.unit (s := S1x5632) ![0, 2816 + c + 128] ![1, 128] bd))
     (ix2 r j) = act hn wg wv cw cb P (ix2 r (⟨c + j.val, by omega⟩ : Fin 2816)) := by
  refine (act_eq _ _ _ _ _ _ r j).trans ?_
  refine (congrArg₂ (fun g v : EReal => g * Ideal.logistic g * v) ?_ ?_ : _ = (fun g v : EReal => g * Ideal.logistic g * v)
    (conv hn wg wv cw cb P r ⟨c + j.val, by omega⟩) (conv hn wg wv cw cb P r ⟨2816 + (c + j.val), by omega⟩))
  · refine (gate_eq _ _ _ _ _ r j).trans ?_
    split
    · exact tile_act hn wg wv cw cb P c (by omega) (k0_pay31 hn _) (fun r' l => up_left hn wg wv c hc ig r' l) pa wa ba r _
    · exact (tile_act hn wg wv cw cb P (c + 128) (by omega) (k0_pay36 (k0_pay29 hn _)) (fun r' l => up_right hn wg wv c hc ig r' l) pb wb bb r _).trans
        (congrArg _ (Fin.ext (by dsimp only; omega)))
  · split
    · exact (tile_act hn wg wv cw cb P (2816 + c) (by omega) (k0_pay31 hn _) (fun r' l => up_left' hn wg wv c hc iv r' l) pc wc bc r _).trans
        (congrArg _ (Fin.ext (by dsimp only; omega)))
    · exact (tile_act hn wg wv cw cb P (2816 + c + 128) (by omega) (k0_pay36 (k0_pay29 hn _)) (fun r' l => up_right' hn wg wv c hc iv r' l) pd wd bd r _).trans
        (congrArg _ (Fin.ext (by dsimp only; omega)))

theorem chunk_piece (c : ℕ) (hc : c + 256 ≤ 2816) (ig iv pa pb pc pd wa wb wc wd ba bb bc bd)  (io) (x : S512x256.Idx) :
    chunkV hn (View.ld (e' := .bf16) (Val := Elt Ideal) wg (Rect.unit (s := S1024x2816) ![0, c] ![1024, 256] ig)) (View.ld (e' := .bf16) (Val := Elt Ideal) wv (Rect.unit (s := S1024x2816) ![0, c] ![1024, 256] iv))
     (View.ld (e' := .f32) (Val := Elt Ideal) P (Rect.unit (s := S8x5632) ![0, c] ![8, 128] pa)) (View.ld (e' := .f32) (Val := Elt Ideal) P (Rect.unit (s := S8x5632) ![0, c + 128] ![8, 128] pb))
     (View.ld (e' := .f32) (Val := Elt Ideal) P (Rect.unit (s := S8x5632) ![0, 2816 + c] ![8, 128] pc)) (View.ld (e' := .f32) (Val := Elt Ideal) P (Rect.unit (s := S8x5632) ![0, 2816 + c + 128] ![8, 128] pd))
     (View.ld (e' := .f32) (Val := Elt Ideal) cw (Rect.unit (s := S3x5632) ![0, c] ![3, 128] wa)) (View.ld (e' := .f32) (Val := Elt Ideal) cw (Rect.unit (s := S3x5632) ![0, c + 128] ![3, 128] wb))
     (View.ld (e' := .f32) (Val := Elt Ideal) cw (Rect.unit (s := S3x5632) ![0, 2816 + c] ![3, 128] wc)) (View.ld (e' := .f32) (Val := Elt Ideal) cw (Rect.unit (s := S3x5632) ![0, 2816 + c + 128] ![3, 128] wd))
     (View.ld (e' := .f32) (Val := Elt Ideal) cb (Rect.unit (s := S1x5632) ![0, c] ![1, 128] ba)) (View.ld (e' := .f32) (Val := Elt Ideal) cb (Rect.unit (s := S1x5632) ![0, c + 128] ![1, 128] bb))
     (View.ld (e' := .f32) (Val := Elt Ideal) cb (Rect.unit (s := S1x5632) ![0, 2816 + c] ![1, 128] bc)) (View.ld (e' := .f32) (Val := Elt Ideal) cb (Rect.unit (s := S1x5632) ![0, 2816 + c + 128] ![1, 128] bd))
     x = act hn wg wv cw cb P ((Rect.unit (s := S512x2816) ![0, c] ![512, 256] io).emb x) := by
  obtain ⟨r, j, rfl⟩ : ∃ (r : Fin 512) (j : Fin 256), x = ix2 r j := ⟨x 0, x 1, eq_ix2 x⟩
  refine (chunk_act hn wg wv cw cb P c hc ig iv pa pb pc pd wa wb wc wd ba bb bc bd r j).trans (congrArg _ (funext fun a => Fin.ext ?_))
  match a with
  | ⟨0, _⟩ => show r.val = 0 + 1 * r.val; omega
  | ⟨1, _⟩ => show c + j.val = c + 1 * j.val; omega

theorem act_readCov {sig : RefSig} {κ : Kind} {sp : Space} (v : View sig κ sp S512x2816 .bf16) (i0) (L : List (View.Piece (Elt Ideal) S512x2816 .bf16))
    (hL : View.PiecesOf (act hn wg wv cw cb P) L) (hc : View.Piece.tiledL L ![512, 256] = true) :
    v.readCov L (Rect.unit (s := S512x2816) ![0, 0] ![512, 2816] i0).toLoadRect = act hn wg wv cw cb P := by
  rw [View.readCov_eq_canon']
  funext j
  have e : (Rect.unit (s := S512x2816) ![0, 0] ![512, 2816] i0).toLoadRect.idx j = j := by
    funext a; apply Fin.ext
    match a with
    | ⟨0, _⟩ => show 0 + 1 * (j 0).val = (j 0).val; omega
    | ⟨1, _⟩ => show 0 + 1 * (j 1).val = (j 1).val; omega
  rw [e]
  have := View.canon_append_of_piecesOf (act hn wg wv cw cb P) [] L hL j (View.cover_of_tiledL L ![512, 256] hc j)
  rwa [List.append_nil] at this
end

/-- The output block of a grid point. -/
def outV (h : FVec Ideal S512x1024 .f32) (hn : FVec Ideal S512x1024 .bf16) (wg wv : FVec Ideal S1024x2816 .bf16) (cw : FVec Ideal S3x5632 .f32) (cb : FVec Ideal S1x5632 .f32) (wd : FVec Ideal S2816x1024 .bf16) (P : FVec Ideal S8x5632 .f32) :
    FVec Ideal S1x512x1024 .f32 := fun y => h (ix2 (y 1) (y 2)) + ∑ k : Fin 2816, act hn wg wv cw cb P (ix2 (y 1) k) * wd (ix2 k (y 2))

def lastV (hn : FVec Ideal S512x1024 .bf16) (wg wv : FVec Ideal S1024x2816 .bf16) : FVec Ideal S8x5632 .f32 :=
  fun y => up hn wg wv ⟨504 + (y 0).val, by have : (y 0).val < 8 := (y 0).isLt; omega⟩ (y 1)

theorem final_apply (h : FVec Ideal S512x1024 .f32) (A : FVec Ideal S512x2816 .bf16) (wd : FVec Ideal S2816x1024 .bf16) (y : S1x512x1024.Idx) :
   k0_pay1 (k0_pay281 h A wd) y = h (ix2 (y 1) (y 2)) + ∑ k : Fin 2816, A (ix2 (y 1) k) * wd (ix2 k (y 2)) := by
  pointwise [k0_pay1, k0_pay281]

section
variable (hn : FVec Ideal S512x1024 .bf16) (wg wv : FVec Ideal S1024x2816 .bf16)

theorem last_piece (o : ℕ) (ho : o + 128 ≤ 5632) (U : FVec Ideal S512x128 .f32) (hU : ∀ (r' : Fin 512) (l : Fin 128), U (ix2 r' l) = up hn wg wv r' ⟨o + l.val, by omega⟩)
    (io) (x : S8x128.Idx) : k0_pay34 U x = lastV hn wg wv ((Rect.unit (s := S8x5632) ![0, o] ![8, 128] io).emb x) := by
  obtain ⟨r, j, rfl⟩ : ∃ (r : Fin 8) (j : Fin 128), x = ix2 r j := ⟨x 0, x 1, eq_ix2 x⟩
  refine (last_eq U r j).trans ((hU _ j).trans ?_)
  unfold lastV
  refine congrArg₂ (up hn wg wv) (Fin.ext ?_) (Fin.ext ?_)
  · show 504 + r.val = 504 + (0 + 1 * r.val); omega
  · show o + j.val = o + 1 * j.val; omega

theorem last_left (c : ℕ) (hc : c + 256 ≤ 2816) (iw io) (x : S8x128.Idx) :
    k0_pay34 (k0_pay31 hn (View.ld (e' := .bf16) (Val := Elt Ideal) wg (Rect.unit (s := S1024x2816) ![0, c] ![1024, 256] iw))) x
      = lastV hn wg wv ((Rect.unit (s := S8x5632) ![0, c] ![8, 128] io).emb x) :=
  last_piece hn wg wv c (by omega) _ (up_left hn wg wv c hc iw) io x

theorem last_right (c : ℕ) (hc : c + 256 ≤ 2816) (iw io) (x : S8x128.Idx) :
    k0_pay34 (k0_pay36 (k0_pay29 hn (View.ld (e' := .bf16) (Val := Elt Ideal) wg (Rect.unit (s := S1024x2816) ![0, c] ![1024, 256] iw)))) x
      = lastV hn wg wv ((Rect.unit (s := S8x5632) ![0, c + 128] ![8, 128] io).emb x) :=
  last_piece hn wg wv (c + 128) (by omega) _ (up_right hn wg wv c hc iw) io x

theorem last_left' (c : ℕ) (hc : c + 256 ≤ 2816) (iw io) (x : S8x128.Idx) :
    k0_pay34 (k0_pay31 hn (View.ld (e' := .bf16) (Val := Elt Ideal) wv (Rect.unit (s := S1024x2816) ![0, c] ![1024, 256] iw))) x
      = lastV hn wg wv ((Rect.unit (s := S8x5632) ![0, 2816 + c] ![8, 128] io).emb x) :=
  last_piece hn wg wv (2816 + c) (by omega) _ (up_left' hn wg wv c hc iw) io x

theorem last_right' (c : ℕ) (hc : c + 256 ≤ 2816) (iw io) (x : S8x128.Idx) :
    k0_pay34 (k0_pay36 (k0_pay29 hn (View.ld (e' := .bf16) (Val := Elt Ideal) wv (Rect.unit (s := S1024x2816) ![0, c] ![1024, 256] iw)))) x
      = lastV hn wg wv ((Rect.unit (s := S8x5632) ![0, 2816 + c + 128] ![8, 128] io).emb x) :=
  last_piece hn wg wv (2816 + c + 128) (by omega) _ (up_right' hn wg wv c hc iw) io x

theorem last_canon (L L' : List (View.Piece (Elt Ideal) S8x5632 .f32)) (hL : View.PiecesOf (lastV hn wg wv) L) (hc : View.Piece.tiledL L ![8, 128] = true) :
    View.canon (L ++ L') = lastV hn wg wv :=
  funext fun y => View.canon_append_of_piecesOf (lastV hn wg wv) L' L hL y (View.cover_of_tiledL L ![8, 128] hc y)
end

/-- A block of whole rows' columns `o …` lies inside its array. -/
theorem inb2 {a b d : ℕ} (o : ℕ) (h : o + d ≤ b) : ∀ i : Fin 2, (![0, o] : Fin 2 → ℕ) i + (![a, d] : Fin 2 → ℕ) i ≤ (⟨2, ![a, b]⟩ : Shape).size i := fun i =>
  match i with
  | ⟨0, _⟩ => (by omega : 0 + a ≤ a)
  | ⟨1, _⟩ => h

/-- The column blocks, in the order of their stores from the last. -/
def chunks : List {c : ℕ // c + 256 ≤ 2816} :=
  [⟨2560, by decide⟩, ⟨2304, by decide⟩, ⟨2048, by decide⟩, ⟨1792, by decide⟩, ⟨1536, by decide⟩, ⟨1280, by decide⟩, ⟨1024, by decide⟩, ⟨768, by decide⟩,
   ⟨512, by decide⟩, ⟨256, by decide⟩, ⟨0, by decide⟩]

section
variable (hn : FVec Ideal S512x1024 .bf16) (wg wv : FVec Ideal S1024x2816 .bf16) (cw : FVec Ideal S3x5632 .f32) (cb : FVec Ideal S1x5632 .f32) (P : FVec Ideal S8x5632 .f32)

abbrev ldW (W : FVec Ideal S1024x2816 .bf16) (c : ℕ) (h : c + 256 ≤ 2816) : FVec Ideal S1024x256 .bf16 :=
  View.ld (e' := .bf16) (Val := Elt Ideal) W (Rect.unit (s := S1024x2816) ![0, c] ![1024, 256] (inb2 c h))
abbrev ldP (o : ℕ) (h : o + 128 ≤ 5632) : FVec Ideal S8x128 .f32 := View.ld (e' := .f32) (Val := Elt Ideal) P (Rect.unit (s := S8x5632) ![0, o] ![8, 128] (inb2 o h))
abbrev ldC (o : ℕ) (h : o + 128 ≤ 5632) : FVec Ideal S3x128 .f32 := View.ld (e' := .f32) (Val := Elt Ideal) cw (Rect.unit (s := S3x5632) ![0, o] ![3, 128] (inb2 o h))
abbrev ldB (o : ℕ) (h : o + 128 ≤ 5632) : FVec Ideal S1x128 .f32 := View.ld (e' := .f32) (Val := Elt Ideal) cb (Rect.unit (s := S1x5632) ![0, o] ![1, 128] (inb2 o h))

/-- What the body stores for a column block of the gated unit. -/
abbrev actPiece (c : {c : ℕ // c + 256 ≤ 2816}) : View.Piece (Elt Ideal) S512x2816 .bf16 :=
  ⟨Rect.unit (s := S512x2816) ![0, c.1] ![512, 256] (inb2 c.1 c.2),
   chunkV hn (ldW wg c.1 c.2) (ldW wv c.1 c.2)
     (ldP P c.1 (by have := c.2; omega)) (ldP P (c.1 + 128) (by have := c.2; omega)) (ldP P (2816 + c.1) (by have := c.2; omega)) (ldP P (2816 + c.1 + 128) (by have := c.2; omega))
     (ldC cw c.1 (by have := c.2; omega)) (ldC cw (c.1 + 128) (by have := c.2; omega)) (ldC cw (2816 + c.1) (by have := c.2; omega)) (ldC cw (2816 + c.1 + 128) (by have := c.2; omega))
     (ldB cb c.1 (by have := c.2; omega)) (ldB cb (c.1 + 128) (by have := c.2; omega)) (ldB cb (2816 + c.1) (by have := c.2; omega)) (ldB cb (2816 + c.1 + 128) (by have := c.2; omega))⟩

theorem actPieces_of : ∀ l : List {c : ℕ // c + 256 ≤ 2816}, View.PiecesOf (act hn wg wv cw cb P) (l.map (actPiece hn wg wv cw cb P))
  | [] => trivial
  | c :: l => ⟨chunk_piece hn wg wv cw cb P c.1 c.2 _ _ _ _ _ _ _ _ _ _ _ _ _ _ (inb2 c.1 c.2), actPieces_of l⟩

/-- What the body leaves of a column block for the next tile: the last eight rows of its four tiles of the product. -/
abbrev lastPieces (l : List {c : ℕ // c + 256 ≤ 2816}) : List (View.Piece (Elt Ideal) S8x5632 .f32) :=
  l.flatMap fun c =>
    [⟨Rect.unit (s := S8x5632) ![0, 2816 + c.1 + 128] ![8, 128] (inb2 _ (by have := c.2; omega)), k0_pay34 (k0_pay36 (k0_pay29 hn (ldW wv c.1 c.2)))⟩,
     ⟨Rect.unit (s := S8x5632) ![0, 2816 + c.1] ![8, 128] (inb2 _ (by have := c.2; omega)), k0_pay34 (k0_pay31 hn (ldW wv c.1 c.2))⟩,
     ⟨Rect.unit (s := S8x5632) ![0, c.1 + 128] ![8, 128] (inb2 _ (by have := c.2; omega)), k0_pay34 (k0_pay36 (k0_pay29 hn (ldW wg c.1 c.2)))⟩,
     ⟨Rect.unit (s := S8x5632) ![0, c.1] ![8, 128] (inb2 _ (by have := c.2; omega)), k0_pay34 (k0_pay31 hn (ldW wg c.1 c.2))⟩]

theorem lastPieces_of : ∀ l : List {c : ℕ // c + 256 ≤ 2816}, View.PiecesOf (lastV hn wg wv) (lastPieces hn wg wv l)
  | [] => trivial
  | c :: l => ⟨last_right' hn wg wv c.1 c.2 _ (inb2 _ (by have := c.2; omega)), last_left' hn wg wv c.1 c.2 _ (inb2 _ (by have := c.2; omega)), last_right hn wg wv c.1 c.2 _ (inb2 _ (by have := c.2; omega)), last_left hn wg wv c.1 c.2 _ (inb2 _ (by have := c.2; omega)), lastPieces_of l⟩

/-- The first column block's products, which the body writes with the normalised rows spelled out. -/
theorem first_gate (a x w g W) : k0_pay6 (F := Ideal) a x w g W = k0_pay29 (k0_pay5 a x w g) W := rfl
theorem first_val (a x w g W) : k0_pay7 (F := Ideal) a x w g W = k0_pay30 (k0_pay5 a x w g) W := rfl
theorem first_left (a x w g W) : k0_pay8 (F := Ideal) a x w g W = k0_pay31 (k0_pay5 a x w g) W := rfl
theorem first_left_ext (a x w g W) : k0_pay10 (F := Ideal) a x w g W = k0_pay33 (k0_pay31 (k0_pay5 a x w g) W) := rfl
end

end Cert.Kernel2Ideal.FFN
-- ==== Proof.FfnPoint.lean ====
module

public import proofs.«01_k».proof.Proof.FfnTile

/-! What a grid point leaves: its block of the result, and the last eight rows of its product for the next tile of the
    same sequence. The first tile of a sequence starts from zero rows. -/

@[expose] public section

set_option maxRecDepth 16384

noncomputable section

open Idealize.ShloMosaic Idealize.ShloMosaic.TcCoe Idealize.SL.Sem

namespace Cert.Kernel2Ideal.FFN
open Cert.Kernel2Ideal Cert.Kernel2Ideal.Gen

variable (m : (ℓ : Loc nD τ sig) → Buf (Elt Ideal) ℓ)

/-- The rows of the point's tile after the output projection. -/
abbrev resid (m : (ℓ : Loc nD τ sig) → Buf (Elt Ideal) ℓ) (c : Dev nD) (t : Fin cfg0.N) : FVec Ideal S512x1024 .f32 :=
  k0_pay4 (k0_pay3 (iblk m c 1 t) (iblk m c 3 t) (iblk m c 2 t) (iblk m c 4 t)) (iblk m c 0 t) (iblk m c 5 t)

/-- The same rows normalised. -/
abbrev normed (m : (ℓ : Loc nD τ sig) → Buf (Elt Ideal) ℓ) (c : Dev nD) (t : Fin cfg0.N) : FVec Ideal S512x1024 .bf16 :=
  k0_pay5 (k0_pay3 (iblk m c 1 t) (iblk m c 3 t) (iblk m c 2 t) (iblk m c 4 t)) (iblk m c 0 t) (iblk m c 5 t) (iblk m c 6 t)

set_option maxHeartbeats 4000000 in
theorem out_B (c : Dev nD) (t : Fin cfg0.N) (h : ¬t.val % 4 = 0) : (outsAt0 m c t.val t.isLt).1 =
    outV (resid m c t) (normed m c t) (iblk m c 7 t) (iblk m c 8 t) (iblk m c 9 t) (iblk m c 10 t) (iblk m c 11 t) (outsAt0 m c (t.val - 1) (by omega)).2 := by
  rw [outsAt0_B m c t h]
  dsimp only
  frame_open
  simp (disch := decide) only [↓ View.readCov_skip, ↓ View.readCov_cons_toLoadRect, ↓ View.readCov_fill, ↓ readCov_ext]
  frame_out
  simp only [read_unread_whole, first_gate, first_val, first_left, first_left_ext]
  unfold resid normed
  generalize k0_pay5 (k0_pay3 (iblk m c 1 t) (iblk m c 3 t) (iblk m c 2 t) (iblk m c 4 t)) (iblk m c 0 t) (iblk m c 5 t) (iblk m c 6 t) = hn
  generalize k0_pay4 (k0_pay3 (iblk m c 1 t) (iblk m c 3 t) (iblk m c 2 t) (iblk m c 4 t)) (iblk m c 0 t) (iblk m c 5 t) = hh
  generalize iblk m c 7 t = wg
  generalize iblk m c 8 t = wv
  generalize iblk m c 9 t = cw
  generalize iblk m c 10 t = cb
  generalize iblk m c 11 t = wd
  generalize (outsAt0 m c (↑t - 1) _).2 = P
  funext y
  refine (final_apply _ _ _ y).trans ?_
  unfold outV
  refine congrArg _ (Finset.sum_congr rfl fun k _ => congrArg (· * wd (ix2 k (y 2))) ?_)
  refine congrFun (act_readCov hn wg wv cw cb P _ _ _ ?_ (by sl_kernel_rfl)) (ix2 (y 1) k)
  exact actPieces_of hn wg wv cw cb P chunks

set_option maxHeartbeats 4000000 in
theorem out_A (c : Dev nD) (t : Fin cfg0.N) (h : t.val % 4 = 0) : (outsAt0 m c t.val t.isLt).1 =
    outV (resid m c t) (normed m c t) (iblk m c 7 t) (iblk m c 8 t) (iblk m c 9 t) (iblk m c 10 t) (iblk m c 11 t) k0_pay2 := by
  rw [outsAt0_A m c t h]
  dsimp only
  frame_open
  simp (disch := decide) only [↓ View.readCov_skip, ↓ View.readCov_cons_toLoadRect, ↓ View.readCov_fill, ↓ readCov_ext]
  frame_out
  simp only [first_gate, first_val, first_left, first_left_ext]
  unfold resid normed
  generalize k0_pay5 (k0_pay3 (iblk m c 1 t) (iblk m c 3 t) (iblk m c 2 t) (iblk m c 4 t)) (iblk m c 0 t) (iblk m c 5 t) (iblk m c 6 t) = hn
  generalize k0_pay4 (k0_pay3 (iblk m c 1 t) (iblk m c 3 t) (iblk m c 2 t) (iblk m c 4 t)) (iblk m c 0 t) (iblk m c 5 t) = hh
  generalize iblk m c 7 t = wg
  generalize iblk m c 8 t = wv
  generalize iblk m c 9 t = cw
  generalize iblk m c 10 t = cb
  generalize iblk m c 11 t = wd
  generalize (k0_pay2 (F := Ideal)) = P
  funext y
  refine (final_apply _ _ _ y).trans ?_
  unfold outV
  refine congrArg _ (Finset.sum_congr rfl fun k _ => congrArg (· * wd (ix2 k (y 2))) ?_)
  refine congrFun (act_readCov hn wg wv cw cb P _ _ _ ?_ (by sl_kernel_rfl)) (ix2 (y 1) k)
  exact actPieces_of hn wg wv cw cb P chunks

set_option maxHeartbeats 4000000 in
theorem last_A (c : Dev nD) (t : Fin cfg0.N) (h : t.val % 4 = 0) : (outsAt0 m c t.val t.isLt).2 =
    lastV (normed m c t) (iblk m c 7 t) (iblk m c 8 t) := by
  rw [outsAt0_A m c t h]
  dsimp only
  frame_open
  simp (disch := decide) only [↓ View.readCov_skip, ↓ View.readCov_cons_toLoadRect, ↓ View.readCov_fill, ↓ readCov_ext]
  frame_out
  simp only [first_gate, first_val, first_left]
  unfold normed
  generalize k0_pay5 (k0_pay3 (iblk m c 1 t) (iblk m c 3 t) (iblk m c 2 t) (iblk m c 4 t)) (iblk m c 0 t) (iblk m c 5 t) (iblk m c 6 t) = hn
  generalize iblk m c 7 t = wg
  generalize iblk m c 8 t = wv
  refine last_canon hn wg wv [_, _, _, _, _, _, _, _, _, _, _, _, _, _, _, _, _, _, _, _, _, _, _, _, _, _, _, _, _, _, _, _, _, _, _, _, _, _, _, _, _, _, _, _] [_] ?_ (by sl_kernel_rfl)
  exact lastPieces_of hn wg wv chunks

set_option maxHeartbeats 4000000 in
theorem last_B (c : Dev nD) (t : Fin cfg0.N) (h : ¬t.val % 4 = 0) : (outsAt0 m c t.val t.isLt).2 =
    lastV (normed m c t) (iblk m c 7 t) (iblk m c 8 t) := by
  rw [outsAt0_B m c t h]
  dsimp only
  frame_open
  simp (disch := decide) only [↓ View.readCov_skip, ↓ View.readCov_cons_toLoadRect, ↓ View.readCov_fill, ↓ readCov_ext]
  frame_out
  simp only [first_gate, first_val, first_left]
  unfold normed
  generalize k0_pay5 (k0_pay3 (iblk m c 1 t) (iblk m c 3 t) (iblk m c 2 t) (iblk m c 4 t)) (iblk m c 0 t) (iblk m c 5 t) (iblk m c 6 t) = hn
  generalize iblk m c 7 t = wg
  generalize iblk m c 8 t = wv
  refine last_canon hn wg wv [_, _, _, _, _, _, _, _, _, _, _, _, _, _, _, _, _, _, _, _, _, _, _, _, _, _, _, _, _, _, _, _, _, _, _, _, _, _, _, _, _, _, _, _] [] ?_ (by sl_kernel_rfl)
  exact lastPieces_of hn wg wv chunks

end Cert.Kernel2Ideal.FFN
-- ==== Proof.FfnKernel.lean ====
module

public import proofs.«01_k».proof.Proof.FfnBlocks
public import proofs.«01_k».proof.Proof.FfnPoint
public import proofs.«01_k».proof.Proof.Gen.Kernel2Ideal.Value

/-! The kernel's result array, in the formulas of `FfnSpec`: a tile's rows continue the rows of the tile before, and the
    zero columns add nothing. -/

@[expose] public section

set_option maxRecDepth 16384

noncomputable section

open Idealize.ShloMosaic Idealize.ShloMosaic.TcCoe Idealize.SL.Sem

namespace Cert.Kernel2Ideal.FFN
open Cert.Kernel2Ideal Cert.Kernel2Ideal.Gen Cert.Ffn

variable (m : (ℓ : Loc nD τ sig) → Buf (Elt Ideal) ℓ) (c : Dev nD)

theorem mix_eq (t : Fin cfg0.N) (r : Fin 512) (k : Fin 1024) :
    k0_pay3 (iblk m c 1 t) (iblk m c 3 t) (iblk m c 2 t) (iblk m c 4 t) (ix2 r k) = (args m c).mix (sq t) (row t r) k := by
  unfold Args.mix mixed rms eps
  simp only [← blk_ys, ← blk_ya, ← blk_gs m c t, ← blk_ga m c t]
  pointwise [k0_pay3]

theorem res_eq (t : Fin cfg0.N) (r : Fin 512) (d : Fin 1024) : resid m c t (ix2 r d) = (args m c).res (sq t) (row t r) d := by
  unfold Args.res Ffn.resid resid
  simp only [← mix_eq, ← blk_x, ← blk_wo m c t]
  generalize k0_pay3 (iblk m c 1 t) (iblk m c 3 t) (iblk m c 2 t) (iblk m c 4 t) = X
  pointwise [k0_pay4]

theorem nrm_eq (t : Fin cfg0.N) (r : Fin 512) (d : Fin 1024) : normed m c t (ix2 r d) = (args m c).nrm (sq t) (row t r) d := by
  unfold Args.nrm Ffn.normed rms eps normed
  simp only [← res_eq, ← blk_gf m c t]
  unfold resid
  pointwise [k0_pay5]

/-- The product's columns of the gate. -/
theorem up_gate (t : Fin cfg0.N) (r : Fin 512) (j : Fin 2752) :
    up (normed m c t) (iblk m c 7 t) (iblk m c 8 t) r ⟨j.val, by omega⟩ = (args m c).up (sq t) ⟨j.val, by omega⟩ (row t r) := by
  unfold up Args.up
  rw [dif_pos (show j.val < 2816 by omega)]
  refine Finset.sum_congr rfl fun k _ => ?_
  rw [nrm_eq]
  refine congrArg _ ((blk_wg m c t k _).trans ?_)
  rw [dif_pos j.isLt]

/-- The product's columns of the value. -/
theorem up_val (t : Fin cfg0.N) (r : Fin 512) (j : Fin 2752) :
    up (normed m c t) (iblk m c 7 t) (iblk m c 8 t) r ⟨2816 + j.val, by omega⟩ = (args m c).up (sq t) ⟨2752 + j.val, by omega⟩ (row t r) := by
  unfold up Args.up
  rw [dif_neg (show ¬2816 + j.val < 2816 by omega)]
  refine Finset.sum_congr rfl fun k _ => ?_
  rw [nrm_eq]
  refine congrArg _ ((blk_wv m c t k _).trans ?_)
  rw [dif_pos (show 2816 + j.val - 2816 < 2752 by omega)]
  exact congrArg _ (congrArg (ix2 k) (Fin.ext (by dsimp only; omega)))

/-- The eight rows that a point finds before its tile. -/
def prev (t : Fin cfg0.N) : FVec Ideal S8x5632 .f32 :=
  if h : t.val % 4 = 0 then k0_pay2 else (outsAt0 m c (t.val - 1) (by omega)).2

theorem last_all (t : Fin cfg0.N) : (outsAt0 m c t.val t.isLt).2 = lastV (normed m c t) (iblk m c 7 t) (iblk m c 8 t) := by
  by_cases h : t.val % 4 = 0
  · exact last_A m c t h
  · exact last_B m c t h

theorem out_all (t : Fin cfg0.N) : (outsAt0 m c t.val t.isLt).1 =
    outV (resid m c t) (normed m c t) (iblk m c 7 t) (iblk m c 8 t) (iblk m c 9 t) (iblk m c 10 t) (iblk m c 11 t) (prev m c t) := by
  unfold prev
  by_cases h : t.val % 4 = 0
  · rw [dif_pos h]; exact out_A m c t h
  · rw [dif_neg h]; exact out_B m c t h

theorem zero_rows (y : S8x5632.Idx) : k0_pay2 (F := Ideal) y = 0 := by
  pointwise [k0_pay2]

/-- A column of the kernel's product that is a column of the reference's, and the tap of the convolution that reads it
    from the eight rows before the tile or from the tile. -/
theorem before_eq (colK : Fin 5632) (colA : Fin 5504)
    (hU : ∀ (t : Fin cfg0.N) (r : Fin 512), up (normed m c t) (iblk m c 7 t) (iblk m c 8 t) r colK = (args m c).up (sq t) colA (row t r))
    (t : Fin cfg0.N) (r : Fin 512) (k : ℕ) (hk : k + 6 ≤ 8) (hk2 : k ≤ 2) :
    before (normed m c t) (iblk m c 7 t) (iblk m c 8 t) (prev m c t) (k + 6) hk r colK = tap ((args m c).up (sq t) colA) k hk2 (row t r) := by
  have ht := pt_lt t
  unfold before tap
  by_cases h8 : r.val + (k + 6) < 8
  · rw [dif_pos h8]
    unfold prev
    by_cases h : t.val % 4 = 0
    · rw [dif_pos h, zero_rows, dif_neg (by show ¬2 ≤ 512 * (t.val % 4) + r.val + k; omega)]
    · rw [dif_neg h, dif_pos (by show 2 ≤ 512 * (t.val % 4) + r.val + k; omega)]
      rw [last_all m c ⟨t.val - 1, by omega⟩]
      unfold lastV
      refine (hU _ _).trans ?_
      have e1 : sq ⟨t.val - 1, by omega⟩ = sq t := Fin.ext (by show (t.val - 1) / 4 = t.val / 4; omega)
      rw [e1]
      exact congrArg _ (Fin.ext (by show 512 * ((t.val - 1) % 4) + (504 + (r.val + (k + 6))) = 512 * (t.val % 4) + r.val + k - 2; omega))
  · rw [dif_neg h8, dif_pos (by show 2 ≤ 512 * (t.val % 4) + r.val + k; omega), hU]
    exact congrArg _ (Fin.ext (by show 512 * (t.val % 4) + (r.val + (k + 6) - 8) = 512 * (t.val % 4) + r.val + k - 2; omega))

theorem conv_eq (colK : Fin 5632) (colA : Fin 5504)
    (hU : ∀ (t : Fin cfg0.N) (r : Fin 512), up (normed m c t) (iblk m c 7 t) (iblk m c 8 t) r colK = (args m c).up (sq t) colA (row t r))
    (t : Fin cfg0.N) (r : Fin 512)
    (hW : ∀ k : Fin 3, iblk m c 9 t (ix2 k colK) = (args m c).cw (ix2 k colA)) (hB : iblk m c 10 t (ix2 (0 : Fin 1) colK) = (args m c).cb (ix1 colA)) :
    conv (normed m c t) (iblk m c 7 t) (iblk m c 8 t) (iblk m c 9 t) (iblk m c 10 t) (prev m c t) r colK = (args m c).con (sq t) colA (row t r) := by
  unfold conv Args.con conv3
  refine congrArg₂ _ (congrArg₂ _ (congrArg₂ _ (congrArg₂ _ ?_ (hW 0)) (congrArg₂ _ ?_ (hW 1))) (congrArg₂ _ ?_ (hW 2))) hB
  · exact before_eq m c colK colA hU t r 0 (by decide) (by decide)
  · exact before_eq m c colK colA hU t r 1 (by decide) (by decide)
  · unfold tap
    rw [dif_pos (by omega), hU]
    exact congrArg _ (Fin.ext (by dsimp only; omega))

theorem act_gated (t : Fin cfg0.N) (r : Fin 512) (j : Fin 2752) :
    act (normed m c t) (iblk m c 7 t) (iblk m c 8 t) (iblk m c 9 t) (iblk m c 10 t) (prev m c t) (ix2 r (⟨j.val, by omega⟩ : Fin 2816)) = (args m c).gated (sq t) (row t r) j := by
  have hg := conv_eq m c ⟨j.val, by omega⟩ ⟨j.val, by omega⟩ (fun t r => up_gate m c t r j) t r (fun k => blk_cw_gate m c t k j) (blk_cb_gate m c t j)
  have hv := conv_eq m c ⟨2816 + j.val, by omega⟩ ⟨2752 + j.val, by omega⟩ (fun t r => up_val m c t r j) t r (fun k => blk_cw_val m c t k j) (blk_cb_val m c t j)
  unfold Args.gated swish
  rw [← hg, ← hv]
  rfl

/-- A sum whose last 64 terms are zero. -/
theorem sum_pad (f : Fin 2816 → EReal) (h : ∀ k : Fin 2816, 2752 ≤ k.val → f k = 0) : ∑ k, f k = ∑ j : Fin 2752, f ⟨j.val, by omega⟩ := by
  rw [show (∑ k : Fin 2816, f k) = ∑ k : Fin (2752 + 64), f k from rfl, Fin.sum_univ_add]
  rw [Finset.sum_eq_zero (s := Finset.univ) (f := fun i : Fin 64 => f (Fin.natAdd 2752 i)) (fun i _ => h _ (by simp)), add_zero]
  rfl

/-- A grid point's block of the result. -/
theorem point_eq (t : Fin cfg0.N) (r : Fin 512) (d : Fin 1024) :
    (outsAt0 m c t.val t.isLt).1 (ix3 (0 : Fin 1) r d) = (args m c).out (ix3 (sq t) (row t r) d) := by
  rw [out_all]
  refine (congrArg₂ _ (res_eq m c t r d) ?_ : _ = (args m c).res (sq t) (row t r) d + ∑ j, (args m c).gated (sq t) (row t r) j * (args m c).wd (ix2 j d))
  refine (sum_pad _ fun k hk => ?_).trans (Finset.sum_congr rfl fun j _ => ?_)
  · refine (congrArg _ ((blk_wd m c t k d).trans (dif_neg (by omega)))).trans (mul_zero _)
  · exact congrArg₂ _ (act_gated m c t r j) ((blk_wd m c t _ d).trans (dif_pos j.isLt))

/-- The kernel's result. -/
theorem result : (dats m 0 c).arrAt 12 cfg0.N = (args m c).out := by
  refine (dats m 0 c).arrAt_eq_of_covers 12 _ (by decide +kernel) fun t hf y => ?_
  obtain ⟨-, -, -, e0, e1, e2⟩ := tile_index t
  blk_simp
  rw [after0_12]
  obtain ⟨b, r, d, rfl⟩ : ∃ (b : Fin 1) (r : Fin 512) (d : Fin 1024), y = ix3 b r d := ⟨y 0, y 1, y 2, eq_ix3 y⟩
  obtain rfl : b = 0 := Subsingleton.elim _ _
  refine (point_eq m c t r d).trans (congrArg _ ?_)
  blk_ext [e0, e1, e2]
  · exact (Nat.add_zero _).symm
  · exact congrArg (· + r.val) (Nat.mul_comm 512 (t.val % 4))

end Cert.Kernel2Ideal.FFN
-- ==== Proof.FfnReference.lean ====
module

public import proofs.«01_k».proof.Proof.FfnSpec
public import proofs.«01_k».proof.Proof.Gen.Reference2Ideal.Read

/-! The reference's result at an index, in the formulas of `FfnSpec`. -/

@[expose] public section

set_option maxRecDepth 16384

noncomputable section

open Idealize.ShloMosaic Idealize.ShloMosaic.TcCoe Idealize.SL.Sem

namespace Cert.Ffn

section
open Cert.Reference2Ideal Cert.Reference2Ideal.Read
variable (A : Args)

theorem ref_mix (b : Fin 16) (s : Fin 2048) (k : Fin 1024) : val_main_v27 (F := Ideal) A.ys A.ya A.gs A.ga (ix3 b s k) = A.mix b s k := by
  unfold Args.mix mixed rms eps
  pointwise [val_main_v27, val_main_v26, val_main_v12, val_main_v9, val_main_v11, val_main_v23, val_main_v25, val_main_v8, val_main_v7, val_main_v6, val_main_v5, val_main_v4, val_main_v3, val_main_v2, val_main_v1, val_main_v0, val_main_cst, val_main_cst_0, val_main_cst_1, val_main_v10,
   val_main_v13, val_main_v14, val_main_v15, val_main_v16, val_main_v17, val_main_v18, val_main_v19, val_main_v20, val_main_v21, val_main_v22, val_main_v24, val_main_cst_2, val_main_cst_3, val_main_cst_4]

theorem ref_res (b : Fin 16) (s : Fin 2048) (k : Fin 1024) : val_main_v29 (F := Ideal) A.x A.ys A.ya A.gs A.ga A.wo (ix3 b s k) = A.res b s k := by
  unfold Args.res resid
  simp only [← ref_mix]
  generalize hX : val_main_v27 (F := Ideal) A.ys A.ya A.gs A.ga = X
  pointwise [val_main_v29, val_main_v28]
  rw [hX]

theorem ref_nrm (b : Fin 16) (s : Fin 2048) (k : Fin 1024) : val_main_v42 (F := Ideal) A.x A.ys A.ya A.gs A.ga A.wo A.gf (ix3 b s k) = A.nrm b s k := by
  unfold Args.nrm normed rms eps
  simp only [← ref_res]
  pointwise [val_main_v42, val_main_v41, val_main_v40, val_main_v39, val_main_v38, val_main_v37, val_main_v36, val_main_v35, val_main_v34, val_main_v33, val_main_v32, val_main_v31, val_main_v30, val_main_cst_5, val_main_cst_6, val_main_cst_7]

theorem ref_up (b : Fin 16) (s : Fin 2048) (k : Fin 5504) : val_main_v43 (F := Ideal) A.x A.ys A.ya A.gs A.ga A.wo A.gf A.wu (ix3 b s k) = A.up b k s := by
  unfold Args.up
  simp only [← ref_nrm]
  pointwise [val_main_v43]

theorem ref_con (b : Fin 16) (s : Fin 2048) (k : Fin 5504) : val_main_v67 (F := Ideal) A.x A.ys A.ya A.gs A.ga A.wo A.gf A.wu A.cw A.cb (ix3 b s k) = A.con b k s := by
  unfold Args.con conv3 tap
  simp only [← ref_up]
  pointwise [val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44]
  have h0 : val_main_call0_v0 (F := Ideal) (Shape.Idx.first Gen.h_S_) = 0 := by
    pointwise [val_main_call0_v0, val_main_c]
    exact (by simp [FloatOps.sitofp] : (((((0#32 : BitVec 32).toInt : ℤ) : ℝ)) : EReal) = 0)
  rw [h0]
  refine congrArg₂ _ (congrArg₂ _ (congrArg₂ _ (congrArg₂ _ ?_ rfl) (congrArg₂ _ ?_ rfl)) (congrArg₂ _ ?_ rfl)) rfl
  · have hs := s.isLt
    by_cases h : 2 ≤ s.val
    · rw [dif_pos ⟨h, by omega⟩, dif_pos h]
    · rw [dif_neg (fun hh => h hh.1), dif_neg h]
  · have hs := s.isLt
    by_cases h : 1 ≤ s.val
    · rw [dif_pos ⟨by omega, by omega⟩, dif_pos h]
      exact congrArg _ (congrArg (ix3 b · k) (Fin.ext (by dsimp only; omega)))
    · rw [dif_neg (fun hh => h (by omega)), dif_neg h]
  · exact congrArg _ (congrArg (ix3 b · k) (Fin.ext (by dsimp only; omega)))

theorem ref_out (i : S16x2048x1024.Idx) : val_main_v73 (F := Ideal) A.x A.ys A.ya A.gs A.ga A.wo A.gf A.wu A.cw A.cb A.wd i = A.out i := by
  obtain ⟨b, s, d, rfl⟩ : ∃ (b : Fin 16) (s : Fin 2048) (d : Fin 1024), i = ix3 b s d := ⟨i 0, i 1, i 2, eq_ix3 i⟩
  unfold Args.out Args.gated swish
  simp only [ix3, ← ref_res, ← ref_con]
  pointwise [val_main_v73, val_main_v72, val_main_v71, val_main_v70, val_main_v69, val_main_v68]
  refine congrArg₂ _ rfl (Finset.sum_congr rfl fun j _ => congrArg (· * _) (congrArg (· * _) (congrArg _ ?_)))
  unfold Ideal.logistic
  pointwise [val_main_call1_v5, val_main_call1_v4, val_main_call1_v3, val_main_call1_v2, val_main_call1_v1, val_main_call1_v0, val_main_call1_cst, val_main_call1_cst_0, val_main_v68]
end
end Cert.Ffn
-- ==== Proof.InSpec.lean ====
module

public import Idealize.ShloMosaic.Lib.Pointwise

/-! The input projection of one layer, as plain formulas over the extended reals: a normalised token times the weights,
    cut into the state-space input, the queries, the keys, the values and the logarithms of the forget gates. -/

@[expose] public section

noncomputable section

open Idealize.ShloMosaic

namespace Cert.Inp

/-- The constant under the square root of every normalisation. -/
def eps : EReal := Ideal.ofBits FTy.f32 897988541#32

/-- The logarithm of the logistic function. -/
def logSig (z : EReal) : EReal := min z 0 - Ideal.log1p (Ideal.exp (0 - max z (-z)))

/-- The problem's arrays: tokens, their scale, the weights, the forget gates' bias, the scales of queries and keys. -/
structure Args where
  x : (⟨3, ![16, 2048, 1024]⟩ : Shape).Idx → EReal
  g : (⟨1, ![1024]⟩ : Shape).Idx → EReal
  w : (⟨2, ![1024, 2056]⟩ : Shape).Idx → EReal
  bf : (⟨1, ![8]⟩ : Shape).Idx → EReal
  qn : (⟨1, ![64]⟩ : Shape).Idx → EReal
  kn : (⟨1, ![64]⟩ : Shape).Idx → EReal

namespace Args
variable (A : Args)

/-- A token divided by the root of its mean square and scaled. -/
def nrm (b : Fin 16) (s : Fin 2048) (d : Fin 1024) : EReal :=
  A.x (ix3 b s d) * Ideal.rsqrt (Ideal.div (∑ j, A.x (ix3 b s j) * A.x (ix3 b s j)) (Ideal.ofBits FTy.f32 1149239296#32) + eps) * A.g (ix1 d)

/-- The product with the weights. -/
def proj (b : Fin 16) (s : Fin 2048) (col : Fin 2056) : EReal := ∑ k, A.nrm b s k * A.w (ix2 k col)

/-- The sum of the squares of one head's 64 columns, of the 512 that begin at column `o`. -/
def headSq (o : Fin 1025) (b : Fin 16) (s : Fin 2048) (h : Fin 8) : EReal :=
  ∑ i : Fin 64, A.proj b s ⟨o.val + (64 * h.val + i.val), by omega⟩ * A.proj b s ⟨o.val + (64 * h.val + i.val), by omega⟩

/-- Column `e` of the 512 that begin at column `o`, normalised over its head and scaled by `g`. -/
def headNorm (o : Fin 1025) (g : Fin 64 → EReal) (b : Fin 16) (s : Fin 2048) (e : Fin 512) : EReal :=
  A.proj b s ⟨o.val + e.val, by omega⟩
    * Ideal.rsqrt (Ideal.div (A.headSq o b s ⟨e.val / 64, by omega⟩) (Ideal.ofBits FTy.f32 1115684864#32) + eps)
    * g ⟨e.val % 64, by omega⟩

/-- The logarithm of a forget gate. -/
def gate (b : Fin 16) (h : Fin 8) (s : Fin 2048) : EReal := logSig (A.proj b s ⟨2048 + h.val, by omega⟩ + A.bf (ix1 h))

/-- The sum of the first `n` rows' logarithms. -/
def cumTo (b : Fin 16) (h : Fin 8) (n : ℕ) : EReal := ∑ j : Fin 2048, if j.val < n then A.gate b h j else 0

def outU (i : (⟨3, ![16, 2048, 512]⟩ : Shape).Idx) : EReal := A.proj (i 0) (i 1) ⟨(i 2).val, by have := (i 2).isLt; change (i 2).val < 512 at this; omega⟩

/-- The queries, in units that make the scores logarithms to base two. -/
def outQ (i : (⟨3, ![16, 2048, 512]⟩ : Shape).Idx) : EReal :=
  A.headNorm ⟨512, by decide⟩ (fun k => A.qn (ix1 k)) (i 0) (i 1) (i 2) * Ideal.ofBits FTy.f32 1040187392#32 * Ideal.ofBits FTy.f32 1069066811#32

def outK (i : (⟨3, ![16, 512, 2048]⟩ : Shape).Idx) : EReal :=
  A.headNorm ⟨1024, by decide⟩ (fun k => A.kn (ix1 k)) (i 0) (i 2) (i 1)

def outV (i : (⟨3, ![16, 2048, 512]⟩ : Shape).Idx) : EReal := A.proj (i 0) (i 1) ⟨1536 + (i 2).val, by have := (i 2).isLt; change (i 2).val < 512 at this; omega⟩

def outC (i : (⟨3, ![16, 8, 2048]⟩ : Shape).Idx) : EReal := A.cumTo (i 0) (i 1) ((i 2).val + 1) * Ideal.ofBits FTy.f32 1069066811#32

end Args

end Cert.Inp
-- ==== Proof.InBlocks.lean ====
module

public import proofs.«01_k».proof.Proof.InSpec
public import proofs.«01_k».proof.Proof.Gen.Kernel3Ideal.Frame
public import Idealize.ShloMosaic.Lib.Pipeline.ReadBack
public import Idealize.ShloMosaic.Lib.Pipeline.ValueKit
public import Idealize.ShloMosaic.Lib.StableHlo.ReadAt

/-! What the blocks of a grid point hold. Point `t` is tile `t % 4` (512 rows) of sequence `t / 4`; the scales, the
    weights, the bias and the two tables of zeros and ones are whole at every point. -/

@[expose] public section

set_option maxRecDepth 16384

noncomputable section

open Idealize.ShloMosaic Idealize.ShloMosaic.TcCoe Idealize.SL.Sem

namespace Cert.Kernel3Ideal.INP
open Cert.Kernel3Ideal Cert.Kernel3Ideal.Gen Cert.Inp

variable (m : (ℓ : Loc nD τ sig) → Buf (Elt Ideal) ℓ) (c : Dev nD)

/-- The arguments as the run finds them. -/
def args : Args where
  x := m ((c : Thread nD τ).loc main_arg0)
  g := m ((c : Thread nD τ).loc main_arg1)
  w := m ((c : Thread nD τ).loc main_arg2)
  bf := m ((c : Thread nD τ).loc main_arg3)
  qn := m ((c : Thread nD τ).loc main_arg4)
  kn := m ((c : Thread nD τ).loc main_arg5)

theorem pt_lt (t : Fin cfg0.N) : t.val < 64 := lt_of_lt_of_eq t.isLt (show cfg0.N = 64 from N_0)

/-- The sequence of a grid point. -/
def sq (t : Fin cfg0.N) : Fin 16 := ⟨t.val / 4, by have := pt_lt t; omega⟩

/-- The row of the sequence that is row `r` of the point's tile. -/
def row (t : Fin cfg0.N) (r : Fin 512) : Fin 2048 := ⟨512 * (t.val % 4) + r.val, by omega⟩

theorem tile_index : ∀ t : Fin cfg0.N, (win0_0.index t 0 = t.val / 4 ∧ win0_0.index t 1 = t.val % 4 ∧ win0_0.index t 2 = 0)
    ∧ (win0_8.index t 0 = t.val / 4 ∧ win0_8.index t 1 = t.val % 4 ∧ win0_8.index t 2 = 0)
    ∧ (win0_9.index t 0 = t.val / 4 ∧ win0_9.index t 1 = t.val % 4 ∧ win0_9.index t 2 = 0)
    ∧ (win0_10.index t 0 = t.val / 4 ∧ win0_10.index t 1 = 0 ∧ win0_10.index t 2 = t.val % 4)
    ∧ (win0_11.index t 0 = t.val / 4 ∧ win0_11.index t 1 = t.val % 4 ∧ win0_11.index t 2 = 0)
    ∧ (win0_12.index t 0 = t.val / 4 ∧ win0_12.index t 1 = 0 ∧ win0_12.index t 2 = t.val % 4) :=
  (by decide +kernel : ∀ t : Fin grid0.N, _)

theorem whole_index : ∀ t : Fin cfg0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) :=
  (by decide +kernel : ∀ t : Fin grid0.N, _)

theorem blk_x (t : Fin cfg0.N) (r : Fin 512) (d : Fin 1024) : iblk m c 0 t (ix3 (0 : Fin 1) r d) = (args m c).x (ix3 (sq t) (row t r) d) := by
  obtain ⟨⟨e0, e1, e2⟩, -⟩ := tile_index t
  unfold args sq row
  blk_ext [iblk, V, e0, e1, e2]

theorem blk_g (t : Fin cfg0.N) (d : Fin 1024) : iblk m c 1 t (ix2 (0 : Fin 1) d) = (args m c).g (ix1 d) := by
  have h : iblk m c 1 t (ix2 (0 : Fin 1) d) = V m c (Pipeline.arrRef spec0 1) (ix2 (0 : Fin 1) d) := by
    blk_ext [iblk, (whole_index t).1.1, (whole_index t).1.2]
  rw [h]
  unfold V args
  simp only [List.flatten_cons, List.flatten_nil, List.append_nil, List.cons_append, List.nil_append]
  after_reads_at

theorem blk_w (t : Fin cfg0.N) (k : Fin 1024) (d : Fin 2056) : iblk m c 2 t (ix2 k (⟨d.val, by omega⟩ : Fin 2176)) = (args m c).w (ix2 k d) := by
  have h : iblk m c 2 t (ix2 k (⟨d.val, by omega⟩ : Fin 2176)) = V m c (Pipeline.arrRef spec0 2) (ix2 k (⟨d.val, by omega⟩ : Fin 2176)) := by
    blk_ext [iblk, (whole_index t).2.1.1, (whole_index t).2.1.2]
  rw [h]
  unfold V args
  simp only [List.flatten_cons, List.flatten_nil, List.append_nil, List.cons_append, List.nil_append]
  after_reads_at

theorem blk_bf (t : Fin cfg0.N) (d : Fin 8) : iblk m c 3 t (ix2 (0 : Fin 1) (⟨d.val, by omega⟩ : Fin 128)) = (args m c).bf (ix1 d) := by
  have h : iblk m c 3 t (ix2 (0 : Fin 1) (⟨d.val, by omega⟩ : Fin 128)) = V m c (Pipeline.arrRef spec0 3) (ix2 (0 : Fin 1) (⟨d.val, by omega⟩ : Fin 128)) := by
    blk_ext [iblk, (whole_index t).2.2.1.1, (whole_index t).2.2.1.2]
  rw [h]
  unfold V args
  simp only [List.flatten_cons, List.flatten_nil, List.append_nil, List.cons_append, List.nil_append]
  after_reads_at

theorem blk_qg (t : Fin cfg0.N) (d : Fin 512) : iblk m c 4 t (ix2 (0 : Fin 1) d) = (args m c).qn (ix1 (⟨d.val % 64, by omega⟩ : Fin 64)) * Ideal.ofBits FTy.f32 1043900987#32 := by
  have h : iblk m c 4 t (ix2 (0 : Fin 1) d) = V m c (Pipeline.arrRef spec0 4) (ix2 (0 : Fin 1) d) := by
    blk_ext [iblk, (whole_index t).2.2.2.1.1, (whole_index t).2.2.2.1.2]
  rw [h]
  unfold V args
  simp only [List.flatten_cons, List.flatten_nil, List.append_nil, List.cons_append, List.nil_append]
  after_reads_at

theorem blk_kg (t : Fin cfg0.N) (d : Fin 512) : iblk m c 5 t (ix2 (0 : Fin 1) d) = (args m c).kn (ix1 (⟨d.val % 64, by omega⟩ : Fin 64)) := by
  have h : iblk m c 5 t (ix2 (0 : Fin 1) d) = V m c (Pipeline.arrRef spec0 5) (ix2 (0 : Fin 1) d) := by
    blk_ext [iblk, (whole_index t).2.2.2.2.1.1, (whole_index t).2.2.2.2.1.2]
  rw [h]
  unfold V args
  simp only [List.flatten_cons, List.flatten_nil, List.append_nil, List.cons_append, List.nil_append]
  after_reads_at

/-- The quotient by 64, as the host writes a division that rounds down. -/
theorem head_of : ∀ n : Fin 512, Scalar.select
    (IntOp.andi
      (IntOp.cmpi CmpIPredicate.ne
        (if BitVec.ofNat 32 n.val = 0 then 0 else if (BitVec.ofNat 32 n.val).msb = true then -1 else 1)
        (if (64#32 : BitVec 32) = 0 then (0 : BitVec 32) else if BitVec.msb (64#32) = true then -1 else 1))
      (IntOp.cmpi CmpIPredicate.ne (IntOp.remsi ArithUnit.host (BitVec.ofNat 32 n.val) 64#32) 0#32))
    (IntOp.subi (IntOp.divsi ArithUnit.host (BitVec.ofNat 32 n.val) 64#32) 1#32)
    (IntOp.divsi ArithUnit.host (BitVec.ofNat 32 n.val) 64#32) = BitVec.ofNat 32 (n.val / 64) := by
  decide +kernel

/-- The table that sums over one head's columns. -/
theorem blk_ones (t : Fin cfg0.N) (j d : Fin 512) : iblk m c 6 t (ix2 j d) = if j.val / 64 = d.val / 64 then (1 : EReal) else 0 := by
  have h : iblk m c 6 t (ix2 j d) = V m c (Pipeline.arrRef spec0 6) (ix2 j d) := by
    blk_ext [iblk, (whole_index t).2.2.2.2.2.1.1, (whole_index t).2.2.2.2.2.1.2]
  rw [h]
  unfold V
  simp only [List.flatten_cons, List.flatten_nil, List.append_nil, List.cons_append, List.nil_append]
  after_reads_at
  refine (congrArg (FloatOps.uitofp (F := Ideal) FTy.bf16) (congrArg₂ (IntOp.cmpi CmpIPredicate.eq) (head_of j) (head_of d))).trans ?_
  have hj := j.isLt
  have hd := d.isLt
  by_cases e : j.val / 64 = d.val / 64
  · rw [if_pos e, e]
    simp [IntOp.cmpi, FloatOps.uitofp]
  · rw [if_neg e]
    have : BitVec.ofNat 32 (j.val / 64) ≠ BitVec.ofNat 32 (d.val / 64) := fun h => e (by
      have := congrArg BitVec.toNat h
      rw [BitVec.toNat_ofNat, BitVec.toNat_ofNat, Nat.mod_eq_of_lt (by omega), Nat.mod_eq_of_lt (by omega)] at this
      exact this)
    simp [IntOp.cmpi, FloatOps.uitofp, this]

/-- The table that sums over the rows up to one row. -/
theorem blk_tri (t : Fin cfg0.N) (j d : Fin 512) : iblk m c 7 t (ix2 j d) = if j.val ≤ d.val then (1 : EReal) else 0 := by
  have h : iblk m c 7 t (ix2 j d) = V m c (Pipeline.arrRef spec0 7) (ix2 j d) := by
    blk_ext [iblk, (whole_index t).2.2.2.2.2.2.1, (whole_index t).2.2.2.2.2.2.2]
  rw [h]
  unfold V
  simp only [List.flatten_cons, List.flatten_nil, List.append_nil, List.cons_append, List.nil_append]
  after_reads_at
  have hj := j.isLt
  have hd := d.isLt
  have e : (BitVec.ofNat 32 j.val).sle (BitVec.ofNat 32 d.val) = decide (j.val ≤ d.val) := by
    have f : ∀ n : ℕ, n < 512 → (BitVec.ofNat 32 n).toInt = (n : ℤ) := fun n hn => by
      have e : (BitVec.ofNat 32 n).toNat = n := by rw [BitVec.toNat_ofNat]; exact Nat.mod_eq_of_lt (by omega)
      rw [BitVec.toInt_eq_toNat_of_lt (by rw [e]; omega), e]
    rw [BitVec.sle_eq_decide, f _ hj, f _ hd]
    exact decide_eq_decide.2 Int.ofNat_le
  by_cases h : j.val ≤ d.val
  · rw [if_pos h]
    simp [IntOp.cmpi, FloatOps.uitofp, e, h]
  · rw [if_neg h]
    simp [IntOp.cmpi, FloatOps.uitofp, e, h]

end Cert.Kernel3Ideal.INP
-- ==== Proof.InMaths.lean ====
module

public import proofs.«01_k».proof.Proof.InSpec

/-! Sums against tables of zeros and ones, running sums, and the logarithm of the logistic function. -/

@[expose] public section

noncomputable section

open Idealize.ShloMosaic

namespace Cert.Inp

/-- A sum against the table that is one where two columns belong to one head. -/
theorem sum_head (f : Fin 512 → EReal) (e : Fin 512) :
    ∑ j : Fin 512, f j * (if j.val / 64 = e.val / 64 then (1 : EReal) else 0) = ∑ i : Fin 64, f ⟨64 * (e.val / 64) + i.val, by omega⟩ := by
  simp only [mul_ite, mul_one, mul_zero]
  rw [← Finset.sum_filter]
  refine Finset.sum_nbij' (fun j => (⟨j.val % 64, by omega⟩ : Fin 64)) (fun i => (⟨64 * (e.val / 64) + i.val, by omega⟩ : Fin 512)) ?_ ?_ ?_ ?_ ?_
  · intro j _; exact Finset.mem_univ _
  · intro i _; exact Finset.mem_filter.2 ⟨Finset.mem_univ _, by dsimp only; omega⟩
  · intro j hj
    have := (Finset.mem_filter.1 hj).2
    exact Fin.ext (by dsimp only; omega)
  · intro i _; exact Fin.ext (by dsimp only; omega)
  · intro j hj
    have := (Finset.mem_filter.1 hj).2
    exact congrArg f (Fin.ext (by dsimp only; omega))

/-- The sum of the first rows, cut at the beginning of a tile of 512 rows. -/
theorem sum_tile (L : Fin 2048 → EReal) (q : Fin 4) (r : Fin 512) :
    ∑ j : Fin 2048, (if j.val < 512 * q.val + r.val + 1 then L j else 0)
      = (∑ j : Fin 512, L ⟨512 * q.val + j.val, by omega⟩ * (if j.val ≤ r.val then (1 : EReal) else 0))
        + ∑ j : Fin 2048, (if j.val < 512 * q.val then L j else 0) := by
  have e : ∀ j : Fin 2048, (if j.val < 512 * q.val + r.val + 1 then L j else 0)
      = (if 512 * q.val ≤ j.val ∧ j.val < 512 * q.val + r.val + 1 then L j else 0) + (if j.val < 512 * q.val then L j else 0) := fun j => by
    by_cases h : j.val < 512 * q.val
    · rw [if_pos (by omega), if_neg (by omega), if_pos h, zero_add]
    · by_cases h' : j.val < 512 * q.val + r.val + 1
      · rw [if_pos h', if_pos ⟨by omega, h'⟩, if_neg h, add_zero]
      · rw [if_neg h', if_neg (fun hh => h' hh.2), if_neg h, add_zero]
  rw [Finset.sum_congr rfl fun j _ => e j, Finset.sum_add_distrib]
  refine congrArg (· + _) ?_
  simp only [mul_ite, mul_one, mul_zero]
  rw [← Finset.sum_filter, ← Finset.sum_filter]
  symm
  refine Finset.sum_nbij' (fun j => (⟨512 * q.val + j.val, by omega⟩ : Fin 2048)) (fun j => (⟨j.val % 512, by omega⟩ : Fin 512)) ?_ ?_ ?_ ?_ ?_
  · intro j hj
    have := (Finset.mem_filter.1 hj).2
    exact Finset.mem_filter.2 ⟨Finset.mem_univ _, by dsimp only; omega⟩
  · intro j hj
    have := (Finset.mem_filter.1 hj).2
    exact Finset.mem_filter.2 ⟨Finset.mem_univ _, by dsimp only; omega⟩
  · intro j hj; exact Fin.ext (by dsimp only; omega)
  · intro j hj
    have := (Finset.mem_filter.1 hj).2
    exact Fin.ext (by dsimp only; omega)
  · intro j hj; rfl

/-- The indices of a window over the rows. -/
def winEquiv : (⟨3, ![1, 2048, 1]⟩ : Shape).Idx ≃ Fin 2048 where
  toFun w := w 1
  invFun k := ix3 (0 : Fin 1) k (0 : Fin 1)
  left_inv w := by
    refine Eq.trans ?_ (eq_ix3 w).symm
    exact congrArg₂ (fun a b => ix3 a (w 1) b) (Subsingleton.elim (α := Fin 1) _ _) (Subsingleton.elim (α := Fin 1) _ _)
  right_inv k := rfl

/-- The running sum over the rows, written as a window of the whole height padded before the first row. -/
theorem cumsum_apply (x : (⟨3, ![16, 2048, 8]⟩ : Shape).Idx → EReal) {u : Shape} (init : u.Idx → EReal)
    (h : (⟨3, ![16, 2048, 8]⟩ : Shape).ReduceWindows (![1, 2048, 1] : Fin 3 → Nat) ![1, 1, 1] ![0, 2047, 0] ![0, 0, 0] ⟨3, ![16, 2048, 8]⟩) (hu : 0 < u.numel)
    (hinit : init (Shape.Idx.first hu) = 0) (b : Fin 16) (j : Fin 2048) (e : Fin 8) :
    Host.reduceWindow (· + ·) ![1, 2048, 1] ![1, 1, 1] ![0, 2047, 0] ![0, 0, 0] x init h hu (ix3 b j e)
      = ∑ i : Fin 2048, if i.val < j.val + 1 then x (ix3 b i e) else 0 := by
  unfold Host.reduceWindow
  dsimp only
  rw [hinit]
  have hf : ∀ (n : ℕ) (g : Fin n → EReal), (List.finRange n).foldl (fun r k => r + g k) 0 = ∑ k, g k := fun n g => by
    rw [Fin.sum_univ_def, List.sum_eq_foldl, List.foldl_map]
  refine (hf _ _).trans ?_
  let G : (⟨3, ![1, 2048, 1]⟩ : Shape).Idx → EReal := fun w =>
    if hin : ∀ a : Fin 3, (![0, 2047, 0] : Fin 3 → ℕ) a ≤ ((ix3 b j e : (⟨3, ![16, 2048, 8]⟩ : Shape).Idx) a).val * (![1, 1, 1] : Fin 3 → ℕ) a + (w a).val
        ∧ ((ix3 b j e : (⟨3, ![16, 2048, 8]⟩ : Shape).Idx) a).val * (![1, 1, 1] : Fin 3 → ℕ) a + (w a).val - (![0, 2047, 0] : Fin 3 → ℕ) a < (⟨3, ![16, 2048, 8]⟩ : Shape).size a
    then x (fun a => ⟨((ix3 b j e : (⟨3, ![16, 2048, 8]⟩ : Shape).Idx) a).val * (![1, 1, 1] : Fin 3 → ℕ) a + (w a).val - (![0, 2047, 0] : Fin 3 → ℕ) a, (hin a).2⟩) else 0
  refine (Finset.sum_congr rfl fun n _ => (?_ : _ = G ((⟨3, ![1, 2048, 1]⟩ : Shape).rowMajor.symm n))).trans ?_
  · dsimp only [G]
    congr
  rw [Equiv.sum_comp (⟨3, ![1, 2048, 1]⟩ : Shape).rowMajor.symm G, ← Equiv.sum_comp winEquiv.symm G]
  have hj := j.isLt
  let σ : Fin 2048 → Fin 2048 := fun k => ⟨(k.val + j.val + 1) % 2048, Nat.mod_lt _ (by decide)⟩
  have hσ : Function.Bijective σ := Finite.injective_iff_bijective.1 fun k k' hk => by
    have := congrArg Fin.val hk
    dsimp only [σ] at this
    exact Fin.ext (by omega)
  rw [← hσ.sum_comp fun i => if i.val < j.val + 1 then x (ix3 b i e) else 0]
  refine Finset.sum_congr rfl fun k _ => ?_
  have hk := k.isLt
  have g : G (winEquiv.symm k) = if h : 2047 ≤ j.val + k.val then x (ix3 b (⟨j.val + k.val - 2047, by omega⟩ : Fin 2048) e) else 0 := by
    by_cases h : 2047 ≤ j.val + k.val
    · rw [dif_pos h]
      refine (dif_pos ?_).trans (congrArg x (funext fun a => Fin.ext ?_))
      · intro a
        match a with
        | ⟨0, _⟩ => show 0 ≤ b.val * 1 + 0 ∧ b.val * 1 + 0 - 0 < 16; omega
        | ⟨1, _⟩ => show 2047 ≤ j.val * 1 + k.val ∧ j.val * 1 + k.val - 2047 < 2048; omega
        | ⟨2, _⟩ => show 0 ≤ e.val * 1 + 0 ∧ e.val * 1 + 0 - 0 < 8; omega
      · match a with
        | ⟨0, _⟩ => show b.val * 1 + 0 - 0 = b.val; omega
        | ⟨1, _⟩ => show j.val * 1 + k.val - 2047 = j.val + k.val - 2047; omega
        | ⟨2, _⟩ => show e.val * 1 + 0 - 0 = e.val; omega
    · rw [dif_neg h]
      refine dif_neg fun hh => h ?_
      have h1 : 2047 ≤ j.val * 1 + k.val := (hh 1).1
      omega
  rw [g]
  by_cases h : 2047 ≤ j.val + k.val
  · rw [dif_pos h, if_pos (by dsimp only [σ]; omega)]
    exact congrArg (fun i => x (ix3 b i e)) (Fin.ext (by dsimp only [σ]; omega))
  · rw [dif_neg h, if_neg (by dsimp only [σ]; omega)]

theorem log1p_exp_ne_bot (y : EReal) : Ideal.log1p (Ideal.exp y) ≠ ⊥ := by
  unfold Ideal.log1p
  induction y with
  | bot =>
    show Ideal.log (1 + 0) ≠ ⊥
    rw [add_zero]
    show (if (1 : ℝ) ≤ 0 then (⊥ : EReal) else (Real.log 1 : EReal)) ≠ ⊥
    rw [if_neg (by norm_num)]
    exact EReal.coe_ne_bot _
  | top =>
    show Ideal.log (1 + ⊤) ≠ ⊥
    rw [show (1 : EReal) + ⊤ = ⊤ from EReal.coe_add_top 1]
    exact bot_ne_top.symm
  | coe r =>
    have : (1 : EReal) + Ideal.exp (r : EReal) = ((1 + Real.exp r : ℝ) : EReal) := by rw [EReal.coe_add]; rfl
    rw [this]
    show (if 1 + Real.exp r ≤ 0 then (⊥ : EReal) else (Real.log (1 + Real.exp r) : EReal)) ≠ ⊥
    rw [if_neg (by have := Real.exp_pos r; linarith)]
    exact EReal.coe_ne_bot _

theorem logSig_ne_top (z : EReal) : logSig z ≠ ⊤ := by
  unfold logSig
  rw [sub_eq_add_neg]
  refine EReal.add_ne_top ?_ ?_
  · exact ne_of_lt (lt_of_le_of_lt (min_le_right _ _) (EReal.coe_lt_top 0))
  · rw [Ne, EReal.neg_eq_top_iff]; exact log1p_exp_ne_bot _

/-- The same function as the negated soft maximum of the negated argument. -/
theorem logSig_neg (z : EReal) : -(max (-z) 0 + Ideal.log1p (Ideal.exp (-(max (-z) (- -z))))) = logSig z := by
  unfold logSig
  have h0 : max (-z) 0 ≠ ⊥ := ne_of_gt (lt_of_lt_of_le (EReal.bot_lt_coe 0) (le_max_right (-z) 0))
  rw [EReal.neg_add (.inl h0) (.inr (log1p_exp_ne_bot _)), neg_neg, max_comm (-z) z, zero_sub]
  refine congrArg (· - _) ?_
  rcases le_total 0 z with h | h
  · rw [max_eq_right (EReal.neg_le.1 (by simpa using h)), min_eq_right h, neg_zero]
  · rw [max_eq_left (EReal.le_neg_of_le_neg (by simpa using h)), min_eq_left h, neg_neg]

/-- A number below infinity is the sum of the three parts it is cut into. -/
theorem three_parts {L : EReal} (h : L ≠ ⊤) : L + (L - L) + ((L - L) - (L - L)) = L := by
  induction L with
  | bot => simp
  | top => exact absurd rfl h
  | coe r => rw [← EReal.coe_sub, sub_self, EReal.coe_zero, add_zero, sub_zero, add_zero]

/-- The three parts summed against a table of zeros and ones. -/
theorem parts_sum (L T : Fin 512 → EReal) (hL : ∀ x, L x ≠ ⊤) (hT : ∀ x, T x = 1 ∨ T x = 0) (p : EReal) :
    (∑ x, L x * T x) + (∑ x, (L x - L x) * T x) + (∑ x, ((L x - L x) - (L x - L x)) * T x) + p = (∑ x, L x * T x) + p := by
  rw [← Finset.sum_add_distrib, ← Finset.sum_add_distrib]
  refine congrArg (fun a => a + p) (Finset.sum_congr rfl fun x _ => ?_)
  rcases hT x with h | h
  · rw [h, mul_one, mul_one, mul_one]; exact three_parts (hL x)
  · rw [h, mul_zero, mul_zero, mul_zero, add_zero, add_zero]

theorem bits_64 : Ideal.ofBits FTy.f32 1115684864#32 = ((64 : ℝ) : EReal) := by
  simp [Ideal.ofBits, Ideal.ieee, -EReal.coe_mul]; norm_num

theorem bits_inv64 : Ideal.ofBits FTy.f32 1015021568#32 = ((1 / 64 : ℝ) : EReal) := by
  simp [Ideal.ofBits, Ideal.ieee, -EReal.coe_mul]; norm_num

/-- Dividing by 64 is multiplying by its inverse. -/
theorem div_64 (x : EReal) : Ideal.div x (Ideal.ofBits FTy.f32 1115684864#32) = x * Ideal.ofBits FTy.f32 1015021568#32 := by
  rw [bits_64, bits_inv64]
  exact Ideal.div_coe (by norm_num) x

/-- The scale of the queries is the product of the scale of the scores and of the change of base. -/
theorem bits_scale : Ideal.ofBits FTy.f32 1043900987#32 = Ideal.ofBits FTy.f32 1040187392#32 * Ideal.ofBits FTy.f32 1069066811#32 := by
  simp [Ideal.ofBits, Ideal.ieee, -EReal.coe_mul]; rw [← EReal.coe_mul]; norm_num

end Cert.Inp
-- ==== Proof.InPoint.lean ====
module

public import proofs.«01_k».proof.Proof.InBlocks
public import proofs.«01_k».proof.Proof.InMaths

/-! What a grid point leaves: its blocks of the five results, and the running sum at its last row for the next tile of
    the same sequence. The first tile of a sequence starts from zero. -/

@[expose] public section

set_option maxRecDepth 16384

noncomputable section

open Idealize.ShloMosaic Idealize.ShloMosaic.TcCoe Idealize.SL.Sem

namespace Cert.Kernel3Ideal.INP
open Cert.Kernel3Ideal Cert.Kernel3Ideal.Gen Cert.Inp

variable (m : (ℓ : Loc nD τ sig) → Buf (Elt Ideal) ℓ)

section
variable (c : Dev nD) (t : Fin cfg0.N)

/-- The product of the tile. -/
theorem proj_eq (r : Fin 512) (col : Fin 2056) :
    k0_pay2 (iblk m c 0 t) (iblk m c 1 t) (iblk m c 2 t) (ix2 r (⟨col.val, by omega⟩ : Fin 2176)) = (args m c).proj (sq t) (row t r) col := by
  unfold Args.proj Args.nrm eps
  simp only [← blk_x, ← blk_g m c t, ← blk_w m c t]
  pointwise [k0_pay2]

theorem u_eq (r d : Fin 512) : k0_pay3 (iblk m c 0 t) (iblk m c 1 t) (iblk m c 2 t) (ix3 (0 : Fin 1) r d)
    = (args m c).proj (sq t) (row t r) ⟨d.val, by omega⟩ := by
  rw [← proj_eq]
  generalize hX : k0_pay2 (iblk m c 0 t) (iblk m c 1 t) (iblk m c 2 t) = X
  pointwise [k0_pay3]
  rw [hX]

theorem v_eq (r d : Fin 512) : k0_pay12 (k0_pay6 (iblk m c 0 t) (iblk m c 1 t) (iblk m c 2 t)) (ix3 (0 : Fin 1) r d)
    = (args m c).proj (sq t) (row t r) ⟨1536 + d.val, by omega⟩ := by
  rw [← proj_eq]
  generalize hX : k0_pay2 (iblk m c 0 t) (iblk m c 1 t) (iblk m c 2 t) = X
  pointwise [k0_pay12, k0_pay6]
  rw [hX]

/-- The normalisation of a head, its sum of squares taken against the table. -/
theorem head_eq (o : Fin 1025) (g : Fin 64 → EReal) (r e : Fin 512) :
    (args m c).proj (sq t) (row t r) ⟨o.val + e.val, by omega⟩
      * Ideal.rsqrt ((∑ j : Fin 512, (args m c).proj (sq t) (row t r) ⟨o.val + j.val, by omega⟩ * (args m c).proj (sq t) (row t r) ⟨o.val + j.val, by omega⟩
          * iblk m c 6 t (ix2 j e)) * Ideal.ofBits FTy.f32 1015021568#32 + Ideal.ofBits FTy.f32 897988541#32)
      * g ⟨e.val % 64, by omega⟩ = (args m c).headNorm o g (sq t) (row t r) e := by
  unfold Args.headNorm Args.headSq eps
  simp only [blk_ones]
  rw [sum_head fun j => (args m c).proj (sq t) (row t r) ⟨o.val + j.val, by omega⟩ * (args m c).proj (sq t) (row t r) ⟨o.val + j.val, by omega⟩, div_64]

theorem q_eq (r e : Fin 512) : k0_pay10 (k0_pay4 (iblk m c 0 t) (iblk m c 1 t) (iblk m c 2 t)) (k0_pay8 (iblk m c 4 t))
      (k0_pay9 (iblk m c 0 t) (iblk m c 1 t) (iblk m c 2 t)) (iblk m c 6 t) (ix3 (0 : Fin 1) r e)
    = (args m c).headNorm ⟨512, by decide⟩ (fun k => (args m c).qn (ix1 k)) (sq t) (row t r) e * Ideal.ofBits FTy.f32 1040187392#32 * Ideal.ofBits FTy.f32 1069066811#32 := by
  rw [mul_assoc, ← bits_scale, ← head_eq, mul_assoc, ← blk_qg m c t]
  simp only [← proj_eq]
  generalize hX : k0_pay2 (iblk m c 0 t) (iblk m c 1 t) (iblk m c 2 t) = X
  pointwise [k0_pay10, k0_pay4, k0_pay8, k0_pay9]
  simp only [hX]

theorem k_eq (r e : Fin 512) : k0_pay11 (k0_pay5 (iblk m c 0 t) (iblk m c 1 t) (iblk m c 2 t)) (iblk m c 5 t) (iblk m c 6 t) (ix3 (0 : Fin 1) e r)
    = (args m c).headNorm ⟨1024, by decide⟩ (fun k => (args m c).kn (ix1 k)) (sq t) (row t r) e := by
  rw [← head_eq, ← blk_kg m c t]
  simp only [← proj_eq]
  generalize hX : k0_pay2 (iblk m c 0 t) (iblk m c 1 t) (iblk m c 2 t) = X
  pointwise [k0_pay11, k0_pay5]
  simp only [hX]

/-- The running sum of a tile: the three parts of the logarithms are summed against the table and added up. -/
theorem cum_tile (Z : FVec Ideal S512x128 .f32) (B : Vec Ideal S1x128 .f32) (T : Vec Ideal S512x512 .bf16) (P : Vec Ideal S8x1 .f32)
    (hT : ∀ j d : Fin 512, T (ix2 j d) = if j.val ≤ d.val then (1 : EReal) else 0) (h : Fin 8) (r : Fin 512) :
    k0_pay13 Z B T P (ix2 h r)
      = (∑ x : Fin 512, logSig (Z (ix2 x (⟨h.val, by omega⟩ : Fin 128)) + B (ix2 (0 : Fin 1) (⟨h.val, by omega⟩ : Fin 128))) * T (ix2 x r)) + P (ix2 h (0 : Fin 1)) := by
  have e1 : ¬16 + h.val < 8 := by omega
  have e2 : ¬16 + h.val - 8 < 8 := by omega
  have e3 : 16 + h.val - 8 - 8 = h.val := by omega
  pointwise [k0_pay13]
  simp only [e1, e2, e3, dite_false]
  have eL : ∀ z : EReal, min z 0 - Ideal.log1p (Ideal.exp (0 - FloatOps.absf (F := Ideal) (φ := .f32) z)) = logSig z := fun _ => rfl
  simp only [eL]
  refine parts_sum (fun x => logSig (Z (ix2 x (⟨h.val, by omega⟩ : Fin 128)) + B (ix2 (0 : Fin 1) (⟨h.val, by omega⟩ : Fin 128)))) (fun x => T (ix2 x r))
    (fun x => logSig_ne_top _) (fun x => ?_) _
  rw [hT]
  by_cases hx : x.val ≤ r.val
  · exact .inl (if_pos hx)
  · exact .inr (if_neg hx)

/-- The running sum at the rows of the tile. -/
theorem cum_eq (P : Vec Ideal S8x1 .f32) (h : Fin 8) (hP : P (ix2 h (0 : Fin 1)) = (args m c).cumTo (sq t) h (512 * (t.val % 4))) (r : Fin 512) :
    k0_pay13 (k0_pay7 (iblk m c 0 t) (iblk m c 1 t) (iblk m c 2 t)) (iblk m c 3 t) (iblk m c 7 t) P (ix2 h r)
      = (args m c).cumTo (sq t) h (512 * (t.val % 4) + r.val + 1) := by
  have e := sum_tile ((args m c).gate (sq t) h) ⟨t.val % 4, by omega⟩ r
  unfold Args.cumTo
  rw [e]
  unfold Args.cumTo at hP
  rw [← hP]
  have e2 : ∀ j : Fin 512, (args m c).gate (sq t) h ⟨512 * (t.val % 4) + j.val, by omega⟩
      = logSig (k0_pay2 (iblk m c 0 t) (iblk m c 1 t) (iblk m c 2 t) (ix2 j (⟨2048 + h.val, by omega⟩ : Fin 2176)) + iblk m c 3 t (ix2 (0 : Fin 1) (⟨h.val, by omega⟩ : Fin 128))) := fun j => by
    rw [blk_bf m c t h, proj_eq m c t j ⟨2048 + h.val, by omega⟩]
    rfl
  rw [cum_tile _ _ _ _ (blk_tri m c t)]
  refine congrArg (· + _) (Finset.sum_congr rfl fun j _ => ?_)
  rw [blk_tri]
  refine congrArg (· * _) (Eq.trans ?_ (e2 j).symm)
  refine congrArg (fun z => logSig (z + _)) ?_
  generalize hX : k0_pay2 (iblk m c 0 t) (iblk m c 1 t) (iblk m c 2 t) = X
  pointwise [k0_pay7]
  rw [hX]

end

/-- The first column of the carried rows. -/
def firstCol (X : S8x128.Idx → EReal) : Vec Ideal S8x1 .f32 := View.ld (e' := .f32) (Val := Elt Ideal) X (Rect.unit ![0, 0] ![8, 1] inb_S8x128_S8x1_0_0)

theorem first_col (X : S8x128.Idx → EReal) (h : Fin 8) : firstCol X (ix2 h (0 : Fin 1)) = X (ix2 h (0 : Fin 128)) := by
  refine congrArg X (funext fun i => Fin.ext ?_)
  match i with
  | ⟨0, _⟩ => show 0 + 1 * h.val = h.val; omega
  | ⟨1, _⟩ => rfl

/-- What a point leaves, from the running sum it starts with. -/
def left (c : Dev nD) (t : Fin cfg0.N) (P : Vec Ideal S8x1 .f32) :=
  (k0_pay3 (iblk m c 0 t) (iblk m c 1 t) (iblk m c 2 t),
    k0_pay10 (k0_pay4 (iblk m c 0 t) (iblk m c 1 t) (iblk m c 2 t)) (k0_pay8 (iblk m c 4 t)) (k0_pay9 (iblk m c 0 t) (iblk m c 1 t) (iblk m c 2 t)) (iblk m c 6 t),
    k0_pay11 (k0_pay5 (iblk m c 0 t) (iblk m c 1 t) (iblk m c 2 t)) (iblk m c 5 t) (iblk m c 6 t),
    k0_pay12 (k0_pay6 (iblk m c 0 t) (iblk m c 1 t) (iblk m c 2 t)),
    k0_pay15 (k0_pay7 (iblk m c 0 t) (iblk m c 1 t) (iblk m c 2 t)) (iblk m c 3 t) (iblk m c 7 t) P,
    k0_pay14 (k0_pay7 (iblk m c 0 t) (iblk m c 1 t) (iblk m c 2 t)) (iblk m c 3 t) (iblk m c 7 t) P)

theorem out_B (c : Dev nD) (t : Fin cfg0.N) (h : ¬t.val % 4 = 0) : outsAt0 m c t.val t.isLt
    = left m c t (firstCol (outsAt0 m c (t.val - 1) (by omega)).2.2.2.2.2) := by
  rw [outsAt0_B m c t h]
  frame_open
  simp (disch := decide) only [↓ View.readCov_skip, ↓ View.readCov_cons_toLoadRect, ↓ View.readCov_fill]
  frame_out
  simp only [read_unread_whole]
  rfl

theorem out_A (c : Dev nD) (t : Fin cfg0.N) (h : t.val % 4 = 0) : outsAt0 m c t.val t.isLt
    = left m c t (firstCol (k0_pay1 (F := Ideal))) := by
  rw [outsAt0_A m c t h]
  frame_open
  simp (disch := decide) only [↓ View.readCov_skip, ↓ View.readCov_cons_toLoadRect, ↓ View.readCov_fill]
  frame_out
  rfl

theorem cumTo_zero (A : Args) (b : Fin 16) (h : Fin 8) : A.cumTo b h 0 = 0 := by
  unfold Args.cumTo
  exact Finset.sum_eq_zero fun j _ => if_neg (Nat.not_lt_zero _)

/-- The last running sum of a tile. -/
theorem last_eq (c : Dev nD) (t : Fin cfg0.N) (P : Vec Ideal S8x1 .f32) (h : Fin 8) (hP : P (ix2 h (0 : Fin 1)) = (args m c).cumTo (sq t) h (512 * (t.val % 4))) (l : Fin 128) :
    k0_pay14 (k0_pay7 (iblk m c 0 t) (iblk m c 1 t) (iblk m c 2 t)) (iblk m c 3 t) (iblk m c 7 t) P (ix2 h l) = (args m c).cumTo (sq t) h (512 * (t.val % 4) + 512) := by
  refine Eq.trans ?_ (cum_eq m c t P h hP (⟨511, by decide⟩ : Fin 512))
  generalize hY : k0_pay13 (k0_pay7 (iblk m c 0 t) (iblk m c 1 t) (iblk m c 2 t)) (iblk m c 3 t) (iblk m c 7 t) P = Y
  pointwise [k0_pay14]
  rw [hY]

/-- Every point starts from the sum of the rows before its tile. -/
theorem out_eq (c : Dev nD) : ∀ (n : ℕ) (hn : n < cfg0.N), ∃ P : Vec Ideal S8x1 .f32,
    (∀ h : Fin 8, P (ix2 h (0 : Fin 1)) = (args m c).cumTo (sq ⟨n, hn⟩) h (512 * (n % 4))) ∧ outsAt0 m c n hn = left m c ⟨n, hn⟩ P := by
  intro n
  induction n with
  | zero =>
    intro hn
    refine ⟨_, fun h => ?_, out_A m c ⟨0, hn⟩ rfl⟩
    rw [first_col, cumTo_zero]
    pointwise [k0_pay1]
  | succ n ih =>
    intro hn
    by_cases h4 : (n + 1) % 4 = 0
    · refine ⟨_, fun h => ?_, out_A m c ⟨n + 1, hn⟩ h4⟩
      rw [first_col, h4, cumTo_zero]
      pointwise [k0_pay1]
    · refine ⟨_, fun h => ?_, out_B m c ⟨n + 1, hn⟩ h4⟩
      obtain ⟨P, hP, e⟩ := ih (by omega)
      rw [first_col]
      show (outsAt0 m c n (by omega)).2.2.2.2.2 (ix2 h (0 : Fin 128)) = _
      rw [e]
      refine (last_eq m c ⟨n, by omega⟩ P h (hP h) 0).trans ?_
      have e1 : sq ⟨n, by omega⟩ = sq (⟨n + 1, hn⟩ : Fin cfg0.N) := Fin.ext (by unfold sq; dsimp only; omega)
      rw [e1]
      refine congrArg _ ?_
      dsimp only
      omega

end Cert.Kernel3Ideal.INP
-- ==== Proof.InKernel.lean ====
module

public import proofs.«01_k».proof.Proof.InPoint

/-! The kernel's five results are the arrays of `InSpec`. -/

@[expose] public section

set_option maxRecDepth 16384

noncomputable section

open Idealize.ShloMosaic Idealize.ShloMosaic.TcCoe Idealize.SL.Sem

namespace Cert.Kernel3Ideal.INP
open Cert.Kernel3Ideal Cert.Kernel3Ideal.Gen Cert.Inp

variable (m : (ℓ : Loc nD τ sig) → Buf (Elt Ideal) ℓ) (c : Dev nD)

theorem point_u (t : Fin cfg0.N) (r d : Fin 512) : (outsAt0 m c t.val t.isLt).1 (ix3 (0 : Fin 1) r d) = (args m c).outU (ix3 (sq t) (row t r) d) := by
  obtain ⟨P, -, e⟩ := out_eq m c t.val t.isLt
  rw [e]
  exact u_eq m c t r d

theorem point_q (t : Fin cfg0.N) (r d : Fin 512) : (outsAt0 m c t.val t.isLt).2.1 (ix3 (0 : Fin 1) r d) = (args m c).outQ (ix3 (sq t) (row t r) d) := by
  obtain ⟨P, -, e⟩ := out_eq m c t.val t.isLt
  rw [e]
  exact q_eq m c t r d

theorem point_k (t : Fin cfg0.N) (d r : Fin 512) : (outsAt0 m c t.val t.isLt).2.2.1 (ix3 (0 : Fin 1) d r) = (args m c).outK (ix3 (sq t) d (row t r)) := by
  obtain ⟨P, -, e⟩ := out_eq m c t.val t.isLt
  rw [e]
  exact k_eq m c t r d

theorem point_v (t : Fin cfg0.N) (r d : Fin 512) : (outsAt0 m c t.val t.isLt).2.2.2.1 (ix3 (0 : Fin 1) r d) = (args m c).outV (ix3 (sq t) (row t r) d) := by
  obtain ⟨P, -, e⟩ := out_eq m c t.val t.isLt
  rw [e]
  exact v_eq m c t r d

theorem point_c (t : Fin cfg0.N) (h : Fin 8) (r : Fin 512) : (outsAt0 m c t.val t.isLt).2.2.2.2.1 (ix3 (0 : Fin 1) h r) = (args m c).outC (ix3 (sq t) h (row t r)) := by
  obtain ⟨P, hP, e⟩ := out_eq m c t.val t.isLt
  rw [e]
  refine Eq.trans ?_ (congrArg (fun x => x * Ideal.ofBits FTy.f32 1069066811#32) (cum_eq m c t P h (hP h) r))
  unfold left
  dsimp only
  generalize hY : k0_pay13 (k0_pay7 (iblk m c 0 t) (iblk m c 1 t) (iblk m c 2 t)) (iblk m c 3 t) (iblk m c 7 t) P = Y
  pointwise [k0_pay15]
  rw [hY]

theorem result_u : (dats m 0 c).arrAt 8 cfg0.N = (args m c).outU := by
  refine (dats m 0 c).arrAt_eq_of_covers 8 _ (by decide +kernel) fun t hf y => ?_
  obtain ⟨e0, e1, e2⟩ := (tile_index t).2.1
  blk_simp
  rw [after0_8]
  obtain ⟨b, r, d, rfl⟩ : ∃ (b : Fin 1) (r : Fin 512) (d : Fin 512), y = ix3 b r d := ⟨y 0, y 1, y 2, eq_ix3 y⟩
  obtain rfl : b = 0 := Subsingleton.elim _ _
  refine (point_u m c t r d).trans (congrArg _ ?_)
  blk_ext [e0, e1, e2]
  · exact (Nat.add_zero _).symm
  · exact congrArg (· + r.val) (Nat.mul_comm 512 (t.val % 4))

theorem result_q : (dats m 0 c).arrAt 9 cfg0.N = (args m c).outQ := by
  refine (dats m 0 c).arrAt_eq_of_covers 9 _ (by decide +kernel) fun t hf y => ?_
  obtain ⟨e0, e1, e2⟩ := (tile_index t).2.2.1
  blk_simp
  rw [after0_9]
  obtain ⟨b, r, d, rfl⟩ : ∃ (b : Fin 1) (r : Fin 512) (d : Fin 512), y = ix3 b r d := ⟨y 0, y 1, y 2, eq_ix3 y⟩
  obtain rfl : b = 0 := Subsingleton.elim _ _
  refine (point_q m c t r d).trans (congrArg _ ?_)
  blk_ext [e0, e1, e2]
  · exact (Nat.add_zero _).symm
  · exact congrArg (· + r.val) (Nat.mul_comm 512 (t.val % 4))

theorem result_k : (dats m 0 c).arrAt 10 cfg0.N = (args m c).outK := by
  refine (dats m 0 c).arrAt_eq_of_covers 10 _ (by decide +kernel) fun t hf y => ?_
  obtain ⟨e0, e1, e2⟩ := (tile_index t).2.2.2.1
  blk_simp
  rw [after0_10]
  obtain ⟨b, d, r, rfl⟩ : ∃ (b : Fin 1) (d : Fin 512) (r : Fin 512), y = ix3 b d r := ⟨y 0, y 1, y 2, eq_ix3 y⟩
  obtain rfl : b = 0 := Subsingleton.elim _ _
  refine (point_k m c t d r).trans (congrArg _ ?_)
  blk_ext [e0, e1, e2]
  · exact (Nat.add_zero _).symm
  · exact congrArg (· + r.val) (Nat.mul_comm 512 (t.val % 4))

theorem result_v : (dats m 0 c).arrAt 11 cfg0.N = (args m c).outV := by
  refine (dats m 0 c).arrAt_eq_of_covers 11 _ (by decide +kernel) fun t hf y => ?_
  obtain ⟨e0, e1, e2⟩ := (tile_index t).2.2.2.2.1
  blk_simp
  rw [after0_11]
  obtain ⟨b, r, d, rfl⟩ : ∃ (b : Fin 1) (r : Fin 512) (d : Fin 512), y = ix3 b r d := ⟨y 0, y 1, y 2, eq_ix3 y⟩
  obtain rfl : b = 0 := Subsingleton.elim _ _
  refine (point_v m c t r d).trans (congrArg _ ?_)
  blk_ext [e0, e1, e2]
  · exact (Nat.add_zero _).symm
  · exact congrArg (· + r.val) (Nat.mul_comm 512 (t.val % 4))

theorem result_c : (dats m 0 c).arrAt 12 cfg0.N = (args m c).outC := by
  refine (dats m 0 c).arrAt_eq_of_covers 12 _ (by decide +kernel) fun t hf y => ?_
  obtain ⟨e0, e1, e2⟩ := (tile_index t).2.2.2.2.2
  blk_simp
  rw [after0_12]
  obtain ⟨b, h, r, rfl⟩ : ∃ (b : Fin 1) (h : Fin 8) (r : Fin 512), y = ix3 b h r := ⟨y 0, y 1, y 2, eq_ix3 y⟩
  obtain rfl : b = 0 := Subsingleton.elim _ _
  refine (point_c m c t h r).trans (congrArg _ ?_)
  blk_ext [e0, e1, e2]
  · exact (Nat.add_zero _).symm
  · exact congrArg (· + r.val) (Nat.mul_comm 512 (t.val % 4))

end Cert.Kernel3Ideal.INP
-- ==== Proof.InReference.lean ====
module

public import proofs.«01_k».proof.Proof.InMaths
public import proofs.«01_k».proof.Proof.Gen.Reference3Ideal.Read

/-! The reference's results at an index, in the formulas of `InSpec`. -/

@[expose] public section

set_option maxRecDepth 16384

noncomputable section

open Idealize.ShloMosaic Idealize.ShloMosaic.TcCoe Idealize.SL.Sem

namespace Cert.Inp

section
open Cert.Reference3Ideal Cert.Reference3Ideal.Read
variable (A : Args)

theorem ref_nrm (b : Fin 16) (s : Fin 2048) (d : Fin 1024) : val_main_v12 (F := Ideal) A.x A.g (ix3 b s d) = A.nrm b s d := by
  unfold Args.nrm eps
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem ref_proj (b : Fin 16) (s : Fin 2048) (col : Fin 2056) : val_main_v13 (F := Ideal) A.x A.g A.w (ix3 b s col) = A.proj b s col := by
  unfold Args.proj
  simp only [← ref_nrm]
  pointwise [val_main_v13]

theorem ref_q (b : Fin 16) (s : Fin 2048) (h : Fin 8) (i : Fin 64) :
    val_main_v29 (F := Ideal) A.x A.g A.w A.qn (ix4 b s h i) = A.headNorm ⟨512, by decide⟩ (fun k => A.qn (ix1 k)) b s ⟨64 * h.val + i.val, by omega⟩ := by
  unfold Args.headNorm Args.headSq eps
  simp only [← ref_proj]
  pointwise [val_main_v29, val_main_v28, val_main_v27, val_main_v26, val_main_v25, val_main_v24, val_main_v23, val_main_v22, val_main_v21, val_main_v20, val_main_v19, val_main_v18, val_main_v17, val_main_v16, val_main_v15, val_main_v14, val_main_cst_2, val_main_cst_3, val_main_cst_4]
  have e1 : (64 * h.val + i.val) / 64 = h.val := by omega
  have e2 : (64 * h.val + i.val) % 64 = i.val := by omega
  simp only [e1, e2, Nat.mul_comm h.val 64]

theorem ref_k (b : Fin 16) (s : Fin 2048) (h : Fin 8) (i : Fin 64) :
    val_main_v44 (F := Ideal) A.x A.g A.w A.kn (ix4 b s h i) = A.headNorm ⟨1024, by decide⟩ (fun k => A.kn (ix1 k)) b s ⟨64 * h.val + i.val, by omega⟩ := by
  unfold Args.headNorm Args.headSq eps
  simp only [← ref_proj]
  pointwise [val_main_v44, val_main_v43, val_main_v42, val_main_v41, val_main_v40, val_main_v39, val_main_v38, val_main_v37, val_main_v36, val_main_v35, val_main_v34, val_main_v33, val_main_v32, val_main_v31, val_main_v30, val_main_cst_5, val_main_cst_6, val_main_cst_7]
  have e1 : (64 * h.val + i.val) / 64 = h.val := by omega
  have e2 : (64 * h.val + i.val) % 64 = i.val := by omega
  simp only [e1, e2, Nat.mul_comm h.val 64]

theorem ref_gate (b : Fin 16) (s : Fin 2048) (h : Fin 8) : val_main_v50 (F := Ideal) A.x A.g A.w A.bf (ix3 b s h) = A.gate b h s := by
  unfold Args.gate
  rw [← logSig_neg]
  simp only [← ref_proj]
  pointwise [val_main_v50, val_main_v49, val_main_v48, val_main_v47, val_main_v46, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_v0, val_main_call0_call0_cst]
  rw [if_neg fun h => h rfl]
  rfl

/-- The running sum as the reference writes it. -/
theorem window_read (X : S16x2048x8.Idx → EReal) (v : S_.Idx → EReal) (hv : v (Shape.Idx.first Gen.h_S_) = 0) (b : Fin 16) (s : Fin 2048) (h : Fin 8) :
    Host.reduceWindowAdd (F := Ideal) (φ := .f32) ![1, 2048, 1] ![1, 1, 1] ![0, 2047, 0] ![0, 0, 0] X v Gen.reduceWindows_S16x2048x8_S16x2048x8_w1s1p0_0_w2048s1p2047_0_w1s1p0_0 Gen.h_S_ (ix3 b s h)
      = ∑ j : Fin 2048, if j.val < s.val + 1 then X (ix3 b j h) else 0 := by
  unfold Host.reduceWindowAdd
  rw [hv, Ideal.hostReduceWindowAdd_def]
  unfold Ideal.hostReduceWindowAdd
  exact cumsum_apply X (fun _ : (⟨0, ![]⟩ : Shape).Idx => 0) Gen.reduceWindows_S16x2048x8_S16x2048x8_w1s1p0_0_w2048s1p2047_0_w1s1p0_0 (by decide) rfl b s h

theorem ref_cum (b : Fin 16) (s : Fin 2048) (h : Fin 8) : val_main_v51 (F := Ideal) A.x A.g A.w A.bf (ix3 b s h) = A.cumTo b h (s.val + 1) := by
  have h0 : val_main_call1_call0_v0 (F := Ideal) (Shape.Idx.first Gen.h_S_) = 0 := by
    pointwise [val_main_call1_call0_v0, val_main_call1_call0_cst]
  unfold val_main_v51
  refine (window_read _ _ h0 b s h).trans ?_
  unfold Args.cumTo
  simp only [ref_gate]

theorem ref_outU (i : S16x2048x512.Idx) : val_main_v14 (F := Ideal) A.x A.g A.w i = A.outU i := by
  obtain ⟨b, s, d, rfl⟩ : ∃ (b : Fin 16) (s : Fin 2048) (d : Fin 512), i = ix3 b s d := ⟨i 0, i 1, i 2, eq_ix3 i⟩
  unfold Args.outU
  simp only [ix3, ← ref_proj]
  pointwise [val_main_v14]

theorem ref_outQ (i : S16x2048x512.Idx) : val_main_v57 (F := Ideal) A.x A.g A.w A.qn i = A.outQ i := by
  obtain ⟨b, s, d, rfl⟩ : ∃ (b : Fin 16) (s : Fin 2048) (d : Fin 512), i = ix3 b s d := ⟨i 0, i 1, i 2, eq_ix3 i⟩
  have e := ref_q A b s ⟨d.val / 64, by omega⟩ ⟨d.val % 64, by omega⟩
  have hd : (⟨64 * (d.val / 64) + d.val % 64, by omega⟩ : Fin 512) = d := Fin.ext (by dsimp only; omega)
  rw [hd] at e
  refine Eq.trans ?_ (congrArg (fun x => x * Ideal.ofBits FTy.f32 1040187392#32 * Ideal.ofBits FTy.f32 1069066811#32) e)
  generalize hX : val_main_v29 (F := Ideal) A.x A.g A.w A.qn = X
  pointwise [val_main_v57, val_main_v56, val_main_v55, val_main_v54, val_main_v53, val_main_v52, val_main_cst_8, val_main_cst_9]
  rw [hX]

theorem ref_outK (i : S16x512x2048.Idx) : val_main_v60 (F := Ideal) A.x A.g A.w A.kn i = A.outK i := by
  obtain ⟨b, d, s, rfl⟩ : ∃ (b : Fin 16) (d : Fin 512) (s : Fin 2048), i = ix3 b d s := ⟨i 0, i 1, i 2, eq_ix3 i⟩
  have e := ref_k A b s ⟨d.val / 64, by omega⟩ ⟨d.val % 64, by omega⟩
  have hd : (⟨64 * (d.val / 64) + d.val % 64, by omega⟩ : Fin 512) = d := Fin.ext (by dsimp only; omega)
  rw [hd] at e
  refine Eq.trans ?_ e
  generalize hX : val_main_v44 (F := Ideal) A.x A.g A.w A.kn = X
  pointwise [val_main_v60, val_main_v59, val_main_v58]
  rw [hX]

theorem ref_outV (i : S16x2048x512.Idx) : val_main_v61 (F := Ideal) A.x A.g A.w i = A.outV i := by
  obtain ⟨b, s, d, rfl⟩ : ∃ (b : Fin 16) (s : Fin 2048) (d : Fin 512), i = ix3 b s d := ⟨i 0, i 1, i 2, eq_ix3 i⟩
  unfold Args.outV
  simp only [ix3, ← ref_proj]
  pointwise [val_main_v61, val_main_v45]

theorem ref_outC (i : S16x8x2048.Idx) : val_main_v64 (F := Ideal) A.x A.g A.w A.bf i = A.outC i := by
  obtain ⟨b, h, s, rfl⟩ : ∃ (b : Fin 16) (h : Fin 8) (s : Fin 2048), i = ix3 b h s := ⟨i 0, i 1, i 2, eq_ix3 i⟩
  refine Eq.trans ?_ (congrArg (fun x => x * Ideal.ofBits FTy.f32 1069066811#32) (ref_cum A b s h))
  generalize hX : val_main_v51 (F := Ideal) A.x A.g A.w A.bf = X
  pointwise [val_main_v64, val_main_v63, val_main_v62, val_main_cst_10]
  rw [hX]

end

end Cert.Inp
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.FoxFinite
public import proofs.«01_k».proof.Proof.FoxKernel
public import proofs.«01_k».proof.Proof.FoxReference
public import proofs.«01_k».proof.Proof.FfnKernel
public import proofs.«01_k».proof.Proof.FfnReference
public import proofs.«01_k».proof.Proof.InKernel
public import proofs.«01_k».proof.Proof.InReference
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves_Kernel_KernelIdeal : preserves_Kernel_KernelIdeal :=
  ⟨IdealRules.named_const.statement Cert.KernelIdeal.κ "qscale" .f32 0x3E38AA3B#32 _ rfl,
    IdealRules.named_const.statement Cert.KernelIdeal.κ "log2e" .f32 0x3FB8AA3B#32 _ rfl,
    IdealRules.named_const.statement Cert.KernelIdeal.κ "mask" .f32 0xF149F2CA#32 _ rfl⟩

theorem algebraic_KernelIdeal_ReferenceIdeal_pre_finite : algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  obtain ⟨hq, hk, hc⟩ := Cert.Pre_finite.finite_real _ _ _ _ (hpre c)
  choose qr hq using hq
  choose kr hk using hk
  choose cr hc using hc
  rw [(h c).1, Cert.ReferenceIdeal.Read.val_main_v34_eq, Cert.KernelIdeal.Fox.result m c qr kr cr hq hk hc]
  obtain ⟨e0, e1, e2, e3⟩ := hagree c
  rw [e0, e1, e2, e3]
  exact funext (Cert.Fox.ref_out _ _ _ _ qr kr cr hq hk hc)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  rw [(h c).1, Cert.Reference2Ideal.Read.val_main_v73_eq, Cert.Kernel2Ideal.FFN.result]
  obtain ⟨e0, e1, e2, e3, e4, e5, e6, e7, e8, e9, e10⟩ := hagree c
  rw [e0, e1, e2, e3, e4, e5, e6, e7, e8, e9, e10]
  exact funext (Cert.Ffn.ref_out (Cert.Kernel2Ideal.FFN.args m c))

theorem quiescent_Reference3Ideal : quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

theorem algebraic_Kernel3Ideal_Reference3Ideal : algebraic_Kernel3Ideal_Reference3Ideal := by
  intro m ρ m' ρ' _ hagree
  refine ⟨_, _, _, _, _, Cert.Kernel3Ideal.Value.run_blocks (F := Ideal) m ρ, ?_⟩
  refine (θ_run Cert.Reference3Ideal.defs _ _).mono (fun _ h c => ⟨?_, ?_, ?_, ?_, ?_, (h c).2.2.2.2.2⟩) (Cert.Reference3Ideal.Value.run (F := Ideal) m' ρ')
  · obtain ⟨e0, e1, e2, e3, e4, e5⟩ := hagree c
    rw [(h c).1, Cert.Reference3Ideal.Read.val_main_v14_eq, Cert.Kernel3Ideal.INP.result_u, e0, e1, e2]
    exact funext (Cert.Inp.ref_outU (Cert.Kernel3Ideal.INP.args m c))
  · obtain ⟨e0, e1, e2, e3, e4, e5⟩ := hagree c
    rw [(h c).2.1, Cert.Reference3Ideal.Read.val_main_v57_eq, Cert.Kernel3Ideal.INP.result_q, e0, e1, e2, e4]
    exact funext (Cert.Inp.ref_outQ (Cert.Kernel3Ideal.INP.args m c))
  · obtain ⟨e0, e1, e2, e3, e4, e5⟩ := hagree c
    rw [(h c).2.2.1, Cert.Reference3Ideal.Read.val_main_v60_eq, Cert.Kernel3Ideal.INP.result_k, e0, e1, e2, e5]
    exact funext (Cert.Inp.ref_outK (Cert.Kernel3Ideal.INP.args m c))
  · obtain ⟨e0, e1, e2, e3, e4, e5⟩ := hagree c
    rw [(h c).2.2.2.1, Cert.Reference3Ideal.Read.val_main_v61_eq, Cert.Kernel3Ideal.INP.result_v, e0, e1, e2]
    exact funext (Cert.Inp.ref_outV (Cert.Kernel3Ideal.INP.args m c))
  · obtain ⟨e0, e1, e2, e3, e4, e5⟩ := hagree c
    rw [(h c).2.2.2.2.1, Cert.Reference3Ideal.Read.val_main_v64_eq, Cert.Kernel3Ideal.INP.result_c, e0, e1, e2, e3]
    exact funext (Cert.Inp.ref_outC (Cert.Kernel3Ideal.INP.args m c))

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Kernel5.Gen.facts, Cert.Kernel5Ideal.Gen.facts, Cert.Pre_finite.Gen.facts,
  fun m ρ _ => Cert.Kernel.Gen.frame m ρ, fun m ρ _ => Cert.KernelIdeal.Gen.frame m ρ,
  fun m ρ _ => Cert.KernelIdeal.Gen.frame m ρ, quiescent_ReferenceIdeal, fun m ρ _ => quiescent_ReferenceIdeal m ρ trivial,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ,
  fun m ρ _ => Cert.Kernel5.Gen.frame m ρ, fun m ρ _ => Cert.Kernel5Ideal.Gen.frame m ρ,
  preserves_Kernel_KernelIdeal, algebraic_KernelIdeal_ReferenceIdeal_pre_finite,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), (trivial : preserves_Kernel5_Kernel5Ideal)⟩

end Cert.Proof

end
